-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 [hPre_positions_in_range : Cert.Pre_positions_in_range.Facts] (m : (ℓ : Loc Cert.Kernel8.nD Cert.Kernel8.τ Cert.Kernel8.sig) → Buf (Elt Bits) ℓ) : Prop :=
  ∀ c : Dev Cert.Kernel8.nD,
    (Cert.Pre_positions_in_range.fn (F := Bits) (m ((c.tc : Thread Cert.Kernel8.nD Cert.Kernel8.τ).loc Cert.Kernel8.main_arg0)) (m ((c.tc : Thread Cert.Kernel8.nD Cert.Kernel8.τ).loc Cert.Kernel8.main_arg1)) (m ((c.tc : Thread Cert.Kernel8.nD Cert.Kernel8.τ).loc Cert.Kernel8.main_arg2)) (m ((c.tc : Thread Cert.Kernel8.nD Cert.Kernel8.τ).loc Cert.Kernel8.main_arg3)) (m ((c.tc : Thread Cert.Kernel8.nD Cert.Kernel8.τ).loc Cert.Kernel8.main_arg4))) = (fun _ => 1#1)

def Pre_Kernel8Ideal [hPre_positions_in_range : Cert.Pre_positions_in_range.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_positions_in_range.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_positions_in_range [hPre_positions_in_range : Cert.Pre_positions_in_range.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_positions_in_range.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] [hPre_positions_in_range : Cert.Pre_positions_in_range.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] [hPre_positions_in_range : Cert.Pre_positions_in_range.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_positions_in_range [hReference8Ideal : Cert.Reference8Ideal.Facts] [hPre_positions_in_range : Cert.Pre_positions_in_range.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_positions_in_range m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "qscale" .f32 0x3E0293EE#32 (((Real.sqrt 128)⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v19) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v17) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v8_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v8_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v18) = v0 c
          ∧ r.2.mem ((c.tc : Thread Cert.Reference7Ideal.nD Cert.Reference7Ideal.τ).loc Cert.Reference7Ideal.main_v19) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] [hPre_positions_in_range : Cert.Pre_positions_in_range.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_positions_in_range : Cert.Pre_positions_in_range.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8) (hPre_positions_in_range := hPre_positions_in_range)
    ∧ quiescent_Kernel8Ideal (hKernel8Ideal := hKernel8Ideal) (hPre_positions_in_range := hPre_positions_in_range)
    ∧ quiescent_Reference8Ideal (hReference8Ideal := hReference8Ideal)
    ∧ quiescent_Reference8Ideal_pre_positions_in_range (hReference8Ideal := hReference8Ideal) (hPre_positions_in_range := hPre_positions_in_range)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal) (hPre_positions_in_range := hPre_positions_in_range)
-- ==== Pre_positions_in_range.lean ====
abbrev S33280 : Shape := ⟨1, ![33280]⟩
abbrev S256x2048 : Shape := ⟨2, ![256, 2048]⟩
abbrev S256x128 : Shape := ⟨2, ![256, 128]⟩
abbrev S2048 : Shape := ⟨1, ![2048]⟩
abbrev S45264x2048 : Shape := ⟨2, ![45264, 2048]⟩
abbrev S_ : Shape := ⟨0, ![]⟩

class Facts : Prop where
  bcast_S_S33280 : S_.BroadcastsInDim S33280 (![] : Fin 0 → Fin S33280.rank)

variable [Facts]

def fn {F : FTy → Type} [FloatOps F] (main_arg0 : IVec S33280 32) (main_arg1 : FVec F S256x2048 .f32) (main_arg2 : FVec F S256x128 .f32) (main_arg3 : FVec F S2048 .f32) (main_arg4 : FVec F S45264x2048 .f32) : IVec S33280 1 :=
  let main_c : IVec S_ 32 := constantI S_ 32 0#32
  let main_v0 : IVec S33280 32 := broadcastInDim S33280 ![] bcast_S_S33280 main_c
  let main_v1 : IVec S33280 1 := cmpi .sge main_arg0 main_v0
  let main_c_0 : IVec S_ 32 := constantI S_ 32 45264#32
  let main_v2 : IVec S33280 32 := broadcastInDim S33280 ![] bcast_S_S33280 main_c_0
  let main_v3 : IVec S33280 1 := cmpi .slt main_arg0 main_v2
  let main_v4 : IVec S33280 1 := andi main_v1 main_v3
  main_v4
-- ==== Kernel.lean ====
abbrev S16384x14336 : Shape := ⟨2, ![16384, 14336]⟩
abbrev S8 : Shape := ⟨1, ![8]⟩
abbrev S16384x1024 : Shape := ⟨2, ![16384, 1024]⟩
abbrev S256x128 : Shape := ⟨2, ![256, 128]⟩
abbrev S8192x128 : Shape := ⟨2, ![8192, 128]⟩
abbrev S1 : Shape := ⟨1, ![1]⟩
abbrev S256x256 : Shape := ⟨2, ![256, 256]⟩
abbrev S256x1 : Shape := ⟨2, ![256, 1]⟩

abbrev nBuf : Space → Nat
  | .hbm => 3
  | .vmem => 10
  | .smem => 1
  | _ => 0

abbrev bufTy : (tb : Table) → Fin (tcTables nBuf tb) → BufTy
  | .hbm, ⟨0, _⟩ => ⟨S16384x14336, .f32⟩
  | .hbm, ⟨1, _⟩ => ⟨S8, .f32⟩
  | .hbm, ⟨2, _⟩ => ⟨S16384x1024, .bf16⟩
  | .local _ .vmem, ⟨0, _⟩ => ⟨S256x128, .f32⟩
  | .local _ .vmem, ⟨1, _⟩ => ⟨S256x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S256x128, .bf16⟩
  | .local _ .vmem, ⟨7, _⟩ => ⟨S256x128, .bf16⟩
  | .local _ .vmem, ⟨8, _⟩ => ⟨S8192x128, .bf16⟩
  | .local _ .vmem, ⟨9, _⟩ => ⟨S8192x128, .bf16⟩
  | .local _ .smem, ⟨0, _⟩ => ⟨S8, .f32⟩
  | _, _ => ⟨S16384x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 8, 32], ![false, false, false]⟩

def k0_off1 (i : grid0.Coords) : Fin 1 → Nat :=
  let arg1 : BitVec 32 := BitVec.ofNat 32 (i 1).val
  let v3 : Index := Scalar.indexCast arg1
  ![v3.toNat]
def k0_cond2 (i : grid0.Coords) : BitVec 1 :=
  let arg2 : BitVec 32 := BitVec.ofNat 32 (i 2).val
  let c7_i32 : BitVec 32 := 7#32
  let v20 : BitVec 32 := Scalar.andi arg2 c7_i32
  let c0_i32_7 : BitVec 32 := 0#32
  let v23 : BitVec 32 := Scalar.maxsi v20 c0_i32_7
  let c7_i32_8 : BitVec 32 := 7#32
  let v24 : BitVec 32 := Scalar.minsi v23 c7_i32_8
  let c0_i32_9 : BitVec 32 := 0#32
  let v25 : BitVec 1 := Scalar.cmpi .ne v24 c0_i32_9
  v25

def k0_cond3 (i : grid0.Coords) : BitVec 1 :=
  let arg2 : BitVec 32 := BitVec.ofNat 32 (i 2).val
  let c7_i32 : BitVec 32 := 7#32
  let v20 : BitVec 32 := Scalar.andi arg2 c7_i32
  let c0_i32_7 : BitVec 32 := 0#32
  let v23 : BitVec 32 := Scalar.maxsi v20 c0_i32_7
  let c7_i32_8 : BitVec 32 := 7#32
  let v24 : BitVec 32 := Scalar.minsi v23 c7_i32_8
  let c1_i32_19 : BitVec 32 := 1#32
  let v47 : BitVec 32 := Scalar.subi v24 c1_i32_19
  let c0_i32_20 : BitVec 32 := 0#32
  let v48 : BitVec 1 := Scalar.cmpi .ne v47 c0_i32_20
  v48

def k0_cond4 (i : grid0.Coords) : BitVec 1 :=
  let arg2 : BitVec 32 := BitVec.ofNat 32 (i 2).val
  let c7_i32 : BitVec 32 := 7#32
  let v20 : BitVec 32 := Scalar.andi arg2 c7_i32
  let c0_i32_7 : BitVec 32 := 0#32
  let v23 : BitVec 32 := Scalar.maxsi v20 c0_i32_7
  let c7_i32_8 : BitVec 32 := 7#32
  let v24 : BitVec 32 := Scalar.minsi v23 c7_i32_8
  let c1_i32_19 : BitVec 32 := 1#32
  let v47 : BitVec 32 := Scalar.subi v24 c1_i32_19
  let c1_i32_21 : BitVec 32 := 1#32
  let v50 : BitVec 32 := Scalar.subi v47 c1_i32_21
  let c0_i32_22 : BitVec 32 := 0#32
  let v51 : BitVec 1 := Scalar.cmpi .ne v50 c0_i32_22
  v51

def k0_cond5 (i : grid0.Coords) : BitVec 1 :=
  let arg2 : BitVec 32 := BitVec.ofNat 32 (i 2).val
  let c7_i32 : BitVec 32 := 7#32
  let v20 : BitVec 32 := Scalar.andi arg2 c7_i32
  let c0_i32_7 : BitVec 32 := 0#32
  let v23 : BitVec 32 := Scalar.maxsi v20 c0_i32_7
  let c7_i32_8 : BitVec 32 := 7#32
  let v24 : BitVec 32 := Scalar.minsi v23 c7_i32_8
  let c1_i32_19 : BitVec 32 := 1#32
  let v47 : BitVec 32 := Scalar.subi v24 c1_i32_19
  let c1_i32_21 : BitVec 32 := 1#32
  let v50 : BitVec 32 := Scalar.subi v47 c1_i32_21
  let c1_i32_23 : BitVec 32 := 1#32
  let v53 : BitVec 32 := Scalar.subi v50 c1_i32_23
  let c0_i32_24 : BitVec 32 := 0#32
  let v54 : BitVec 1 := Scalar.cmpi .ne v53 c0_i32_24
  v54

def k0_cond6 (i : grid0.Coords) : BitVec 1 :=
  let arg2 : BitVec 32 := BitVec.ofNat 32 (i 2).val
  let c7_i32 : BitVec 32 := 7#32
  let v20 : BitVec 32 := Scalar.andi arg2 c7_i32
  let c0_i32_7 : BitVec 32 := 0#32
  let v23 : BitVec 32 := Scalar.maxsi v20 c0_i32_7
  let c7_i32_8 : BitVec 32 := 7#32
  let v24 : BitVec 32 := Scalar.minsi v23 c7_i32_8
  let c1_i32_19 : BitVec 32 := 1#32
  let v47 : BitVec 32 := Scalar.subi v24 c1_i32_19
  let c1_i32_21 : BitVec 32 := 1#32
  let v50 : BitVec 32 := Scalar.subi v47 c1_i32_21
  let c1_i32_23 : BitVec 32 := 1#32
  let v53 : BitVec 32 := Scalar.subi v50 c1_i32_23
  let c1_i32_25 : BitVec 32 := 1#32
  let v56 : BitVec 32 := Scalar.subi v53 c1_i32_25
  let c0_i32_26 : BitVec 32 := 0#32
  let v57 : BitVec 1 := Scalar.cmpi .ne v56 c0_i32_26
  v57

def k0_cond7 (i : grid0.Coords) : BitVec 1 :=
  let arg2 : BitVec 32 := BitVec.ofNat 32 (i 2).val
  let c7_i32 : BitVec 32 := 7#32
  let v20 : BitVec 32 := Scalar.andi arg2 c7_i32
  let c0_i32_7 : BitVec 32 := 0#32
  let v23 : BitVec 32 := Scalar.maxsi v20 c0_i32_7
  let c7_i32_8 : BitVec 32 := 7#32
  let v24 : BitVec 32 := Scalar.minsi v23 c7_i32_8
  let c1_i32_19 : BitVec 32 := 1#32
  let v47 : BitVec 32 := Scalar.subi v24 c1_i32_19
  let c1_i32_21 : BitVec 32 := 1#32
  let v50 : BitVec 32 := Scalar.subi v47 c1_i32_21
  let c1_i32_23 : BitVec 32 := 1#32
  let v53 : BitVec 32 := Scalar.subi v50 c1_i32_23
  let c1_i32_25 : BitVec 32 := 1#32
  let v56 : BitVec 32 := Scalar.subi v53 c1_i32_25
  let c1_i32_27 : BitVec 32 := 1#32
  let v59 : BitVec 32 := Scalar.subi v56 c1_i32_27
  let c0_i32_28 : BitVec 32 := 0#32
  let v60 : BitVec 1 := Scalar.cmpi .ne v59 c0_i32_28
  v60

def k0_cond8 (i : grid0.Coords) : BitVec 1 :=
  let arg2 : BitVec 32 := BitVec.ofNat 32 (i 2).val
  let c7_i32 : BitVec 32 := 7#32
  let v20 : BitVec 32 := Scalar.andi arg2 c7_i32
  let c0_i32_7 : BitVec 32 := 0#32
  let v23 : BitVec 32 := Scalar.maxsi v20 c0_i32_7
  let c7_i32_8 : BitVec 32 := 7#32
  let v24 : BitVec 32 := Scalar.minsi v23 c7_i32_8
  let c1_i32_19 : BitVec 32 := 1#32
  let v47 : BitVec 32 := Scalar.subi v24 c1_i32_19
  let c1_i32_21 : BitVec 32 := 1#32
  let v50 : BitVec 32 := Scalar.subi v47 c1_i32_21
  let c1_i32_23 : BitVec 32 := 1#32
  let v53 : BitVec 32 := Scalar.subi v50 c1_i32_23
  let c1_i32_25 : BitVec 32 := 1#32
  let v56 : BitVec 32 := Scalar.subi v53 c1_i32_25
  let c1_i32_27 : BitVec 32 := 1#32
  let v59 : BitVec 32 := Scalar.subi v56 c1_i32_27
  let c1_i32_29 : BitVec 32 := 1#32
  let v62 : BitVec 32 := Scalar.subi v59 c1_i32_29
  let c0_i32_30 : BitVec 32 := 0#32
  let v63 : BitVec 1 := Scalar.cmpi .ne v62 c0_i32_30
  v63

def k0_mult1 (i : grid0.Coords) : BitVec 32 :=
  let arg2 : BitVec 32 := BitVec.ofNat 32 (i 2).val
  let c0_i32_31 : BitVec 32 := 0#32
  let v65 : BitVec 32 := Scalar.subi arg2 c0_i32_31
  let c256_i32 : BitVec 32 := 256#32
  let v73 : BitVec 32 := Scalar.muli v65 c256_i32
  v73
def k0_mult2 (i : grid0.Coords) : BitVec 32 :=
  let arg2 : BitVec 32 := BitVec.ofNat 32 (i 2).val
  let c1_i32_32 : BitVec 32 := 1#32
  let v66 : BitVec 32 := Scalar.subi arg2 c1_i32_32
  let c256_i32_36 : BitVec 32 := 256#32
  let v75 : BitVec 32 := Scalar.muli v66 c256_i32_36
  v75
def k0_mult3 (i : grid0.Coords) : BitVec 32 :=
  let arg2 : BitVec 32 := BitVec.ofNat 32 (i 2).val
  let c2_i32 : BitVec 32 := 2#32
  let v67 : BitVec 32 := Scalar.subi arg2 c2_i32
  let c256_i32_37 : BitVec 32 := 256#32
  let v77 : BitVec 32 := Scalar.muli v67 c256_i32_37
  v77
def k0_mult4 (i : grid0.Coords) : BitVec 32 :=
  let arg2 : BitVec 32 := BitVec.ofNat 32 (i 2).val
  let c3_i32_33 : BitVec 32 := 3#32
  let v68 : BitVec 32 := Scalar.subi arg2 c3_i32_33
  let c256_i32_38 : BitVec 32 := 256#32
  let v79 : BitVec 32 := Scalar.muli v68 c256_i32_38
  v79
def k0_mult5 (i : grid0.Coords) : BitVec 32 :=
  let arg2 : BitVec 32 := BitVec.ofNat 32 (i 2).val
  let c4_i32_34 : BitVec 32 := 4#32
  let v69 : BitVec 32 := Scalar.subi arg2 c4_i32_34
  let c256_i32_39 : BitVec 32 := 256#32
  let v81 : BitVec 32 := Scalar.muli v69 c256_i32_39
  v81
def k0_mult6 (i : grid0.Coords) : BitVec 32 :=
  let arg2 : BitVec 32 := BitVec.ofNat 32 (i 2).val
  let c5_i32 : BitVec 32 := 5#32
  let v70 : BitVec 32 := Scalar.subi arg2 c5_i32
  let c256_i32_40 : BitVec 32 := 256#32
  let v83 : BitVec 32 := Scalar.muli v70 c256_i32_40
  v83
def k0_mult7 (i : grid0.Coords) : BitVec 32 :=
  let arg2 : BitVec 32 := BitVec.ofNat 32 (i 2).val
  let c6_i32 : BitVec 32 := 6#32
  let v71 : BitVec 32 := Scalar.subi arg2 c6_i32
  let c256_i32_41 : BitVec 32 := 256#32
  let v85 : BitVec 32 := Scalar.muli v71 c256_i32_41
  v85
def k0_mult8 (i : grid0.Coords) : BitVec 32 :=
  let arg2 : BitVec 32 := BitVec.ofNat 32 (i 2).val
  let c7_i32_35 : BitVec 32 := 7#32
  let v72 : BitVec 32 := Scalar.subi arg2 c7_i32_35
  let c256_i32_42 : BitVec 32 := 256#32
  let v87 : BitVec 32 := Scalar.muli v72 c256_i32_42
  v87
def k0_off2 (i : grid0.Coords) (c0_i32_31 : BitVec 32) : Fin 2 → Nat :=
  let arg2 : BitVec 32 := BitVec.ofNat 32 (i 2).val
  let v65 : BitVec 32 := Scalar.subi arg2 c0_i32_31
  let c256_i32 : BitVec 32 := 256#32
  let v73 : BitVec 32 := Scalar.muli v65 c256_i32
  let v74 : BitVec 32 := v73
  let v89 : Index := Scalar.indexCast v74
  let c0_43 : Index := 0#32
  ![v89.toNat, 0]
def k0_mult9 (i : grid0.Coords) : BitVec 32 :=
  let arg2 : BitVec 32 := BitVec.ofNat 32 (i 2).val
  let c0_i32_31 : BitVec 32 := 0#32
  let v65 : BitVec 32 := Scalar.subi arg2 c0_i32_31
  let c256_i32 : BitVec 32 := 256#32
  let v72 : BitVec 32 := Scalar.muli v65 c256_i32
  v72
def k0_mult10 (i : grid0.Coords) : BitVec 32 :=
  let arg2 : BitVec 32 := BitVec.ofNat 32 (i 2).val
  let c1_i32_32 : BitVec 32 := 1#32
  let v66 : BitVec 32 := Scalar.subi arg2 c1_i32_32
  let c256_i32_35 : BitVec 32 := 256#32
  let v74 : BitVec 32 := Scalar.muli v66 c256_i32_35
  v74
def k0_mult11 (i : grid0.Coords) : BitVec 32 :=
  let arg2 : BitVec 32 := BitVec.ofNat 32 (i 2).val
  let c2_i32 : BitVec 32 := 2#32
  let v67 : BitVec 32 := Scalar.subi arg2 c2_i32
  let c256_i32_36 : BitVec 32 := 256#32
  let v76 : BitVec 32 := Scalar.muli v67 c256_i32_36
  v76
def k0_mult12 (i : grid0.Coords) : BitVec 32 :=
  let arg2 : BitVec 32 := BitVec.ofNat 32 (i 2).val
  let c3_i32_33 : BitVec 32 := 3#32
  let v68 : BitVec 32 := Scalar.subi arg2 c3_i32_33
  let c256_i32_37 : BitVec 32 := 256#32
  let v78 : BitVec 32 := Scalar.muli v68 c256_i32_37
  v78
def k0_mult13 (i : grid0.Coords) : BitVec 32 :=
  let arg2 : BitVec 32 := BitVec.ofNat 32 (i 2).val
  let c4_i32_34 : BitVec 32 := 4#32
  let v69 : BitVec 32 := Scalar.subi arg2 c4_i32_34
  let c256_i32_38 : BitVec 32 := 256#32
  let v80 : BitVec 32 := Scalar.muli v69 c256_i32_38
  v80
def k0_mult14 (i : grid0.Coords) : BitVec 32 :=
  let arg2 : BitVec 32 := BitVec.ofNat 32 (i 2).val
  let c5_i32 : BitVec 32 := 5#32
  let v70 : BitVec 32 := Scalar.subi arg2 c5_i32
  let c256_i32_39 : BitVec 32 := 256#32
  let v82 : BitVec 32 := Scalar.muli v70 c256_i32_39
  v82
def k0_mult15 (i : grid0.Coords) : BitVec 32 :=
  let arg2 : BitVec 32 := BitVec.ofNat 32 (i 2).val
  let c6_i32 : BitVec 32 := 6#32
  let v71 : BitVec 32 := Scalar.subi arg2 c6_i32
  let c256_i32_40 : BitVec 32 := 256#32
  let v84 : BitVec 32 := Scalar.muli v71 c256_i32_40
  v84
def k0_off3 (i : grid0.Coords) (c0_i32_31 : BitVec 32) : Fin 2 → Nat :=
  let arg2 : BitVec 32 := BitVec.ofNat 32 (i 2).val
  let v65 : BitVec 32 := Scalar.subi arg2 c0_i32_31
  let c256_i32 : BitVec 32 := 256#32
  let v72 : BitVec 32 := Scalar.muli v65 c256_i32
  let v73 : BitVec 32 := v72
  let v86 : Index := Scalar.indexCast v73
  let c0_41 : Index := 0#32
  ![v86.toNat, 0]
def k0_mult16 (i : grid0.Coords) : BitVec 32 :=
  let arg2 : BitVec 32 := BitVec.ofNat 32 (i 2).val
  let c0_i32_29 : BitVec 32 := 0#32
  let v62 : BitVec 32 := Scalar.subi arg2 c0_i32_29
  let c256_i32 : BitVec 32 := 256#32
  let v68 : BitVec 32 := Scalar.muli v62 c256_i32
  v68
def k0_mult17 (i : grid0.Coords) : BitVec 32 :=
  let arg2 : BitVec 32 := BitVec.ofNat 32 (i 2).val
  let c1_i32_30 : BitVec 32 := 1#32
  let v63 : BitVec 32 := Scalar.subi arg2 c1_i32_30
  let c256_i32_33 : BitVec 32 := 256#32
  let v70 : BitVec 32 := Scalar.muli v63 c256_i32_33
  v70
def k0_mult18 (i : grid0.Coords) : BitVec 32 :=
  let arg2 : BitVec 32 := BitVec.ofNat 32 (i 2).val
  let c2_i32 : BitVec 32 := 2#32
  let v64 : BitVec 32 := Scalar.subi arg2 c2_i32
  let c256_i32_34 : BitVec 32 := 256#32
  let v72 : BitVec 32 := Scalar.muli v64 c256_i32_34
  v72
def k0_mult19 (i : grid0.Coords) : BitVec 32 :=
  let arg2 : BitVec 32 := BitVec.ofNat 32 (i 2).val
  let c3_i32_31 : BitVec 32 := 3#32
  let v65 : BitVec 32 := Scalar.subi arg2 c3_i32_31
  let c256_i32_35 : BitVec 32 := 256#32
  let v74 : BitVec 32 := Scalar.muli v65 c256_i32_35
  v74
def k0_mult20 (i : grid0.Coords) : BitVec 32 :=
  let arg2 : BitVec 32 := BitVec.ofNat 32 (i 2).val
  let c4_i32_32 : BitVec 32 := 4#32
  let v66 : BitVec 32 := Scalar.subi arg2 c4_i32_32
  let c256_i32_36 : BitVec 32 := 256#32
  let v76 : BitVec 32 := Scalar.muli v66 c256_i32_36
  v76
def k0_mult21 (i : grid0.Coords) : BitVec 32 :=
  let arg2 : BitVec 32 := BitVec.ofNat 32 (i 2).val
  let c5_i32 : BitVec 32 := 5#32
  let v67 : BitVec 32 := Scalar.subi arg2 c5_i32
  let c256_i32_37 : BitVec 32 := 256#32
  let v78 : BitVec 32 := Scalar.muli v67 c256_i32_37
  v78
def k0_off4 (i : grid0.Coords) (c0_i32_29 : BitVec 32) : Fin 2 → Nat :=
  let arg2 : BitVec 32 := BitVec.ofNat 32 (i 2).val
  let v62 : BitVec 32 := Scalar.subi arg2 c0_i32_29
  let c256_i32 : BitVec 32 := 256#32
  let v68 : BitVec 32 := Scalar.muli v62 c256_i32
  let v69 : BitVec 32 := v68
  let v80 : Index := Scalar.indexCast v69
  let c0_38 : Index := 0#32
  ![v80.toNat, 0]
def k0_mult22 (i : grid0.Coords) : BitVec 32 :=
  let arg2 : BitVec 32 := BitVec.ofNat 32 (i 2).val
  let c0_i32_27 : BitVec 32 := 0#32
  let v59 : BitVec 32 := Scalar.subi arg2 c0_i32_27
  let c256_i32 : BitVec 32 := 256#32
  let v64 : BitVec 32 := Scalar.muli v59 c256_i32
  v64
def k0_mult23 (i : grid0.Coords) : BitVec 32 :=
  let arg2 : BitVec 32 := BitVec.ofNat 32 (i 2).val
  let c1_i32_28 : BitVec 32 := 1#32
  let v60 : BitVec 32 := Scalar.subi arg2 c1_i32_28
  let c256_i32_31 : BitVec 32 := 256#32
  let v66 : BitVec 32 := Scalar.muli v60 c256_i32_31
  v66
def k0_mult24 (i : grid0.Coords) : BitVec 32 :=
  let arg2 : BitVec 32 := BitVec.ofNat 32 (i 2).val
  let c2_i32 : BitVec 32 := 2#32
  let v61 : BitVec 32 := Scalar.subi arg2 c2_i32
  let c256_i32_32 : BitVec 32 := 256#32
  let v68 : BitVec 32 := Scalar.muli v61 c256_i32_32
  v68
def k0_mult25 (i : grid0.Coords) : BitVec 32 :=
  let arg2 : BitVec 32 := BitVec.ofNat 32 (i 2).val
  let c3_i32_29 : BitVec 32 := 3#32
  let v62 : BitVec 32 := Scalar.subi arg2 c3_i32_29
  let c256_i32_33 : BitVec 32 := 256#32
  let v70 : BitVec 32 := Scalar.muli v62 c256_i32_33
  v70
def k0_mult26 (i : grid0.Coords) : BitVec 32 :=
  let arg2 : BitVec 32 := BitVec.ofNat 32 (i 2).val
  let c4_i32_30 : BitVec 32 := 4#32
  let v63 : BitVec 32 := Scalar.subi arg2 c4_i32_30
  let c256_i32_34 : BitVec 32 := 256#32
  let v72 : BitVec 32 := Scalar.muli v63 c256_i32_34
  v72
def k0_off5 (i : grid0.Coords) (c0_i32_27 : BitVec 32) : Fin 2 → Nat :=
  let arg2 : BitVec 32 := BitVec.ofNat 32 (i 2).val
  let v59 : BitVec 32 := Scalar.subi arg2 c0_i32_27
  let c256_i32 : BitVec 32 := 256#32
  let v64 : BitVec 32 := Scalar.muli v59 c256_i32
  let v65 : BitVec 32 := v64
  let v74 : Index := Scalar.indexCast v65
  let c0_35 : Index := 0#32
  ![v74.toNat, 0]
def k0_mult27 (i : grid0.Coords) : BitVec 32 :=
  let arg2 : BitVec 32 := BitVec.ofNat 32 (i 2).val
  let c0_i32_25 : BitVec 32 := 0#32
  let v56 : BitVec 32 := Scalar.subi arg2 c0_i32_25
  let c256_i32 : BitVec 32 := 256#32
  let v60 : BitVec 32 := Scalar.muli v56 c256_i32
  v60
def k0_mult28 (i : grid0.Coords) : BitVec 32 :=
  let arg2 : BitVec 32 := BitVec.ofNat 32 (i 2).val
  let c1_i32_26 : BitVec 32 := 1#32
  let v57 : BitVec 32 := Scalar.subi arg2 c1_i32_26
  let c256_i32_28 : BitVec 32 := 256#32
  let v62 : BitVec 32 := Scalar.muli v57 c256_i32_28
  v62
def k0_mult29 (i : grid0.Coords) : BitVec 32 :=
  let arg2 : BitVec 32 := BitVec.ofNat 32 (i 2).val
  let c2_i32 : BitVec 32 := 2#32
  let v58 : BitVec 32 := Scalar.subi arg2 c2_i32
  let c256_i32_29 : BitVec 32 := 256#32
  let v64 : BitVec 32 := Scalar.muli v58 c256_i32_29
  v64
def k0_mult30 (i : grid0.Coords) : BitVec 32 :=
  let arg2 : BitVec 32 := BitVec.ofNat 32 (i 2).val
  let c3_i32_27 : BitVec 32 := 3#32
  let v59 : BitVec 32 := Scalar.subi arg2 c3_i32_27
  let c256_i32_30 : BitVec 32 := 256#32
  let v66 : BitVec 32 := Scalar.muli v59 c256_i32_30
  v66
def k0_off6 (i : grid0.Coords) (c0_i32_25 : BitVec 32) : Fin 2 → Nat :=
  let arg2 : BitVec 32 := BitVec.ofNat 32 (i 2).val
  let v56 : BitVec 32 := Scalar.subi arg2 c0_i32_25
  let c256_i32 : BitVec 32 := 256#32
  let v60 : BitVec 32 := Scalar.muli v56 c256_i32
  let v61 : BitVec 32 := v60
  let v68 : Index := Scalar.indexCast v61
  let c0_31 : Index := 0#32
  ![v68.toNat, 0]
def k0_mult31 (i : grid0.Coords) : BitVec 32 :=
  let arg2 : BitVec 32 := BitVec.ofNat 32 (i 2).val
  let c0_i32_23 : BitVec 32 := 0#32
  let v53 : BitVec 32 := Scalar.subi arg2 c0_i32_23
  let c256_i32 : BitVec 32 := 256#32
  let v56 : BitVec 32 := Scalar.muli v53 c256_i32
  v56
def k0_mult32 (i : grid0.Coords) : BitVec 32 :=
  let arg2 : BitVec 32 := BitVec.ofNat 32 (i 2).val
  let c1_i32_24 : BitVec 32 := 1#32
  let v54 : BitVec 32 := Scalar.subi arg2 c1_i32_24
  let c256_i32_25 : BitVec 32 := 256#32
  let v58 : BitVec 32 := Scalar.muli v54 c256_i32_25
  v58
def k0_mult33 (i : grid0.Coords) : BitVec 32 :=
  let arg2 : BitVec 32 := BitVec.ofNat 32 (i 2).val
  let c2_i32 : BitVec 32 := 2#32
  let v55 : BitVec 32 := Scalar.subi arg2 c2_i32
  let c256_i32_26 : BitVec 32 := 256#32
  let v60 : BitVec 32 := Scalar.muli v55 c256_i32_26
  v60
def k0_off7 (i : grid0.Coords) (c0_i32_23 : BitVec 32) : Fin 2 → Nat :=
  let arg2 : BitVec 32 := BitVec.ofNat 32 (i 2).val
  let v53 : BitVec 32 := Scalar.subi arg2 c0_i32_23
  let c256_i32 : BitVec 32 := 256#32
  let v56 : BitVec 32 := Scalar.muli v53 c256_i32
  let v57 : BitVec 32 := v56
  let v62 : Index := Scalar.indexCast v57
  let c0_27 : Index := 0#32
  ![v62.toNat, 0]
def k0_mult34 (i : grid0.Coords) : BitVec 32 :=
  let arg2 : BitVec 32 := BitVec.ofNat 32 (i 2).val
  let c0_i32_21 : BitVec 32 := 0#32
  let v50 : BitVec 32 := Scalar.subi arg2 c0_i32_21
  let c256_i32 : BitVec 32 := 256#32
  let v52 : BitVec 32 := Scalar.muli v50 c256_i32
  v52
def k0_mult35 (i : grid0.Coords) : BitVec 32 :=
  let arg2 : BitVec 32 := BitVec.ofNat 32 (i 2).val
  let c1_i32_22 : BitVec 32 := 1#32
  let v51 : BitVec 32 := Scalar.subi arg2 c1_i32_22
  let c256_i32_23 : BitVec 32 := 256#32
  let v54 : BitVec 32 := Scalar.muli v51 c256_i32_23
  v54
def k0_off8 (i : grid0.Coords) (c0_i32_21 : BitVec 32) : Fin 2 → Nat :=
  let arg2 : BitVec 32 := BitVec.ofNat 32 (i 2).val
  let v50 : BitVec 32 := Scalar.subi arg2 c0_i32_21
  let c256_i32 : BitVec 32 := 256#32
  let v52 : BitVec 32 := Scalar.muli v50 c256_i32
  let v53 : BitVec 32 := v52
  let v56 : Index := Scalar.indexCast v53
  let c0_24 : Index := 0#32
  ![v56.toNat, 0]
def k0_mult36 (i : grid0.Coords) : BitVec 32 :=
  let arg2 : BitVec 32 := BitVec.ofNat 32 (i 2).val
  let c0_i32_19 : BitVec 32 := 0#32
  let v47 : BitVec 32 := Scalar.subi arg2 c0_i32_19
  let c256_i32 : BitVec 32 := 256#32
  let v48 : BitVec 32 := Scalar.muli v47 c256_i32
  v48
def k0_off9 (i : grid0.Coords) : Fin 2 → Nat :=
  let arg2 : BitVec 32 := BitVec.ofNat 32 (i 2).val
  let c0_i32_19 : BitVec 32 := 0#32
  let v47 : BitVec 32 := Scalar.subi arg2 c0_i32_19
  let c256_i32 : BitVec 32 := 256#32
  let v48 : BitVec 32 := Scalar.muli v47 c256_i32
  let v49 : BitVec 32 := v48
  let v50 : Index := Scalar.indexCast v49
  let c0_20 : Index := 0#32
  ![v50.toNat, 0]
def k0_cond9 (i : grid0.Coords) : BitVec 1 :=
  let arg2 : BitVec 32 := BitVec.ofNat 32 (i 2).val
  let c3_i32 : BitVec 32 := 3#32
  let v29 : BitVec 32 := Scalar.shrui arg2 c3_i32
  let c1_i32_10 : BitVec 32 := 1#32
  let v30 : BitVec 32 := Scalar.andi v29 c1_i32_10
  let c1_i32_11 : BitVec 32 := 1#32
  let v31 : BitVec 1 := Scalar.cmpi .eq v30 c1_i32_11
  let v32 : BitVec 32 := Scalar.extui v31
  let c0_i32_12 : BitVec 32 := 0#32
  let v33 : BitVec 1 := Scalar.cmpi .ne v32 c0_i32_12
  v33

def k0_mult37 (i : grid0.Coords) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c0_i32_19 : BitVec 32 := 0#32
  let v47 : BitVec 32 := Scalar.subi v28 c0_i32_19
  let c256_i32 : BitVec 32 := 256#32
  let v55 : BitVec 32 := Scalar.muli v47 c256_i32
  v55
def k0_mult38 (i : grid0.Coords) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c1_i32_20 : BitVec 32 := 1#32
  let v48 : BitVec 32 := Scalar.subi v28 c1_i32_20
  let c256_i32_24 : BitVec 32 := 256#32
  let v57 : BitVec 32 := Scalar.muli v48 c256_i32_24
  v57
def k0_mult39 (i : grid0.Coords) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c2_i32 : BitVec 32 := 2#32
  let v49 : BitVec 32 := Scalar.subi v28 c2_i32
  let c256_i32_25 : BitVec 32 := 256#32
  let v59 : BitVec 32 := Scalar.muli v49 c256_i32_25
  v59
def k0_mult40 (i : grid0.Coords) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32_21 : BitVec 32 := 3#32
  let v50 : BitVec 32 := Scalar.subi v28 c3_i32_21
  let c256_i32_26 : BitVec 32 := 256#32
  let v61 : BitVec 32 := Scalar.muli v50 c256_i32_26
  v61
def k0_mult41 (i : grid0.Coords) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c4_i32_22 : BitVec 32 := 4#32
  let v51 : BitVec 32 := Scalar.subi v28 c4_i32_22
  let c256_i32_27 : BitVec 32 := 256#32
  let v63 : BitVec 32 := Scalar.muli v51 c256_i32_27
  v63
def k0_mult42 (i : grid0.Coords) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c5_i32 : BitVec 32 := 5#32
  let v52 : BitVec 32 := Scalar.subi v28 c5_i32
  let c256_i32_28 : BitVec 32 := 256#32
  let v65 : BitVec 32 := Scalar.muli v52 c256_i32_28
  v65
def k0_mult43 (i : grid0.Coords) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c6_i32 : BitVec 32 := 6#32
  let v53 : BitVec 32 := Scalar.subi v28 c6_i32
  let c256_i32_29 : BitVec 32 := 256#32
  let v67 : BitVec 32 := Scalar.muli v53 c256_i32_29
  v67
def k0_mult44 (i : grid0.Coords) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c7_i32_23 : BitVec 32 := 7#32
  let v54 : BitVec 32 := Scalar.subi v28 c7_i32_23
  let c256_i32_30 : BitVec 32 := 256#32
  let v69 : BitVec 32 := Scalar.muli v54 c256_i32_30
  v69
def k0_off10 (i : grid0.Coords) (c0_i32_19 : BitVec 32) : Fin 2 → Nat :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let v47 : BitVec 32 := Scalar.subi v28 c0_i32_19
  let c256_i32 : BitVec 32 := 256#32
  let v55 : BitVec 32 := Scalar.muli v47 c256_i32
  let v56 : BitVec 32 := v55
  let v71 : Index := Scalar.indexCast v56
  let c0_31 : Index := 0#32
  ![v71.toNat, 0]
@[reducible] def k0_t1_loop (i : grid0.Coords) : Scf.Loop 32 :=
  let c0_i32_13 : BitVec 32 := 0#32
  let arg2 : BitVec 32 := BitVec.ofNat 32 (i 2).val
  let c4_i32 : BitVec 32 := 4#32
  let v37 : BitVec 32 := Scalar.shrui arg2 c4_i32
  let v38 : BitVec 32 := Scalar.subi v37 c0_i32_13
  let c1_i32_14 : BitVec 32 := 1#32
  let v40 : BitVec 32 := Scalar.divsi v38 c1_i32_14
  let v41 : BitVec 32 := Scalar.muli v40 c1_i32_14
  let v42 : BitVec 32 := Scalar.addi c0_i32_13 v41
  let c1_i32_15 : BitVec 32 := 1#32
  ⟨c0_i32_13, v42, c1_i32_15⟩
def k0_mult45 (i : grid0.Coords) (k0_t1 : Fin (k0_t1_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c1_i32_15 : BitVec 32 := 1#32
  let arg10 : BitVec 32 := Scf.iv c0_i32_13 c1_i32_15 k0_t1
  let c16_i32 : BitVec 32 := 16#32
  let v47 : BitVec 32 := Scalar.muli arg10 c16_i32
  let v48 : BitVec 32 := Scalar.subi v36 v47
  let c0_i32_19 : BitVec 32 := 0#32
  let v49 : BitVec 32 := Scalar.subi v48 c0_i32_19
  let c256_i32 : BitVec 32 := 256#32
  let v65 : BitVec 32 := Scalar.muli v49 c256_i32
  v65
def k0_mult46 (i : grid0.Coords) (k0_t1 : Fin (k0_t1_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c1_i32_15 : BitVec 32 := 1#32
  let arg10 : BitVec 32 := Scf.iv c0_i32_13 c1_i32_15 k0_t1
  let c16_i32 : BitVec 32 := 16#32
  let v47 : BitVec 32 := Scalar.muli arg10 c16_i32
  let v48 : BitVec 32 := Scalar.subi v36 v47
  let c1_i32_20 : BitVec 32 := 1#32
  let v50 : BitVec 32 := Scalar.subi v48 c1_i32_20
  let c256_i32_25 : BitVec 32 := 256#32
  let v67 : BitVec 32 := Scalar.muli v50 c256_i32_25
  v67
def k0_mult47 (i : grid0.Coords) (k0_t1 : Fin (k0_t1_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c1_i32_15 : BitVec 32 := 1#32
  let arg10 : BitVec 32 := Scf.iv c0_i32_13 c1_i32_15 k0_t1
  let c16_i32 : BitVec 32 := 16#32
  let v47 : BitVec 32 := Scalar.muli arg10 c16_i32
  let v48 : BitVec 32 := Scalar.subi v36 v47
  let c2_i32 : BitVec 32 := 2#32
  let v51 : BitVec 32 := Scalar.subi v48 c2_i32
  let c256_i32_26 : BitVec 32 := 256#32
  let v69 : BitVec 32 := Scalar.muli v51 c256_i32_26
  v69
def k0_mult48 (i : grid0.Coords) (k0_t1 : Fin (k0_t1_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c1_i32_15 : BitVec 32 := 1#32
  let arg10 : BitVec 32 := Scf.iv c0_i32_13 c1_i32_15 k0_t1
  let c16_i32 : BitVec 32 := 16#32
  let v47 : BitVec 32 := Scalar.muli arg10 c16_i32
  let v48 : BitVec 32 := Scalar.subi v36 v47
  let c3_i32_21 : BitVec 32 := 3#32
  let v52 : BitVec 32 := Scalar.subi v48 c3_i32_21
  let c256_i32_27 : BitVec 32 := 256#32
  let v71 : BitVec 32 := Scalar.muli v52 c256_i32_27
  v71
def k0_mult49 (i : grid0.Coords) (k0_t1 : Fin (k0_t1_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c1_i32_15 : BitVec 32 := 1#32
  let arg10 : BitVec 32 := Scf.iv c0_i32_13 c1_i32_15 k0_t1
  let c16_i32 : BitVec 32 := 16#32
  let v47 : BitVec 32 := Scalar.muli arg10 c16_i32
  let v48 : BitVec 32 := Scalar.subi v36 v47
  let c4_i32_22 : BitVec 32 := 4#32
  let v53 : BitVec 32 := Scalar.subi v48 c4_i32_22
  let c256_i32_28 : BitVec 32 := 256#32
  let v73 : BitVec 32 := Scalar.muli v53 c256_i32_28
  v73
def k0_mult50 (i : grid0.Coords) (k0_t1 : Fin (k0_t1_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c1_i32_15 : BitVec 32 := 1#32
  let arg10 : BitVec 32 := Scf.iv c0_i32_13 c1_i32_15 k0_t1
  let c16_i32 : BitVec 32 := 16#32
  let v47 : BitVec 32 := Scalar.muli arg10 c16_i32
  let v48 : BitVec 32 := Scalar.subi v36 v47
  let c5_i32 : BitVec 32 := 5#32
  let v54 : BitVec 32 := Scalar.subi v48 c5_i32
  let c256_i32_29 : BitVec 32 := 256#32
  let v75 : BitVec 32 := Scalar.muli v54 c256_i32_29
  v75
def k0_mult51 (i : grid0.Coords) (k0_t1 : Fin (k0_t1_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c1_i32_15 : BitVec 32 := 1#32
  let arg10 : BitVec 32 := Scf.iv c0_i32_13 c1_i32_15 k0_t1
  let c16_i32 : BitVec 32 := 16#32
  let v47 : BitVec 32 := Scalar.muli arg10 c16_i32
  let v48 : BitVec 32 := Scalar.subi v36 v47
  let c6_i32 : BitVec 32 := 6#32
  let v55 : BitVec 32 := Scalar.subi v48 c6_i32
  let c256_i32_30 : BitVec 32 := 256#32
  let v77 : BitVec 32 := Scalar.muli v55 c256_i32_30
  v77
def k0_mult52 (i : grid0.Coords) (k0_t1 : Fin (k0_t1_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c1_i32_15 : BitVec 32 := 1#32
  let arg10 : BitVec 32 := Scf.iv c0_i32_13 c1_i32_15 k0_t1
  let c16_i32 : BitVec 32 := 16#32
  let v47 : BitVec 32 := Scalar.muli arg10 c16_i32
  let v48 : BitVec 32 := Scalar.subi v36 v47
  let c7_i32_23 : BitVec 32 := 7#32
  let v56 : BitVec 32 := Scalar.subi v48 c7_i32_23
  let c256_i32_31 : BitVec 32 := 256#32
  let v79 : BitVec 32 := Scalar.muli v56 c256_i32_31
  v79
def k0_mult53 (i : grid0.Coords) (k0_t1 : Fin (k0_t1_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c1_i32_15 : BitVec 32 := 1#32
  let arg10 : BitVec 32 := Scf.iv c0_i32_13 c1_i32_15 k0_t1
  let c16_i32 : BitVec 32 := 16#32
  let v47 : BitVec 32 := Scalar.muli arg10 c16_i32
  let v48 : BitVec 32 := Scalar.subi v36 v47
  let c8_i32_24 : BitVec 32 := 8#32
  let v57 : BitVec 32 := Scalar.subi v48 c8_i32_24
  let c256_i32_32 : BitVec 32 := 256#32
  let v81 : BitVec 32 := Scalar.muli v57 c256_i32_32
  v81
def k0_mult54 (i : grid0.Coords) (k0_t1 : Fin (k0_t1_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c1_i32_15 : BitVec 32 := 1#32
  let arg10 : BitVec 32 := Scf.iv c0_i32_13 c1_i32_15 k0_t1
  let c16_i32 : BitVec 32 := 16#32
  let v47 : BitVec 32 := Scalar.muli arg10 c16_i32
  let v48 : BitVec 32 := Scalar.subi v36 v47
  let c9_i32 : BitVec 32 := 9#32
  let v58 : BitVec 32 := Scalar.subi v48 c9_i32
  let c256_i32_33 : BitVec 32 := 256#32
  let v83 : BitVec 32 := Scalar.muli v58 c256_i32_33
  v83
def k0_mult55 (i : grid0.Coords) (k0_t1 : Fin (k0_t1_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c1_i32_15 : BitVec 32 := 1#32
  let arg10 : BitVec 32 := Scf.iv c0_i32_13 c1_i32_15 k0_t1
  let c16_i32 : BitVec 32 := 16#32
  let v47 : BitVec 32 := Scalar.muli arg10 c16_i32
  let v48 : BitVec 32 := Scalar.subi v36 v47
  let c10_i32 : BitVec 32 := 10#32
  let v59 : BitVec 32 := Scalar.subi v48 c10_i32
  let c256_i32_34 : BitVec 32 := 256#32
  let v85 : BitVec 32 := Scalar.muli v59 c256_i32_34
  v85
def k0_mult56 (i : grid0.Coords) (k0_t1 : Fin (k0_t1_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c1_i32_15 : BitVec 32 := 1#32
  let arg10 : BitVec 32 := Scf.iv c0_i32_13 c1_i32_15 k0_t1
  let c16_i32 : BitVec 32 := 16#32
  let v47 : BitVec 32 := Scalar.muli arg10 c16_i32
  let v48 : BitVec 32 := Scalar.subi v36 v47
  let c11_i32 : BitVec 32 := 11#32
  let v60 : BitVec 32 := Scalar.subi v48 c11_i32
  let c256_i32_35 : BitVec 32 := 256#32
  let v87 : BitVec 32 := Scalar.muli v60 c256_i32_35
  v87
def k0_mult57 (i : grid0.Coords) (k0_t1 : Fin (k0_t1_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c1_i32_15 : BitVec 32 := 1#32
  let arg10 : BitVec 32 := Scf.iv c0_i32_13 c1_i32_15 k0_t1
  let c16_i32 : BitVec 32 := 16#32
  let v47 : BitVec 32 := Scalar.muli arg10 c16_i32
  let v48 : BitVec 32 := Scalar.subi v36 v47
  let c12_i32 : BitVec 32 := 12#32
  let v61 : BitVec 32 := Scalar.subi v48 c12_i32
  let c256_i32_36 : BitVec 32 := 256#32
  let v89 : BitVec 32 := Scalar.muli v61 c256_i32_36
  v89
def k0_mult58 (i : grid0.Coords) (k0_t1 : Fin (k0_t1_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c1_i32_15 : BitVec 32 := 1#32
  let arg10 : BitVec 32 := Scf.iv c0_i32_13 c1_i32_15 k0_t1
  let c16_i32 : BitVec 32 := 16#32
  let v47 : BitVec 32 := Scalar.muli arg10 c16_i32
  let v48 : BitVec 32 := Scalar.subi v36 v47
  let c13_i32 : BitVec 32 := 13#32
  let v62 : BitVec 32 := Scalar.subi v48 c13_i32
  let c256_i32_37 : BitVec 32 := 256#32
  let v91 : BitVec 32 := Scalar.muli v62 c256_i32_37
  v91
def k0_mult59 (i : grid0.Coords) (k0_t1 : Fin (k0_t1_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c1_i32_15 : BitVec 32 := 1#32
  let arg10 : BitVec 32 := Scf.iv c0_i32_13 c1_i32_15 k0_t1
  let c16_i32 : BitVec 32 := 16#32
  let v47 : BitVec 32 := Scalar.muli arg10 c16_i32
  let v48 : BitVec 32 := Scalar.subi v36 v47
  let c14_i32 : BitVec 32 := 14#32
  let v63 : BitVec 32 := Scalar.subi v48 c14_i32
  let c256_i32_38 : BitVec 32 := 256#32
  let v93 : BitVec 32 := Scalar.muli v63 c256_i32_38
  v93
def k0_mult60 (i : grid0.Coords) (k0_t1 : Fin (k0_t1_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c1_i32_15 : BitVec 32 := 1#32
  let arg10 : BitVec 32 := Scf.iv c0_i32_13 c1_i32_15 k0_t1
  let c16_i32 : BitVec 32 := 16#32
  let v47 : BitVec 32 := Scalar.muli arg10 c16_i32
  let v48 : BitVec 32 := Scalar.subi v36 v47
  let c15_i32 : BitVec 32 := 15#32
  let v64 : BitVec 32 := Scalar.subi v48 c15_i32
  let c256_i32_39 : BitVec 32 := 256#32
  let v95 : BitVec 32 := Scalar.muli v64 c256_i32_39
  v95
def k0_off11 (i : grid0.Coords) (k0_t1 : Fin (k0_t1_loop i).trips) (c0_i32_19 : BitVec 32) : Fin 2 → Nat :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c1_i32_15 : BitVec 32 := 1#32
  let arg10 : BitVec 32 := Scf.iv c0_i32_13 c1_i32_15 k0_t1
  let c16_i32 : BitVec 32 := 16#32
  let v47 : BitVec 32 := Scalar.muli arg10 c16_i32
  let v48 : BitVec 32 := Scalar.subi v36 v47
  let v49 : BitVec 32 := Scalar.subi v48 c0_i32_19
  let c256_i32 : BitVec 32 := 256#32
  let v65 : BitVec 32 := Scalar.muli v49 c256_i32
  let v66 : BitVec 32 := v65
  let v97 : Index := Scalar.indexCast v66
  let c0_40 : Index := 0#32
  ![v97.toNat, 0]
@[reducible] def k0_t2_loop (i : grid0.Coords) : Scf.Loop 32 :=
  let c0_i32_13 : BitVec 32 := 0#32
  let arg2 : BitVec 32 := BitVec.ofNat 32 (i 2).val
  let c4_i32 : BitVec 32 := 4#32
  let v37 : BitVec 32 := Scalar.shrui arg2 c4_i32
  let v38 : BitVec 32 := Scalar.subi v37 c0_i32_13
  let c1_i32_14 : BitVec 32 := 1#32
  let v40 : BitVec 32 := Scalar.divsi v38 c1_i32_14
  let v41 : BitVec 32 := Scalar.muli v40 c1_i32_14
  let v42 : BitVec 32 := Scalar.addi c0_i32_13 v41
  let v39 : BitVec 32 := Scalar.addi c0_i32_13 v38
  let c1_i32_16 : BitVec 32 := 1#32
  ⟨v42, v39, c1_i32_16⟩
def k0_mult61 (i : grid0.Coords) (k0_t2 : Fin (k0_t2_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c4_i32 : BitVec 32 := 4#32
  let v37 : BitVec 32 := Scalar.shrui arg2 c4_i32
  let v38 : BitVec 32 := Scalar.subi v37 c0_i32_13
  let c1_i32_14 : BitVec 32 := 1#32
  let v40 : BitVec 32 := Scalar.divsi v38 c1_i32_14
  let v41 : BitVec 32 := Scalar.muli v40 c1_i32_14
  let v42 : BitVec 32 := Scalar.addi c0_i32_13 v41
  let c1_i32_16 : BitVec 32 := 1#32
  let arg10 : BitVec 32 := Scf.iv v42 c1_i32_16 k0_t2
  let c16_i32 : BitVec 32 := 16#32
  let v47 : BitVec 32 := Scalar.muli arg10 c16_i32
  let v48 : BitVec 32 := Scalar.subi v36 v47
  let c0_i32_19 : BitVec 32 := 0#32
  let v49 : BitVec 32 := Scalar.subi v48 c0_i32_19
  let c256_i32 : BitVec 32 := 256#32
  let v65 : BitVec 32 := Scalar.muli v49 c256_i32
  v65
def k0_mult62 (i : grid0.Coords) (k0_t2 : Fin (k0_t2_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c4_i32 : BitVec 32 := 4#32
  let v37 : BitVec 32 := Scalar.shrui arg2 c4_i32
  let v38 : BitVec 32 := Scalar.subi v37 c0_i32_13
  let c1_i32_14 : BitVec 32 := 1#32
  let v40 : BitVec 32 := Scalar.divsi v38 c1_i32_14
  let v41 : BitVec 32 := Scalar.muli v40 c1_i32_14
  let v42 : BitVec 32 := Scalar.addi c0_i32_13 v41
  let c1_i32_16 : BitVec 32 := 1#32
  let arg10 : BitVec 32 := Scf.iv v42 c1_i32_16 k0_t2
  let c16_i32 : BitVec 32 := 16#32
  let v47 : BitVec 32 := Scalar.muli arg10 c16_i32
  let v48 : BitVec 32 := Scalar.subi v36 v47
  let c1_i32_20 : BitVec 32 := 1#32
  let v50 : BitVec 32 := Scalar.subi v48 c1_i32_20
  let c256_i32_25 : BitVec 32 := 256#32
  let v67 : BitVec 32 := Scalar.muli v50 c256_i32_25
  v67
def k0_mult63 (i : grid0.Coords) (k0_t2 : Fin (k0_t2_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c4_i32 : BitVec 32 := 4#32
  let v37 : BitVec 32 := Scalar.shrui arg2 c4_i32
  let v38 : BitVec 32 := Scalar.subi v37 c0_i32_13
  let c1_i32_14 : BitVec 32 := 1#32
  let v40 : BitVec 32 := Scalar.divsi v38 c1_i32_14
  let v41 : BitVec 32 := Scalar.muli v40 c1_i32_14
  let v42 : BitVec 32 := Scalar.addi c0_i32_13 v41
  let c1_i32_16 : BitVec 32 := 1#32
  let arg10 : BitVec 32 := Scf.iv v42 c1_i32_16 k0_t2
  let c16_i32 : BitVec 32 := 16#32
  let v47 : BitVec 32 := Scalar.muli arg10 c16_i32
  let v48 : BitVec 32 := Scalar.subi v36 v47
  let c2_i32 : BitVec 32 := 2#32
  let v51 : BitVec 32 := Scalar.subi v48 c2_i32
  let c256_i32_26 : BitVec 32 := 256#32
  let v69 : BitVec 32 := Scalar.muli v51 c256_i32_26
  v69
def k0_mult64 (i : grid0.Coords) (k0_t2 : Fin (k0_t2_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c4_i32 : BitVec 32 := 4#32
  let v37 : BitVec 32 := Scalar.shrui arg2 c4_i32
  let v38 : BitVec 32 := Scalar.subi v37 c0_i32_13
  let c1_i32_14 : BitVec 32 := 1#32
  let v40 : BitVec 32 := Scalar.divsi v38 c1_i32_14
  let v41 : BitVec 32 := Scalar.muli v40 c1_i32_14
  let v42 : BitVec 32 := Scalar.addi c0_i32_13 v41
  let c1_i32_16 : BitVec 32 := 1#32
  let arg10 : BitVec 32 := Scf.iv v42 c1_i32_16 k0_t2
  let c16_i32 : BitVec 32 := 16#32
  let v47 : BitVec 32 := Scalar.muli arg10 c16_i32
  let v48 : BitVec 32 := Scalar.subi v36 v47
  let c3_i32_21 : BitVec 32 := 3#32
  let v52 : BitVec 32 := Scalar.subi v48 c3_i32_21
  let c256_i32_27 : BitVec 32 := 256#32
  let v71 : BitVec 32 := Scalar.muli v52 c256_i32_27
  v71
def k0_mult65 (i : grid0.Coords) (k0_t2 : Fin (k0_t2_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c4_i32 : BitVec 32 := 4#32
  let v37 : BitVec 32 := Scalar.shrui arg2 c4_i32
  let v38 : BitVec 32 := Scalar.subi v37 c0_i32_13
  let c1_i32_14 : BitVec 32 := 1#32
  let v40 : BitVec 32 := Scalar.divsi v38 c1_i32_14
  let v41 : BitVec 32 := Scalar.muli v40 c1_i32_14
  let v42 : BitVec 32 := Scalar.addi c0_i32_13 v41
  let c1_i32_16 : BitVec 32 := 1#32
  let arg10 : BitVec 32 := Scf.iv v42 c1_i32_16 k0_t2
  let c16_i32 : BitVec 32 := 16#32
  let v47 : BitVec 32 := Scalar.muli arg10 c16_i32
  let v48 : BitVec 32 := Scalar.subi v36 v47
  let c4_i32_22 : BitVec 32 := 4#32
  let v53 : BitVec 32 := Scalar.subi v48 c4_i32_22
  let c256_i32_28 : BitVec 32 := 256#32
  let v73 : BitVec 32 := Scalar.muli v53 c256_i32_28
  v73
def k0_mult66 (i : grid0.Coords) (k0_t2 : Fin (k0_t2_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c4_i32 : BitVec 32 := 4#32
  let v37 : BitVec 32 := Scalar.shrui arg2 c4_i32
  let v38 : BitVec 32 := Scalar.subi v37 c0_i32_13
  let c1_i32_14 : BitVec 32 := 1#32
  let v40 : BitVec 32 := Scalar.divsi v38 c1_i32_14
  let v41 : BitVec 32 := Scalar.muli v40 c1_i32_14
  let v42 : BitVec 32 := Scalar.addi c0_i32_13 v41
  let c1_i32_16 : BitVec 32 := 1#32
  let arg10 : BitVec 32 := Scf.iv v42 c1_i32_16 k0_t2
  let c16_i32 : BitVec 32 := 16#32
  let v47 : BitVec 32 := Scalar.muli arg10 c16_i32
  let v48 : BitVec 32 := Scalar.subi v36 v47
  let c5_i32 : BitVec 32 := 5#32
  let v54 : BitVec 32 := Scalar.subi v48 c5_i32
  let c256_i32_29 : BitVec 32 := 256#32
  let v75 : BitVec 32 := Scalar.muli v54 c256_i32_29
  v75
def k0_mult67 (i : grid0.Coords) (k0_t2 : Fin (k0_t2_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c4_i32 : BitVec 32 := 4#32
  let v37 : BitVec 32 := Scalar.shrui arg2 c4_i32
  let v38 : BitVec 32 := Scalar.subi v37 c0_i32_13
  let c1_i32_14 : BitVec 32 := 1#32
  let v40 : BitVec 32 := Scalar.divsi v38 c1_i32_14
  let v41 : BitVec 32 := Scalar.muli v40 c1_i32_14
  let v42 : BitVec 32 := Scalar.addi c0_i32_13 v41
  let c1_i32_16 : BitVec 32 := 1#32
  let arg10 : BitVec 32 := Scf.iv v42 c1_i32_16 k0_t2
  let c16_i32 : BitVec 32 := 16#32
  let v47 : BitVec 32 := Scalar.muli arg10 c16_i32
  let v48 : BitVec 32 := Scalar.subi v36 v47
  let c6_i32 : BitVec 32 := 6#32
  let v55 : BitVec 32 := Scalar.subi v48 c6_i32
  let c256_i32_30 : BitVec 32 := 256#32
  let v77 : BitVec 32 := Scalar.muli v55 c256_i32_30
  v77
def k0_mult68 (i : grid0.Coords) (k0_t2 : Fin (k0_t2_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c4_i32 : BitVec 32 := 4#32
  let v37 : BitVec 32 := Scalar.shrui arg2 c4_i32
  let v38 : BitVec 32 := Scalar.subi v37 c0_i32_13
  let c1_i32_14 : BitVec 32 := 1#32
  let v40 : BitVec 32 := Scalar.divsi v38 c1_i32_14
  let v41 : BitVec 32 := Scalar.muli v40 c1_i32_14
  let v42 : BitVec 32 := Scalar.addi c0_i32_13 v41
  let c1_i32_16 : BitVec 32 := 1#32
  let arg10 : BitVec 32 := Scf.iv v42 c1_i32_16 k0_t2
  let c16_i32 : BitVec 32 := 16#32
  let v47 : BitVec 32 := Scalar.muli arg10 c16_i32
  let v48 : BitVec 32 := Scalar.subi v36 v47
  let c7_i32_23 : BitVec 32 := 7#32
  let v56 : BitVec 32 := Scalar.subi v48 c7_i32_23
  let c256_i32_31 : BitVec 32 := 256#32
  let v79 : BitVec 32 := Scalar.muli v56 c256_i32_31
  v79
def k0_mult69 (i : grid0.Coords) (k0_t2 : Fin (k0_t2_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c4_i32 : BitVec 32 := 4#32
  let v37 : BitVec 32 := Scalar.shrui arg2 c4_i32
  let v38 : BitVec 32 := Scalar.subi v37 c0_i32_13
  let c1_i32_14 : BitVec 32 := 1#32
  let v40 : BitVec 32 := Scalar.divsi v38 c1_i32_14
  let v41 : BitVec 32 := Scalar.muli v40 c1_i32_14
  let v42 : BitVec 32 := Scalar.addi c0_i32_13 v41
  let c1_i32_16 : BitVec 32 := 1#32
  let arg10 : BitVec 32 := Scf.iv v42 c1_i32_16 k0_t2
  let c16_i32 : BitVec 32 := 16#32
  let v47 : BitVec 32 := Scalar.muli arg10 c16_i32
  let v48 : BitVec 32 := Scalar.subi v36 v47
  let c8_i32_24 : BitVec 32 := 8#32
  let v57 : BitVec 32 := Scalar.subi v48 c8_i32_24
  let c256_i32_32 : BitVec 32 := 256#32
  let v81 : BitVec 32 := Scalar.muli v57 c256_i32_32
  v81
def k0_mult70 (i : grid0.Coords) (k0_t2 : Fin (k0_t2_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c4_i32 : BitVec 32 := 4#32
  let v37 : BitVec 32 := Scalar.shrui arg2 c4_i32
  let v38 : BitVec 32 := Scalar.subi v37 c0_i32_13
  let c1_i32_14 : BitVec 32 := 1#32
  let v40 : BitVec 32 := Scalar.divsi v38 c1_i32_14
  let v41 : BitVec 32 := Scalar.muli v40 c1_i32_14
  let v42 : BitVec 32 := Scalar.addi c0_i32_13 v41
  let c1_i32_16 : BitVec 32 := 1#32
  let arg10 : BitVec 32 := Scf.iv v42 c1_i32_16 k0_t2
  let c16_i32 : BitVec 32 := 16#32
  let v47 : BitVec 32 := Scalar.muli arg10 c16_i32
  let v48 : BitVec 32 := Scalar.subi v36 v47
  let c9_i32 : BitVec 32 := 9#32
  let v58 : BitVec 32 := Scalar.subi v48 c9_i32
  let c256_i32_33 : BitVec 32 := 256#32
  let v83 : BitVec 32 := Scalar.muli v58 c256_i32_33
  v83
def k0_mult71 (i : grid0.Coords) (k0_t2 : Fin (k0_t2_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c4_i32 : BitVec 32 := 4#32
  let v37 : BitVec 32 := Scalar.shrui arg2 c4_i32
  let v38 : BitVec 32 := Scalar.subi v37 c0_i32_13
  let c1_i32_14 : BitVec 32 := 1#32
  let v40 : BitVec 32 := Scalar.divsi v38 c1_i32_14
  let v41 : BitVec 32 := Scalar.muli v40 c1_i32_14
  let v42 : BitVec 32 := Scalar.addi c0_i32_13 v41
  let c1_i32_16 : BitVec 32 := 1#32
  let arg10 : BitVec 32 := Scf.iv v42 c1_i32_16 k0_t2
  let c16_i32 : BitVec 32 := 16#32
  let v47 : BitVec 32 := Scalar.muli arg10 c16_i32
  let v48 : BitVec 32 := Scalar.subi v36 v47
  let c10_i32 : BitVec 32 := 10#32
  let v59 : BitVec 32 := Scalar.subi v48 c10_i32
  let c256_i32_34 : BitVec 32 := 256#32
  let v85 : BitVec 32 := Scalar.muli v59 c256_i32_34
  v85
def k0_mult72 (i : grid0.Coords) (k0_t2 : Fin (k0_t2_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c4_i32 : BitVec 32 := 4#32
  let v37 : BitVec 32 := Scalar.shrui arg2 c4_i32
  let v38 : BitVec 32 := Scalar.subi v37 c0_i32_13
  let c1_i32_14 : BitVec 32 := 1#32
  let v40 : BitVec 32 := Scalar.divsi v38 c1_i32_14
  let v41 : BitVec 32 := Scalar.muli v40 c1_i32_14
  let v42 : BitVec 32 := Scalar.addi c0_i32_13 v41
  let c1_i32_16 : BitVec 32 := 1#32
  let arg10 : BitVec 32 := Scf.iv v42 c1_i32_16 k0_t2
  let c16_i32 : BitVec 32 := 16#32
  let v47 : BitVec 32 := Scalar.muli arg10 c16_i32
  let v48 : BitVec 32 := Scalar.subi v36 v47
  let c11_i32 : BitVec 32 := 11#32
  let v60 : BitVec 32 := Scalar.subi v48 c11_i32
  let c256_i32_35 : BitVec 32 := 256#32
  let v87 : BitVec 32 := Scalar.muli v60 c256_i32_35
  v87
def k0_mult73 (i : grid0.Coords) (k0_t2 : Fin (k0_t2_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c4_i32 : BitVec 32 := 4#32
  let v37 : BitVec 32 := Scalar.shrui arg2 c4_i32
  let v38 : BitVec 32 := Scalar.subi v37 c0_i32_13
  let c1_i32_14 : BitVec 32 := 1#32
  let v40 : BitVec 32 := Scalar.divsi v38 c1_i32_14
  let v41 : BitVec 32 := Scalar.muli v40 c1_i32_14
  let v42 : BitVec 32 := Scalar.addi c0_i32_13 v41
  let c1_i32_16 : BitVec 32 := 1#32
  let arg10 : BitVec 32 := Scf.iv v42 c1_i32_16 k0_t2
  let c16_i32 : BitVec 32 := 16#32
  let v47 : BitVec 32 := Scalar.muli arg10 c16_i32
  let v48 : BitVec 32 := Scalar.subi v36 v47
  let c12_i32 : BitVec 32 := 12#32
  let v61 : BitVec 32 := Scalar.subi v48 c12_i32
  let c256_i32_36 : BitVec 32 := 256#32
  let v89 : BitVec 32 := Scalar.muli v61 c256_i32_36
  v89
def k0_mult74 (i : grid0.Coords) (k0_t2 : Fin (k0_t2_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c4_i32 : BitVec 32 := 4#32
  let v37 : BitVec 32 := Scalar.shrui arg2 c4_i32
  let v38 : BitVec 32 := Scalar.subi v37 c0_i32_13
  let c1_i32_14 : BitVec 32 := 1#32
  let v40 : BitVec 32 := Scalar.divsi v38 c1_i32_14
  let v41 : BitVec 32 := Scalar.muli v40 c1_i32_14
  let v42 : BitVec 32 := Scalar.addi c0_i32_13 v41
  let c1_i32_16 : BitVec 32 := 1#32
  let arg10 : BitVec 32 := Scf.iv v42 c1_i32_16 k0_t2
  let c16_i32 : BitVec 32 := 16#32
  let v47 : BitVec 32 := Scalar.muli arg10 c16_i32
  let v48 : BitVec 32 := Scalar.subi v36 v47
  let c13_i32 : BitVec 32 := 13#32
  let v62 : BitVec 32 := Scalar.subi v48 c13_i32
  let c256_i32_37 : BitVec 32 := 256#32
  let v91 : BitVec 32 := Scalar.muli v62 c256_i32_37
  v91
def k0_mult75 (i : grid0.Coords) (k0_t2 : Fin (k0_t2_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c4_i32 : BitVec 32 := 4#32
  let v37 : BitVec 32 := Scalar.shrui arg2 c4_i32
  let v38 : BitVec 32 := Scalar.subi v37 c0_i32_13
  let c1_i32_14 : BitVec 32 := 1#32
  let v40 : BitVec 32 := Scalar.divsi v38 c1_i32_14
  let v41 : BitVec 32 := Scalar.muli v40 c1_i32_14
  let v42 : BitVec 32 := Scalar.addi c0_i32_13 v41
  let c1_i32_16 : BitVec 32 := 1#32
  let arg10 : BitVec 32 := Scf.iv v42 c1_i32_16 k0_t2
  let c16_i32 : BitVec 32 := 16#32
  let v47 : BitVec 32 := Scalar.muli arg10 c16_i32
  let v48 : BitVec 32 := Scalar.subi v36 v47
  let c14_i32 : BitVec 32 := 14#32
  let v63 : BitVec 32 := Scalar.subi v48 c14_i32
  let c256_i32_38 : BitVec 32 := 256#32
  let v93 : BitVec 32 := Scalar.muli v63 c256_i32_38
  v93
def k0_mult76 (i : grid0.Coords) (k0_t2 : Fin (k0_t2_loop i).trips) : BitVec 32 :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c4_i32 : BitVec 32 := 4#32
  let v37 : BitVec 32 := Scalar.shrui arg2 c4_i32
  let v38 : BitVec 32 := Scalar.subi v37 c0_i32_13
  let c1_i32_14 : BitVec 32 := 1#32
  let v40 : BitVec 32 := Scalar.divsi v38 c1_i32_14
  let v41 : BitVec 32 := Scalar.muli v40 c1_i32_14
  let v42 : BitVec 32 := Scalar.addi c0_i32_13 v41
  let c1_i32_16 : BitVec 32 := 1#32
  let arg10 : BitVec 32 := Scf.iv v42 c1_i32_16 k0_t2
  let c16_i32 : BitVec 32 := 16#32
  let v47 : BitVec 32 := Scalar.muli arg10 c16_i32
  let v48 : BitVec 32 := Scalar.subi v36 v47
  let c15_i32 : BitVec 32 := 15#32
  let v64 : BitVec 32 := Scalar.subi v48 c15_i32
  let c256_i32_39 : BitVec 32 := 256#32
  let v95 : BitVec 32 := Scalar.muli v64 c256_i32_39
  v95
def k0_off12 (i : grid0.Coords) (k0_t2 : Fin (k0_t2_loop i).trips) (c0_i32_19 : BitVec 32) : Fin 2 → Nat :=
  let arg2 : BitVec 32 := BitVec.ofNat 32 (i 2).val
  let c1_i32 : BitVec 32 := 1#32
  let v27 : BitVec 32 := Scalar.subi arg2 c1_i32
  let c7_i32 : BitVec 32 := 7#32
  let v20 : BitVec 32 := Scalar.andi arg2 c7_i32
  let v28 : BitVec 32 := Scalar.subi v27 v20
  let c3_i32 : BitVec 32 := 3#32
  let v29 : BitVec 32 := Scalar.shrui arg2 c3_i32
  let c1_i32_10 : BitVec 32 := 1#32
  let v30 : BitVec 32 := Scalar.andi v29 c1_i32_10
  let c8_i32 : BitVec 32 := 8#32
  let v35 : BitVec 32 := Scalar.muli v30 c8_i32
  let v36 : BitVec 32 := Scalar.subi v28 v35
  let c0_i32_13 : BitVec 32 := 0#32
  let c4_i32 : BitVec 32 := 4#32
  let v37 : BitVec 32 := Scalar.shrui arg2 c4_i32
  let v38 : BitVec 32 := Scalar.subi v37 c0_i32_13
  let c1_i32_14 : BitVec 32 := 1#32
  let v40 : BitVec 32 := Scalar.divsi v38 c1_i32_14
  let v41 : BitVec 32 := Scalar.muli v40 c1_i32_14
  let v42 : BitVec 32 := Scalar.addi c0_i32_13 v41
  let c1_i32_16 : BitVec 32 := 1#32
  let arg10 : BitVec 32 := Scf.iv v42 c1_i32_16 k0_t2
  let c16_i32 : BitVec 32 := 16#32
  let v47 : BitVec 32 := Scalar.muli arg10 c16_i32
  let v48 : BitVec 32 := Scalar.subi v36 v47
  let v49 : BitVec 32 := Scalar.subi v48 c0_i32_19
  let c256_i32 : BitVec 32 := 256#32
  let v65 : BitVec 32 := Scalar.muli v49 c256_i32
  let v66 : BitVec 32 := v65
  let v97 : Index := Scalar.indexCast v66
  let c0_40 : Index := 0#32
  ![v97.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | "qscale" => some (((Real.sqrt 128)⁻¹ * (Real.log 2)⁻¹ : ℝ) : EReal)
  | _ => none
-- ==== ReferenceIdeal.lean ====
abbrev S16384x14336 : Shape := ⟨2, ![16384, 14336]⟩
abbrev S8 : Shape := ⟨1, ![8]⟩
abbrev S16384x1024 : Shape := ⟨2, ![16384, 1024]⟩
abbrev S2x8192x8x128 : Shape := ⟨4, ![2, 8192, 8, 128]⟩
abbrev S_ : Shape := ⟨0, ![]⟩
abbrev S2x8x8192x8192 : Shape := ⟨4, ![2, 8, 8192, 8192]⟩
abbrev S1x8x1x1 : Shape := ⟨4, ![1, 8, 1, 1]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8x128x8192 : Shape := ⟨4, ![2, 8, 128, 8192]⟩

abbrev nBuf : Space → Nat
  | .hbm => 77
  | .vmem => 0
  | .smem => 0
  | _ => 0

abbrev bufTy : (tb : Table) → Fin (tcTables nBuf tb) → BufTy
  | .hbm, ⟨0, _⟩ => ⟨S16384x14336, .f32⟩
  | .hbm, ⟨1, _⟩ => ⟨S8, .f32⟩
  | .hbm, ⟨2, _⟩ => ⟨S16384x1024, .f32⟩
  | .hbm, ⟨3, _⟩ => ⟨S2x8192x8x128, .f32⟩
  | .hbm, ⟨4, _⟩ => ⟨S16384x1024, .f32⟩
  | .hbm, ⟨5, _⟩ => ⟨S2x8192x8x128, .f32⟩
  | .hbm, ⟨6, _⟩ => ⟨S16384x1024, .f32⟩
  | .hbm, ⟨7, _⟩ => ⟨S2x8192x8x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2x8x8192x8192, .f32⟩
  | .hbm, ⟨13, _⟩ => ⟨S2x8x8192x8192, .f32⟩
  | .hbm, ⟨14, _⟩ => ⟨S2x8x8192x8192, .f32⟩
  | .hbm, ⟨15, _⟩ => ⟨S1x8x1x1, .f32⟩
  | .hbm, ⟨16, _⟩ => ⟨S2x8x8192x8192, .f32⟩
  | .hbm, ⟨17, _⟩ => ⟨S2x8x8192x8192, .f32⟩
  | .hbm, ⟨18, _⟩ => ⟨S8192, .i32⟩
  | .hbm, ⟨19, _⟩ => ⟨S1x8192, .i32⟩
  | .hbm, ⟨20, _⟩ => ⟨S8192x1, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S2x8x8192x8192, .f32⟩
  | .hbm, ⟨25, _⟩ => ⟨S2x8x8192x8192, .f32⟩
  | .hbm, ⟨26, _⟩ => ⟨S_, .f32⟩
  | .hbm, ⟨27, _⟩ => ⟨S2x8x8192x8192, .f32⟩
  | .hbm, ⟨28, _⟩ => ⟨S2x8x8192x8192, .f32⟩
  | .hbm, ⟨29, _⟩ => ⟨S2x8x8192x8192, .f32⟩
  | .hbm, ⟨30, _⟩ => ⟨S2x8x8192x8192, .f32⟩
  | .hbm, ⟨31, _⟩ => ⟨S2x8x8192x8192, .i1⟩
  | .hbm, ⟨32, _⟩ => ⟨S2x8x8192x8192, .f32⟩
  | .hbm, ⟨33, _⟩ => ⟨S2x8x8192x8192, .f32⟩
  | .hbm, ⟨34, _⟩ => ⟨S2x8x8192x8192, .f32⟩
  | .hbm, ⟨35, _⟩ => ⟨S2x8x8192x8192, .f32⟩
  | .hbm, ⟨36, _⟩ => ⟨S2x8x8192x8192, .f32⟩
  | .hbm, ⟨37, _⟩ => ⟨S2x8x8192x8192, .f32⟩
  | .hbm, ⟨38, _⟩ => ⟨S2x8x8192x8192, .f32⟩
  | .hbm, ⟨39, _⟩ => ⟨S2x8x8192x8192, .f32⟩
  | .hbm, ⟨40, _⟩ => ⟨S2x8x8192x8192, .f32⟩
  | .hbm, ⟨41, _⟩ => ⟨S_, .f32⟩
  | .hbm, ⟨42, _⟩ => ⟨S_, .f32⟩
  | .hbm, ⟨43, _⟩ => ⟨S2x8x8192x8192, .i1⟩
  | .hbm, ⟨44, _⟩ => ⟨S2x8x8192x8192, .f32⟩
  | .hbm, ⟨45, _⟩ => ⟨S2x8x8192x8192, .f32⟩
  | .hbm, ⟨46, _⟩ => ⟨S_, .f32⟩
  | .hbm, ⟨47, _⟩ => ⟨S_, .f32⟩
  | .hbm, ⟨48, _⟩ => ⟨S2x8x8192x8192, .f32⟩
  | .hbm, ⟨49, _⟩ => ⟨S2x8x8192x8192, .f32⟩
  | .hbm, ⟨50, _⟩ => ⟨S2x8x8192x8192, .f32⟩
  | .hbm, ⟨51, _⟩ => ⟨S_, .f32⟩
  | .hbm, ⟨52, _⟩ => ⟨S2x8x8192x8192, .f32⟩
  | .hbm, ⟨53, _⟩ => ⟨S2x8x8192x8192, .f32⟩
  | .hbm, ⟨54, _⟩ => ⟨S2x8x8192x8192, .f32⟩
  | .hbm, ⟨55, _⟩ => ⟨S2x8x8192x8192, .f32⟩
  | .hbm, ⟨56, _⟩ => ⟨S2x8x8192x8192, .i1⟩
  | .hbm, ⟨57, _⟩ => ⟨S2x8x8192x8192, .f32⟩
  | .hbm, ⟨58, _⟩ => ⟨S2x8x8192x8192, .f32⟩
  | .hbm, ⟨59, _⟩ => ⟨S2x8x8192x8192, .f32⟩
  | .hbm, ⟨60, _⟩ => ⟨S2x8x8192x8192, .f32⟩
  | .hbm, ⟨61, _⟩ => ⟨S2x8x8192x8192, .f32⟩
  | .hbm, ⟨62, _⟩ => ⟨S2x8x8192x8192, .f32⟩
  | .hbm, ⟨63, _⟩ => ⟨S2x8x8192x8192, .f32⟩
  | .hbm, ⟨64, _⟩ => ⟨S2x8x8192x8192, .f32⟩
  | .hbm, ⟨65, _⟩ => ⟨S2x8x8192x8192, .f32⟩
  | .hbm, ⟨66, _⟩ => ⟨S2x8x8192x8192, .f32⟩
  | .hbm, ⟨67, _⟩ => ⟨S2x8x8192x8192, .f32⟩
  | .hbm, ⟨68, _⟩ => ⟨S_, .f32⟩
  | .hbm, ⟨69, _⟩ => ⟨S_, .f32⟩
  | .hbm, ⟨70, _⟩ => ⟨S2x8x8192x8192, .i1⟩
  | .hbm, ⟨71, _⟩ => ⟨S2x8x8192x8192, .f32⟩
  | .hbm, ⟨72, _⟩ => ⟨S2x8x8192x8192, .f32⟩
  | .hbm, ⟨73, _⟩ => ⟨S2x8x128x8192, .f32⟩
  | .hbm, ⟨74, _⟩ => ⟨S2x8192x8x128, .f32⟩
  | .hbm, ⟨75, _⟩ => ⟨S16384x1024, .f32⟩
  | .hbm, ⟨76, _⟩ => ⟨S16384x1024, .bf16⟩
  | _, _ => ⟨S16384x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v21 : Ref sig .tc := ⟨.hbm, 40, rfl⟩
abbrev main_cst_1 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v22 : Ref sig .tc := ⟨.hbm, 45, rfl⟩
abbrev main_call2_cst : Ref sig .tc := ⟨.hbm, 46, rfl⟩
abbrev main_call2_v0 : Ref sig .tc := ⟨.hbm, 47, rfl⟩
abbrev main_v23 : Ref sig .tc := ⟨.hbm, 48, rfl⟩
abbrev main_v24 : Ref sig .tc := ⟨.hbm, 49, rfl⟩
abbrev main_call3_v0 : Ref sig .tc := ⟨.hbm, 50, rfl⟩
abbrev main_call3_call0_cst : Ref sig .tc := ⟨.hbm, 51, rfl⟩
abbrev main_call3_call0_v0 : Ref sig .tc := ⟨.hbm, 52, rfl⟩
abbrev main_call3_call0_v1 : Ref sig .tc := ⟨.hbm, 53, rfl⟩
abbrev main_call3_call0_v2 : Ref sig .tc := ⟨.hbm, 54, rfl⟩
abbrev main_call3_call0_v3 : Ref sig .tc := ⟨.hbm, 55, rfl⟩
abbrev main_call3_call0_v4 : Ref sig .tc := ⟨.hbm, 56, rfl⟩
abbrev main_call3_call0_v5 : Ref sig .tc := ⟨.hbm, 57, rfl⟩
abbrev main_call3_call0_v6 : Ref sig .tc := ⟨.hbm, 58, rfl⟩
abbrev main_call3_call0_v7 : Ref sig .tc := ⟨.hbm, 59, rfl⟩
abbrev main_call3_call0_v8 : Ref sig .tc := ⟨.hbm, 60, rfl⟩
abbrev main_call3_call0_v9 : Ref sig .tc := ⟨.hbm, 61, rfl⟩
abbrev main_call3_call0_v10 : Ref sig .tc := ⟨.hbm, 62, rfl⟩
abbrev main_call3_call0_v11 : Ref sig .tc := ⟨.hbm, 63, rfl⟩
abbrev main_call3_v1 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_cst_2 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩

abbrev nD : Nat := 1
abbrev τ : Topo := Topo.v7x

variable {F : FTy → Type} [FloatOps F]
-- ==== Kernel2.lean ====
abbrev S2x8192x2048 : Shape := ⟨3, ![2, 8192, 2048]⟩
abbrev S2048 : Shape := ⟨1, ![2048]⟩
abbrev S2048x14352 : Shape := ⟨2, ![2048, 14352]⟩
abbrev S2048x16 : Shape := ⟨2, ![2048, 16]⟩
abbrev S_ : Shape := ⟨0, ![]⟩
abbrev S2048x128 : Shape := ⟨2, ![2048, 128]⟩
abbrev S2048x7168 : Shape := ⟨2, ![2048, 7168]⟩
abbrev S16384x2048 : Shape := ⟨2, ![16384, 2048]⟩
abbrev S1x2048 : Shape := ⟨2, ![1, 2048]⟩
abbrev S16384x14336 : Shape := ⟨2, ![16384, 14336]⟩
abbrev S16384x128 : Shape := ⟨2, ![16384, 128]⟩
abbrev S1024x2048 : Shape := ⟨2, ![1024, 2048]⟩
abbrev S2048x1024 : Shape := ⟨2, ![2048, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 15
  | .vmem => 13
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x14352, .f32⟩
  | .hbm, ⟨3, _⟩ => ⟨S2048x16, .f32⟩
  | .hbm, ⟨4, _⟩ => ⟨S_, .i32⟩
  | .hbm, ⟨5, _⟩ => ⟨S_, .f32⟩
  | .hbm, ⟨6, _⟩ => ⟨S2048x128, .f32⟩
  | .hbm, ⟨7, _⟩ => ⟨S2048x7168, .f32⟩
  | .hbm, ⟨8, _⟩ => ⟨S2048x7168, .bf16⟩
  | .hbm, ⟨9, _⟩ => ⟨S2048x7168, .f32⟩
  | .hbm, ⟨10, _⟩ => ⟨S2048x7168, .bf16⟩
  | .hbm, ⟨11, _⟩ => ⟨S16384x2048, .f32⟩
  | .hbm, ⟨12, _⟩ => ⟨S1x2048, .f32⟩
  | .hbm, ⟨13, _⟩ => ⟨S16384x14336, .f32⟩
  | .hbm, ⟨14, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x128, .f32⟩
  | .local _ .vmem, ⟨8, _⟩ => ⟨S1024x1024, .f32⟩
  | .local _ .vmem, ⟨9, _⟩ => ⟨S1024x1024, .f32⟩
  | .local _ .vmem, ⟨10, _⟩ => ⟨S1024x128, .f32⟩
  | .local _ .vmem, ⟨11, _⟩ => ⟨S1024x128, .f32⟩
  | .local _ .vmem, ⟨12, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 14], ![false, false]⟩

def k0_cond2 (i : grid0.Coords) : BitVec 1 :=
  let arg1 : BitVec 32 := BitVec.ofNat 32 (i 1).val
  let c7_i32 : BitVec 32 := 7#32
  let v3 : BitVec 1 := Scalar.cmpi .slt arg1 c7_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c7_i32_2 : BitVec 32 := 7#32
  let v6 : BitVec 1 := Scalar.cmpi .sge arg1 c7_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.minsi arg1 c6_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel2Ideal.lean ====
abbrev S2x8192x2048 : Shape := ⟨3, ![2, 8192, 2048]⟩
abbrev S2048 : Shape := ⟨1, ![2048]⟩
abbrev S2048x14352 : Shape := ⟨2, ![2048, 14352]⟩
abbrev S2048x16 : Shape := ⟨2, ![2048, 16]⟩
abbrev S_ : Shape := ⟨0, ![]⟩
abbrev S2048x128 : Shape := ⟨2, ![2048, 128]⟩
abbrev S2048x7168 : Shape := ⟨2, ![2048, 7168]⟩
abbrev S16384x2048 : Shape := ⟨2, ![16384, 2048]⟩
abbrev S1x2048 : Shape := ⟨2, ![1, 2048]⟩
abbrev S16384x14336 : Shape := ⟨2, ![16384, 14336]⟩
abbrev S16384x128 : Shape := ⟨2, ![16384, 128]⟩
abbrev S1024x2048 : Shape := ⟨2, ![1024, 2048]⟩
abbrev S2048x1024 : Shape := ⟨2, ![2048, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 15
  | .vmem => 13
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x14352, .f32⟩
  | .hbm, ⟨3, _⟩ => ⟨S2048x16, .f32⟩
  | .hbm, ⟨4, _⟩ => ⟨S_, .i32⟩
  | .hbm, ⟨5, _⟩ => ⟨S_, .f32⟩
  | .hbm, ⟨6, _⟩ => ⟨S2048x128, .f32⟩
  | .hbm, ⟨7, _⟩ => ⟨S2048x7168, .f32⟩
  | .hbm, ⟨8, _⟩ => ⟨S2048x7168, .bf16⟩
  | .hbm, ⟨9, _⟩ => ⟨S2048x7168, .f32⟩
  | .hbm, ⟨10, _⟩ => ⟨S2048x7168, .bf16⟩
  | .hbm, ⟨11, _⟩ => ⟨S16384x2048, .f32⟩
  | .hbm, ⟨12, _⟩ => ⟨S1x2048, .f32⟩
  | .hbm, ⟨13, _⟩ => ⟨S16384x14336, .f32⟩
  | .hbm, ⟨14, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x128, .f32⟩
  | .local _ .vmem, ⟨8, _⟩ => ⟨S1024x1024, .f32⟩
  | .local _ .vmem, ⟨9, _⟩ => ⟨S1024x1024, .f32⟩
  | .local _ .vmem, ⟨10, _⟩ => ⟨S1024x128, .f32⟩
  | .local _ .vmem, ⟨11, _⟩ => ⟨S1024x128, .f32⟩
  | .local _ .vmem, ⟨12, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 14], ![false, false]⟩

def k0_cond2 (i : grid0.Coords) : BitVec 1 :=
  let arg1 : BitVec 32 := BitVec.ofNat 32 (i 1).val
  let c7_i32 : BitVec 32 := 7#32
  let v3 : BitVec 1 := Scalar.cmpi .slt arg1 c7_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c7_i32_2 : BitVec 32 := 7#32
  let v6 : BitVec 1 := Scalar.cmpi .sge arg1 c7_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.minsi arg1 c6_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S2x8192x2048 : Shape := ⟨3, ![2, 8192, 2048]⟩
abbrev S2048 : Shape := ⟨1, ![2048]⟩
abbrev S2048x14352 : Shape := ⟨2, ![2048, 14352]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x14352 : Shape := ⟨3, ![2, 8192, 14352]⟩
abbrev S16384x14352 : Shape := ⟨2, ![16384, 14352]⟩
abbrev S16384x16 : Shape := ⟨2, ![16384, 16]⟩
abbrev S16384x7168 : Shape := ⟨2, ![16384, 7168]⟩
abbrev S16384x14336 : Shape := ⟨2, ![16384, 14336]⟩
abbrev S16384x128 : Shape := ⟨2, ![16384, 128]⟩

abbrev nBuf : Space → Nat
  | .hbm => 28
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x14352, .f32⟩
  | .hbm, ⟨3, _⟩ => ⟨S2x8192x2048, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x2048, .f32⟩
  | .hbm, ⟨15, _⟩ => ⟨S2x8192x2048, .f32⟩
  | .hbm, ⟨16, _⟩ => ⟨S1x1x2048, .f32⟩
  | .hbm, ⟨17, _⟩ => ⟨S2x8192x2048, .f32⟩
  | .hbm, ⟨18, _⟩ => ⟨S2x8192x2048, .f32⟩
  | .hbm, ⟨19, _⟩ => ⟨S2x8192x14352, .f32⟩
  | .hbm, ⟨20, _⟩ => ⟨S16384x14352, .f32⟩
  | .hbm, ⟨21, _⟩ => ⟨S16384x16, .f32⟩
  | .hbm, ⟨22, _⟩ => ⟨S16384x7168, .f32⟩
  | .hbm, ⟨23, _⟩ => ⟨S16384x7168, .f32⟩
  | .hbm, ⟨24, _⟩ => ⟨S16384x14336, .f32⟩
  | .hbm, ⟨25, _⟩ => ⟨S_, .i32⟩
  | .hbm, ⟨26, _⟩ => ⟨S_, .f32⟩
  | .hbm, ⟨27, _⟩ => ⟨S16384x128, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel3.lean ====
abbrev S2x256x2048 : Shape := ⟨3, ![2, 256, 2048]⟩
abbrev S2048 : Shape := ⟨1, ![2048]⟩
abbrev S2048x1024 : Shape := ⟨2, ![2048, 1024]⟩
abbrev S512x2048 : Shape := ⟨2, ![512, 2048]⟩
abbrev S1x2048 : Shape := ⟨2, ![1, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x1024, .f32⟩
  | .hbm, ⟨3, _⟩ => ⟨S2048x1024, .f32⟩
  | .hbm, ⟨4, _⟩ => ⟨S512x2048, .f32⟩
  | .hbm, ⟨5, _⟩ => ⟨S1x2048, .f32⟩
  | .hbm, ⟨6, _⟩ => ⟨S512x2048, .f32⟩
  | .local _ .vmem, ⟨0, _⟩ => ⟨S512x2048, .f32⟩
  | .local _ .vmem, ⟨1, _⟩ => ⟨S1x2048, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S512x512, .f32⟩
  | .local _ .vmem, ⟨7, _⟩ => ⟨S512x512, .f32⟩
  | .local _ .vmem, ⟨8, _⟩ => ⟨S512x2048, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c2_i32 : BitVec 32 := 2#32
  let v3 : BitVec 1 := Scalar.cmpi .slt arg1 c2_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32_2 : BitVec 32 := 2#32
  let v6 : BitVec 1 := Scalar.cmpi .sge arg1 c2_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S2x256x2048 : Shape := ⟨3, ![2, 256, 2048]⟩
abbrev S2048 : Shape := ⟨1, ![2048]⟩
abbrev S2048x1024 : Shape := ⟨2, ![2048, 1024]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S2x256x1024 : Shape := ⟨3, ![2, 256, 1024]⟩
abbrev S512x2048 : Shape := ⟨2, ![512, 2048]⟩

abbrev nBuf : Space → Nat
  | .hbm => 24
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x1024, .f32⟩
  | .hbm, ⟨3, _⟩ => ⟨S2048x1024, .f32⟩
  | .hbm, ⟨4, _⟩ => ⟨S2x256x2048, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x2048, .f32⟩
  | .hbm, ⟨16, _⟩ => ⟨S2x256x2048, .f32⟩
  | .hbm, ⟨17, _⟩ => ⟨S1x1x2048, .f32⟩
  | .hbm, ⟨18, _⟩ => ⟨S2x256x2048, .f32⟩
  | .hbm, ⟨19, _⟩ => ⟨S2x256x2048, .f32⟩
  | .hbm, ⟨20, _⟩ => ⟨S2x256x1024, .f32⟩
  | .hbm, ⟨21, _⟩ => ⟨S2x256x1024, .f32⟩
  | .hbm, ⟨22, _⟩ => ⟨S2x256x2048, .f32⟩
  | .hbm, ⟨23, _⟩ => ⟨S512x2048, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel4.lean ====
abbrev S16384x1024 : Shape := ⟨2, ![16384, 1024]⟩
abbrev S1024x2048 : Shape := ⟨2, ![1024, 2048]⟩
abbrev S16384x14336 : Shape := ⟨2, ![16384, 14336]⟩
abbrev S16384x2048 : Shape := ⟨2, ![16384, 2048]⟩
abbrev S1024x1024 : Shape := ⟨2, ![1024, 1024]⟩
abbrev S1024x512 : Shape := ⟨2, ![1024, 512]⟩

abbrev nBuf : Space → Nat
  | .hbm => 11
  | .vmem => 20
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S16384x14336, .f32⟩
  | .hbm, ⟨7, _⟩ => ⟨S1024x2048, .bf16⟩
  | .hbm, ⟨8, _⟩ => ⟨S1024x2048, .bf16⟩
  | .hbm, ⟨9, _⟩ => ⟨S1024x2048, .bf16⟩
  | .hbm, ⟨10, _⟩ => ⟨S16384x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x512, .bf16⟩
  | .local _ .vmem, ⟨19, _⟩ => ⟨S1024x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S16384x1024 : Shape := ⟨2, ![16384, 1024]⟩
abbrev S1024x2048 : Shape := ⟨2, ![1024, 2048]⟩
abbrev S16384x14336 : Shape := ⟨2, ![16384, 14336]⟩
abbrev S16384x2048 : Shape := ⟨2, ![16384, 2048]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S16384x14336, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S16384x1024, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384x2048, .f32⟩
  | .hbm, ⟨28, _⟩ => ⟨S16384x2048, .f32⟩
  | .hbm, ⟨29, _⟩ => ⟨S16384x1024, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S_, .f32⟩
  | .hbm, ⟨39, _⟩ => ⟨S16384x2048, .f32⟩
  | .hbm, ⟨40, _⟩ => ⟨S16384x2048, .f32⟩
  | .hbm, ⟨41, _⟩ => ⟨S16384x1024, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Kernel5.lean ====
abbrev S2x8192x2048 : Shape := ⟨3, ![2, 8192, 2048]⟩
abbrev S16384x2048 : Shape := ⟨2, ![16384, 2048]⟩
abbrev S2048x2048 : Shape := ⟨2, ![2048, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S2048x36 : Shape := ⟨2, ![2048, 36]⟩
abbrev S_ : Shape := ⟨0, ![]⟩
abbrev S2048x128 : Shape := ⟨2, ![2048, 128]⟩
abbrev S36 : Shape := ⟨1, ![36]⟩
abbrev S128 : Shape := ⟨1, ![128]⟩
abbrev S1x128 : Shape := ⟨2, ![1, 128]⟩
abbrev S1x2048 : Shape := ⟨2, ![1, 2048]⟩
abbrev S16896x2048 : Shape := ⟨2, ![16896, 2048]⟩
abbrev S16384x128 : Shape := ⟨2, ![16384, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 24
  | .vmem => 16
  | .smem => 0
  | _ => 0

abbrev bufTy : (tb : Table) → Fin (tcTables nBuf tb) → BufTy
  | .hbm, ⟨0, _⟩ => ⟨S2x8192x2048, .f32⟩
  | .hbm, ⟨1, _⟩ => ⟨S16384x2048, .bf16⟩
  | .hbm, ⟨2, _⟩ => ⟨S2048x2048, .f32⟩
  | .hbm, ⟨3, _⟩ => ⟨S2048, .f32⟩
  | .hbm, ⟨4, _⟩ => ⟨S2048x4, .f32⟩
  | .hbm, ⟨5, _⟩ => ⟨S4, .f32⟩
  | .hbm, ⟨6, _⟩ => ⟨S2048x32, .f32⟩
  | .hbm, ⟨7, _⟩ => ⟨S32, .f32⟩
  | .hbm, ⟨8, _⟩ => ⟨S2048x36, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S36, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S16384x2048, .f32⟩
  | .hbm, ⟨18, _⟩ => ⟨S2048x2048, .bf16⟩
  | .hbm, ⟨19, _⟩ => ⟨S1x2048, .f32⟩
  | .hbm, ⟨20, _⟩ => ⟨S16384x2048, .f32⟩
  | .hbm, ⟨21, _⟩ => ⟨S16896x2048, .f32⟩
  | .hbm, ⟨22, _⟩ => ⟨S16384x128, .i32⟩
  | .hbm, ⟨23, _⟩ => ⟨S16384x128, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S1x2048, .f32⟩
  | .local _ .vmem, ⟨6, _⟩ => ⟨S2048x128, .f32⟩
  | .local _ .vmem, ⟨7, _⟩ => ⟨S1x128, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x128, .i32⟩
  | .local _ .vmem, ⟨13, _⟩ => ⟨S512x128, .i32⟩
  | .local _ .vmem, ⟨14, _⟩ => ⟨S512x128, .f32⟩
  | .local _ .vmem, ⟨15, _⟩ => ⟨S512x128, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32_0 : BitVec 32 := 32#32
  let v3 : BitVec 1 := Scalar.cmpi .slt arg0 c32_i32_0
  let v4 : BitVec 32 := Scalar.extui v3
  let c0_i32_1 : BitVec 32 := 0#32
  let v5 : BitVec 1 := Scalar.cmpi .ne v4 c0_i32_1
  v5

def k0_cond1 (i : grid0.Coords) : BitVec 1 :=
  let arg0 : BitVec 32 := BitVec.ofNat 32 (i 0).val
  let c32_i32 : BitVec 32 := 32#32
  let v0 : BitVec 1 := Scalar.cmpi .sge arg0 c32_i32
  let v1 : BitVec 32 := Scalar.extui v0
  let c0_i32 : BitVec 32 := 0#32
  let v2 : BitVec 1 := Scalar.cmpi .ne v1 c0_i32
  v2

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S2x8192x2048 : Shape := ⟨3, ![2, 8192, 2048]⟩
abbrev S16384x2048 : Shape := ⟨2, ![16384, 2048]⟩
abbrev S2048x2048 : Shape := ⟨2, ![2048, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16896x2048 : Shape := ⟨2, ![16896, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S16384x2048, .bf16⟩
  | .hbm, ⟨2, _⟩ => ⟨S2048x2048, .f32⟩
  | .hbm, ⟨3, _⟩ => ⟨S2048, .f32⟩
  | .hbm, ⟨4, _⟩ => ⟨S2048x4, .f32⟩
  | .hbm, ⟨5, _⟩ => ⟨S4, .f32⟩
  | .hbm, ⟨6, _⟩ => ⟨S2048x32, .f32⟩
  | .hbm, ⟨7, _⟩ => ⟨S32, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x2048, .f32⟩
  | .hbm, ⟨24, _⟩ => ⟨S16384x2048, .f32⟩
  | .hbm, ⟨25, _⟩ => ⟨S1x2048, .f32⟩
  | .hbm, ⟨26, _⟩ => ⟨S16384x2048, .f32⟩
  | .hbm, ⟨27, _⟩ => ⟨S16384x2048, .f32⟩
  | .hbm, ⟨28, _⟩ => ⟨S_, .i32⟩
  | .hbm, ⟨29, _⟩ => ⟨S_, .f32⟩
  | .hbm, ⟨30, _⟩ => ⟨S16896x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_call0_v0 : Ref sig .tc := ⟨.hbm, 29, rfl⟩
abbrev main_v17 : Ref sig .tc := ⟨.hbm, 30, rfl⟩

abbrev nD : Nat := 1
abbrev τ : Topo := Topo.v7x

variable {F : FTy → Type} [FloatOps F]
-- ==== Kernel6.lean ====
abbrev S16384x14336 : Shape := ⟨2, ![16384, 14336]⟩
abbrev S2x256x1024 : Shape := ⟨3, ![2, 256, 1024]⟩
abbrev S16384x1024 : Shape := ⟨2, ![16384, 1024]⟩
abbrev S512x1024 : Shape := ⟨2, ![512, 1024]⟩
abbrev S1x256x1024 : Shape := ⟨3, ![1, 256, 1024]⟩
abbrev S512x256 : Shape := ⟨2, ![512, 256]⟩
abbrev S256x1024 : Shape := ⟨2, ![256, 1024]⟩
abbrev S256x256 : Shape := ⟨2, ![256, 256]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S16384x14336, .f32⟩
  | .hbm, ⟨1, _⟩ => ⟨S2x256x1024, .f32⟩
  | .hbm, ⟨2, _⟩ => ⟨S2x256x1024, .f32⟩
  | .hbm, ⟨3, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S512x1024, .bf16⟩
  | .local _ .vmem, ⟨7, _⟩ => ⟨S512x1024, .bf16⟩
  | _, _ => ⟨S16384x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c7_i32 : BitVec 32 := 7#32
  let c0_i32 : BitVec 32 := 0#32
  ![v1.toNat, c7_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S16384x14336 : Shape := ⟨2, ![16384, 14336]⟩
abbrev S2x256x1024 : Shape := ⟨3, ![2, 256, 1024]⟩
abbrev S16384x1024 : Shape := ⟨2, ![16384, 1024]⟩
abbrev S2x8192x4x256 : Shape := ⟨4, ![2, 8192, 4, 256]⟩
abbrev S2x256x4x256 : Shape := ⟨4, ![2, 256, 4, 256]⟩
abbrev S2x4x8192x256 : Shape := ⟨4, ![2, 4, 8192, 256]⟩
abbrev S_ : Shape := ⟨0, ![]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩

abbrev nBuf : Space → Nat
  | .hbm => 29
  | .vmem => 0
  | .smem => 0
  | _ => 0

abbrev bufTy : (tb : Table) → Fin (tcTables nBuf tb) → BufTy
  | .hbm, ⟨0, _⟩ => ⟨S16384x14336, .f32⟩
  | .hbm, ⟨1, _⟩ => ⟨S2x256x1024, .f32⟩
  | .hbm, ⟨2, _⟩ => ⟨S2x256x1024, .f32⟩
  | .hbm, ⟨3, _⟩ => ⟨S16384x1024, .f32⟩
  | .hbm, ⟨4, _⟩ => ⟨S2x8192x4x256, .f32⟩
  | .hbm, ⟨5, _⟩ => ⟨S2x256x4x256, .f32⟩
  | .hbm, ⟨6, _⟩ => ⟨S2x256x4x256, .f32⟩
  | .hbm, ⟨7, _⟩ => ⟨S2x4x8192x256, .f32⟩
  | .hbm, ⟨8, _⟩ => ⟨S_, .f32⟩
  | .hbm, ⟨9, _⟩ => ⟨S2x4x8192x256, .f32⟩
  | .hbm, ⟨10, _⟩ => ⟨S2x4x8192x256, .f32⟩
  | .hbm, ⟨11, _⟩ => ⟨S_, .f32⟩
  | .hbm, ⟨12, _⟩ => ⟨S2x4x8192, .f32⟩
  | .hbm, ⟨13, _⟩ => ⟨S_, .f32⟩
  | .hbm, ⟨14, _⟩ => ⟨S2x4x8192, .f32⟩
  | .hbm, ⟨15, _⟩ => ⟨S2x4x8192, .f32⟩
  | .hbm, ⟨16, _⟩ => ⟨S2x4x8192x1, .f32⟩
  | .hbm, ⟨17, _⟩ => ⟨S2x4x8192x256, .f32⟩
  | .hbm, ⟨18, _⟩ => ⟨S2x4x8192x256, .f32⟩
  | .hbm, ⟨19, _⟩ => ⟨S2x4x8192x256, .f32⟩
  | .hbm, ⟨20, _⟩ => ⟨S_, .f32⟩
  | .hbm, ⟨21, _⟩ => ⟨S2x4x8192, .f32⟩
  | .hbm, ⟨22, _⟩ => ⟨S2x4x8192x1, .f32⟩
  | .hbm, ⟨23, _⟩ => ⟨S2x4x8192x256, .f32⟩
  | .hbm, ⟨24, _⟩ => ⟨S2x4x8192x256, .f32⟩
  | .hbm, ⟨25, _⟩ => ⟨S2x4x256x8192, .f32⟩
  | .hbm, ⟨26, _⟩ => ⟨S2x8192x4x256, .f32⟩
  | .hbm, ⟨27, _⟩ => ⟨S16384x1024, .f32⟩
  | .hbm, ⟨28, _⟩ => ⟨S16384x1024, .bf16⟩
  | _, _ => ⟨S16384x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel7.lean ====
abbrev S32x8x2048 : Shape := ⟨3, ![32, 8, 2048]⟩
abbrev S2048 : Shape := ⟨1, ![2048]⟩
abbrev S2048x14352 : Shape := ⟨2, ![2048, 14352]⟩
abbrev S2048x16 : Shape := ⟨2, ![2048, 16]⟩
abbrev S_ : Shape := ⟨0, ![]⟩
abbrev S2048x128 : Shape := ⟨2, ![2048, 128]⟩
abbrev S2048x7168 : Shape := ⟨2, ![2048, 7168]⟩
abbrev S256x2048 : Shape := ⟨2, ![256, 2048]⟩
abbrev S1x2048 : Shape := ⟨2, ![1, 2048]⟩
abbrev S256x14336 : Shape := ⟨2, ![256, 14336]⟩
abbrev S256x128 : Shape := ⟨2, ![256, 128]⟩
abbrev S2048x1024 : Shape := ⟨2, ![2048, 1024]⟩
abbrev S256x1024 : Shape := ⟨2, ![256, 1024]⟩
abbrev S256 : Shape := ⟨1, ![256]⟩
abbrev S256x1 : Shape := ⟨2, ![256, 1]⟩

abbrev nBuf : Space → Nat
  | .hbm => 15
  | .vmem => 11
  | .smem => 0
  | _ => 0

abbrev bufTy : (tb : Table) → Fin (tcTables nBuf tb) → BufTy
  | .hbm, ⟨0, _⟩ => ⟨S32x8x2048, .f32⟩
  | .hbm, ⟨1, _⟩ => ⟨S2048, .f32⟩
  | .hbm, ⟨2, _⟩ => ⟨S2048x14352, .f32⟩
  | .hbm, ⟨3, _⟩ => ⟨S2048x16, .f32⟩
  | .hbm, ⟨4, _⟩ => ⟨S_, .i32⟩
  | .hbm, ⟨5, _⟩ => ⟨S_, .f32⟩
  | .hbm, ⟨6, _⟩ => ⟨S2048x128, .f32⟩
  | .hbm, ⟨7, _⟩ => ⟨S2048x7168, .f32⟩
  | .hbm, ⟨8, _⟩ => ⟨S2048x7168, .bf16⟩
  | .hbm, ⟨9, _⟩ => ⟨S2048x7168, .f32⟩
  | .hbm, ⟨10, _⟩ => ⟨S2048x7168, .bf16⟩
  | .hbm, ⟨11, _⟩ => ⟨S256x2048, .f32⟩
  | .hbm, ⟨12, _⟩ => ⟨S1x2048, .f32⟩
  | .hbm, ⟨13, _⟩ => ⟨S256x14336, .f32⟩
  | .hbm, ⟨14, _⟩ => ⟨S256x128, .f32⟩
  | .local _ .vmem, ⟨0, _⟩ => ⟨S256x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x128, .f32⟩
  | .local _ .vmem, ⟨7, _⟩ => ⟨S256x1024, .f32⟩
  | .local _ .vmem, ⟨8, _⟩ => ⟨S256x1024, .f32⟩
  | .local _ .vmem, ⟨9, _⟩ => ⟨S256x128, .f32⟩
  | .local _ .vmem, ⟨10, _⟩ => ⟨S256x2048, .bf16⟩
  | _, _ => ⟨S32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨2, ![1, 14], ![false, false]⟩

def k0_cond2 (i : grid0.Coords) : BitVec 1 :=
  let arg1 : BitVec 32 := BitVec.ofNat 32 (i 1).val
  let c7_i32 : BitVec 32 := 7#32
  let v3 : BitVec 1 := Scalar.cmpi .slt arg1 c7_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c7_i32_2 : BitVec 32 := 7#32
  let v6 : BitVec 1 := Scalar.cmpi .sge arg1 c7_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.minsi arg1 c6_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference7Ideal.lean ====
abbrev S32x8x2048 : Shape := ⟨3, ![32, 8, 2048]⟩
abbrev S2048 : Shape := ⟨1, ![2048]⟩
abbrev S2048x14352 : Shape := ⟨2, ![2048, 14352]⟩
abbrev S_ : Shape := ⟨0, ![]⟩
abbrev S32x8 : Shape := ⟨2, ![32, 8]⟩
abbrev S32x8x1 : Shape := ⟨3, ![32, 8, 1]⟩
abbrev S1x1x2048 : Shape := ⟨3, ![1, 1, 2048]⟩
abbrev S32x8x14352 : Shape := ⟨3, ![32, 8, 14352]⟩
abbrev S256x14352 : Shape := ⟨2, ![256, 14352]⟩
abbrev S256x16 : Shape := ⟨2, ![256, 16]⟩
abbrev S256x7168 : Shape := ⟨2, ![256, 7168]⟩
abbrev S256x14336 : Shape := ⟨2, ![256, 14336]⟩
abbrev S256x128 : Shape := ⟨2, ![256, 128]⟩

abbrev nBuf : Space → Nat
  | .hbm => 28
  | .vmem => 0
  | .smem => 0
  | _ => 0

abbrev bufTy : (tb : Table) → Fin (tcTables nBuf tb) → BufTy
  | .hbm, ⟨0, _⟩ => ⟨S32x8x2048, .f32⟩
  | .hbm, ⟨1, _⟩ => ⟨S2048, .f32⟩
  | .hbm, ⟨2, _⟩ => ⟨S2048x14352, .f32⟩
  | .hbm, ⟨3, _⟩ => ⟨S32x8x2048, .f32⟩
  | .hbm, ⟨4, _⟩ => ⟨S_, .f32⟩
  | .hbm, ⟨5, _⟩ => ⟨S32x8, .f32⟩
  | .hbm, ⟨6, _⟩ => ⟨S32x8x1, .f32⟩
  | .hbm, ⟨7, _⟩ => ⟨S_, .f32⟩
  | .hbm, ⟨8, _⟩ => ⟨S32x8x1, .f32⟩
  | .hbm, ⟨9, _⟩ => ⟨S32x8x1, .f32⟩
  | .hbm, ⟨10, _⟩ => ⟨S_, .f32⟩
  | .hbm, ⟨11, _⟩ => ⟨S32x8x1, .f32⟩
  | .hbm, ⟨12, _⟩ => ⟨S32x8x1, .f32⟩
  | .hbm, ⟨13, _⟩ => ⟨S32x8x1, .f32⟩
  | .hbm, ⟨14, _⟩ => ⟨S32x8x2048, .f32⟩
  | .hbm, ⟨15, _⟩ => ⟨S32x8x2048, .f32⟩
  | .hbm, ⟨16, _⟩ => ⟨S1x1x2048, .f32⟩
  | .hbm, ⟨17, _⟩ => ⟨S32x8x2048, .f32⟩
  | .hbm, ⟨18, _⟩ => ⟨S32x8x2048, .f32⟩
  | .hbm, ⟨19, _⟩ => ⟨S32x8x14352, .f32⟩
  | .hbm, ⟨20, _⟩ => ⟨S256x14352, .f32⟩
  | .hbm, ⟨21, _⟩ => ⟨S256x16, .f32⟩
  | .hbm, ⟨22, _⟩ => ⟨S256x7168, .f32⟩
  | .hbm, ⟨23, _⟩ => ⟨S256x7168, .f32⟩
  | .hbm, ⟨24, _⟩ => ⟨S256x14336, .f32⟩
  | .hbm, ⟨25, _⟩ => ⟨S_, .i32⟩
  | .hbm, ⟨26, _⟩ => ⟨S_, .f32⟩
  | .hbm, ⟨27, _⟩ => ⟨S256x128, .f32⟩
  | _, _ => ⟨S32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel8.lean ====
abbrev S33280 : Shape := ⟨1, ![33280]⟩
abbrev S256x2048 : Shape := ⟨2, ![256, 2048]⟩
abbrev S256x128 : Shape := ⟨2, ![256, 128]⟩
abbrev S2048 : Shape := ⟨1, ![2048]⟩
abbrev S45264x2048 : Shape := ⟨2, ![45264, 2048]⟩
abbrev S1x2048 : Shape := ⟨2, ![1, 2048]⟩
abbrev S_ : Shape := ⟨0, ![]⟩
abbrev S1 : Shape := ⟨1, ![1]⟩
abbrev S256x1 : Shape := ⟨2, ![256, 1]⟩
abbrev S256 : Shape := ⟨1, ![256]⟩

abbrev nBuf : Space → Nat
  | .hbm => 6
  | .vmem => 6
  | .smem => 1
  | _ => 0

abbrev bufTy : (tb : Table) → Fin (tcTables nBuf tb) → BufTy
  | .hbm, ⟨0, _⟩ => ⟨S256x2048, .f32⟩
  | .hbm, ⟨1, _⟩ => ⟨S256x128, .f32⟩
  | .hbm, ⟨2, _⟩ => ⟨S2048, .f32⟩
  | .hbm, ⟨3, _⟩ => ⟨S45264x2048, .f32⟩
  | .hbm, ⟨4, _⟩ => ⟨S1x2048, .f32⟩
  | .hbm, ⟨5, _⟩ => ⟨S256x2048, .f32⟩
  | .local _ .vmem, ⟨0, _⟩ => ⟨S256x2048, .f32⟩
  | .local _ .vmem, ⟨1, _⟩ => ⟨S256x128, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .smem, ⟨0, _⟩ => ⟨S33280, .i32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c32_i32 : BitVec 32 := 32#32
  let v3 : BitVec 32 := Scalar.addi c0_i32 c32_i32
  let c1_i32 : BitVec 32 := 1#32
  ⟨c0_i32, v3, c1_i32⟩
def k0_off1 (i : grid0.Coords) (k0_t1 : Fin k0_t1_loop.trips) : Fin 1 → Nat :=
  let c16384_i32 : BitVec 32 := 16384#32
  let arg0 : BitVec 32 := BitVec.ofNat 32 (i 0).val
  let c256_i32 : BitVec 32 := 256#32
  let v0 : BitVec 32 := Scalar.muli arg0 c256_i32
  let v1 : BitVec 32 := Scalar.addi c16384_i32 v0
  let c2_i32 : BitVec 32 := 2#32
  let v2 : BitVec 32 := Scalar.muli v1 c2_i32
  let c2_i32_19 : BitVec 32 := 2#32
  let c0_i32 : BitVec 32 := 0#32
  let c1_i32 : BitVec 32 := 1#32
  let arg10 : BitVec 32 := Scf.iv c0_i32 c1_i32 k0_t1
  let c8_i32 : BitVec 32 := 8#32
  let v32 : BitVec 32 := Scalar.muli arg10 c8_i32
  let c0_i32_18 : BitVec 32 := 0#32
  let v33 : BitVec 32 := Scalar.addi v32 c0_i32_18
  let v34 : BitVec 32 := Scalar.muli c2_i32_19 v33
  let v35 : BitVec 32 := Scalar.addi v2 v34
  let c0_i32_20 : BitVec 32 := 0#32
  let v36 : BitVec 32 := Scalar.addi v35 c0_i32_20
  let v37 : Index := Scalar.indexCast v36
  ![v37.toNat]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v32 : BitVec 32 := Scalar.muli arg10 c8_i32
  let c0_i32_18 : BitVec 32 := 0#32
  let v33 : BitVec 32 := Scalar.addi v32 c0_i32_18
  let c0_i32_21 : BitVec 32 := 0#32
  ![v33.toNat, 0]
def k0_off3 (v38 : BitVec 32) : Fin 2 → Nat :=
  let c0_i32_22 : BitVec 32 := 0#32
  ![v38.toNat, 0]

def k0_chk1 (v38 : BitVec 32) : Prop :=
  (∀ a, (k0_off3 v38) a + S1x2048.size a ≤ S45264x2048.size a)
theorem k0_off3_inb : ∀ (v38 : BitVec 32) (k0_hw1 : k0_chk1 v38), ∀ a, (k0_off3 v38) a + S1x2048.size a ≤ S45264x2048.size a := fun v38 k0_hw1 => k0_hw1

def k0_off4 (i : grid0.Coords) (k0_t1 : Fin k0_t1_loop.trips) : Fin 1 → Nat :=
  let c16384_i32 : BitVec 32 := 16384#32
  let arg0 : BitVec 32 := BitVec.ofNat 32 (i 0).val
  let c256_i32 : BitVec 32 := 256#32
  let v0 : BitVec 32 := Scalar.muli arg0 c256_i32
  let v1 : BitVec 32 := Scalar.addi c16384_i32 v0
  let c2_i32 : BitVec 32 := 2#32
  let v2 : BitVec 32 := Scalar.muli v1 c2_i32
  let c2_i32_23 : BitVec 32 := 2#32
  let c0_i32 : BitVec 32 := 0#32
  let c1_i32 : BitVec 32 := 1#32
  let arg10 : BitVec 32 := Scf.iv c0_i32 c1_i32 k0_t1
  let c8_i32 : BitVec 32 := 8#32
  let v32 : BitVec 32 := Scalar.muli arg10 c8_i32
  let c0_i32_18 : BitVec 32 := 0#32
  let v33 : BitVec 32 := Scalar.addi v32 c0_i32_18
  let v41 : BitVec 32 := Scalar.muli c2_i32_23 v33
  let v42 : BitVec 32 := Scalar.addi v2 v41
  let c1_i32_24 : BitVec 32 := 1#32
  let v43 : BitVec 32 := Scalar.addi v42 c1_i32_24
  let v44 : Index := Scalar.indexCast v43
  ![v44.toNat]
def k0_off5 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v32 : BitVec 32 := Scalar.muli arg10 c8_i32
  let c0_i32_18 : BitVec 32 := 0#32
  let v33 : BitVec 32 := Scalar.addi v32 c0_i32_18
  let c0_i32_25 : BitVec 32 := 0#32
  ![v33.toNat, 0]
def k0_off6 (v45 : BitVec 32) : Fin 2 → Nat :=
  let c0_i32_26 : BitVec 32 := 0#32
  ![v45.toNat, 0]

def k0_chk2 (v45 : BitVec 32) : Prop :=
  (∀ a, (k0_off6 v45) a + S1x2048.size a ≤ S45264x2048.size a)
theorem k0_off6_inb : ∀ (v45 : BitVec 32) (k0_hw2 : k0_chk2 v45), ∀ a, (k0_off6 v45) a + S1x2048.size a ≤ S45264x2048.size a := fun v45 k0_hw2 => k0_hw2

def k0_off7 (i : grid0.Coords) (k0_t1 : Fin k0_t1_loop.trips) : Fin 1 → Nat :=
  let c16384_i32 : BitVec 32 := 16384#32
  let arg0 : BitVec 32 := BitVec.ofNat 32 (i 0).val
  let c256_i32 : BitVec 32 := 256#32
  let v0 : BitVec 32 := Scalar.muli arg0 c256_i32
  let v1 : BitVec 32 := Scalar.addi c16384_i32 v0
  let c2_i32 : BitVec 32 := 2#32
  let v2 : BitVec 32 := Scalar.muli v1 c2_i32
  let c2_i32_29 : BitVec 32 := 2#32
  let c0_i32 : BitVec 32 := 0#32
  let c1_i32 : BitVec 32 := 1#32
  let arg10 : BitVec 32 := Scf.iv c0_i32 c1_i32 k0_t1
  let c8_i32_27 : BitVec 32 := 8#32
  let v48 : BitVec 32 := Scalar.muli arg10 c8_i32_27
  let c1_i32_28 : BitVec 32 := 1#32
  let v49 : BitVec 32 := Scalar.addi v48 c1_i32_28
  let v50 : BitVec 32 := Scalar.muli c2_i32_29 v49
  let v51 : BitVec 32 := Scalar.addi v2 v50
  let c0_i32_30 : BitVec 32 := 0#32
  let v52 : BitVec 32 := Scalar.addi v51 c0_i32_30
  let v53 : Index := Scalar.indexCast v52
  ![v53.toNat]
def k0_off8 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32_27 : BitVec 32 := 8#32
  let v48 : BitVec 32 := Scalar.muli arg10 c8_i32_27
  let c1_i32_28 : BitVec 32 := 1#32
  let v49 : BitVec 32 := Scalar.addi v48 c1_i32_28
  let c0_i32_31 : BitVec 32 := 0#32
  ![v49.toNat, 0]
def k0_off9 (v54 : BitVec 32) : Fin 2 → Nat :=
  let c0_i32_32 : BitVec 32 := 0#32
  ![v54.toNat, 0]

def k0_chk3 (v54 : BitVec 32) : Prop :=
  (∀ a, (k0_off9 v54) a + S1x2048.size a ≤ S45264x2048.size a)
theorem k0_off9_inb : ∀ (v54 : BitVec 32) (k0_hw3 : k0_chk3 v54), ∀ a, (k0_off9 v54) a + S1x2048.size a ≤ S45264x2048.size a := fun v54 k0_hw3 => k0_hw3

def k0_off10 (i : grid0.Coords) (k0_t1 : Fin k0_t1_loop.trips) : Fin 1 → Nat :=
  let c16384_i32 : BitVec 32 := 16384#32
  let arg0 : BitVec 32 := BitVec.ofNat 32 (i 0).val
  let c256_i32 : BitVec 32 := 256#32
  let v0 : BitVec 32 := Scalar.muli arg0 c256_i32
  let v1 : BitVec 32 := Scalar.addi c16384_i32 v0
  let c2_i32 : BitVec 32 := 2#32
  let v2 : BitVec 32 := Scalar.muli v1 c2_i32
  let c2_i32_33 : BitVec 32 := 2#32
  let c0_i32 : BitVec 32 := 0#32
  let c1_i32 : BitVec 32 := 1#32
  let arg10 : BitVec 32 := Scf.iv c0_i32 c1_i32 k0_t1
  let c8_i32_27 : BitVec 32 := 8#32
  let v48 : BitVec 32 := Scalar.muli arg10 c8_i32_27
  let c1_i32_28 : BitVec 32 := 1#32
  let v49 : BitVec 32 := Scalar.addi v48 c1_i32_28
  let v57 : BitVec 32 := Scalar.muli c2_i32_33 v49
  let v58 : BitVec 32 := Scalar.addi v2 v57
  let c1_i32_34 : BitVec 32 := 1#32
  let v59 : BitVec 32 := Scalar.addi v58 c1_i32_34
  let v60 : Index := Scalar.indexCast v59
  ![v60.toNat]
def k0_off11 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32_27 : BitVec 32 := 8#32
  let v48 : BitVec 32 := Scalar.muli arg10 c8_i32_27
  let c1_i32_28 : BitVec 32 := 1#32
  let v49 : BitVec 32 := Scalar.addi v48 c1_i32_28
  let c0_i32_35 : BitVec 32 := 0#32
  ![v49.toNat, 0]
def k0_off12 (v61 : BitVec 32) : Fin 2 → Nat :=
  let c0_i32_36 : BitVec 32 := 0#32
  ![v61.toNat, 0]

def k0_chk4 (v61 : BitVec 32) : Prop :=
  (∀ a, (k0_off12 v61) a + S1x2048.size a ≤ S45264x2048.size a)
theorem k0_off12_inb : ∀ (v61 : BitVec 32) (k0_hw4 : k0_chk4 v61), ∀ a, (k0_off12 v61) a + S1x2048.size a ≤ S45264x2048.size a := fun v61 k0_hw4 => k0_hw4

def k0_off13 (i : grid0.Coords) (k0_t1 : Fin k0_t1_loop.trips) : Fin 1 → Nat :=
  let c16384_i32 : BitVec 32 := 16384#32
  let arg0 : BitVec 32 := BitVec.ofNat 32 (i 0).val
  let c256_i32 : BitVec 32 := 256#32
  let v0 : BitVec 32 := Scalar.muli arg0 c256_i32
  let v1 : BitVec 32 := Scalar.addi c16384_i32 v0
  let c2_i32 : BitVec 32 := 2#32
  let v2 : BitVec 32 := Scalar.muli v1 c2_i32
  let c2_i32_39 : BitVec 32 := 2#32
  let c0_i32 : BitVec 32 := 0#32
  let c1_i32 : BitVec 32 := 1#32
  let arg10 : BitVec 32 := Scf.iv c0_i32 c1_i32 k0_t1
  let c8_i32_37 : BitVec 32 := 8#32
  let v64 : BitVec 32 := Scalar.muli arg10 c8_i32_37
  let c2_i32_38 : BitVec 32 := 2#32
  let v65 : BitVec 32 := Scalar.addi v64 c2_i32_38
  let v66 : BitVec 32 := Scalar.muli c2_i32_39 v65
  let v67 : BitVec 32 := Scalar.addi v2 v66
  let c0_i32_40 : BitVec 32 := 0#32
  let v68 : BitVec 32 := Scalar.addi v67 c0_i32_40
  let v69 : Index := Scalar.indexCast v68
  ![v69.toNat]
def k0_off14 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32_37 : BitVec 32 := 8#32
  let v64 : BitVec 32 := Scalar.muli arg10 c8_i32_37
  let c2_i32_38 : BitVec 32 := 2#32
  let v65 : BitVec 32 := Scalar.addi v64 c2_i32_38
  let c0_i32_41 : BitVec 32 := 0#32
  ![v65.toNat, 0]
def k0_off15 (v70 : BitVec 32) : Fin 2 → Nat :=
  let c0_i32_42 : BitVec 32 := 0#32
  ![v70.toNat, 0]

def k0_chk5 (v70 : BitVec 32) : Prop :=
  (∀ a, (k0_off15 v70) a + S1x2048.size a ≤ S45264x2048.size a)
theorem k0_off15_inb : ∀ (v70 : BitVec 32) (k0_hw5 : k0_chk5 v70), ∀ a, (k0_off15 v70) a + S1x2048.size a ≤ S45264x2048.size a := fun v70 k0_hw5 => k0_hw5

def k0_off16 (i : grid0.Coords) (k0_t1 : Fin k0_t1_loop.trips) : Fin 1 → Nat :=
  let c16384_i32 : BitVec 32 := 16384#32
  let arg0 : BitVec 32 := BitVec.ofNat 32 (i 0).val
  let c256_i32 : BitVec 32 := 256#32
  let v0 : BitVec 32 := Scalar.muli arg0 c256_i32
  let v1 : BitVec 32 := Scalar.addi c16384_i32 v0
  let c2_i32 : BitVec 32 := 2#32
  let v2 : BitVec 32 := Scalar.muli v1 c2_i32
  let c2_i32_43 : BitVec 32 := 2#32
  let c0_i32 : BitVec 32 := 0#32
  let c1_i32 : BitVec 32 := 1#32
  let arg10 : BitVec 32 := Scf.iv c0_i32 c1_i32 k0_t1
  let c8_i32_37 : BitVec 32 := 8#32
  let v64 : BitVec 32 := Scalar.muli arg10 c8_i32_37
  let c2_i32_38 : BitVec 32 := 2#32
  let v65 : BitVec 32 := Scalar.addi v64 c2_i32_38
  let v73 : BitVec 32 := Scalar.muli c2_i32_43 v65
  let v74 : BitVec 32 := Scalar.addi v2 v73
  let c1_i32_44 : BitVec 32 := 1#32
  let v75 : BitVec 32 := Scalar.addi v74 c1_i32_44
  let v76 : Index := Scalar.indexCast v75
  ![v76.toNat]
def k0_off17 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32_37 : BitVec 32 := 8#32
  let v64 : BitVec 32 := Scalar.muli arg10 c8_i32_37
  let c2_i32_38 : BitVec 32 := 2#32
  let v65 : BitVec 32 := Scalar.addi v64 c2_i32_38
  let c0_i32_45 : BitVec 32 := 0#32
  ![v65.toNat, 0]
def k0_off18 (v77 : BitVec 32) : Fin 2 → Nat :=
  let c0_i32_46 : BitVec 32 := 0#32
  ![v77.toNat, 0]

def k0_chk6 (v77 : BitVec 32) : Prop :=
  (∀ a, (k0_off18 v77) a + S1x2048.size a ≤ S45264x2048.size a)
theorem k0_off18_inb : ∀ (v77 : BitVec 32) (k0_hw6 : k0_chk6 v77), ∀ a, (k0_off18 v77) a + S1x2048.size a ≤ S45264x2048.size a := fun v77 k0_hw6 => k0_hw6

def k0_off19 (i : grid0.Coords) (k0_t1 : Fin k0_t1_loop.trips) : Fin 1 → Nat :=
  let c16384_i32 : BitVec 32 := 16384#32
  let arg0 : BitVec 32 := BitVec.ofNat 32 (i 0).val
  let c256_i32 : BitVec 32 := 256#32
  let v0 : BitVec 32 := Scalar.muli arg0 c256_i32
  let v1 : BitVec 32 := Scalar.addi c16384_i32 v0
  let c2_i32 : BitVec 32 := 2#32
  let v2 : BitVec 32 := Scalar.muli v1 c2_i32
  let c2_i32_48 : BitVec 32 := 2#32
  let c0_i32 : BitVec 32 := 0#32
  let c1_i32 : BitVec 32 := 1#32
  let arg10 : BitVec 32 := Scf.iv c0_i32 c1_i32 k0_t1
  let c8_i32_47 : BitVec 32 := 8#32
  let v80 : BitVec 32 := Scalar.muli arg10 c8_i32_47
  let c3_i32 : BitVec 32 := 3#32
  let v81 : BitVec 32 := Scalar.addi v80 c3_i32
  let v82 : BitVec 32 := Scalar.muli c2_i32_48 v81
  let v83 : BitVec 32 := Scalar.addi v2 v82
  let c0_i32_49 : BitVec 32 := 0#32
  let v84 : BitVec 32 := Scalar.addi v83 c0_i32_49
  let v85 : Index := Scalar.indexCast v84
  ![v85.toNat]
def k0_off20 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32_47 : BitVec 32 := 8#32
  let v80 : BitVec 32 := Scalar.muli arg10 c8_i32_47
  let c3_i32 : BitVec 32 := 3#32
  let v81 : BitVec 32 := Scalar.addi v80 c3_i32
  let c0_i32_50 : BitVec 32 := 0#32
  ![v81.toNat, 0]
def k0_off21 (v86 : BitVec 32) : Fin 2 → Nat :=
  let c0_i32_51 : BitVec 32 := 0#32
  ![v86.toNat, 0]

def k0_chk7 (v86 : BitVec 32) : Prop :=
  (∀ a, (k0_off21 v86) a + S1x2048.size a ≤ S45264x2048.size a)
theorem k0_off21_inb : ∀ (v86 : BitVec 32) (k0_hw7 : k0_chk7 v86), ∀ a, (k0_off21 v86) a + S1x2048.size a ≤ S45264x2048.size a := fun v86 k0_hw7 => k0_hw7

def k0_off22 (i : grid0.Coords) (k0_t1 : Fin k0_t1_loop.trips) : Fin 1 → Nat :=
  let c16384_i32 : BitVec 32 := 16384#32
  let arg0 : BitVec 32 := BitVec.ofNat 32 (i 0).val
  let c256_i32 : BitVec 32 := 256#32
  let v0 : BitVec 32 := Scalar.muli arg0 c256_i32
  let v1 : BitVec 32 := Scalar.addi c16384_i32 v0
  let c2_i32 : BitVec 32 := 2#32
  let v2 : BitVec 32 := Scalar.muli v1 c2_i32
  let c2_i32_52 : BitVec 32 := 2#32
  let c0_i32 : BitVec 32 := 0#32
  let c1_i32 : BitVec 32 := 1#32
  let arg10 : BitVec 32 := Scf.iv c0_i32 c1_i32 k0_t1
  let c8_i32_47 : BitVec 32 := 8#32
  let v80 : BitVec 32 := Scalar.muli arg10 c8_i32_47
  let c3_i32 : BitVec 32 := 3#32
  let v81 : BitVec 32 := Scalar.addi v80 c3_i32
  let v89 : BitVec 32 := Scalar.muli c2_i32_52 v81
  let v90 : BitVec 32 := Scalar.addi v2 v89
  let c1_i32_53 : BitVec 32 := 1#32
  let v91 : BitVec 32 := Scalar.addi v90 c1_i32_53
  let v92 : Index := Scalar.indexCast v91
  ![v92.toNat]
def k0_off23 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32_47 : BitVec 32 := 8#32
  let v80 : BitVec 32 := Scalar.muli arg10 c8_i32_47
  let c3_i32 : BitVec 32 := 3#32
  let v81 : BitVec 32 := Scalar.addi v80 c3_i32
  let c0_i32_54 : BitVec 32 := 0#32
  ![v81.toNat, 0]
def k0_off24 (v93 : BitVec 32) : Fin 2 → Nat :=
  let c0_i32_55 : BitVec 32 := 0#32
  ![v93.toNat, 0]

def k0_chk8 (v93 : BitVec 32) : Prop :=
  (∀ a, (k0_off24 v93) a + S1x2048.size a ≤ S45264x2048.size a)
theorem k0_off24_inb : ∀ (v93 : BitVec 32) (k0_hw8 : k0_chk8 v93), ∀ a, (k0_off24 v93) a + S1x2048.size a ≤ S45264x2048.size a := fun v93 k0_hw8 => k0_hw8

def k0_off25 (i : grid0.Coords) (k0_t1 : Fin k0_t1_loop.trips) : Fin 1 → Nat :=
  let c16384_i32 : BitVec 32 := 16384#32
  let arg0 : BitVec 32 := BitVec.ofNat 32 (i 0).val
  let c256_i32 : BitVec 32 := 256#32
  let v0 : BitVec 32 := Scalar.muli arg0 c256_i32
  let v1 : BitVec 32 := Scalar.addi c16384_i32 v0
  let c2_i32 : BitVec 32 := 2#32
  let v2 : BitVec 32 := Scalar.muli v1 c2_i32
  let c2_i32_57 : BitVec 32 := 2#32
  let c0_i32 : BitVec 32 := 0#32
  let c1_i32 : BitVec 32 := 1#32
  let arg10 : BitVec 32 := Scf.iv c0_i32 c1_i32 k0_t1
  let c8_i32_56 : BitVec 32 := 8#32
  let v96 : BitVec 32 := Scalar.muli arg10 c8_i32_56
  let c4_i32 : BitVec 32 := 4#32
  let v97 : BitVec 32 := Scalar.addi v96 c4_i32
  let v98 : BitVec 32 := Scalar.muli c2_i32_57 v97
  let v99 : BitVec 32 := Scalar.addi v2 v98
  let c0_i32_58 : BitVec 32 := 0#32
  let v100 : BitVec 32 := Scalar.addi v99 c0_i32_58
  let v101 : Index := Scalar.indexCast v100
  ![v101.toNat]
def k0_off26 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32_56 : BitVec 32 := 8#32
  let v96 : BitVec 32 := Scalar.muli arg10 c8_i32_56
  let c4_i32 : BitVec 32 := 4#32
  let v97 : BitVec 32 := Scalar.addi v96 c4_i32
  let c0_i32_59 : BitVec 32 := 0#32
  ![v97.toNat, 0]
def k0_off27 (v102 : BitVec 32) : Fin 2 → Nat :=
  let c0_i32_60 : BitVec 32 := 0#32
  ![v102.toNat, 0]

def k0_chk9 (v102 : BitVec 32) : Prop :=
  (∀ a, (k0_off27 v102) a + S1x2048.size a ≤ S45264x2048.size a)
theorem k0_off27_inb : ∀ (v102 : BitVec 32) (k0_hw9 : k0_chk9 v102), ∀ a, (k0_off27 v102) a + S1x2048.size a ≤ S45264x2048.size a := fun v102 k0_hw9 => k0_hw9

def k0_off28 (i : grid0.Coords) (k0_t1 : Fin k0_t1_loop.trips) : Fin 1 → Nat :=
  let c16384_i32 : BitVec 32 := 16384#32
  let arg0 : BitVec 32 := BitVec.ofNat 32 (i 0).val
  let c256_i32 : BitVec 32 := 256#32
  let v0 : BitVec 32 := Scalar.muli arg0 c256_i32
  let v1 : BitVec 32 := Scalar.addi c16384_i32 v0
  let c2_i32 : BitVec 32 := 2#32
  let v2 : BitVec 32 := Scalar.muli v1 c2_i32
  let c2_i32_61 : BitVec 32 := 2#32
  let c0_i32 : BitVec 32 := 0#32
  let c1_i32 : BitVec 32 := 1#32
  let arg10 : BitVec 32 := Scf.iv c0_i32 c1_i32 k0_t1
  let c8_i32_56 : BitVec 32 := 8#32
  let v96 : BitVec 32 := Scalar.muli arg10 c8_i32_56
  let c4_i32 : BitVec 32 := 4#32
  let v97 : BitVec 32 := Scalar.addi v96 c4_i32
  let v105 : BitVec 32 := Scalar.muli c2_i32_61 v97
  let v106 : BitVec 32 := Scalar.addi v2 v105
  let c1_i32_62 : BitVec 32 := 1#32
  let v107 : BitVec 32 := Scalar.addi v106 c1_i32_62
  let v108 : Index := Scalar.indexCast v107
  ![v108.toNat]
def k0_off29 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32_56 : BitVec 32 := 8#32
  let v96 : BitVec 32 := Scalar.muli arg10 c8_i32_56
  let c4_i32 : BitVec 32 := 4#32
  let v97 : BitVec 32 := Scalar.addi v96 c4_i32
  let c0_i32_63 : BitVec 32 := 0#32
  ![v97.toNat, 0]
def k0_off30 (v109 : BitVec 32) : Fin 2 → Nat :=
  let c0_i32_64 : BitVec 32 := 0#32
  ![v109.toNat, 0]

def k0_chk10 (v109 : BitVec 32) : Prop :=
  (∀ a, (k0_off30 v109) a + S1x2048.size a ≤ S45264x2048.size a)
theorem k0_off30_inb : ∀ (v109 : BitVec 32) (k0_hw10 : k0_chk10 v109), ∀ a, (k0_off30 v109) a + S1x2048.size a ≤ S45264x2048.size a := fun v109 k0_hw10 => k0_hw10

def k0_off31 (i : grid0.Coords) (k0_t1 : Fin k0_t1_loop.trips) : Fin 1 → Nat :=
  let c16384_i32 : BitVec 32 := 16384#32
  let arg0 : BitVec 32 := BitVec.ofNat 32 (i 0).val
  let c256_i32 : BitVec 32 := 256#32
  let v0 : BitVec 32 := Scalar.muli arg0 c256_i32
  let v1 : BitVec 32 := Scalar.addi c16384_i32 v0
  let c2_i32 : BitVec 32 := 2#32
  let v2 : BitVec 32 := Scalar.muli v1 c2_i32
  let c2_i32_66 : BitVec 32 := 2#32
  let c0_i32 : BitVec 32 := 0#32
  let c1_i32 : BitVec 32 := 1#32
  let arg10 : BitVec 32 := Scf.iv c0_i32 c1_i32 k0_t1
  let c8_i32_65 : BitVec 32 := 8#32
  let v112 : BitVec 32 := Scalar.muli arg10 c8_i32_65
  let c5_i32 : BitVec 32 := 5#32
  let v113 : BitVec 32 := Scalar.addi v112 c5_i32
  let v114 : BitVec 32 := Scalar.muli c2_i32_66 v113
  let v115 : BitVec 32 := Scalar.addi v2 v114
  let c0_i32_67 : BitVec 32 := 0#32
  let v116 : BitVec 32 := Scalar.addi v115 c0_i32_67
  let v117 : Index := Scalar.indexCast v116
  ![v117.toNat]
def k0_off32 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32_65 : BitVec 32 := 8#32
  let v112 : BitVec 32 := Scalar.muli arg10 c8_i32_65
  let c5_i32 : BitVec 32 := 5#32
  let v113 : BitVec 32 := Scalar.addi v112 c5_i32
  let c0_i32_68 : BitVec 32 := 0#32
  ![v113.toNat, 0]
def k0_off33 (v118 : BitVec 32) : Fin 2 → Nat :=
  let c0_i32_69 : BitVec 32 := 0#32
  ![v118.toNat, 0]

def k0_chk11 (v118 : BitVec 32) : Prop :=
  (∀ a, (k0_off33 v118) a + S1x2048.size a ≤ S45264x2048.size a)
theorem k0_off33_inb : ∀ (v118 : BitVec 32) (k0_hw11 : k0_chk11 v118), ∀ a, (k0_off33 v118) a + S1x2048.size a ≤ S45264x2048.size a := fun v118 k0_hw11 => k0_hw11

def k0_off34 (i : grid0.Coords) (k0_t1 : Fin k0_t1_loop.trips) : Fin 1 → Nat :=
  let c16384_i32 : BitVec 32 := 16384#32
  let arg0 : BitVec 32 := BitVec.ofNat 32 (i 0).val
  let c256_i32 : BitVec 32 := 256#32
  let v0 : BitVec 32 := Scalar.muli arg0 c256_i32
  let v1 : BitVec 32 := Scalar.addi c16384_i32 v0
  let c2_i32 : BitVec 32 := 2#32
  let v2 : BitVec 32 := Scalar.muli v1 c2_i32
  let c2_i32_70 : BitVec 32 := 2#32
  let c0_i32 : BitVec 32 := 0#32
  let c1_i32 : BitVec 32 := 1#32
  let arg10 : BitVec 32 := Scf.iv c0_i32 c1_i32 k0_t1
  let c8_i32_65 : BitVec 32 := 8#32
  let v112 : BitVec 32 := Scalar.muli arg10 c8_i32_65
  let c5_i32 : BitVec 32 := 5#32
  let v113 : BitVec 32 := Scalar.addi v112 c5_i32
  let v121 : BitVec 32 := Scalar.muli c2_i32_70 v113
  let v122 : BitVec 32 := Scalar.addi v2 v121
  let c1_i32_71 : BitVec 32 := 1#32
  let v123 : BitVec 32 := Scalar.addi v122 c1_i32_71
  let v124 : Index := Scalar.indexCast v123
  ![v124.toNat]
def k0_off35 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32_65 : BitVec 32 := 8#32
  let v112 : BitVec 32 := Scalar.muli arg10 c8_i32_65
  let c5_i32 : BitVec 32 := 5#32
  let v113 : BitVec 32 := Scalar.addi v112 c5_i32
  let c0_i32_72 : BitVec 32 := 0#32
  ![v113.toNat, 0]
def k0_off36 (v125 : BitVec 32) : Fin 2 → Nat :=
  let c0_i32_73 : BitVec 32 := 0#32
  ![v125.toNat, 0]

def k0_chk12 (v125 : BitVec 32) : Prop :=
  (∀ a, (k0_off36 v125) a + S1x2048.size a ≤ S45264x2048.size a)
theorem k0_off36_inb : ∀ (v125 : BitVec 32) (k0_hw12 : k0_chk12 v125), ∀ a, (k0_off36 v125) a + S1x2048.size a ≤ S45264x2048.size a := fun v125 k0_hw12 => k0_hw12

def k0_off37 (i : grid0.Coords) (k0_t1 : Fin k0_t1_loop.trips) : Fin 1 → Nat :=
  let c16384_i32 : BitVec 32 := 16384#32
  let arg0 : BitVec 32 := BitVec.ofNat 32 (i 0).val
  let c256_i32 : BitVec 32 := 256#32
  let v0 : BitVec 32 := Scalar.muli arg0 c256_i32
  let v1 : BitVec 32 := Scalar.addi c16384_i32 v0
  let c2_i32 : BitVec 32 := 2#32
  let v2 : BitVec 32 := Scalar.muli v1 c2_i32
  let c2_i32_75 : BitVec 32 := 2#32
  let c0_i32 : BitVec 32 := 0#32
  let c1_i32 : BitVec 32 := 1#32
  let arg10 : BitVec 32 := Scf.iv c0_i32 c1_i32 k0_t1
  let c8_i32_74 : BitVec 32 := 8#32
  let v128 : BitVec 32 := Scalar.muli arg10 c8_i32_74
  let c6_i32 : BitVec 32 := 6#32
  let v129 : BitVec 32 := Scalar.addi v128 c6_i32
  let v130 : BitVec 32 := Scalar.muli c2_i32_75 v129
  let v131 : BitVec 32 := Scalar.addi v2 v130
  let c0_i32_76 : BitVec 32 := 0#32
  let v132 : BitVec 32 := Scalar.addi v131 c0_i32_76
  let v133 : Index := Scalar.indexCast v132
  ![v133.toNat]
def k0_off38 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32_74 : BitVec 32 := 8#32
  let v128 : BitVec 32 := Scalar.muli arg10 c8_i32_74
  let c6_i32 : BitVec 32 := 6#32
  let v129 : BitVec 32 := Scalar.addi v128 c6_i32
  let c0_i32_77 : BitVec 32 := 0#32
  ![v129.toNat, 0]
def k0_off39 (v134 : BitVec 32) : Fin 2 → Nat :=
  let c0_i32_78 : BitVec 32 := 0#32
  ![v134.toNat, 0]

def k0_chk13 (v134 : BitVec 32) : Prop :=
  (∀ a, (k0_off39 v134) a + S1x2048.size a ≤ S45264x2048.size a)
theorem k0_off39_inb : ∀ (v134 : BitVec 32) (k0_hw13 : k0_chk13 v134), ∀ a, (k0_off39 v134) a + S1x2048.size a ≤ S45264x2048.size a := fun v134 k0_hw13 => k0_hw13

def k0_off40 (i : grid0.Coords) (k0_t1 : Fin k0_t1_loop.trips) : Fin 1 → Nat :=
  let c16384_i32 : BitVec 32 := 16384#32
  let arg0 : BitVec 32 := BitVec.ofNat 32 (i 0).val
  let c256_i32 : BitVec 32 := 256#32
  let v0 : BitVec 32 := Scalar.muli arg0 c256_i32
  let v1 : BitVec 32 := Scalar.addi c16384_i32 v0
  let c2_i32 : BitVec 32 := 2#32
  let v2 : BitVec 32 := Scalar.muli v1 c2_i32
  let c2_i32_79 : BitVec 32 := 2#32
  let c0_i32 : BitVec 32 := 0#32
  let c1_i32 : BitVec 32 := 1#32
  let arg10 : BitVec 32 := Scf.iv c0_i32 c1_i32 k0_t1
  let c8_i32_74 : BitVec 32 := 8#32
  let v128 : BitVec 32 := Scalar.muli arg10 c8_i32_74
  let c6_i32 : BitVec 32 := 6#32
  let v129 : BitVec 32 := Scalar.addi v128 c6_i32
  let v137 : BitVec 32 := Scalar.muli c2_i32_79 v129
  let v138 : BitVec 32 := Scalar.addi v2 v137
  let c1_i32_80 : BitVec 32 := 1#32
  let v139 : BitVec 32 := Scalar.addi v138 c1_i32_80
  let v140 : Index := Scalar.indexCast v139
  ![v140.toNat]
def k0_off41 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32_74 : BitVec 32 := 8#32
  let v128 : BitVec 32 := Scalar.muli arg10 c8_i32_74
  let c6_i32 : BitVec 32 := 6#32
  let v129 : BitVec 32 := Scalar.addi v128 c6_i32
  let c0_i32_81 : BitVec 32 := 0#32
  ![v129.toNat, 0]
def k0_off42 (v141 : BitVec 32) : Fin 2 → Nat :=
  let c0_i32_82 : BitVec 32 := 0#32
  ![v141.toNat, 0]

def k0_chk14 (v141 : BitVec 32) : Prop :=
  (∀ a, (k0_off42 v141) a + S1x2048.size a ≤ S45264x2048.size a)
theorem k0_off42_inb : ∀ (v141 : BitVec 32) (k0_hw14 : k0_chk14 v141), ∀ a, (k0_off42 v141) a + S1x2048.size a ≤ S45264x2048.size a := fun v141 k0_hw14 => k0_hw14

def k0_off43 (i : grid0.Coords) (k0_t1 : Fin k0_t1_loop.trips) : Fin 1 → Nat :=
  let c16384_i32 : BitVec 32 := 16384#32
  let arg0 : BitVec 32 := BitVec.ofNat 32 (i 0).val
  let c256_i32 : BitVec 32 := 256#32
  let v0 : BitVec 32 := Scalar.muli arg0 c256_i32
  let v1 : BitVec 32 := Scalar.addi c16384_i32 v0
  let c2_i32 : BitVec 32 := 2#32
  let v2 : BitVec 32 := Scalar.muli v1 c2_i32
  let c2_i32_84 : BitVec 32 := 2#32
  let c0_i32 : BitVec 32 := 0#32
  let c1_i32 : BitVec 32 := 1#32
  let arg10 : BitVec 32 := Scf.iv c0_i32 c1_i32 k0_t1
  let c8_i32_83 : BitVec 32 := 8#32
  let v144 : BitVec 32 := Scalar.muli arg10 c8_i32_83
  let c7_i32 : BitVec 32 := 7#32
  let v145 : BitVec 32 := Scalar.addi v144 c7_i32
  let v146 : BitVec 32 := Scalar.muli c2_i32_84 v145
  let v147 : BitVec 32 := Scalar.addi v2 v146
  let c0_i32_85 : BitVec 32 := 0#32
  let v148 : BitVec 32 := Scalar.addi v147 c0_i32_85
  let v149 : Index := Scalar.indexCast v148
  ![v149.toNat]
def k0_off44 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32_83 : BitVec 32 := 8#32
  let v144 : BitVec 32 := Scalar.muli arg10 c8_i32_83
  let c7_i32 : BitVec 32 := 7#32
  let v145 : BitVec 32 := Scalar.addi v144 c7_i32
  let c0_i32_86 : BitVec 32 := 0#32
  ![v145.toNat, 0]
def k0_off45 (v150 : BitVec 32) : Fin 2 → Nat :=
  let c0_i32_87 : BitVec 32 := 0#32
  ![v150.toNat, 0]

def k0_chk15 (v150 : BitVec 32) : Prop :=
  (∀ a, (k0_off45 v150) a + S1x2048.size a ≤ S45264x2048.size a)
theorem k0_off45_inb : ∀ (v150 : BitVec 32) (k0_hw15 : k0_chk15 v150), ∀ a, (k0_off45 v150) a + S1x2048.size a ≤ S45264x2048.size a := fun v150 k0_hw15 => k0_hw15

def k0_off46 (i : grid0.Coords) (k0_t1 : Fin k0_t1_loop.trips) : Fin 1 → Nat :=
  let c16384_i32 : BitVec 32 := 16384#32
  let arg0 : BitVec 32 := BitVec.ofNat 32 (i 0).val
  let c256_i32 : BitVec 32 := 256#32
  let v0 : BitVec 32 := Scalar.muli arg0 c256_i32
  let v1 : BitVec 32 := Scalar.addi c16384_i32 v0
  let c2_i32 : BitVec 32 := 2#32
  let v2 : BitVec 32 := Scalar.muli v1 c2_i32
  let c2_i32_88 : BitVec 32 := 2#32
  let c0_i32 : BitVec 32 := 0#32
  let c1_i32 : BitVec 32 := 1#32
  let arg10 : BitVec 32 := Scf.iv c0_i32 c1_i32 k0_t1
  let c8_i32_83 : BitVec 32 := 8#32
  let v144 : BitVec 32 := Scalar.muli arg10 c8_i32_83
  let c7_i32 : BitVec 32 := 7#32
  let v145 : BitVec 32 := Scalar.addi v144 c7_i32
  let v153 : BitVec 32 := Scalar.muli c2_i32_88 v145
  let v154 : BitVec 32 := Scalar.addi v2 v153
  let c1_i32_89 : BitVec 32 := 1#32
  let v155 : BitVec 32 := Scalar.addi v154 c1_i32_89
  let v156 : Index := Scalar.indexCast v155
  ![v156.toNat]
def k0_off47 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32_83 : BitVec 32 := 8#32
  let v144 : BitVec 32 := Scalar.muli arg10 c8_i32_83
  let c7_i32 : BitVec 32 := 7#32
  let v145 : BitVec 32 := Scalar.addi v144 c7_i32
  let c0_i32_90 : BitVec 32 := 0#32
  ![v145.toNat, 0]
def k0_off48 (v157 : BitVec 32) : Fin 2 → Nat :=
  let c0_i32_91 : BitVec 32 := 0#32
  ![v157.toNat, 0]

def k0_chk16 (v157 : BitVec 32) : Prop :=
  (∀ a, (k0_off48 v157) a + S1x2048.size a ≤ S45264x2048.size a)
theorem k0_off48_inb : ∀ (v157 : BitVec 32) (k0_hw16 : k0_chk16 v157), ∀ a, (k0_off48 v157) a + S1x2048.size a ≤ S45264x2048.size a := fun v157 k0_hw16 => k0_hw16

@[reducible] def k0_t2_loop : Scf.Loop 32 :=
  let c0_i32_1 : BitVec 32 := 0#32
  let c256_i32_2 : BitVec 32 := 256#32
  let v4 : BitVec 32 := Scalar.addi c0_i32_1 c256_i32_2
  let c1_i32_3 : BitVec 32 := 1#32
  ⟨c0_i32_1, v4, c1_i32_3⟩
def k0_off49 (k0_t2 : Fin k0_t2_loop.trips) : Fin 2 → Nat :=
  let c0_i32_1 : BitVec 32 := 0#32
  let c1_i32_3 : BitVec 32 := 1#32
  let arg10 : BitVec 32 := Scf.iv c0_i32_1 c1_i32_3 k0_t2
  let c0_i32_18 : BitVec 32 := 0#32
  ![arg10.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference8Ideal.lean ====
abbrev S33280 : Shape := ⟨1, ![33280]⟩
abbrev S256x2048 : Shape := ⟨2, ![256, 2048]⟩
abbrev S256x128 : Shape := ⟨2, ![256, 128]⟩
abbrev S2048 : Shape := ⟨1, ![2048]⟩
abbrev S45264x2048 : Shape := ⟨2, ![45264, 2048]⟩
abbrev S256 : Shape := ⟨1, ![256]⟩
abbrev S256x1 : Shape := ⟨2, ![256, 1]⟩
abbrev S_ : Shape := ⟨0, ![]⟩
abbrev S1x2048 : Shape := ⟨2, ![1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S33280, .i32⟩
  | .hbm, ⟨1, _⟩ => ⟨S256x2048, .f32⟩
  | .hbm, ⟨2, _⟩ => ⟨S256x128, .f32⟩
  | .hbm, ⟨3, _⟩ => ⟨S2048, .f32⟩
  | .hbm, ⟨4, _⟩ => ⟨S45264x2048, .f32⟩
  | .hbm, ⟨5, _⟩ => ⟨S256, .i32⟩
  | .hbm, ⟨6, _⟩ => ⟨S256, .i32⟩
  | .hbm, ⟨7, _⟩ => ⟨S256x1, .f32⟩
  | .hbm, ⟨8, _⟩ => ⟨S256x1, .i32⟩
  | .hbm, ⟨9, _⟩ => ⟨S256x2048, .f32⟩
  | .hbm, ⟨10, _⟩ => ⟨S256x2048, .f32⟩
  | .hbm, ⟨11, _⟩ => ⟨S256x2048, .f32⟩
  | .hbm, ⟨12, _⟩ => ⟨S256x1, .f32⟩
  | .hbm, ⟨13, _⟩ => ⟨S256x1, .i32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S256, .f32⟩
  | .hbm, ⟨22, _⟩ => ⟨S256x1, .f32⟩
  | .hbm, ⟨23, _⟩ => ⟨S_, .f32⟩
  | .hbm, ⟨24, _⟩ => ⟨S256x1, .f32⟩
  | .hbm, ⟨25, _⟩ => ⟨S256x1, .f32⟩
  | .hbm, ⟨26, _⟩ => ⟨S_, .f32⟩
  | .hbm, ⟨27, _⟩ => ⟨S256x1, .f32⟩
  | .hbm, ⟨28, _⟩ => ⟨S256x1, .f32⟩
  | .hbm, ⟨29, _⟩ => ⟨S256x1, .f32⟩
  | .hbm, ⟨30, _⟩ => ⟨S256x2048, .f32⟩
  | .hbm, ⟨31, _⟩ => ⟨S256x2048, .f32⟩
  | .hbm, ⟨32, _⟩ => ⟨S1x2048, .f32⟩
  | .hbm, ⟨33, _⟩ => ⟨S256x2048, .f32⟩
  | .hbm, ⟨34, _⟩ => ⟨S256x2048, .f32⟩
  | _, _ => ⟨S33280, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Proof.Spec.lean ====
module

public import proofs.«01_k».proof.Proof.Gen.KernelIdeal.Skeleton

/-! What the kernel's body computes, written as functions of the tiles it loads. -/

@[expose] public section

noncomputable section

namespace Cert.KernelIdeal.Hand

open Cert.KernelIdeal.Gen
open Idealize.ShloMosaic

variable {F : FTy → Type} [FloatOps F] [Named F]

/-- A carried pair: the output tile so far and, per query row, the decay of the keys passed so far. -/
abbrev Carry (F : FTy → Type) := FVec F S256x128 .f32 × FVec F S256x1 .f32

/-- The base-two scores of a query tile against one block of keys. -/
def score (b : F .f32) (q kj : FVec F S256x128 .bf16) : FVec F S256x256 .f32 :=
  addf (matmul dot_S256x128_S256x128_S256x256_1_1_0_0_n_n none q kj (constant S256x256 .f32 0x00000000#32)) (broadcast S256x256 b)

/-- The base-two softplus of the scores. -/
def soft (z : FVec F S256x256 .f32) : FVec F S256x256 .f32 :=
  addf (maximumf z (broadcast S256x256 (Scalar.ofBits .f32 0x00000000#32)))
    (mulf (log (addf (broadcast S256x256 (Scalar.ofBits .f32 0x3F800000#32))
        (exp2 (minimumf z (subf (broadcast S256x256 (Scalar.ofBits .f32 0x00000000#32)) z)))))
      (broadcast S256x256 (Named.named κ "log2e" 0x3FB8AA3B#32)))

/-- A tile kept strictly below the diagonal, zero elsewhere. -/
def below (x : FVec F S256x256 .f32) : FVec F S256x256 .f32 :=
  select k0_pay460 x (broadcast S256x256 (Scalar.ofBits .f32 0x00000000#32))

/-- `below` where `mk` holds. -/
def cutIf (mk : Bool) (x : FVec F S256x256 .f32) : FVec F S256x256 .f32 := bif mk then below x else x

/-- The sums of a block's softplus over the keys from each one on. -/
def later (sp : FVec F S256x256 .f32) : FVec F S256x256 .f32 :=
  matmul dot_S256x256_S256x256_S256x256_1_0_0_1_n_n none (truncf .bf16 sp bitsLt_bf16_f32) k0_pay459
    (constant S256x256 .f32 0x00000000#32)

/-- The weights of a block from its scores, its later sums and the decay so far. -/
def weight (z cum : FVec F S256x256 .f32) (acc : FVec F S256x1 .f32) : FVec F S256x256 .f32 :=
  exp2 (subf (subf z cum) (broadcastTo S256x256 acc broadcasts_S256x1_S256x256))

/-- The weighted sum of a block's values. -/
def wsum (w : FVec F S256x256 .f32) (vj : FVec F S256x128 .bf16) : FVec F S256x128 .f32 :=
  matmul dot_S256x256_S256x128_S256x128_1_0_0_1_n_n none (truncf .bf16 w bitsLt_bf16_f32) vj (constant S256x128 .f32 0x00000000#32)

/-- Neighbours of a list added, an odd last one kept. -/
def pairUp {α : Type} (f : α → α → α) : List α → List α
  | a :: b :: l => f a b :: pairUp f l
  | l => l

/-- A list summed in a tree of `n` levels. -/
def treeSum {α : Type} (f : α → α → α) : ℕ → List α → List α
  | 0, l => l
  | n + 1, l => treeSum f n (pairUp f l)

section run
variable (mk : Bool) (b : F .f32) (q : FVec F S256x128 .bf16) (k v : ℕ → FVec F S256x128 .bf16) (acc : FVec F S256x1 .f32)

/-- Block `t`'s later sums; the first block is cut below the diagonal where `mk` holds. -/
def cumAt (t : ℕ) : FVec F S256x256 .f32 := later (cutIf (mk && t == 0) (soft (score b q (k t))))

/-- The decay before block `t`. -/
def accAt : ℕ → FVec F S256x1 .f32
  | 0 => acc
  | t + 1 => addf (accAt t) (extractStridedSlice S256x1 ![0, 0] (cumAt mk b q k t) slices_S256x256_o0_0_S256x1)

/-- Block `t`'s weighted values. -/
def pvAt (t : ℕ) : FVec F S256x128 .f32 :=
  wsum (cutIf (mk && t == 0) (weight (score b q (k t)) (cumAt mk b q k t) (accAt mk b q k acc t))) (v t)

/-- The weighted values of `n` blocks added in a tree. -/
def pvSum (n : ℕ) : FVec F S256x128 .f32 := (treeSum addf 4 ((List.range n).map (pvAt mk b q k v acc))).headD k0_pay461

end run

/-- `n` blocks run from a carried pair. -/
def runBlocks (mk : Bool) (b : F .f32) (q : FVec F S256x128 .bf16) (k v : ℕ → FVec F S256x128 .bf16) (n : ℕ) (c : Carry F) : Carry F :=
  (addf c.1 (pvSum mk b q k v c.2 n), accAt mk b q k c.2 n)

/-- The 256 by 128 tile of an array of 8192 rows from an offset on. -/
def tileOff {α : Type} (X : S8192x128.Idx → α) (off : Fin 2 → ℕ) : S256x128.Idx → α := fun x =>
  X (fun a => ⟨(off a + (x a).val) % S8192x128.size a, Nat.mod_lt _ (by revert a; decide)⟩)

/-- Rows `256 j` to `256 j + 255` of an array of 8192 rows. -/
def tileAt {α : Type} (X : S8192x128.Idx → α) (j : ℕ) : S256x128.Idx → α := tileOff X ![256 * j, 0]

section congr
variable {mk : Bool} {b : F .f32} {q : FVec F S256x128 .bf16} {k v k' v' : ℕ → FVec F S256x128 .bf16} {acc : FVec F S256x1 .f32}

theorem accAt_congr {n : ℕ} (hk : ∀ t, t < n → k t = k' t) : ∀ t, t ≤ n → accAt mk b q k acc t = accAt mk b q k' acc t
  | 0, _ => rfl
  | t + 1, ht => by
    unfold accAt cumAt
    rw [accAt_congr hk t (by omega), hk t (by omega)]

theorem runBlocks_congr {n : ℕ} {c : Carry F} (hk : ∀ t, t < n → k t = k' t) (hv : ∀ t, t < n → v t = v' t) :
    runBlocks mk b q k v n c = runBlocks mk b q k' v' n c := by
  unfold runBlocks pvSum
  rw [accAt_congr hk n le_rfl]
  congr 4
  refine List.map_congr_left fun t ht => ?_
  have ht := List.mem_range.mp ht
  unfold pvAt cumAt
  rw [accAt_congr hk t ht.le, hk t ht, hv t ht]

end congr

/-- The pair the first blocks start from. -/
def zeroCarry : Carry F := (k0_pay461, k0_pay462)

section tile
variable (b : F .f32) (q : FVec F S256x128 .bf16) (K V : FVec F S8192x128 .bf16)

/-- `n` blocks of the two arrays run downwards from block `j`. -/
def runFrom (mk : Bool) (j n : ℕ) (c : Carry F) : Carry F :=
  runBlocks mk b q (fun t => tileAt K (j - t)) (fun t => tileAt V (j - t)) n c

/-- The block the sixteens start from, at query tile `n`. -/
def topAt (n : ℕ) : ℕ := n - 1 - n % 8 - 8 * (n / 8 % 2)

/-- `m` sixteens run from a pair. -/
def sixteens (n : ℕ) (c : Carry F) : ℕ → Carry F
  | 0 => c
  | m + 1 => runFrom b q K V false (topAt n - 16 * m) 16 (sixteens n c m)

/-- Query tile `n` after its first blocks, one to eight of them. -/
def firsts (n : ℕ) : Carry F := runFrom b q K V true n (n % 8 + 1) zeroCarry

/-- The eight blocks taken where the tile's number has its bit three set. -/
def eights (n : ℕ) (c : Carry F) : Carry F := if n / 8 % 2 = 1 then runFrom b q K V false (n - 1 - n % 8) 8 c else c

/-- Query tile `n` after all its blocks. -/
def allBlocks (n : ℕ) : Carry F := sixteens b q K V n (eights b q K V n (firsts b q K V n)) (n / 16)

end tile

end Cert.KernelIdeal.Hand
end
-- ==== Proof.Body.lean ====
module

public import proofs.«01_k».proof.Proof.Gen.KernelIdeal.Frame
public import proofs.«01_k».proof.Proof.Gen.KernelIdeal.Loops
public import proofs.«01_k».proof.Proof.Spec
public import Idealize.ShloMosaic.Lib.LoopRemainder
public import Idealize.ShloMosaic.Lib.Tactic.Stretches
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

cut_chain part := k0_part52_skel at 4, 5

/-- A load of 256 rows of contents written out is their tile at the load's offset. -/
theorem load_off {m : Memref sig .tc .vmem S8192x128 .bf16} (h : m.IsWhole) (X : Vec F S8192x128 .bf16) {off : Fin 2 → ℕ}
    (inb : ∀ a, off a + S256x128.size a ≤ S8192x128.size a) :
    View.readAt (Elt F) m.view (Rect.unit (s := S8192x128) off S256x128.size inb).toLoadRect (h.unread X) = tileOff X off := by
  funext x
  show m.view.read (Elt F) (h.unread X) _ = _
  rw [h.read_unread]
  unfold tileOff
  refine congrArg X (funext fun a => Fin.ext ?_)
  have h1 := inb a
  have h2 : (x a).val < S256x128.size a := (x a).isLt
  show off a + 1 * (x a).val = (off a + (x a).val) % S8192x128.size a
  rw [Nat.mod_eq_of_lt (by omega), one_mul]

/-- The word arithmetic of the switch's offsets. -/
theorem off_first (n t : Fin 32) (h : t.val ≤ n.val) :
    (Scalar.indexCast (Scalar.muli (Scalar.subi (BitVec.ofNat 32 n.val) (BitVec.ofNat 32 t.val)) 256#32)).toNat = 256 * (n.val - t.val) := by
  revert n t; decide +kernel

theorem off_eight (n : Fin 32) (t : Fin 8) (h : 8 ≤ n.val) :
    (Scalar.indexCast (Scalar.muli (Scalar.subi (Scalar.subi (Scalar.subi (BitVec.ofNat 32 n.val) 1#32)
      (Scalar.andi (BitVec.ofNat 32 n.val) 7#32)) (BitVec.ofNat 32 t.val)) 256#32)).toNat = 256 * (n.val - 1 - n.val % 8 - t.val) := by
  revert n t; decide +kernel

theorem off_sixteen (n : Fin 32) (m : Fin 2) (t : Fin 16) (h : 16 * (m.val + 1) ≤ n.val) :
    (Scalar.indexCast (Scalar.muli (Scalar.subi (Scalar.subi (Scalar.subi (Scalar.subi (Scalar.subi (BitVec.ofNat 32 n.val) 1#32)
      (Scalar.andi (BitVec.ofNat 32 n.val) 7#32)) (Scalar.muli (Scalar.andi (Scalar.shrui (BitVec.ofNat 32 n.val) 3#32) 1#32) 8#32))
      (Scalar.muli (Scf.iv 0#32 1#32 m.val) 16#32)) (BitVec.ofNat 32 t.val)) 256#32)).toNat = 256 * (topAt n.val - 16 * m.val - t.val) := by
  revert n m t; decide +kernel

/-- Which of the eight variants the switch takes. -/
theorem cond2_iff (i : grid0.Coords) : k0_cond2 i = 1#1 ↔ 1 ≤ (i 2).val % 8 := by
  unfold k0_cond2; generalize i 2 = n; revert n; decide +kernel
theorem cond3_iff (i : grid0.Coords) (h : 1 ≤ (i 2).val % 8) : k0_cond3 i = 1#1 ↔ 2 ≤ (i 2).val % 8 := by
  revert h; unfold k0_cond3; generalize i 2 = n; revert n; decide +kernel
theorem cond4_iff (i : grid0.Coords) (h : 2 ≤ (i 2).val % 8) : k0_cond4 i = 1#1 ↔ 3 ≤ (i 2).val % 8 := by
  revert h; unfold k0_cond4; generalize i 2 = n; revert n; decide +kernel
theorem cond5_iff (i : grid0.Coords) (h : 3 ≤ (i 2).val % 8) : k0_cond5 i = 1#1 ↔ 4 ≤ (i 2).val % 8 := by
  revert h; unfold k0_cond5; generalize i 2 = n; revert n; decide +kernel
theorem cond6_iff (i : grid0.Coords) (h : 4 ≤ (i 2).val % 8) : k0_cond6 i = 1#1 ↔ 5 ≤ (i 2).val % 8 := by
  revert h; unfold k0_cond6; generalize i 2 = n; revert n; decide +kernel
theorem cond7_iff (i : grid0.Coords) (h : 5 ≤ (i 2).val % 8) : k0_cond7 i = 1#1 ↔ 6 ≤ (i 2).val % 8 := by
  revert h; unfold k0_cond7; generalize i 2 = n; revert n; decide +kernel
theorem cond8_iff (i : grid0.Coords) (h : 6 ≤ (i 2).val % 8) : k0_cond8 i = 1#1 ↔ 7 ≤ (i 2).val % 8 := by
  revert h; unfold k0_cond8; generalize i 2 = n; revert n; decide +kernel
theorem cond9_iff (i : grid0.Coords) : k0_cond9 i = 1#1 ↔ (i 2).val / 8 % 2 = 1 := by
  unfold k0_cond9; generalize i 2 = n; revert n; decide +kernel

/-- An offset of the switch: every variant computes it alike. -/
theorem off_switch (i : grid0.Coords) (t : ℕ) (h : t ≤ (i 2).val) {r : ℕ}
    (hr : r = (Scalar.indexCast (Scalar.muli (Scalar.subi (BitVec.ofNat 32 (i 2).val) (BitVec.ofNat 32 t)) 256#32)).toNat) :
    (![r, 0] : Fin 2 → ℕ) = ![256 * ((i 2).val - t), 0] := by
  have hn : (i 2).val < 32 := (i 2).isLt
  rw [hr, off_first ⟨(i 2).val, hn⟩ ⟨t, by omega⟩ h]

section value
variable {b : F .f32} {q : FVec F S256x128 .bf16} {s8 s9 : Vec F S8192x128 .bf16}

/-- A variant of the switch computes the first blocks, from what it loads. -/
theorem firsts_of {n m : ℕ} (hm : m = n % 8 + 1) {o : FVec F S256x128 .f32} {a : FVec F S256x1 .f32} (off : ℕ → Fin 2 → ℕ)
    (hoff : ∀ t, t < m → t ≤ n → off t = ![256 * (n - t), 0])
    (h1 : o = (runBlocks true b q (fun t => tileOff s8 (off t)) (fun t => tileOff s9 (off t)) m zeroCarry).1)
    (h2 : a = (runBlocks true b q (fun t => tileOff s8 (off t)) (fun t => tileOff s9 (off t)) m zeroCarry).2) :
    o = (firsts b q s8 s9 n).1 ∧ a = (firsts b q s8 s9 n).2 := by
  have e : runBlocks true b q (fun t => tileOff s8 (off t)) (fun t => tileOff s9 (off t)) m zeroCarry = firsts b q s8 s9 n := by
    unfold firsts runFrom
    rw [← hm]
    refine runBlocks_congr (fun t ht => ?_) fun t ht => ?_ <;> exact congrArg _ (hoff t ht (by omega))
  rw [h1, h2, e]; exact ⟨rfl, rfl⟩

end value

/-- What the core holds of the two scratch arrays. -/
abbrev Held (c : Dev nD) {arg8 : Memref sig .tc .vmem S8192x128 .bf16} (harg8 : arg8.IsWhole) {arg9 : Memref sig .tc .vmem S8192x128 .bf16} (harg9 : arg9.IsWhole)
    (s8 s9 : Vec F S8192x128 .bf16) : sProp 𝕄 :=
  iprop((arg8.view.loc (c : Thread nD τ) ↦[arg8.view.set]{fullShare} harg8.unread s8) ∗ (arg9.view.loc (c : Thread nD τ) ↦[arg9.view.set]{fullShare} harg9.unread s9))

set_option maxHeartbeats 4000000 in
/-- The switch leaves the first blocks' pair. -/
theorem run_switch (c : Dev nD) (i : grid0.Coords) (arg3 : Memref sig .tc .smem S8 .f32) (harg3 : arg3.IsWhole) (arg4 : Memref sig .tc .vmem S256x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S256x128 .bf16) (harg7 : arg7.IsWhole) (arg8 : Memref sig .tc .vmem S8192x128 .bf16) (harg8 : arg8.IsWhole) (arg9 : Memref sig .tc .vmem S8192x128 .bf16) (harg9 : arg9.IsWhole)
    (v4 : F .f32) (v6 : Vec F S256x128 .f32) (s8 s9 : Vec F S8192x128 .bf16) (R : Type) (κ : FVec F S256x128 .f32 → FVec F S256x1 .f32 → Prog (TpuEff nD τ sig (Elt F) Λ₀ .tc) R)
      (E : Set ℕ) (Q : R → sProp 𝕄) :
        iprop(Held c harg8 harg9 s8 s9
          ∗ (∀ o a, ⌜o = (firsts (k0_pay457 v4) (k0_pay458 v6) s8 s9 (i 2).val).1 ∧ a = (firsts (k0_pay457 v4) (k0_pay458 v6) s8 s9 (i 2).val).2⌝ -∗ Held c harg8 harg9 s8 s9
            -∗ wp frame (wpE (defs₀ (F := F)) Variants.none c none) E (κ o a) Q))
          ⊢ wp frame (wpE (defs₀ (F := F)) Variants.none c none) E (part2 i arg3 harg3 arg4 harg4 arg5 harg5 arg6 harg6 arg7 harg7 arg8 harg8 arg9 harg9 v4 v6 κ) Q := by
    iintro ⟨⟨H8, H9⟩, Hκ⟩
    unfold part2
    by_cases h2 : 1 ≤ (i 2).val % 8
    · have c2 := (cond2_iff i).mpr h2
      by_cases h3 : 2 ≤ (i 2).val % 8
      · have c3 := (cond3_iff i h2).mpr h3
        by_cases h4 : 3 ≤ (i 2).val % 8
        · have c4 := (cond4_iff i h3).mpr h4
          by_cases h5 : 4 ≤ (i 2).val % 8
          · have c5 := (cond5_iff i h4).mpr h5
            by_cases h6 : 5 ≤ (i 2).val % 8
            · have c6 := (cond6_iff i h5).mpr h6
              by_cases h7 : 6 ≤ (i 2).val % 8
              · have c7 := (cond7_iff i h6).mpr h7
                by_cases h8 : 7 ≤ (i 2).val % 8
                · have c8 := (cond8_iff i h7).mpr h8
                  sl_exec (disch := first | sl_exact c2 | sl_exact c3 | sl_exact c4 | sl_exact c5 | sl_exact c6 | sl_exact c7 | sl_exact c8)
                  iapply Hκ
                  · ipureintro
                    refine firsts_of (m := 8) (by omega) (fun t => k0_off2 i (BitVec.ofNat 32 t)) (fun t _ ht => off_switch i t ht rfl) ?_ ?_ <;>
                      (sl_open_run; simp -proj only [load_off]; sl_open_pay; rfl)
                  · isplitl [H8]; · iexact H8
                    iexact H9
                · have c8 := mt (cond8_iff i h7).mp h8
                  sl_exec (disch := first | sl_exact c2 | sl_exact c3 | sl_exact c4 | sl_exact c5 | sl_exact c6 | sl_exact c7 | sl_exact c8)
                  iapply Hκ
                  · ipureintro
                    refine firsts_of (m := 7) (by omega) (fun t => k0_off3 i (BitVec.ofNat 32 t)) (fun t _ ht => off_switch i t ht rfl) ?_ ?_ <;>
                      (sl_open_run; simp -proj only [load_off]; sl_open_pay; rfl)
                  · isplitl [H8]; · iexact H8
                    iexact H9
              · have c7 := mt (cond7_iff i h6).mp h7
                sl_exec (disch := first | sl_exact c2 | sl_exact c3 | sl_exact c4 | sl_exact c5 | sl_exact c6 | sl_exact c7)
                iapply Hκ
                · ipureintro
                  refine firsts_of (m := 6) (by omega) (fun t => k0_off4 i (BitVec.ofNat 32 t)) (fun t _ ht => off_switch i t ht rfl) ?_ ?_ <;>
                    (sl_open_run; simp -proj only [load_off]; sl_open_pay; rfl)
                · isplitl [H8]; · iexact H8
                  iexact H9
            · have c6 := mt (cond6_iff i h5).mp h6
              sl_exec (disch := first | sl_exact c2 | sl_exact c3 | sl_exact c4 | sl_exact c5 | sl_exact c6)
              iapply Hκ
              · ipureintro
                refine firsts_of (m := 5) (by omega) (fun t => k0_off5 i (BitVec.ofNat 32 t)) (fun t _ ht => off_switch i t ht rfl) ?_ ?_ <;>
                  (sl_open_run; simp -proj only [load_off]; sl_open_pay; rfl)
              · isplitl [H8]; · iexact H8
                iexact H9
          · have c5 := mt (cond5_iff i h4).mp h5
            sl_exec (disch := first | sl_exact c2 | sl_exact c3 | sl_exact c4 | sl_exact c5)
            iapply Hκ
            · ipureintro
              refine firsts_of (m := 4) (by omega) (fun t => k0_off6 i (BitVec.ofNat 32 t)) (fun t _ ht => off_switch i t ht rfl) ?_ ?_ <;>
                (sl_open_run; simp -proj only [load_off]; sl_open_pay; rfl)
            · isplitl [H8]; · iexact H8
              iexact H9
        · have c4 := mt (cond4_iff i h3).mp h4
          sl_exec (disch := first | sl_exact c2 | sl_exact c3 | sl_exact c4)
          iapply Hκ
          · ipureintro
            refine firsts_of (m := 3) (by omega) (fun t => k0_off7 i (BitVec.ofNat 32 t)) (fun t _ ht => off_switch i t ht rfl) ?_ ?_ <;>
              (sl_open_run; simp -proj only [load_off]; sl_open_pay; rfl)
          · isplitl [H8]; · iexact H8
            iexact H9
      · have c3 := mt (cond3_iff i h2).mp h3
        sl_exec (disch := first | sl_exact c2 | sl_exact c3)
        iapply Hκ
        · ipureintro
          refine firsts_of (m := 2) (by omega) (fun t => k0_off8 i (BitVec.ofNat 32 t)) (fun t _ ht => off_switch i t ht rfl) ?_ ?_ <;>
            (sl_open_run; simp -proj only [load_off]; sl_open_pay; rfl)
        · isplitl [H8]; · iexact H8
          iexact H9
    · have c2 := mt (cond2_iff i).mp h2
      sl_exec (disch := sl_exact c2)
      iapply Hκ
      · ipureintro
        have h0 : ∀ t, t < 1 → t ≤ (i 2).val → k0_off9 i = ![256 * ((i 2).val - t), 0] := fun t h ht => by
          obtain rfl : t = 0 := Nat.lt_one_iff.mp h
          exact off_switch i 0 ht rfl
        refine firsts_of (m := 1) (by omega) (fun _ => k0_off9 i) h0 ?_ ?_ <;>
          (sl_open_run; simp -proj only [load_off]; sl_open_pay; rfl)
      · isplitl [H8]; · iexact H8
        iexact H9

/-- The offsets of the group of eight. -/
theorem off_group (i : grid0.Coords) (h9 : (i 2).val / 8 % 2 = 1) (t : ℕ) (ht : t < 8) :
    k0_off10 i (BitVec.ofNat 32 t) = ![256 * ((i 2).val - 1 - (i 2).val % 8 - t), 0] := by
  have hn : (i 2).val < 32 := (i 2).isLt
  have := off_eight ⟨(i 2).val, hn⟩ ⟨t, ht⟩ (by show 8 ≤ (i 2).val; omega)
  show (![(Scalar.indexCast _).toNat, 0] : Fin 2 → ℕ) = _
  rw [this]

set_option maxHeartbeats 4000000 in
/-- The conditional group leaves the pair with eight more blocks where it is taken. -/
theorem run_group (c : Dev nD) (i : grid0.Coords) (arg3 : Memref sig .tc .smem S8 .f32) (harg3 : arg3.IsWhole) (arg4 : Memref sig .tc .vmem S256x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S256x128 .bf16) (harg7 : arg7.IsWhole) (arg8 : Memref sig .tc .vmem S8192x128 .bf16) (harg8 : arg8.IsWhole) (arg9 : Memref sig .tc .vmem S8192x128 .bf16) (harg9 : arg9.IsWhole)
    (v4 : F .f32) (v6 : Vec F S256x128 .f32) (o : FVec F S256x128 .f32) (a : FVec F S256x1 .f32) (s8 s9 : Vec F S8192x128 .bf16) (R : Type) (κ : FVec F S256x128 .f32 → FVec F S256x1 .f32 → Prog (TpuEff nD τ sig (Elt F) Λ₀ .tc) R)
      (E : Set ℕ) (Q : R → sProp 𝕄) :
        iprop(Held c harg8 harg9 s8 s9
          ∗ (∀ o' a', ⌜(o', a') = eights (k0_pay457 v4) (k0_pay458 v6) s8 s9 (i 2).val (o, a)⌝ -∗ Held c harg8 harg9 s8 s9
            -∗ wp frame (wpE (defs₀ (F := F)) Variants.none c none) E (κ o' a') Q))
          ⊢ wp frame (wpE (defs₀ (F := F)) Variants.none c none) E (part3 i arg3 harg3 arg4 harg4 arg5 harg5 arg6 harg6 arg7 harg7 arg8 harg8 arg9 harg9 v4 v6 o a κ) Q := by
  iintro ⟨⟨H8, H9⟩, Hκ⟩
  unfold part3 eights
  by_cases h9 : (i 2).val / 8 % 2 = 1
  · have c9 := (cond9_iff i).mpr h9
    rw [if_pos h9]
    sl_exec (disch := sl_exact c9)
    iapply Hκ
    · ipureintro
      refine Eq.trans (b := runBlocks false (k0_pay457 v4) (k0_pay458 v6) (fun t => tileOff s8 (k0_off10 i (BitVec.ofNat 32 t)))
        (fun t => tileOff s9 (k0_off10 i (BitVec.ofNat 32 t))) 8 (o, a)) ?_
        (runBlocks_congr (fun t ht => congrArg _ (off_group i h9 t ht)) fun t ht => congrArg _ (off_group i h9 t ht))
      refine Prod.ext ?_ ?_ <;> (sl_open_run; simp -proj only [load_off]; sl_open_pay; rfl)
    · isplitl [H8]; · iexact H8
      iexact H9
  · have c9 := mt (cond9_iff i).mp h9
    rw [if_neg h9]
    sl_exec (disch := sl_exact c9)
    iapply Hκ
    · ipureintro; rfl
    · isplitl [H8]; · iexact H8
      iexact H9

/-- The loop makes one trip per sixteen blocks left. -/
theorem trips_eq (i : grid0.Coords) : Scf.trips (k0_t1_loop i).lb (k0_t1_loop i).ub (k0_t1_loop i).st = (i 2).val / 16 := by
  unfold k0_t1_loop; generalize i 2 = n; revert n; decide +kernel

/-- The offsets of a trip. -/
theorem off_trip (i : grid0.Coords) (k : Fin (k0_t1_loop i).trips) (t : ℕ) (ht : t < 16) :
    k0_off11 i k (BitVec.ofNat 32 t) = ![256 * (topAt (i 2).val - 16 * k.val - t), 0] := by
  have hn : (i 2).val < 32 := (i 2).isLt
  have hk : k.val < (i 2).val / 16 := lt_of_lt_of_eq k.isLt (trips_eq i)
  have := off_sixteen ⟨(i 2).val, hn⟩ ⟨k.val, by omega⟩ ⟨t, ht⟩ (by show 16 * (k.val + 1) ≤ (i 2).val; omega)
  show (![(Scalar.indexCast _).toNat, 0] : Fin 2 → ℕ) = _
  rw [← this]

set_option maxHeartbeats 4000000 in
/-- A trip runs sixteen blocks. -/
theorem trip_eq (c : Dev nD) (i : grid0.Coords) (arg3 : Memref sig .tc .smem S8 .f32) (harg3 : arg3.IsWhole) (arg4 : Memref sig .tc .vmem S256x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S256x128 .bf16) (harg7 : arg7.IsWhole) (arg8 : Memref sig .tc .vmem S8192x128 .bf16) (harg8 : arg8.IsWhole) (arg9 : Memref sig .tc .vmem S8192x128 .bf16) (harg9 : arg9.IsWhole)
    (b : F .f32) (q : FVec F S256x128 .bf16) (v36 : BitVec 32) (s8 s9 : Vec F S8192x128 .bf16) (k : Fin (k0_t1_loop i).trips) (acc : Carry F) :
    (trip_k0_t1 Variants.none c none i arg3 harg3 arg4 harg4 arg5 harg5 arg6 harg6 arg7 harg7 arg8 harg8 arg9 harg9 b q k0_pay459 v36 (harg8.unread s8) (harg9.unread s9) k).1 acc
      = runFrom b q s8 s9 false (topAt (i 2).val - 16 * k.val) 16 acc := by
  refine Eq.trans (b := runBlocks false b q (fun t => tileOff s8 (k0_off11 i k (BitVec.ofNat 32 t)))
    (fun t => tileOff s9 (k0_off11 i k (BitVec.ofNat 32 t))) 16 acc) ?_
    (runBlocks_congr (fun t ht => congrArg _ (off_trip i k t ht)) fun t ht => congrArg _ (off_trip i k t ht))
  unfold trip_k0_t1
  refine Prod.ext ?_ ?_ <;> (sl_open_run; simp -proj only [load_off]; sl_open_pay; rfl)

/-- The loop's carried pair before trip `m`. -/
theorem st_eq (c : Dev nD) (i : grid0.Coords) (arg3 : Memref sig .tc .smem S8 .f32) (harg3 : arg3.IsWhole) (arg4 : Memref sig .tc .vmem S256x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S256x128 .bf16) (harg7 : arg7.IsWhole) (arg8 : Memref sig .tc .vmem S8192x128 .bf16) (harg8 : arg8.IsWhole) (arg9 : Memref sig .tc .vmem S8192x128 .bf16) (harg9 : arg9.IsWhole)
    (b : F .f32) (q : FVec F S256x128 .bf16) (v36 : BitVec 32) (s8 s9 : Vec F S8192x128 .bf16) (acc : Carry F) :
    ∀ m : ℕ, m ≤ (k0_t1_loop i).trips →
      st_k0_t1 Variants.none c none i arg3 harg3 arg4 harg4 arg5 harg5 arg6 harg6 arg7 harg7 arg8 harg8 arg9 harg9 b q k0_pay459 v36 (harg8.unread s8) (harg9.unread s9) acc m
        = sixteens b q s8 s9 (i 2).val acc m
  | 0, _ => rfl
  | m + 1, hm => by
    rw [st_k0_t1_succ Variants.none c none i arg3 harg3 arg4 harg4 arg5 harg5 arg6 harg6 arg7 harg7 arg8 harg8 arg9 harg9 b q k0_pay459 v36 (harg8.unread s8) (harg9.unread s9) acc ⟨m, hm⟩,
      st_eq c i arg3 harg3 arg4 harg4 arg5 harg5 arg6 harg6 arg7 harg7 arg8 harg8 arg9 harg9 b q v36 s8 s9 acc m (by omega)]
    exact trip_eq c i arg3 harg3 arg4 harg4 arg5 harg5 arg6 harg6 arg7 harg7 arg8 harg8 arg9 harg9 b q v36 s8 s9 ⟨m, hm⟩ _

/-- Head `h`'s bias. -/
def biasAt {α : Type} (x : S8.Idx → α) (h : ℕ) : α := x (fun a => ⟨h % S8.size a, Nat.mod_lt _ (by revert a; decide)⟩)

/-- The bias the kernel loads. -/
theorem load_bias {m : Memref sig .tc .smem S8 .f32} (h : m.IsWhole) (X : Vec F S8 .f32) (i : grid0.Coords)
    (x : (Rect.unit (s := S8) (k0_off1 i) S1.size (k0_off1_inb i)).toLoadRect.shape.Idx) :
    View.readAt (Elt F) m.view (Rect.unit (s := S8) (k0_off1 i) S1.size (k0_off1_inb i)).toLoadRect (h.unread X) x = biasAt X (i 1).val := by
  show m.view.read (Elt F) (h.unread X) _ = _
  rw [h.read_unread]
  unfold biasAt
  refine congrArg X (funext fun a => Fin.ext ?_)
  have h1 := k0_off1_inb i a
  have hn : (i 1).val < 8 := (i 1).isLt
  have h2 : (x a).val < S1.size a := (x a).isLt
  obtain rfl : a = 0 := Subsingleton.elim _ _
  have h3 : (x 0).val < 1 := h2
  have e : k0_off1 i 0 = (i 1).val := by
    unfold k0_off1; generalize i 1 = n; revert n; decide +kernel
  show k0_off1 i 0 + 1 * (x 0).val = (i 1).val % 8
  rw [e]; omega

/-- The scratch arrays after the first step: the keys' or values' array rounded at a head's first tile, what they held elsewhere. -/
def filled (n : ℕ) (x : Vec F S8192x128 .f32) (s : Vec F S8192x128 .bf16) : Vec F S8192x128 .bf16 := if n = 0 then k0_pay455 x else s

/-- The condition of the first step. -/
theorem cond1_iff (i : grid0.Coords) :
    Scalar.cmpi .ne (Scalar.extui (Scalar.cmpi .eq (BitVec.ofNat 32 (i 2).val) 0#32)) 0#32 = 1#1 ↔ (i 2).val = 0 := by
  generalize i 2 = n; revert n; decide +kernel

set_option maxHeartbeats 4000000 in
/-- The body up to the switch: the scratch filled at a head's first tile, the bias and the queries loaded. -/
theorem run_loads (c : Dev nD) (i : grid0.Coords) (arg3 : Memref sig .tc .smem S8 .f32) (harg3 : arg3.IsWhole) (arg4 : Memref sig .tc .vmem S256x128 .f32) (harg4 : arg4.IsWhole) (arg5 : Memref sig .tc .vmem S8192x128 .f32) (harg5 : arg5.IsWhole) (arg6 : Memref sig .tc .vmem S8192x128 .f32) (harg6 : arg6.IsWhole) (arg8 : Memref sig .tc .vmem S8192x128 .bf16) (harg8 : arg8.IsWhole) (arg9 : Memref sig .tc .vmem S8192x128 .bf16) (harg9 : arg9.IsWhole)
    (x0 : Vec F S8 .f32) (x1 : Vec F S256x128 .f32) (x2 x3 : Vec F S8192x128 .f32) (s8 s9 : Vec F S8192x128 .bf16)
    (R : Type) (κ : F .f32 → Vec F S256x128 .f32 → Prog (TpuEff nD τ sig (Elt F) Λ₀ .tc) R) (E : Set ℕ) (Q : R → sProp 𝕄) :
        iprop((arg3.view.loc (c : Thread nD τ) ↦[arg3.view.set]{fullShare} harg3.unread x0) ∗ (arg4.view.loc (c : Thread nD τ) ↦[arg4.view.set]{fullShare} harg4.unread x1)
          ∗ (arg5.view.loc (c : Thread nD τ) ↦[arg5.view.set]{fullShare} harg5.unread x2) ∗ (arg6.view.loc (c : Thread nD τ) ↦[arg6.view.set]{fullShare} harg6.unread x3)
          ∗ Held c harg8 harg9 s8 s9
          ∗ (∀ a b, ⌜a = biasAt x0 (i 1).val ∧ b = x1⌝ -∗ ((arg3.view.loc (c : Thread nD τ) ↦[arg3.view.set]{fullShare} harg3.unread x0) ∗ (arg4.view.loc (c : Thread nD τ) ↦[arg4.view.set]{fullShare} harg4.unread x1)
          ∗ (arg5.view.loc (c : Thread nD τ) ↦[arg5.view.set]{fullShare} harg5.unread x2) ∗ (arg6.view.loc (c : Thread nD τ) ↦[arg6.view.set]{fullShare} harg6.unread x3)
          ∗ Held c harg8 harg9 (filled (i 2).val x2 s8) (filled (i 2).val x3 s9))
            -∗ wp frame (wpE (defs₀ (F := F)) Variants.none c none) E (κ a b) Q))
          ⊢ wp frame (wpE (defs₀ (F := F)) Variants.none c none) E (part1 i arg3 arg4 arg5 arg6 arg8 harg8 arg9 harg9 κ) Q := by
  iintro ⟨H3, H4, H5, H6, ⟨H8, H9⟩, Hκ⟩
  unfold part1 filled
  by_cases h0 : (i 2).val = 0
  · have c1 := (cond1_iff i).mpr h0
    rw [if_pos h0, if_pos h0]
    sl_exec (disch := sl_exact c1)
    iapply Hκ
    · ipureintro
      refine ⟨?_, (View.readAt_full _ _ _).trans (harg4.read_unread x1)⟩
      sl_open_run; exact load_bias harg3 x0 i _
    · isplitl [H3]; · iexact H3
      isplitl [H4]; · iexact H4
      isplitl [H5]; · iexact H5
      isplitl [H6]; · iexact H6
      rw [harg8.eq_unread (View.read_writes_full arg8.view _ _ _ []), harg9.eq_unread (View.read_writes_full arg9.view _ _ _ []),
        View.readAt_full arg5.view, View.readAt_full arg6.view, harg5.read_unread, harg6.read_unread]
      isplitl [H8]; · iexact H8
      iexact H9
  · have c1 := mt (cond1_iff i).mp h0
    rw [if_neg h0, if_neg h0]
    sl_exec (disch := sl_exact c1)
    iapply Hκ
    · ipureintro
      refine ⟨?_, (View.readAt_full _ _ _).trans (harg4.read_unread x1)⟩
      sl_open_run; exact load_bias harg3 x0 i _
    · isplitl [H3]; · iexact H3
      isplitl [H4]; · iexact H4
      isplitl [H5]; · iexact H5
      isplitl [H6]; · iexact H6
      isplitl [H8]; · iexact H8
      iexact H9

/-- The block the kernel stores at tile `n` of head `h`: from the bias, the queries, and the scratch arrays. -/
def tileOut (h n : ℕ) (x0 : Vec F S8 .f32) (x1 : Vec F S256x128 .f32) (s8 s9 : Vec F S8192x128 .bf16) : Vec F S256x128 .bf16 :=
  k0_pay5 (allBlocks (k0_pay457 (biasAt x0 h)) (k0_pay458 x1) s8 s9 n).1

set_option maxHeartbeats 4000000 in
/-- What the body's main part hands on to the loop. -/
theorem run_part (c : Dev nD) (i : grid0.Coords) (arg3 : Memref sig .tc .smem S8 .f32) (harg3 : arg3.IsWhole) (arg4 : Memref sig .tc .vmem S256x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S256x128 .bf16) (harg7 : arg7.IsWhole) (arg8 : Memref sig .tc .vmem S8192x128 .bf16) (harg8 : arg8.IsWhole) (arg9 : Memref sig .tc .vmem S8192x128 .bf16) (harg9 : arg9.IsWhole)
    (x0 : Vec F S8 .f32) (x1 : Vec F S256x128 .f32) (x2 x3 : Vec F S8192x128 .f32) (s8 s9 : Vec F S8192x128 .bf16) (E : Set ℕ) :
    let b : F .f32 := k0_pay457 (biasAt x0 (i 1).val);
    let q := k0_pay458 (F := F) x1;
    let t8 := filled (i 2).val x2 s8;
    let t9 := filled (i 2).val x3 s9;
    iprop((arg3.view.loc (c : Thread nD τ) ↦[arg3.view.set]{fullShare} harg3.unread x0) ∗ (arg4.view.loc (c : Thread nD τ) ↦[arg4.view.set]{fullShare} harg4.unread x1)
          ∗ (arg5.view.loc (c : Thread nD τ) ↦[arg5.view.set]{fullShare} harg5.unread x2) ∗ (arg6.view.loc (c : Thread nD τ) ↦[arg6.view.set]{fullShare} harg6.unread x3)
          ∗ Held c harg8 harg9 s8 s9)
        ⊢ wp frame (wpE (defs₀ (F := F)) Variants.none c none) E (k0_part52 i arg3 harg3 arg4 harg4 arg5 harg5 arg6 harg6 arg7 harg7 arg8 harg8 arg9 harg9)
          (fun y => iprop(⌜∃ w w', y = ⟨BitVec.ofNat 32 (i 2).val, b, q, k0_pay459, w,
              (eights b q t8 t9 (i 2).val (firsts b q t8 t9 (i 2).val)).1, (eights b q t8 t9 (i 2).val (firsts b q t8 t9 (i 2).val)).2, w'⟩⌝
            ∗ (arg3.view.loc (c : Thread nD τ) ↦[arg3.view.set]{fullShare} harg3.unread x0) ∗ (arg4.view.loc (c : Thread nD τ) ↦[arg4.view.set]{fullShare} harg4.unread x1)
            ∗ (arg5.view.loc (c : Thread nD τ) ↦[arg5.view.set]{fullShare} harg5.unread x2) ∗ (arg6.view.loc (c : Thread nD τ) ↦[arg6.view.set]{fullShare} harg6.unread x3)
            ∗ Held c harg8 harg9 t8 t9)) := by
  intro b q t8 t9
  rw [k0_part52_eq_skeleton, part1.eq]
  iintro ⟨H3, H4, H5, H6, HH⟩
  iapply run_loads c i arg3 harg3 arg4 harg4 arg5 harg5 arg6 harg6 arg8 harg8 arg9 harg9 x0 x1 x2 x3 s8 s9
  isplitl [H3]; · iexact H3
  isplitl [H4]; · iexact H4
  isplitl [H5]; · iexact H5
  isplitl [H6]; · iexact H6
  isplitl [HH]; · iexact HH
  iintro %v4 %v6 %hv ⟨H3, H4, H5, H6, HH⟩
  obtain ⟨rfl, rfl⟩ := hv
  rw [part2.eq]
  iapply run_switch c i arg3 harg3 arg4 harg4 arg5 harg5 arg6 harg6 arg7 harg7 arg8 harg8 arg9 harg9 _ _ t8 t9
  isplitl [HH]; · iexact HH
  iintro %o %a %hv HH
  obtain ⟨rfl, rfl⟩ := hv
  rw [part3.eq]
  iapply run_group c i arg3 harg3 arg4 harg4 arg5 harg5 arg6 harg6 arg7 harg7 arg8 harg8 arg9 harg9 _ _ _ _ t8 t9
  isplitl [HH]; · iexact HH
  iintro %o %a %hv HH
  unfold part3.tail
  sl_exec
  sl_step
  isplitr
  · ipureintro
    rw [show eights b q t8 t9 (i 2).val (firsts b q t8 t9 (i 2).val) = (o, a) from hv.symm]
    exact ⟨_, _, rfl⟩
  isplitl [H3]; · iexact H3
  isplitl [H4]; · iexact H4
  isplitl [H5]; · iexact H5
  isplitl [H6]; · iexact H6
  iexact HH

set_option maxHeartbeats 4000000 in
/-- THE BODY at a point: the output's buffer ends at `tileOut`, the scratch arrays filled. -/
theorem run_body (c : Dev nD) (i : grid0.Coords) (arg3 : Memref sig .tc .smem S8 .f32) (harg3 : arg3.IsWhole) (arg4 : Memref sig .tc .vmem S256x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S256x128 .bf16) (harg7 : arg7.IsWhole) (arg8 : Memref sig .tc .vmem S8192x128 .bf16) (harg8 : arg8.IsWhole) (arg9 : Memref sig .tc .vmem S8192x128 .bf16) (harg9 : arg9.IsWhole)
    (x0 : Vec F S8 .f32) (x1 : Vec F S256x128 .f32) (x2 x3 : Vec F S8192x128 .f32) (s8 s9 : Vec F S8192x128 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ (∃ d, owns (c : Thread nD τ) arg7 fullShare d) ∗ owns (c : Thread nD τ) arg8 fullShare s8 ∗ owns (c : Thread nD τ) arg9 fullShare s9
        ∗ (iprop(owns (c : Thread nD τ) arg3 fullShare x0 ∗ owns (c : Thread nD τ) arg4 fullShare x1 ∗ owns (c : Thread nD τ) arg5 fullShare x2 ∗ owns (c : Thread nD τ) arg6 fullShare x3
          ∗ owns (c : Thread nD τ) arg7 fullShare (tileOut (i 1).val (i 2).val x0 x1 (filled (i 2).val x2 s8) (filled (i 2).val x3 s9))
          ∗ owns (c : Thread nD τ) arg8 fullShare (filled (i 2).val x2 s8) ∗ owns (c : Thread nD τ) arg9 fullShare (filled (i 2).val x3 s9)) -∗ K ⟨⟩))
      ⊢ wp frame (wpE (defs₀ (F := F)) Variants.none c none) E (cc0_sb_prompt i arg3 harg3 arg4 harg4 arg5 harg5 arg6 harg6 arg7 harg7 arg8 harg8 arg9 harg9) K := by
  simp only [cc0_sb_prompt_eq_skeleton]; unfold cc0_sb_prompt_skel
  unfold owns
  iintro ⟨⟨%f3, %h3, H3⟩, ⟨%f4, %h4, H4⟩, ⟨%f5, %h5, H5⟩, ⟨%f6, %h6, H6⟩, ⟨%d7, %f7, -, H7⟩, ⟨%f8, %h8, H8⟩, ⟨%f9, %h9, H9⟩, Hk⟩
  obtain rfl := harg3.eq_unread h3; obtain rfl := harg4.eq_unread h4; obtain rfl := harg5.eq_unread h5; obtain rfl := harg6.eq_unread h6
  obtain rfl := harg8.eq_unread h8; obtain rfl := harg9.eq_unread h9
  rw [wp_bind]
  iapply wp_wand_r
  isplitl [H3 H4 H5 H6 H8 H9]
  · iapply run_part c i arg3 harg3 arg4 harg4 arg5 harg5 arg6 harg6 arg7 harg7 arg8 harg8 arg9 harg9 x0 x1 x2 x3 s8 s9
    isplitl [H3]; · iexact H3
    isplitl [H4]; · iexact H4
    isplitl [H5]; · iexact H5
    isplitl [H6]; · iexact H6
    isplitl [H8]; · iexact H8
    iexact H9
  iintro %y ⟨%hy, H3, H4, H5, H6, ⟨H8, H9⟩⟩
  obtain ⟨w, w', rfl⟩ := hy
  sl_exec
  sl_step
  iapply Hk
  rw [st_eq c i arg3 harg3 arg4 harg4 arg5 harg5 arg6 harg6 arg7 harg7 arg8 harg8 arg9 harg9 _ _ _ _ _ _ _ le_rfl]
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    refine (View.read_writes_full arg7.view _ _ _ []).trans ?_
    unfold tileOut allBlocks
    rw [← trips_eq i]
  isplitl [H8]
  · iexists _; isplitr; · ipureintro; exact harg8.read_unread _
    iexact H8
  iexists _; isplitr; · ipureintro; exact harg9.read_unread _
  iexact H9

end Cert.KernelIdeal.Hand
end
-- ==== Proof.Run.lean ====
module

public import proofs.«01_k».proof.Proof.Body
public import Idealize.ShloMosaic.Lib.Claim

/-! The run of the whole kernel: what each grid point leaves, and what the arrays hold at the end. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first grid point of the head that point `p` works on. -/
def headPt (p : ℕ) : Fin cfg0.N := ⟨32 * (p / 32) % 512, lt_of_lt_of_eq (Nat.mod_lt _ (by decide)) (show 512 = cfg0.N from N_0.symm)⟩

theorem headPt_eq {t : Fin cfg0.N} (h : t.val % 32 = 0) : headPt t.val = t := by
  have ht : t.val < 512 := lt_of_lt_of_eq t.isLt (show cfg0.N = 512 from N_0)
  refine Fin.ext ?_
  show 32 * (t.val / 32) % 512 = t.val
  omega

theorem headPt_succ {p : ℕ} (h : (p + 1) % 32 ≠ 0) : headPt (p + 1) = headPt p := by
  refine Fin.ext ?_
  show 32 * ((p + 1) / 32) % 512 = 32 * (p / 32) % 512
  omega

/-- The keys, rounded, that the scratch holds while point `p`'s head is worked on. -/
def keysAt (c : Dev nD) (p : ℕ) : Vec F S8192x128 .bf16 := k0_pay455 (iblk m c 2 (headPt p))

/-- The values likewise. -/
def valsAt (c : Dev nD) (p : ℕ) : Vec F S8192x128 .bf16 := k0_pay455 (iblk m c 3 (headPt p))

/-- What point `t` leaves in the output's buffer. -/
def outAt (c : Dev nD) (t : Fin cfg0.N) : Vec F S256x128 .bf16 :=
  tileOut (grid0.coords t 1).val (grid0.coords t 2).val (iblk m c 0 t) (iblk m c 1 t) (keysAt m c t.val) (valsAt m c t.val)

/-- Each window's buffer at a point, and that it is whole. -/
abbrev st0 (t : Fin cfg0.N) : Memref sig .tc .smem S8 .f32 := win0_0.stage (cfg0.slots t 0)
abbrev st1 (t : Fin cfg0.N) : Memref sig .tc .vmem S256x128 .f32 := win0_1.stage (cfg0.slots t 1)
abbrev st2 (t : Fin cfg0.N) : Memref sig .tc .vmem S8192x128 .f32 := win0_2.stage (cfg0.slots t 2)
abbrev st3 (t : Fin cfg0.N) : Memref sig .tc .vmem S8192x128 .f32 := win0_3.stage (cfg0.slots t 3)
abbrev st4 (t : Fin cfg0.N) : Memref sig .tc .vmem S256x128 .bf16 := win0_4.stage (cfg0.slots t 4)
abbrev sc0 : Memref sig .tc .vmem S8192x128 .bf16 := Memref.whole cc0_scratch0
abbrev sc1 : Memref sig .tc .vmem S8192x128 .bf16 := Memref.whole cc0_scratch1

/-- The scratch before point `p`: anything where a head begins, the head's keys and values elsewhere. -/
def Scratch (c : Dev nD) (p : ℕ) : sProp 𝕄 :=
  iprop((∃ s8 s9, ⌜p % 32 ≠ 0 → s8 = keysAt m c p ∧ s9 = valsAt m c p⌝ ∗ owns (c : Thread nD τ) sc0 fullShare s8 ∗ owns (c : Thread nD τ) sc1 fullShare s9)
    ∗ (∃ r, prngReg c r))

/-- The launch's own invariant is the scratch at anything. -/
theorem launch_eq (c : Dev nD) : (Pipeline.ΦA spec0 c : sProp 𝕄)
    = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

theorem scratch_in (c : Dev nD) : (Pipeline.ΦA spec0 c : sProp 𝕄) ⊢ Scratch m c 0 := by
  rw [launch_eq]; unfold Scratch
  iintro ⟨⟨⟨%s8, H8⟩, ⟨%s9, H9⟩⟩, Hg⟩
  isplitl [H8 H9]
  · iexists s8, s9
    isplitr
    · ipureintro; intro h; exact absurd rfl h
    isplitl [H8]; · iexact H8
    iexact H9
  iexact Hg

theorem scratch_out (c : Dev nD) (p : ℕ) : Scratch m c p ⊢ (Pipeline.ΦA spec0 c : sProp 𝕄) := by
  rw [launch_eq]; unfold Scratch
  iintro ⟨⟨%s8, %s9, -, H8, H9⟩, Hg⟩
  isplitl [H8 H9]
  · isplitl [H8]
    · iexists _; iexact H8
    iexists _; iexact H9
  iexact Hg

/-- The pipeline's data: the arrays as launched, each input's buffer at its block, the output's at `outAt`, the scratch tracked. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ p := Scratch m c p.val
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is handed at a point. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d)))

/-- What it hands back. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t))

theorem coord2 (t : Fin cfg0.N) : (grid0.coords t 2).val = t.val % 32 := by
  have e2 : (grid0.coords t 2).val = t.val / 1 % 32 := Pipeline.Grid.coords_val t 2 (by decide) rfl
  rw [e2, Nat.div_one]

/-- The scratch after a point's first step. -/
theorem filled_eq (c : Dev nD) (t : Fin cfg0.N) (s8 s9 : Vec F S8192x128 .bf16) (h : t.val % 32 ≠ 0 → s8 = keysAt m c t.val ∧ s9 = valsAt m c t.val) :
    filled (grid0.coords t 2).val (iblk m c 2 t) s8 = keysAt m c t.val ∧ filled (grid0.coords t 2).val (iblk m c 3 t) s9 = valsAt m c t.val := by
  unfold filled
  rw [coord2]
  by_cases h0 : t.val % 32 = 0
  · rw [if_pos h0, if_pos h0]
    unfold keysAt valsAt
    rw [headPt_eq h0]
    exact ⟨rfl, rfl⟩
  · rw [if_neg h0, if_neg h0]
    exact h h0

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    after_0, after_1, after_2, after_3, after_4]
  rw [show (dats m 0 c).Φ t.castSucc = Scratch m c t.val from rfl, show (dats m 0 c).Φ t.succ = Scratch m c (t.val + 1) from rfl]
  unfold Scratch
  iintro ⟨⟨⟨%s8, %s9, %hs, H8, H9⟩, Hg⟩, Ho, ⟨%d0, H0⟩, ⟨%d1, H1⟩, ⟨%d2, H2⟩, ⟨%d3, H3⟩, ⟨%d4, H4⟩⟩
  obtain ⟨e8, e9⟩ := filled_eq m c t s8 s9 hs
  iapply (run_body c (grid0.coords t) _ _ _ _ _ _ _ _ _ _ _ _ _ _ (iblk m c 0 t) (iblk m c 1 t) (iblk m c 2 t) (iblk m c 3 t) s8 s9 Set.univ _)
  rw [e8, e9]
  isplitl [H0]; · iexact H0
  isplitl [H1]; · iexact H1
  isplitl [H2]; · iexact H2
  isplitl [H3]; · iexact H3
  isplitl [H4]; · iexists _; iexact H4
  isplitl [H8]; · iexact H8
  isplitl [H9]; · iexact H9
  iintro ⟨H0, H1, H2, H3, H4, H8, H9⟩
  isplitl [H8 H9 Hg]
  · isplitl [H8 H9]
    · iexists _, _
      isplitr
      swap
      · isplitl [H8]
        · iexact H8
        iexact H9
      ipureintro
      intro h
      unfold keysAt valsAt
      rw [headPt_succ h]
      exact ⟨rfl, rfl⟩
    iexact Hg
  isplitl [Ho]; · iexact Ho
  isplitl [H0]; · iexact H0
  isplitl [H1]; · iexact H1
  isplitl [H2]; · iexact H2
  isplitl [H3]; · iexact H3
  iexact H4

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

set_option backward.isDefEq.respectTransparency.types false in
/-- The run: the arrays end as the data say, and every counter at zero. -/
theorem run_end : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := scratch_in m) (hout := fun c => scratch_out m c _)

theorem run_main : θ_run defs (onTc (τ := τ) (main (F := F))) (s₀ m ρ) (Pipeline.FramePost cfgs (dats m) 0 (V m)) :=
  (θ_run defs _ _).mono (fun _ h => h.1) (run_end m ρ)

/-- The frame, at any values: the arguments end unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_end m ρ))

end Cert.KernelIdeal.Hand
end
-- ==== Proof.Frames.lean ====
module

public import proofs.«01_k».proof.Proof.Run
public import proofs.«01_k».proof.Proof.K.Run
public import proofs.«01_k».proof.Defs

/-! The frames of the two kernels, and that the named constants are what they say. -/

@[expose] public section

noncomputable section

namespace Cert.Proof
open Idealize.ShloMosaic

theorem frame_kernelIdeal : Cert.quiescent_KernelIdeal := fun m ρ _ => Cert.KernelIdeal.Hand.frame_any (F := Ideal) m ρ

theorem frame_kernel : Cert.quiescent_Kernel := fun m ρ _ => Cert.Kernel.Hand.frame_any (F := Bits) m ρ

theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "qscale" .f32 0x3E0293EE#32 (((Real.sqrt 128)⁻¹ * (Real.log 2)⁻¹ : ℝ) : EReal) rfl⟩

end Cert.Proof
end
-- ==== Proof.RefFrame.lean ====
module

public import proofs.«01_k».proof.Proof.Gen.ReferenceIdeal.Run
public import proofs.«01_k».proof.Defs
public import Idealize.ShloMosaic.Lib.Quiescent

/-! The reference's frame. -/

@[expose] public section

noncomputable section

namespace Cert.Proof
open Idealize.ShloMosaic Idealize.SL.Sem

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof
end
-- ==== Proof.Math.lean ====
module

public import Idealize.ShloMosaic.PureOps.Ideal
public import Idealize.ShloMosaic.Lib.ValueIdx
import Mathlib.Tactic.Positivity
import Mathlib.Tactic.Linarith
import Mathlib.Tactic.Ring
import Mathlib.Tactic.NormNum

/-! Stick-breaking attention on the extended reals: softplus, the decays and the weights, and the two ways of writing them. -/

@[expose] public section

noncomputable section

namespace Cert.Stick

open Idealize.ShloMosaic
open scoped BigOperators

/-- Softplus, written as both programs write it. -/
def sp (z : EReal) : EReal := max z 0 + Ideal.log (1 + Ideal.exp (-(max z (-z))))

/-- The factor from natural to base-two logarithms. -/
abbrev L : EReal := (((Real.log 2)⁻¹ : ℝ) : EReal)

theorem L_pos : (0 : ℝ) < (Real.log 2)⁻¹ := inv_pos.mpr (Real.log_pos (by norm_num))

theorem log_coe_pos {r : ℝ} (h : 0 < r) : Ideal.log (r : EReal) = (Real.log r : EReal) := by
  show (if r ≤ 0 then ⊥ else (Real.log r : EReal)) = _
  rw [if_neg (not_le.mpr h)]

theorem log_one : Ideal.log 1 = 0 := by
  rw [← EReal.coe_one, log_coe_pos one_pos, Real.log_one, EReal.coe_zero]

theorem sp_bot : sp ⊥ = 0 := by
  have e : Ideal.exp ⊥ = 0 := rfl
  simp [sp, e, log_one]

theorem sp_top : sp ⊤ = ⊤ := by
  have e : Ideal.exp ⊥ = 0 := rfl
  simp [sp, e, log_one]

theorem coe_max (x y : ℝ) : max (x : EReal) (y : EReal) = ((max x y : ℝ) : EReal) := (EReal.coe_strictMono.monotone.map_max).symm
theorem coe_min (x y : ℝ) : min (x : EReal) (y : EReal) = ((min x y : ℝ) : EReal) := (EReal.coe_strictMono.monotone.map_min).symm

theorem exp_coe (r : ℝ) : Ideal.exp (r : EReal) = ((Real.exp r : ℝ) : EReal) := rfl
theorem exp2_coe (r : ℝ) : Ideal.exp2 (r : EReal) = ((Real.rpow 2 r : ℝ) : EReal) := rfl

/-- Softplus of a real, as a real. -/
def spr (r : ℝ) : ℝ := max r 0 + Real.log (1 + Real.exp (-|r|))

theorem sp_coe (r : ℝ) : sp (r : EReal) = (spr r : EReal) := by
  unfold sp spr
  rw [← EReal.coe_zero, coe_max, ← EReal.coe_neg, coe_max, ← EReal.coe_neg, exp_coe, ← EReal.coe_one, ← EReal.coe_add,
    log_coe_pos (by positivity), ← EReal.coe_add]
  rfl

theorem spr_nonneg (r : ℝ) : 0 ≤ spr r := by
  unfold spr
  have h : 0 ≤ Real.log (1 + Real.exp (-|r|)) := Real.log_nonneg (by have := Real.exp_pos (-|r|); linarith)
  have := le_max_right r 0
  linarith

theorem spr_neg (r : ℝ) : spr (-r) = spr r - r := by
  unfold spr
  rw [abs_neg]
  have : max (-r) 0 = max r 0 - r := by
    rcases le_total r 0 with h | h
    · rw [max_eq_left (by linarith), max_eq_right h]; ring
    · rw [max_eq_right (by linarith), max_eq_left h]; ring
  rw [this]; ring

theorem sp_nonneg (z : EReal) : 0 ≤ sp z := by
  induction z with
  | bot => rw [sp_bot]
  | top => rw [sp_top]; exact le_top
  | coe r => rw [sp_coe]; exact_mod_cast spr_nonneg r

/-- A base-two power of a scaled exponent is the natural exponential. -/
theorem exp2_L (x : EReal) : Ideal.exp2 (L * x) = Ideal.exp x := by
  induction x with
  | bot => rw [L, EReal.coe_mul_bot_of_pos L_pos]; rfl
  | top => rw [L, EReal.coe_mul_top_of_pos L_pos]; rfl
  | coe r =>
    rw [L, ← EReal.coe_mul, exp2_coe, exp_coe]
    congr 1
    show (2 : ℝ) ^ ((Real.log 2)⁻¹ * r) = _
    rw [Real.rpow_def_of_pos (by norm_num), ← mul_assoc, mul_inv_cancel₀ (Real.log_pos (by norm_num)).ne', one_mul]

theorem L_mul_add (x y : EReal) : L * (x + y) = L * x + L * y :=
  EReal.left_distrib_of_nonneg_of_ne_top (by exact_mod_cast L_pos.le) (EReal.coe_ne_top _) x y

theorem L_mul_neg (x : EReal) : L * (-x) = -(L * x) := by rw [mul_neg]

theorem L_mul_sub (x y : EReal) : L * (x - y) = L * x - L * y := by
  rw [sub_eq_add_neg, L_mul_add, L_mul_neg, ← sub_eq_add_neg]

/-- The kernel's base-two softplus of a scaled score is the scaled softplus. -/
theorem sp_L (z : EReal) : max (L * z) 0 + Ideal.log (1 + Ideal.exp2 (min (L * z) (0 - L * z))) * L = L * sp z := by
  have hm : min (L * z) (0 - L * z) = L * (-(max z (-z))) := by
    induction z with
    | bot => rw [L, EReal.coe_mul_bot_of_pos L_pos]; simp [L, EReal.coe_mul_bot_of_pos L_pos]
    | top => rw [L, EReal.coe_mul_top_of_pos L_pos]; simp [L, EReal.coe_mul_bot_of_pos L_pos]
    | coe r =>
      rw [L, ← EReal.coe_mul, zero_sub, ← EReal.coe_neg, coe_min, ← EReal.coe_neg, coe_max, ← EReal.coe_neg, ← EReal.coe_mul]
      congr 1
      have hL := L_pos
      rw [show max r (-r) = |r| from rfl]
      rcases le_total r 0 with h | h
      · rw [abs_of_nonpos h, min_eq_left (by nlinarith)]; ring
      · rw [abs_of_nonneg h, min_eq_right (by nlinarith)]; ring
  have hx : max (L * z) 0 = L * max z 0 := by
    induction z with
    | bot => rw [L, EReal.coe_mul_bot_of_pos L_pos]; simp
    | top => rw [L, EReal.coe_mul_top_of_pos L_pos]; simp [L, EReal.coe_mul_top_of_pos L_pos]
    | coe r =>
      rw [L, ← EReal.coe_mul, ← EReal.coe_zero, coe_max, coe_max, ← EReal.coe_mul]
      congr 1
      have hL := L_pos
      rcases le_total r 0 with h | h
      · rw [max_eq_right h, max_eq_right (by nlinarith), mul_zero]
      · rw [max_eq_left h, max_eq_left (by positivity)]
  rw [hm, exp2_L, hx, sp, L_mul_add, mul_comm L (Ideal.log _)]

/-! ## Decays and weights -/

/-- Softplus of the score of key `i`, zero from key `p` on. -/
def cut (z : ℕ → EReal) (p i : ℕ) : EReal := if i < p then sp (z i) else 0

/-- The decay from the keys `a` to `M`. -/
def dec (z : ℕ → EReal) (p a M : ℕ) : EReal := ∑ i ∈ Finset.Ico a M, cut z p i

/-- The weight of key `i`, zero from key `p` on. -/
def wgt (z : ℕ → EReal) (p M i : ℕ) : EReal := if i < p then Ideal.exp (z i - dec z p i M) else 0

theorem cut_nonneg (z : ℕ → EReal) (p i : ℕ) : 0 ≤ cut z p i := by
  unfold cut; split
  · exact sp_nonneg _
  · exact le_rfl

theorem dec_nonneg (z : ℕ → EReal) (p a M : ℕ) : 0 ≤ dec z p a M := Finset.sum_nonneg fun i _ => cut_nonneg z p i

theorem dec_add (z : ℕ → EReal) (p : ℕ) {a b c : ℕ} (hab : a ≤ b) (hbc : b ≤ c) : dec z p a b + dec z p b c = dec z p a c :=
  Finset.sum_Ico_consecutive _ hab hbc

/-- Keys from `p` on decay nothing. -/
theorem dec_end (z : ℕ → EReal) {p a M M' : ℕ} (h : p ≤ M) (h' : p ≤ M') (ha : a < p) : dec z p a M = dec z p a M' := by
  have key : ∀ {M}, p ≤ M → dec z p a M = dec z p a p := fun {M} hM => by
    rw [← dec_add z p ha.le hM]
    have : dec z p p M = 0 := Finset.sum_eq_zero fun i hi => by
      unfold cut; rw [if_neg (not_lt.mpr (Finset.mem_Ico.mp hi).1)]
    rw [this, add_zero]
  rw [key h, key h']

theorem wgt_end (z : ℕ → EReal) {p M M' : ℕ} (h : p ≤ M) (h' : p ≤ M') (i : ℕ) : wgt z p M i = wgt z p M' i := by
  unfold wgt; split
  · rw [dec_end z h h' (by assumption)]
  · rfl

theorem sub_sub_nonneg (x : EReal) {a b : EReal} (ha : 0 ≤ a) (hb : 0 ≤ b) : x - a - b = x - (a + b) := by
  have na : a ≠ ⊥ := ne_of_gt (lt_of_lt_of_le EReal.bot_lt_zero ha)
  have nb : b ≠ ⊥ := ne_of_gt (lt_of_lt_of_le EReal.bot_lt_zero hb)
  rw [sub_eq_add_neg, sub_eq_add_neg, sub_eq_add_neg, EReal.neg_add (Or.inl na) (Or.inr nb), sub_eq_add_neg, add_assoc]

/-- The kernel's weight from scaled scores and scaled decays. -/
theorem exp2_weight (z : EReal) {a b : EReal} (ha : 0 ≤ a) (hb : 0 ≤ b) : Ideal.exp2 (L * z - L * a - L * b) = Ideal.exp (z - (a + b)) := by
  rw [← L_mul_sub, ← L_mul_sub, exp2_L, sub_sub_nonneg z ha hb]

theorem neg_sum {ι : Type} (s : Finset ι) {f : ι → EReal} (hf : ∀ i, 0 ≤ f i) : ∑ i ∈ s, -f i = -∑ i ∈ s, f i := by
  classical
  induction s using Finset.induction_on with
  | empty => simp
  | insert a s ha ih =>
    have na : f a ≠ ⊥ := ne_of_gt (lt_of_lt_of_le EReal.bot_lt_zero (hf a))
    have nb : ∑ i ∈ s, f i ≠ ⊥ := ne_of_gt (lt_of_lt_of_le EReal.bot_lt_zero (Finset.sum_nonneg fun i _ => hf i))
    rw [Finset.sum_insert ha, Finset.sum_insert ha, ih, EReal.neg_add (Or.inl na) (Or.inr nb), sub_eq_add_neg]

/-- The textbook weight, from log-sigmoids: the key's own and those of the keys after it, its own taken off their running sum. -/
theorem exp_weight (z : EReal) {a : EReal} (ha : 0 ≤ a) :
    Ideal.exp (-sp (-z) + (-(sp z + a) - -sp z)) = Ideal.exp (z - (sp z + a)) := by
  congr 1
  induction z with
  | bot => simp [sp_bot, sp_top]
  | top =>
    have na : a ≠ ⊥ := ne_of_gt (lt_of_lt_of_le EReal.bot_lt_zero ha)
    rw [sp_top, EReal.top_add_of_ne_bot na]; simp [sp_bot]
  | coe r =>
    rw [← EReal.coe_neg, sp_coe, sp_coe, spr_neg]
    induction a with
    | bot => exact absurd ha (by simp)
    | top => simp
    | coe b =>
      norm_cast
      ring

/-- The textbook's weight of key `i`, over `M` keys. -/
theorem wgt_eq (z : ℕ → EReal) {p M i : ℕ} (hi : i < p) (hM : p ≤ M) :
    Ideal.exp (-sp (-z i) + (∑ j ∈ Finset.Ico i M, -cut z p j - -cut z p i)) = wgt z p M i := by
  have hs : ∑ j ∈ Finset.Ico i M, -cut z p j = -(sp (z i) + dec z p (i + 1) M) := by
    rw [neg_sum _ (cut_nonneg z p), ← Finset.sum_Ico_consecutive _ (Nat.le_succ i) (show i + 1 ≤ M by omega)]
    have : ∑ j ∈ Finset.Ico i i.succ, cut z p j = sp (z i) := by
      rw [Finset.sum_eq_single i]
      · unfold cut; rw [if_pos hi]
      · intro b hb hne; have := Finset.mem_Ico.mp hb; omega
      · intro h; exact absurd (Finset.mem_Ico.mpr ⟨le_rfl, Nat.lt_succ_self i⟩) h
    rw [this]; rfl
  have hd : dec z p i M = sp (z i) + dec z p (i + 1) M := by
    have := neg_sum (Finset.Ico i M) (cut_nonneg z p)
    rw [hs] at this
    exact (neg_injective this).symm
  have hc : cut z p i = sp (z i) := by unfold cut; rw [if_pos hi]
  unfold wgt
  rw [hs, hc, if_pos hi, hd, exp_weight _ (dec_nonneg z p (i + 1) M)]

/-! ## A score -/

theorem coe_mul_sum {ι : Type} (s : Finset ι) {c : ℝ} (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top _) _ _

/-- The kernel's base-two score is the scaled score. -/
theorem score_L {ι : Type} (s : Finset ι) (q k : ι → EReal) {c : ℝ} (hc : 0 ≤ c) (b : EReal) :
    ∑ d ∈ s, q d * ((c * (Real.log 2)⁻¹ : ℝ) : EReal) * k d + b * L = L * ((∑ d ∈ s, q d * k d) * (c : EReal) + b) := by
  rw [L_mul_add, mul_comm b L, mul_comm _ (c : EReal), ← mul_assoc, L, ← EReal.coe_mul, mul_comm _ c,
    coe_mul_sum s (mul_nonneg hc L_pos.le)]
  refine congrArg (· + _) (Finset.sum_congr rfl fun d _ => ?_)
  rw [mul_comm (q d), mul_assoc]

/-! ## The whole array -/

/-- An element of the projections, by row and column. -/
def entry (X : (⟨2, ![16384, 14336]⟩ : Shape).Idx → EReal) (r c : ℕ) : EReal :=
  X (ValueIdx.ix2 ⟨r % 16384, Nat.mod_lt _ (by norm_num)⟩ ⟨c % 14336, Nat.mod_lt _ (by norm_num)⟩)

theorem entry_eq (X : (⟨2, ![16384, 14336]⟩ : Shape).Idx → EReal) (x : (⟨2, ![16384, 14336]⟩ : Shape).Idx) {r c : ℕ}
    (h0 : (x 0).val = r) (h1 : (x 1).val = c) : X x = entry X r c := by
  subst h0 h1
  unfold entry
  refine congrArg X (funext fun a => Fin.ext ?_)
  match a with
  | ⟨0, _⟩ => exact (Nat.mod_eq_of_lt (x 0).isLt).symm
  | ⟨1, _⟩ => exact (Nat.mod_eq_of_lt (x 1).isLt).symm

/-- A head's bias. -/
def biasOf (B : (⟨1, ![8]⟩ : Shape).Idx → EReal) (h : ℕ) : EReal := B (fun a => ⟨h % (![8] : Fin 1 → ℕ) a, Nat.mod_lt _ (by revert a; decide)⟩)

/-- The score of key `i` for query `p`, in batch `b` and head `h`. -/
def zAt (X : (⟨2, ![16384, 14336]⟩ : Shape).Idx → EReal) (B : (⟨1, ![8]⟩ : Shape).Idx → EReal) (b h p i : ℕ) : EReal :=
  (∑ d : Fin 128, entry X (8192 * b + p) (128 * h + d.val) * entry X (8192 * b + i) (1024 + 128 * h + d.val)) * (((Real.sqrt 128)⁻¹ : ℝ) : EReal)
    + biasOf B h

/-- The attention's output for query `p` of batch `b`, column `d` of head `h`. -/
def stick (X : (⟨2, ![16384, 14336]⟩ : Shape).Idx → EReal) (B : (⟨1, ![8]⟩ : Shape).Idx → EReal) (b h p d : ℕ) : EReal :=
  ∑ i ∈ Finset.range 8192, wgt (zAt X B b h p) p 8192 i * entry X (8192 * b + i) (2048 + 128 * h + d)

end Cert.Stick

end
-- ==== Proof.Tile.lean ====
module

public import proofs.«01_k».proof.Proof.Spec
public import proofs.«01_k».proof.Proof.Math
public import Idealize.ShloMosaic.Lib.ValueIdx
public import Idealize.ShloMosaic.Lib.MatmulPlain
public import Idealize.ShloMosaic.Lib.IdealHost
public import Idealize.ShloMosaic.Lib.WordCmp
public import Idealize.ShloMosaic.Lib.Pipeline.Value

/-! One block of keys on the extended reals, element by element. -/

@[expose] public section

set_option maxRecDepth 16384

noncomputable section

namespace Cert.KernelIdeal.Hand

open Cert.KernelIdeal.Gen Cert.Stick
open Idealize.ShloMosaic Idealize.ShloMosaic.ValueIdx
open scoped BigOperators

theorem zero_word : Scalar.ofBits (F := Ideal) .f32 0x00000000#32 = (0 : EReal) := by
  show Ideal.ofBits .f32 0x00000000#32 = 0
  norm_num [Ideal.ofBits, Ideal.ieee]

theorem one_word : Scalar.ofBits (F := Ideal) .f32 0x3F800000#32 = (1 : EReal) := Ideal.ofBits_one_f32

theorem log2e_eq : Named.named (F := Ideal) (φ := .f32) κ "log2e" 0x3FB8AA3B#32 = L :=
  IdealRules.named_const.ideal_named_scalar _ _ _ _ rfl

theorem qscale_eq : Named.named (F := Ideal) (φ := .f32) κ "qscale" 0x3E0293EE#32
    = (((Real.sqrt 128)⁻¹ * (Real.log 2)⁻¹ : ℝ) : EReal) :=
  IdealRules.named_const.ideal_named_scalar _ _ _ _ rfl

/-- A score is the sum of products, with the bias added. -/
theorem score_apply (b : EReal) (q kj : FVec Ideal S256x128 .bf16) (r c : Fin 256) :
    score (F := Ideal) b q kj (ix2 r c) = ∑ d : Fin 128, q (ix2 r d) * kj (ix2 c d) + b := by
  have h := Ideal.matmul_transposedRhs_apply (M := 256) (K := 128) (N := 256) none q kj (constant S256x256 .f32 0x00000000#32) r c
  have z : constant (F := Ideal) S256x256 .f32 0x00000000#32 (ix2 r c) = (0 : EReal) := zero_word
  show FloatOps.matmul (DotDims.transposedRhs 256 128 256) none q kj _ (ix2 r c) + b = _
  rw [h, z, zero_add]

/-- The kernel's softplus of a scaled score is the scaled softplus. -/
theorem soft_apply (x : FVec Ideal S256x256 .f32) (i : S256x256.Idx) {z : EReal} (h : x i = L * z) : soft x i = L * sp z := by
  rw [← sp_L, ← h]
  show max (x i) (Scalar.ofBits (F := Ideal) .f32 0x00000000#32)
    + Ideal.log (Scalar.ofBits (F := Ideal) .f32 0x3F800000#32
      + Ideal.exp2 (min (x i) (Scalar.ofBits (F := Ideal) .f32 0x00000000#32 - x i))) * Named.named (F := Ideal) (φ := .f32) κ "log2e" 0x3FB8AA3B#32 = _
  rw [zero_word, one_word, log2e_eq]

theorem word_slt (a b : Fin 256) : IntOp.cmpi .slt (BitVec.ofNat 32 a.val) (BitVec.ofNat 32 b.val) = 1#1 ↔ a.val < b.val :=
  WordCmp.cmpi_slt_ofNat_eq_one_iff (by have := a.isLt; omega) (by have := b.isLt; omega)

theorem word_sge (a b : Fin 256) : IntOp.cmpi .sge (BitVec.ofNat 32 a.val) (BitVec.ofNat 32 b.val) = 1#1 ↔ b.val ≤ a.val :=
  WordCmp.cmpi_sge_ofNat_eq_one_iff (by have := a.isLt; omega) (by have := b.isLt; omega)

/-- A tile cut below the diagonal, at an element. -/
theorem below_apply (x : FVec Ideal S256x256 .f32) (r c : Fin 256) : below x (ix2 r c) = if c.val < r.val then x (ix2 r c) else (0 : EReal) := by
  show Scalar.select ((k0_pay460 : IVec S256x256 1) (ix2 r c)) (x (ix2 r c)) (Scalar.ofBits (F := Ideal) .f32 0x00000000#32) = _
  have e : (k0_pay460 : IVec S256x256 1) (ix2 r c) = IntOp.cmpi .slt (BitVec.ofNat 32 c.val) (BitVec.ofNat 32 r.val) := by
    show IntOp.cmpi .slt (iota .tc S256x256 32 [1] _ (ix2 r c)) (iota .tc S256x256 32 [0] _ (ix2 r c)) = _
    rw [iota_single_apply, iota_single_apply]
  rw [e, zero_word]
  by_cases h : c.val < r.val
  · rw [(word_slt c r).mpr h, select_one, if_pos h]
  · rw [eq_zero_of_ne_one (fun hh => h ((word_slt c r).mp hh)), select_zero, if_neg h]

/-- The matrix of later keys: one from a key on, zero before. -/
theorem upper_apply (r c : Fin 256) : (k0_pay459 : FVec Ideal S256x256 .bf16) (ix2 r c) = if c.val ≤ r.val then (1 : EReal) else 0 := by
  show Scalar.select (IntOp.cmpi .sge (iota .tc S256x256 32 [0] iota_S256x256_d0_w32 (ix2 r c)) (iota .tc S256x256 32 [1] iota_S256x256_d1_w32 (ix2 r c)))
    (Scalar.ofBits (F := Ideal) .f32 0x3F800000#32) (Scalar.ofBits (F := Ideal) .f32 0x00000000#32) = _
  rw [iota_single_apply, iota_single_apply, zero_word, one_word]
  show Scalar.select (IntOp.cmpi .sge (BitVec.ofNat 32 r.val) (BitVec.ofNat 32 c.val)) _ _ = _
  by_cases h : c.val ≤ r.val
  · rw [(word_sge r c).mpr h, select_one, if_pos h]
  · rw [eq_zero_of_ne_one (fun hh => h ((word_sge r c).mp hh)), select_zero, if_neg h]

/-- The later sums of a block: from each key on, the row's terms added. -/
theorem later_apply (s : FVec Ideal S256x256 .f32) (r c : Fin 256) (g : ℕ → EReal) (h : ∀ k : Fin 256, s (ix2 r k) = g k.val) :
    later s (ix2 r c) = ∑ i ∈ Finset.Ico c.val 256, g i := by
  have hm := Ideal.matmul_plain_apply (M := 256) (K := 256) (N := 256) none (truncf .bf16 s bitsLt_bf16_f32) (k0_pay459 : FVec Ideal S256x256 .bf16)
    (constant S256x256 .f32 0x00000000#32) r c
  have z : constant (F := Ideal) S256x256 .f32 0x00000000#32 (ix2 r c) = (0 : EReal) := zero_word
  show FloatOps.matmul (DotDims.plain 256 256 256) none _ _ _ (ix2 r c) = _
  rw [hm, z, zero_add]
  have e : ∀ k : Fin 256, (truncf .bf16 s bitsLt_bf16_f32 : FVec Ideal S256x256 .bf16) (ix2 r k) * (k0_pay459 : FVec Ideal S256x256 .bf16) (ix2 k c)
      = (fun i => if c.val ≤ i then g i else 0) k.val := fun k => by
    rw [truncf_apply, h, upper_apply]
    show g k.val * _ = if _ then _ else _
    split
    · exact mul_one _
    · exact mul_zero _
  rw [Finset.sum_congr rfl fun k _ => e k, Fin.sum_univ_eq_sum_range (fun i => if c.val ≤ i then g i else 0) 256, ← Finset.sum_filter]
  refine Finset.sum_congr (Finset.ext fun i => ?_) fun _ _ => rfl
  rw [Finset.mem_filter, Finset.mem_range, Finset.mem_Ico]; omega

/-- The weighted values of a block. -/
theorem wsum_apply (w : FVec Ideal S256x256 .f32) (vj : FVec Ideal S256x128 .bf16) (r : Fin 256) (d : Fin 128) :
    wsum w vj (ix2 r d) = ∑ c : Fin 256, w (ix2 r c) * vj (ix2 c d) := by
  have hm := Ideal.matmul_plain_apply (M := 256) (K := 256) (N := 128) none (truncf .bf16 w bitsLt_bf16_f32) vj
    (constant S256x128 .f32 0x00000000#32) r d
  have z : constant (F := Ideal) S256x128 .f32 0x00000000#32 (ix2 r d) = (0 : EReal) := zero_word
  show FloatOps.matmul (DotDims.plain 256 256 128) none _ _ _ (ix2 r d) = _
  rw [hm, z, zero_add]; rfl

/-- A block's weight at an element. -/
theorem weight_apply (z cum : FVec Ideal S256x256 .f32) (acc : FVec Ideal S256x1 .f32) (r c : Fin 256) :
    weight z cum acc (ix2 r c) = Ideal.exp2 (z (ix2 r c) - cum (ix2 r c) - acc (ix2 r (0 : Fin 1))) := by
  have e : broadcastTo S256x256 acc broadcasts_S256x1_S256x256 (ix2 r c) = acc (ix2 r (0 : Fin 1)) :=
    broadcastTo_apply acc _ (ix2 r c) (ix2 r (0 : Fin 1)) (fun a => by fin_cases a <;> rfl)
  show Ideal.exp2 (z (ix2 r c) - cum (ix2 r c) - broadcastTo S256x256 acc broadcasts_S256x1_S256x256 (ix2 r c)) = _
  rw [e]

/-- A block's decay added to a carried one. -/
theorem accStep_apply (acc : FVec Ideal S256x1 .f32) (cum : FVec Ideal S256x256 .f32) (r : Fin 256) :
    addf acc (extractStridedSlice S256x1 ![0, 0] cum slices_S256x256_o0_0_S256x1) (ix2 r (0 : Fin 1))
      = acc (ix2 r (0 : Fin 1)) + cum (ix2 r (0 : Fin 256)) := by
  have e : extractStridedSlice S256x1 ![0, 0] cum slices_S256x256_o0_0_S256x1 (ix2 r (0 : Fin 1)) = cum (ix2 r (0 : Fin 256)) :=
    extractStridedSlice_apply ![0, 0] cum _ (ix2 r (0 : Fin 1)) (ix2 r (0 : Fin 256)) (fun a => by fin_cases a <;> simp [ix2] <;> rfl)
  show acc (ix2 r (0 : Fin 1)) + extractStridedSlice S256x1 ![0, 0] cum slices_S256x256_o0_0_S256x1 (ix2 r (0 : Fin 1)) = _
  rw [e]

/-! ## Trees of sums -/

theorem pairUp_sum (l : List EReal) : (pairUp (· + ·) l).sum = l.sum := by
  induction l using pairUp.induct with
  | case1 a b l ih => simp only [pairUp, List.sum_cons, ih, add_assoc]
  | case2 l h => rw [pairUp.eq_2 _ _ h]

theorem pairUp_length {α : Type} (f : α → α → α) (l : List α) : (pairUp f l).length = (l.length + 1) / 2 := by
  induction l using pairUp.induct with
  | case1 a b l ih => simp only [pairUp, List.length_cons, ih]; omega
  | case2 l h =>
    match l, h with
    | [], _ => simp [pairUp]
    | [a], _ => simp [pairUp]
    | a :: b :: l, h => exact absurd rfl (h a b l)

theorem treeSum_sum (n : ℕ) (l : List EReal) : (treeSum (· + ·) n l).sum = l.sum := by
  induction n generalizing l with
  | zero => rfl
  | succ n ih => unfold treeSum; rw [ih, pairUp_sum]

theorem pairUp_map {α β : Type} (f : α → α → α) (g : β → β → β) (e : α → β) (h : ∀ a b, e (f a b) = g (e a) (e b)) (l : List α) :
    (pairUp f l).map e = pairUp g (l.map e) := by
  induction l using pairUp.induct with
  | case1 a b l ih => simp only [pairUp, List.map_cons, ih, h]
  | case2 l h =>
    match l, h with
    | [], _ => rfl
    | [a], _ => rfl
    | a :: b :: l, h => exact absurd rfl (h a b l)

theorem treeSum_map {α β : Type} (f : α → α → α) (g : β → β → β) (e : α → β) (h : ∀ a b, e (f a b) = g (e a) (e b)) (n : ℕ) (l : List α) :
    (treeSum f n l).map e = treeSum g n (l.map e) := by
  induction n generalizing l with
  | zero => rfl
  | succ n ih => unfold treeSum; rw [ih, pairUp_map f g e h]

theorem range_sum (n : ℕ) (g : ℕ → EReal) : ((List.range n).map g).sum = ∑ t ∈ Finset.range n, g t := by
  induction n with
  | zero => simp
  | succ n ih => rw [List.range_succ, List.map_append, List.sum_append, ih, Finset.sum_range_succ]; simp

/-- A tree of four levels over one to sixteen tiles holds their sum, element by element. -/
theorem tree_apply {s : Shape} (f : ℕ → FVec Ideal s .f32) (n : ℕ) (h1 : 1 ≤ n) (h16 : n ≤ 16) (z : FVec Ideal s .f32) (i : s.Idx) :
    ((treeSum addf 4 ((List.range n).map f)).headD z) i = ∑ t ∈ Finset.range n, (f t i : EReal) := by
  have hm := treeSum_map (α := FVec Ideal s .f32) (β := EReal) addf (· + ·) (fun v => v i) (fun _ _ => rfl) 4 ((List.range n).map f)
  have hl : (treeSum addf 4 ((List.range n).map f)).length = 1 := by
    simp only [treeSum, pairUp_length, List.length_map, List.length_range]; omega
  obtain ⟨v, hv⟩ := List.length_eq_one_iff.mp hl
  rw [hv] at hm ⊢
  have := treeSum_sum 4 (((List.range n).map f).map fun v => v i)
  rw [← hm] at this
  simp only [List.map_cons, List.map_nil, List.sum_cons, List.sum_nil, add_zero] at this
  show v i = _
  rw [this, List.map_map]
  exact range_sum n _

end Cert.KernelIdeal.Hand

end
-- ==== Proof.Blocks.lean ====
module

public import proofs.«01_k».proof.Proof.Tile

/-! The blocks of a query tile together: after the blocks down to one, the carried pair holds the sums over their keys. -/

@[expose] public section

set_option maxRecDepth 16384

noncomputable section

namespace Cert.KernelIdeal.Hand

open Cert.KernelIdeal.Gen Cert.Stick
open Idealize.ShloMosaic Idealize.ShloMosaic.ValueIdx
open scoped BigOperators

section blocks
variable {n : ℕ} {b : EReal} {q : FVec Ideal S256x128 .bf16} {K V : FVec Ideal S8192x128 .bf16}
  {z : Fin 256 → ℕ → EReal} {v : ℕ → Fin 128 → EReal}

/-- The scores of query tile `n` are the scaled `z`. -/
def Scores (n : ℕ) (b : EReal) (q : FVec Ideal S256x128 .bf16) (K : FVec Ideal S8192x128 .bf16) (z : Fin 256 → ℕ → EReal) : Prop :=
  ∀ j, j ≤ n → ∀ r c : Fin 256, score (F := Ideal) b q (tileAt K j) (ix2 r c) = L * z r (256 * j + c.val)

/-- The values are `v`. -/
def Values (n : ℕ) (V : FVec Ideal S8192x128 .bf16) (v : ℕ → Fin 128 → EReal) : Prop :=
  ∀ j, j ≤ n → ∀ (c : Fin 256) (d : Fin 128), tileAt V j (ix2 c d) = v (256 * j + c.val) d

/-- The carried pair once the blocks down to block `j` are done. -/
def Upto (n : ℕ) (z : Fin 256 → ℕ → EReal) (v : ℕ → Fin 128 → EReal) (j : ℕ) (c : Carry Ideal) : Prop :=
  (∀ r : Fin 256, c.2 (ix2 r (0 : Fin 1)) = L * dec (z r) (256 * n + r.val) (256 * j) (256 * (n + 1)))
  ∧ ∀ (r : Fin 256) (d : Fin 128), c.1 (ix2 r d)
      = ∑ i ∈ Finset.Ico (256 * j) (256 * (n + 1)), wgt (z r) (256 * n + r.val) (256 * (n + 1)) i * v i d

/-- A block's cut softplus. -/
theorem cutSoft (hz : Scores n b q K z) {j : ℕ} (hj : j ≤ n) (r c : Fin 256) :
    cutIf (decide (j = n)) (soft (F := Ideal) (score b q (tileAt K j))) (ix2 r c) = L * cut (z r) (256 * n + r.val) (256 * j + c.val) := by
  have hs := soft_apply _ _ (hz j hj r c)
  have hc := c.isLt
  unfold cutIf cut
  by_cases h : j = n
  · rw [decide_eq_true h, cond_true, below_apply, hs]
    subst h
    by_cases hr : c.val < r.val
    · rw [if_pos hr, if_pos (by omega)]
    · rw [if_neg hr, if_neg (by omega), mul_zero]
  · rw [decide_eq_false h, cond_false, hs, if_pos (by omega)]

theorem dec_shift (z : ℕ → EReal) (p j a : ℕ) :
    ∑ i ∈ Finset.Ico a 256, L * cut z p (256 * j + i) = L * dec z p (256 * j + a) (256 * (j + 1)) := by
  rw [← coe_mul_sum _ L_pos.le, Finset.sum_Ico_add (cut z p) a 256 (256 * j)]
  unfold dec
  rw [show a + 256 * j = 256 * j + a by omega, show 256 + 256 * j = 256 * (j + 1) by omega]

/-- A block's later sums. -/
theorem laterCut (hz : Scores n b q K z) {j : ℕ} (hj : j ≤ n) (r c : Fin 256) :
    later (cutIf (decide (j = n)) (soft (F := Ideal) (score b q (tileAt K j)))) (ix2 r c)
      = L * dec (z r) (256 * n + r.val) (256 * j + c.val) (256 * (j + 1)) := by
  rw [later_apply _ r c (fun i => L * cut (z r) (256 * n + r.val) (256 * j + i)) (fun k => cutSoft hz hj r k), dec_shift]

/-- A block's cut weights. -/
theorem weightCut (hz : Scores n b q K z) {j : ℕ} (hj : j ≤ n) {acc : FVec Ideal S256x1 .f32}
    (hacc : ∀ r : Fin 256, acc (ix2 r (0 : Fin 1)) = L * dec (z r) (256 * n + r.val) (256 * (j + 1)) (256 * (n + 1))) (r c : Fin 256) :
    cutIf (decide (j = n)) (weight (F := Ideal) (score b q (tileAt K j))
        (later (cutIf (decide (j = n)) (soft (score b q (tileAt K j))))) acc) (ix2 r c)
      = wgt (z r) (256 * n + r.val) (256 * (n + 1)) (256 * j + c.val) := by
  have hc := c.isLt
  have hw := weight_apply (score (F := Ideal) b q (tileAt K j)) (later (cutIf (decide (j = n)) (soft (F := Ideal) (score b q (tileAt K j))))) acc r c
  rw [hz j hj r c, laterCut hz hj r c, hacc r, exp2_weight _ (dec_nonneg _ _ _ _) (dec_nonneg _ _ _ _),
    dec_add _ _ (by omega) (by omega)] at hw
  unfold cutIf wgt
  by_cases h : j = n
  · rw [decide_eq_true h, cond_true, below_apply]
    rw [decide_eq_true h] at hw
    subst h
    by_cases hr : c.val < r.val
    · rw [if_pos hr, if_pos (by omega)]; exact hw
    · rw [if_neg hr, if_neg (by omega)]
  · rw [decide_eq_false h, cond_false, if_pos (by omega)]
    rw [decide_eq_false h] at hw
    exact hw

theorem flag_eq {j t : ℕ} (hj : j ≤ n) (ht : t ≤ j) : (decide (j = n) && t == 0) = decide (j - t = n) := by
  rw [Bool.eq_iff_iff]; simp; omega

/-- The decay before the block `t` of a run. -/
theorem accAt_apply (hz : Scores n b q K z) {j : ℕ} (hj : j ≤ n) {acc : FVec Ideal S256x1 .f32}
    (hacc : ∀ r : Fin 256, acc (ix2 r (0 : Fin 1)) = L * dec (z r) (256 * n + r.val) (256 * (j + 1)) (256 * (n + 1))) (r : Fin 256) :
    ∀ t, t ≤ j + 1 → accAt (F := Ideal) (decide (j = n)) b q (fun t => tileAt K (j - t)) acc t (ix2 r (0 : Fin 1))
      = L * dec (z r) (256 * n + r.val) (256 * (j + 1 - t)) (256 * (n + 1))
  | 0, _ => hacc r
  | t + 1, ht => by
    unfold accAt
    rw [accStep_apply, accAt_apply hz hj hacc r t (by omega)]
    unfold cumAt
    rw [flag_eq hj (by omega), laterCut hz (by omega) r 0, ← L_mul_add, add_comm]
    have e1 : 256 * (j - t) + ((0 : Fin 256) : ℕ) = 256 * (j + 1 - (t + 1)) := by
      have : ((0 : Fin 256) : ℕ) = 0 := rfl
      omega
    rw [e1, show 256 * (j - t + 1) = 256 * (j + 1 - t) by omega, dec_add _ _ (by omega) (by omega)]

/-- The weighted values of the block `t` of a run. -/
theorem pvAt_apply (hz : Scores n b q K z) (hv : Values n V v) {j : ℕ} (hj : j ≤ n) {acc : FVec Ideal S256x1 .f32}
    (hacc : ∀ r : Fin 256, acc (ix2 r (0 : Fin 1)) = L * dec (z r) (256 * n + r.val) (256 * (j + 1)) (256 * (n + 1)))
    {t : ℕ} (ht : t ≤ j) (r : Fin 256) (d : Fin 128) :
    pvAt (F := Ideal) (decide (j = n)) b q (fun t => tileAt K (j - t)) (fun t => tileAt V (j - t)) acc t (ix2 r d)
      = ∑ i ∈ Finset.Ico (256 * (j - t)) (256 * (j - t + 1)), wgt (z r) (256 * n + r.val) (256 * (n + 1)) i * v i d := by
  have ha : ∀ r : Fin 256, accAt (F := Ideal) (decide (j = n)) b q (fun t => tileAt K (j - t)) acc t (ix2 r (0 : Fin 1))
      = L * dec (z r) (256 * n + r.val) (256 * (j - t + 1)) (256 * (n + 1)) := fun r => by
    rw [accAt_apply hz hj hacc r t (by omega), show j + 1 - t = j - t + 1 by omega]
  unfold pvAt cumAt
  rw [flag_eq hj ht, wsum_apply, Finset.sum_congr rfl fun c _ => congrArg₂ (· * ·) (weightCut hz (by omega) ha r c) (hv (j - t) (by omega) c d),
    Fin.sum_univ_eq_sum_range (fun i => wgt (z r) (256 * n + r.val) (256 * (n + 1)) (256 * (j - t) + i) * v (256 * (j - t) + i) d) 256,
    Finset.range_eq_Ico, Finset.sum_Ico_add (fun i => wgt (z r) (256 * n + r.val) (256 * (n + 1)) i * v i d) 0 256 (256 * (j - t))]
  rw [show 0 + 256 * (j - t) = 256 * (j - t) by omega, show 256 + 256 * (j - t) = 256 * (j - t + 1) by omega]

/-- Blocks of a sum taken downwards. -/
theorem sum_blocks (g : ℕ → EReal) (j : ℕ) : ∀ m, m ≤ j + 1 →
    ∑ t ∈ Finset.range m, ∑ i ∈ Finset.Ico (256 * (j - t)) (256 * (j - t + 1)), g i = ∑ i ∈ Finset.Ico (256 * (j + 1 - m)) (256 * (j + 1)), g i
  | 0, _ => by simp
  | m + 1, hm => by
    rw [Finset.sum_range_succ, sum_blocks g j m (by omega), add_comm, show j - m + 1 = j + 1 - m by omega,
      Finset.sum_Ico_consecutive _ (by omega) (by omega), show j + 1 - (m + 1) = j - m by omega]

/-- A run of one to sixteen blocks from block `j` down. -/
theorem runFrom_upto (hz : Scores n b q K z) (hv : Values n V v) {j m : ℕ} (hj : j ≤ n) (h1 : 1 ≤ m) (h16 : m ≤ 16) (hm : m ≤ j + 1)
    {mk : Bool} (hmk : mk = decide (j = n)) {c : Carry Ideal} (hc : Upto n z v (j + 1) c) :
    Upto n z v (j + 1 - m) (runFrom (F := Ideal) b q K V mk j m c) := by
  subst hmk
  refine ⟨fun r => accAt_apply hz hj hc.1 r m hm, fun r d => ?_⟩
  show c.1 (ix2 r d) + pvSum (F := Ideal) _ b q _ _ c.2 m (ix2 r d) = _
  unfold pvSum
  rw [tree_apply _ m h1 h16 _ (ix2 r d), Finset.sum_congr rfl fun t ht => pvAt_apply hz hv hj hc.1
      (show t ≤ j by have := Finset.mem_range.mp ht; omega) r d,
    sum_blocks (fun i => wgt (z r) (256 * n + r.val) (256 * (n + 1)) i * v i d) j m hm, hc.2 r d, add_comm,
    Finset.sum_Ico_consecutive _ (by omega) (by omega)]

theorem firsts_upto (hz : Scores n b q K z) (hv : Values n V v) : Upto n z v (n - n % 8) (firsts (F := Ideal) b q K V n) := by
  have h0 : Upto n z v (n + 1) (zeroCarry (F := Ideal)) := by
    refine ⟨fun r => ?_, fun r d => ?_⟩
    · show Scalar.ofBits (F := Ideal) .f32 0x00000000#32 = _
      rw [zero_word]; unfold dec; simp
    · show Scalar.ofBits (F := Ideal) .f32 0x00000000#32 = _
      rw [zero_word]; simp
  have := runFrom_upto hz hv (j := n) (m := n % 8 + 1) (mk := true) le_rfl (by omega) (by omega) (by omega) (by simp) h0
  rwa [show n + 1 - (n % 8 + 1) = n - n % 8 by omega] at this

theorem eights_upto (hz : Scores n b q K z) (hv : Values n V v) {c : Carry Ideal} (hc : Upto n z v (n - n % 8) c) :
    Upto n z v (n - n % 8 - 8 * (n / 8 % 2)) (eights (F := Ideal) b q K V n c) := by
  unfold eights
  by_cases h : n / 8 % 2 = 1
  · rw [if_pos h]
    have := runFrom_upto hz hv (j := n - 1 - n % 8) (m := 8) (mk := false) (c := c) (by omega) (by omega) (by omega) (by omega)
      (by simp; omega) (by rwa [show n - 1 - n % 8 + 1 = n - n % 8 by omega])
    rwa [show n - 1 - n % 8 + 1 - 8 = n - n % 8 - 8 * (n / 8 % 2) by omega] at this
  · rw [if_neg h, show n - n % 8 - 8 * (n / 8 % 2) = n - n % 8 by omega]; exact hc

theorem sixteens_upto (hz : Scores n b q K z) (hv : Values n V v) {c : Carry Ideal} (hc : Upto n z v (n - n % 8 - 8 * (n / 8 % 2)) c) :
    ∀ m, m ≤ n / 16 → Upto n z v (n - n % 8 - 8 * (n / 8 % 2) - 16 * m) (sixteens (F := Ideal) b q K V n c m)
  | 0, _ => hc
  | m + 1, hm => by
    have ih := sixteens_upto hz hv hc m (by omega)
    unfold sixteens
    have e : topAt n - 16 * m + 1 = n - n % 8 - 8 * (n / 8 % 2) - 16 * m := by unfold topAt; omega
    have := runFrom_upto hz hv (j := topAt n - 16 * m) (m := 16) (mk := false) (c := sixteens (F := Ideal) b q K V n c m)
      (by omega) (by omega) (by omega) (by omega) (by simp; omega) (by rwa [e])
    rwa [e, show n - n % 8 - 8 * (n / 8 % 2) - 16 * m - 16 = n - n % 8 - 8 * (n / 8 % 2) - 16 * (m + 1) by omega] at this

/-- What a query tile ends with: every row's weighted values, over all the keys. -/
theorem allBlocks_apply (hz : Scores n b q K z) (hv : Values n V v) (hn : n < 32) (r : Fin 256) (d : Fin 128) :
    (allBlocks (F := Ideal) b q K V n).1 (ix2 r d) = ∑ i ∈ Finset.range 8192, wgt (z r) (256 * n + r.val) 8192 i * v i d := by
  have hr := r.isLt
  have h := sixteens_upto hz hv (eights_upto hz hv (firsts_upto hz hv)) (n / 16) le_rfl
  have e := h.2 r d
  rw [show n - n % 8 - 8 * (n / 8 % 2) - 16 * (n / 16) = 0 by omega, Nat.mul_zero] at e
  show (sixteens (F := Ideal) b q K V n _ (n / 16)).1 (ix2 r d) = _
  rw [e, Finset.range_eq_Ico, ← Finset.sum_Ico_consecutive _ (Nat.zero_le (256 * (n + 1))) (show 256 * (n + 1) ≤ 8192 by omega)]
  rw [Finset.sum_eq_zero (s := Finset.Ico (256 * (n + 1)) 8192) fun i hi => by
    have := (Finset.mem_Ico.mp hi).1
    unfold wgt; rw [if_neg (by omega), zero_mul], add_zero]
  refine Finset.sum_congr rfl fun i _ => ?_
  rw [wgt_end (z r) (M := 256 * (n + 1)) (M' := 8192) (by omega) (by omega)]

end blocks

end Cert.KernelIdeal.Hand

end
-- ==== Proof.Arrays.lean ====
module

public import proofs.«01_k».proof.Proof.Blocks
public import proofs.«01_k».proof.Proof.Run
public import Idealize.ShloMosaic.Lib.Pipeline.ValueKit

/-! The kernel's result array: every element is its row's weighted values. -/

@[expose] public section

set_option maxRecDepth 16384

noncomputable section

namespace Cert.KernelIdeal.Hand

open Cert.KernelIdeal.Gen Cert.Stick
open Idealize.ShloMosaic hiding ix2
open Idealize.ShloMosaic.TcCoe Idealize.SL.Sem Idealize.ShloMosaic.ValueIdx
open Idealize.ShloMosaic.Pipeline (Dat)
open scoped BigOperators

variable (m : (ℓ : Loc nD τ sig) → Buf (Elt Ideal) ℓ)

/-- The index maps and the grid's coordinates, by the point's number. -/
theorem idx : ∀ t : Fin cfg0.N, win0_0.index t = ![0] ∧ win0_1.index t = ![32 * (t.val / 256) + t.val % 32, t.val / 32 % 8]
    ∧ win0_2.index t = ![t.val / 256, 8 + t.val / 32 % 8] ∧ win0_3.index t = ![t.val / 256, 16 + t.val / 32 % 8]
    ∧ win0_4.index t = ![32 * (t.val / 256) + t.val % 32, t.val / 32 % 8] :=
  (by decide +kernel : ∀ t : Fin grid0.N, _)

theorem crd : ∀ t : Fin cfg0.N, (grid0.coords t 1).val = t.val / 32 % 8 ∧ (grid0.coords t 2).val = t.val % 32 :=
  (by decide +kernel : ∀ t : Fin grid0.N, _)

/-- The queries' block, at an element. -/
theorem iblk_q (c : Dev nD) (t : Fin cfg0.N) (r : Fin 256) (d : Fin 128) :
    (iblk m c 1 t : FVec Ideal S256x128 .f32) (ix2 r d)
      = entry (m ((c : Thread nD τ).loc main_arg0)) (8192 * (t.val / 256) + (256 * (t.val % 32) + r.val)) (128 * (t.val / 32 % 8) + d.val) := by
  blk_simp [iblk, V]
  refine entry_eq _ _ ?_ ?_
  · blk_simp [idx t]
    show (32 * (t.val / 256) + t.val % 32) * 256 + r.val = _
    omega
  · blk_simp [idx t]
    show (t.val / 32 % 8) * 128 + d.val = _
    omega

/-- The keys' block. -/
theorem iblk_k (c : Dev nD) (t : Fin cfg0.N) (r : Fin 8192) (d : Fin 128) :
    (iblk m c 2 t : FVec Ideal S8192x128 .f32) (ix2 r d)
      = entry (m ((c : Thread nD τ).loc main_arg0)) (8192 * (t.val / 256) + r.val) (1024 + 128 * (t.val / 32 % 8) + d.val) := by
  blk_simp [iblk, V]
  refine entry_eq _ _ ?_ ?_
  · blk_simp [idx t]
    show (t.val / 256) * 8192 + r.val = _
    omega
  · blk_simp [idx t]
    show (8 + t.val / 32 % 8) * 128 + d.val = _
    omega

/-- The values' block. -/
theorem iblk_v (c : Dev nD) (t : Fin cfg0.N) (r : Fin 8192) (d : Fin 128) :
    (iblk m c 3 t : FVec Ideal S8192x128 .f32) (ix2 r d)
      = entry (m ((c : Thread nD τ).loc main_arg0)) (8192 * (t.val / 256) + r.val) (2048 + 128 * (t.val / 32 % 8) + d.val) := by
  blk_simp [iblk, V]
  refine entry_eq _ _ ?_ ?_
  · blk_simp [idx t]
    show (t.val / 256) * 8192 + r.val = _
    omega
  · blk_simp [idx t]
    show (16 + t.val / 32 % 8) * 128 + d.val = _
    omega

/-- The biases' block is their array. -/
theorem iblk_b (c : Dev nD) (t : Fin cfg0.N) (x : S8.Idx) :
    (iblk m c 0 t : FVec Ideal S8 .f32) x = m ((c : Thread nD τ).loc main_arg1) x := by
  blk_simp [iblk, V]
  refine congrArg _ (funext fun a => Fin.ext ?_)
  blk_simp [idx t]
  simp

theorem headPt_div (t : Fin cfg0.N) : (headPt t.val).val / 256 = t.val / 256 ∧ (headPt t.val).val / 32 % 8 = t.val / 32 % 8 := by
  have ht : t.val < 512 := lt_of_lt_of_eq t.isLt (show cfg0.N = 512 from N_0)
  show 32 * (t.val / 32) % 512 / 256 = _ ∧ 32 * (t.val / 32) % 512 / 32 % 8 = _
  omega

/-- A tile of the keys' or values' array, at an element. -/
theorem tileAt_apply {α : Type} (X : S8192x128.Idx → α) {j : ℕ} (hj : j < 32) (c : Fin 256) (d : Fin 128) :
    tileAt X j (ix2 c d) = X (ix2 ⟨256 * j + c.val, by have := c.isLt; omega⟩ d) := by
  have hc := c.isLt
  have hd := d.isLt
  unfold tileAt tileOff
  refine congrArg X (funext fun a => Fin.ext ?_)
  match a with
  | ⟨0, _⟩ => show (256 * j + c.val) % 8192 = 256 * j + c.val; omega
  | ⟨1, _⟩ => show (0 + d.val) % 128 = d.val; omega

/-- The rounded scratch is what was rounded. -/
theorem rounded_apply (X : FVec Ideal S8192x128 .f32) (x : S8192x128.Idx) : (k0_pay455 (F := Ideal) X) x = X x := by
  unfold k0_pay455
  show shapeCast S8192x128 _ _ x = _
  rw [shapeCast_self]; rfl

theorem bias_scaled (x : EReal) : (k0_pay457 (F := Ideal) x : EReal) = x * L := by
  unfold k0_pay457
  show x * Named.named (F := Ideal) (φ := .f32) κ "log2e" 0x3FB8AA3B#32 = _
  rw [log2e_eq]

theorem query_scaled (X : FVec Ideal S256x128 .f32) (x : S256x128.Idx) :
    (k0_pay458 (F := Ideal) X) x = X x * (((Real.sqrt 128)⁻¹ * (Real.log 2)⁻¹ : ℝ) : EReal) := by
  unfold k0_pay458
  show X x * Named.named (F := Ideal) (φ := .f32) κ "qscale" 0x3E0293EE#32 = _
  rw [qscale_eq]

/-- What a point leaves in the output's block, at an element. -/
theorem outAt_apply (c : Dev nD) (t : Fin cfg0.N) (r : Fin 256) (d : Fin 128) :
    (outAt m c t : FVec Ideal S256x128 .bf16) (ix2 r d)
      = stick (m ((c : Thread nD τ).loc main_arg0)) (m ((c : Thread nD τ).loc main_arg1)) (t.val / 256) (t.val / 32 % 8) (256 * (t.val % 32) + r.val) d.val := by
  have hn : t.val % 32 < 32 := by omega
  obtain ⟨h1, h2⟩ := crd t
  obtain ⟨g1, g2⟩ := headPt_div t
  unfold outAt tileOut
  rw [h1, h2]
  show (allBlocks (F := Ideal) _ _ _ _ (t.val % 32)).1 (ix2 r d) = _
  refine allBlocks_apply (z := fun r => zAt (m ((c : Thread nD τ).loc main_arg0)) (m ((c : Thread nD τ).loc main_arg1)) (t.val / 256) (t.val / 32 % 8)
      (256 * (t.val % 32) + r.val))
    (v := fun i d => entry (m ((c : Thread nD τ).loc main_arg0)) (8192 * (t.val / 256) + i) (2048 + 128 * (t.val / 32 % 8) + d.val)) ?_ ?_ hn r d
  · intro j hj r k
    have hk := k.isLt
    rw [score_apply]
    have hb : (k0_pay457 (F := Ideal) (biasAt (iblk m c 0 t) (t.val / 32 % 8)) : EReal)
        = biasOf (m ((c : Thread nD τ).loc main_arg1)) (t.val / 32 % 8) * L := by
      refine (bias_scaled _).trans ?_
      unfold biasAt
      exact congrArg (· * L) (iblk_b m c t _)
    have hq : ∀ e : Fin 128, (k0_pay458 (F := Ideal) (iblk m c 1 t)) (ix2 r e)
        = entry (m ((c : Thread nD τ).loc main_arg0)) (8192 * (t.val / 256) + (256 * (t.val % 32) + r.val)) (128 * (t.val / 32 % 8) + e.val)
          * (((Real.sqrt 128)⁻¹ * (Real.log 2)⁻¹ : ℝ) : EReal) := fun e => by
      refine (query_scaled _ _).trans ?_
      rw [iblk_q]
    have hkk : ∀ e : Fin 128, tileAt (keysAt m c t.val) j (ix2 k e)
        = entry (m ((c : Thread nD τ).loc main_arg0)) (8192 * (t.val / 256) + (256 * j + k.val)) (1024 + 128 * (t.val / 32 % 8) + e.val) := fun e => by
      rw [tileAt_apply _ (by omega)]
      unfold keysAt
      rw [rounded_apply, iblk_k, g1, g2]
    rw [hb, Finset.sum_congr rfl fun e _ => congrArg₂ (· * ·) (hq e) (hkk e)]
    exact score_L Finset.univ _ _ (inv_nonneg.mpr (Real.sqrt_nonneg _)) _
  · intro j hj k e
    have hk := k.isLt
    show tileAt (valsAt m c t.val) j (ix2 k e) = _
    rw [tileAt_apply _ (by omega)]
    unfold valsAt
    rw [rounded_apply, iblk_v, g1, g2]

theorem outAt_at (c : Dev nD) (t : Fin cfg0.N) (y : S256x128.Idx) :
    (outAt m c t : FVec Ideal S256x128 .bf16) y
      = stick (m ((c : Thread nD τ).loc main_arg0)) (m ((c : Thread nD τ).loc main_arg1)) (t.val / 256) (t.val / 32 % 8)
        (256 * (t.val % 32) + (y 0).val) (y 1).val := by
  conv_lhs => rw [ValueIdx.eq_ix2 y]
  exact outAt_apply m c t (y 0) (y 1)

/-- The result array: its rows are the queries, its columns the heads' columns. -/
def result (X : S16384x14336.Idx → EReal) (B : S8.Idx → EReal) : S16384x1024.Idx → EReal := fun x =>
  stick X B ((x 0).val / 8192) ((x 1).val / 128) ((x 0).val % 8192) ((x 1).val % 128)

/-- What the kernel leaves in the result array. -/
theorem final (c : Dev nD) : (dats m 0 c).arrAt 4 cfg0.N
    = result (m ((c : Thread nD τ).loc main_arg0)) (m ((c : Thread nD τ).loc main_arg1)) := by
  refine (dats m 0 c).arrAt_eq_of_covers 4 _ (by decide +kernel) fun t hf y => ?_
  have ht : t.val < 512 := lt_of_lt_of_eq t.isLt (show cfg0.N = 512 from N_0)
  have hy0 : (y 0).val < 256 := (y 0).isLt
  have hy1 : (y 1).val < 128 := (y 1).isLt
  have e0 : ((((cfg0.win 4).blk t).view.emb y) 0 : ℕ) = (32 * (t.val / 256) + t.val % 32) * 256 + (y 0).val := by
    blk_simp [idx t]
  have e1 : ((((cfg0.win 4).blk t).view.emb y) 1 : ℕ) = (t.val / 32 % 8) * 128 + (y 1).val := by
    blk_simp [idx t]
  have e2 := outAt_at m c t y
  unfold result
  rw [e0, e1]
  blk_simp
  rw [after_4]
  refine e2.trans ?_
  congr 1 <;> omega

end Cert.KernelIdeal.Hand

end
-- ==== Proof.RefValue.lean ====
module

public import proofs.«01_k».proof.Proof.Gen.ReferenceIdeal.Read
public import proofs.«01_k».proof.Proof.Math
public import Idealize.ShloMosaic.Lib.ValueIdx
public import Idealize.ShloMosaic.Lib.IdealHost
public import Idealize.ShloMosaic.Lib.WordCmp
import Mathlib.Tactic.Positivity
import Mathlib.Tactic.Linarith
import Mathlib.Tactic.NormNum

/-! What the reference computes, element by element. -/

@[expose] public section

set_option maxRecDepth 16384

noncomputable section

namespace Cert.ReferenceIdeal.Hand

open Cert.ReferenceIdeal Cert.ReferenceIdeal.Gen Cert.ReferenceIdeal.Read Cert.Stick
open Idealize.ShloMosaic Idealize.ShloMosaic.ValueIdx
open scoped BigOperators

theorem zero_host : FloatOps.ofBits (F := Ideal) .f32 0x00000000#32 = (0 : EReal) := by
  show Ideal.ofBits .f32 0x00000000#32 = 0
  norm_num [Ideal.ofBits, Ideal.ieee]

theorem one_host : FloatOps.ofBits (F := Ideal) .f32 0x3F800000#32 = (1 : EReal) := Ideal.ofBits_one_f32

theorem width_host : FloatOps.ofBits (F := Ideal) .f32 0x43000000#32 = ((128 : ℝ) : EReal) := by
  have e : (1124073472 >>> 23 % 256 : ℕ) = 134 := by decide
  have f : ¬(BitVec.extractLsb' 31 1 1124073472#32 = 1#1) := by decide
  show Ideal.ofBits .f32 0x43000000#32 = _
  norm_num [Ideal.ofBits, Ideal.ieee, e, f]

/-- The scale is one over the square root of the head's width. -/
theorem scale_eq (i : S_.Idx) : val_main_v7 (F := Ideal) i = (((Real.sqrt 128)⁻¹ : ℝ) : EReal) := by
  have hs : (0 : ℝ) < Real.sqrt 128 := Real.sqrt_pos.mpr (by norm_num)
  rw [val_main_v7_apply, val_main_v6_apply, val_main_cst_apply, val_main_cst_0_apply, one_host, width_host]
  show Ideal.div 1 (if (128 : ℝ) < 0 then ⊥ else ((Real.sqrt 128 : ℝ) : EReal)) = _
  rw [if_neg (by norm_num)]
  unfold Ideal.div
  rw [if_neg (by exact_mod_cast hs.ne'), one_mul, EReal.coe_inv]

/-- The reference's softplus is softplus. -/
theorem softplus_eq (z : EReal) :
    Scalar.select (FloatOps.cmpf (F := Ideal) (φ := .f32) .une (FloatOps.subf (F := Ideal) (φ := .f32) z (0 : EReal)) (FloatOps.subf (F := Ideal) (φ := .f32) z (0 : EReal)))
      (FloatOps.addf (F := Ideal) (φ := .f32) z (0 : EReal))
      (FloatOps.addf (F := Ideal) (φ := .f32) (FloatOps.maximumf (F := Ideal) (φ := .f32) z (0 : EReal))
        (FloatOps.hostUnary (F := Ideal) (φ := .f32) .log1p (FloatOps.hostUnary (F := Ideal) (φ := .f32) .exp
          (FloatOps.hostNegf (F := Ideal) (φ := .f32) (FloatOps.hostAbsf (F := Ideal) (φ := .f32) (FloatOps.subf (F := Ideal) (φ := .f32) z (0 : EReal)))))))
      = sp z := by
  have e : FloatOps.subf (F := Ideal) (φ := .f32) z (0 : EReal) = z := sub_zero z
  have c : FloatOps.cmpf (F := Ideal) (φ := .f32) .une z z = 0#1 := by
    show BitVec.ofBool (decide (z ≠ z)) = 0#1
    simp
  rw [e, c]
  rfl

theorem lsig_first (x0 : S16384x14336.Idx → EReal) (x1 : S8.Idx → EReal) (i : S2x8x8192x8192.Idx) :
    val_main_v21 (F := Ideal) x0 x1 i = -sp (val_main_v13 (F := Ideal) x0 x1 i) := by
  have e : val_main_call0_v0 (F := Ideal) x0 x1 i = val_main_v13 (F := Ideal) x0 x1 i :=
    neg_neg (val_main_v13 (F := Ideal) x0 x1 i : EReal)
  rw [val_main_v21_apply, val_main_call0_v1_apply, val_main_call0_call0_v4_apply, val_main_call0_call0_v6_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v0_apply, val_main_call0_call0_v2_apply,
    val_main_call0_call0_v5_apply, val_main_call0_call0_cst_apply, zero_host, e]
  exact congrArg (fun s : EReal => -s) (softplus_eq _)

theorem lsig_second (x0 : S16384x14336.Idx → EReal) (x1 : S8.Idx → EReal) (i : S2x8x8192x8192.Idx) :
    val_main_v25 (F := Ideal) x0 x1 i = -sp (-(val_main_v13 (F := Ideal) x0 x1 i : EReal)) := by
  have e : val_main_call3_v0 (F := Ideal) x0 x1 i = -(val_main_v13 (F := Ideal) x0 x1 i : EReal) := rfl
  rw [val_main_v25_apply, val_main_call3_v1_apply, val_main_call3_call0_v4_apply, val_main_call3_call0_v6_apply, val_main_call3_call0_v11_apply,
    val_main_call3_call0_v1_apply, val_main_call3_call0_v10_apply, val_main_call3_call0_v9_apply, val_main_call3_call0_v8_apply,
    val_main_call3_call0_v7_apply, val_main_call3_call0_v3_apply, val_main_call3_call0_v0_apply, val_main_call3_call0_v2_apply,
    val_main_call3_call0_v5_apply, val_main_call3_call0_cst_apply, zero_host, e]
  exact congrArg (fun s : EReal => -s) (softplus_eq _)

/-- The reference's scores. -/
theorem score_eq (x0 : S16384x14336.Idx → EReal) (x1 : S8.Idx → EReal) (i : S2x8x8192x8192.Idx) :
    val_main_v13 (F := Ideal) x0 x1 i = zAt x0 x1 (i 0).val (i 1).val (i 2).val (i 3).val := by
  have h0 : (i 0).val < 2 := (i 0).isLt
  have h1 : (i 1).val < 8 := (i 1).isLt
  have h2 : (i 2).val < 8192 := (i 2).isLt
  have h3 : (i 3).val < 8192 := (i 3).isLt
  rw [val_main_v13_apply, val_main_v10_apply, val_main_v8_apply, val_main_v9_apply, scale_eq, val_main_v12_apply, val_main_v11_apply]
  unfold zAt
  refine congrArg₂ (fun a b : EReal => a + b) (congrArg (fun a : EReal => a * _) (Finset.sum_congr rfl fun k _ => ?_)) ?_
  · have hk := k.isLt
    rw [val_main_v1_apply, val_main_v0_apply, val_main_v3_apply, val_main_v2_apply]
    refine congrArg₂ (fun a b : EReal => a * b) (entry_eq x0 _ ?_ ?_) (entry_eq x0 _ ?_ ?_)
    · show ((((i 0).val * 8192 + (i 2).val) * 8 + (i 1).val) * 128 + k.val) / 1024 = _; omega
    · show ((((i 0).val * 8192 + (i 2).val) * 8 + (i 1).val) * 128 + k.val) % 1024 = _; omega
    · show ((((i 0).val * 8192 + (i 3).val) * 8 + (i 1).val) * 128 + k.val) / 1024 = _; omega
    · show 1024 + ((((i 0).val * 8192 + (i 3).val) * 8 + (i 1).val) * 128 + k.val) % 1024 = _; omega
  · unfold biasOf
    refine congrArg x1 (funext fun a => Fin.ext ?_)
    match a with
    | ⟨0, _⟩ => exact (Nat.mod_eq_of_lt h1).symm

/-- The mask keeps the earlier keys. -/
theorem mask_eq (i : S8192x8192.Idx) : val_main_v19 (F := Ideal) i = BitVec.ofBool (decide ((i 1).val < (i 0).val)) := by
  have h0 : (i 0).val < 8192 := (i 0).isLt
  have h1 : (i 1).val < 8192 := (i 1).isLt
  rw [val_main_v19_apply, val_main_v17_apply, val_main_v18_apply, val_main_v15_apply, val_main_v16_apply, val_main_v14_apply, val_main_v14_apply]
  exact WordCmp.cmpi_slt_ofNat (by show (i 1).val < _; omega) (by show (i 0).val < _; omega)

theorem select_decide (p : Prop) [Decidable p] (a b : EReal) : Scalar.select (BitVec.ofBool (decide p)) a b = if p then a else b := by
  by_cases h : p <;> simp [Scalar.select, h]

theorem cut_eq (x0 : S16384x14336.Idx → EReal) (x1 : S8.Idx → EReal) (i : S2x8x8192x8192.Idx) :
    val_main_v22 (F := Ideal) x0 x1 i = -cut (zAt x0 x1 (i 0).val (i 1).val (i 2).val) (i 2).val (i 3).val := by
  rw [val_main_v22_apply, val_main_call1_v1_apply, mask_eq, lsig_first, score_eq, val_main_call1_v2_apply, val_main_call1_v0_apply,
    val_main_cst_1_apply, zero_host]
  refine (select_decide ((i 3).val < (i 2).val) _ _).trans ?_
  unfold cut
  split
  · rfl
  · exact neg_zero.symm

/-- A fold that only adds is the sum. -/
theorem foldl_add {n : ℕ} (g : Fin n → EReal) (v : EReal) : (List.finRange n).foldl (fun r k => r + g k) v = v + ∑ k, g k := by
  have : ∀ (l : List (Fin n)) (v : EReal), l.foldl (fun r k => r + g k) v = v + (l.map g).sum := by
    intro l
    induction l with
    | nil => intro v; simp
    | cons a l ih => intro v; rw [List.foldl_cons, ih, List.map_cons, List.sum_cons, add_assoc]
  rw [this, Fin.sum_univ_def]

/-- The window that runs along the last axis. -/
abbrev W : Shape := ⟨4, ![1, 1, 1, 8192]⟩

def along : W.Idx ≃ Fin 8192 where
  toFun a := a 3
  invFun k := ix4 (0 : Fin 1) (0 : Fin 1) (0 : Fin 1) k
  left_inv a := by
    refine funext fun b => Fin.ext ?_
    match b with
    | ⟨0, _⟩ => exact (Nat.lt_one_iff.mp (a 0).isLt).symm
    | ⟨1, _⟩ => exact (Nat.lt_one_iff.mp (a 1).isLt).symm
    | ⟨2, _⟩ => exact (Nat.lt_one_iff.mp (a 2).isLt).symm
    | ⟨3, _⟩ => rfl
  right_inv k := rfl

/-- A sum over the rest of a row, the places beyond its end counting nothing. -/
theorem sum_tail (f : ℕ → EReal) (c : ℕ) : ∑ k : Fin 8192, (if c + k.val < 8192 then f (c + k.val) else 0) = ∑ j ∈ Finset.Ico c 8192, f j := by
  rw [Fin.sum_univ_eq_sum_range (fun k => if c + k < 8192 then f (c + k) else 0) 8192, Finset.sum_Ico_eq_sum_range, ← Finset.sum_filter]
  refine Finset.sum_congr (Finset.ext fun k => ?_) fun _ _ => rfl
  simp only [Finset.mem_filter, Finset.mem_range]
  omega

/-- What a place of a window holds: the operand there, or the initial value outside it. -/
def place {s t : Shape} (window strides lo hi : Fin s.rank → ℕ) (h : s.ReduceWindows window strides lo hi t) (x : s.Idx → EReal)
    (v : EReal) (j : t.Idx) (a : Shape.Idx ⟨s.rank, window⟩) : EReal :=
  if hin : ∀ b, lo b ≤ (j (b.cast h.1.symm)).val * strides b + (a b).val ∧ (j (b.cast h.1.symm)).val * strides b + (a b).val - lo b < s.size b
    then x (fun b => ⟨(j (b.cast h.1.symm)).val * strides b + (a b).val - lo b, (hin b).2⟩) else v

/-- A window sum at an index is the sum over the window. -/
theorem window_apply {s t : Shape} (window strides lo hi : Fin s.rank → ℕ) (h : s.ReduceWindows window strides lo hi t) (x : s.Idx → EReal)
    (v : EReal) (j : t.Idx) :
    FloatOps.hostReduceWindowAdd (F := Ideal) (φ := .f32) window strides lo hi h .single x v j
      = v + ∑ a, place window strides lo hi h x v j a := by
  refine (foldl_add _ _).trans (congrArg (fun r : EReal => v + r) ?_)
  refine Eq.trans (Finset.sum_congr rfl fun n _ => ?_) (Equiv.sum_comp (Shape.rowMajor ⟨s.rank, window⟩).symm (place window strides lo hi h x v j))
  unfold place
  split <;> rfl

/-- The running sum from the end of a row. -/
theorem tail_eq (f : S2x8x8192x8192.Idx → EReal) (g : ℕ → EReal) (v : S_.Idx → EReal) (hv : ∀ k, v k = 0) (i : S2x8x8192x8192.Idx)
    (hf : ∀ k : Fin 8192, f (ix4 (i 0) (i 1) (i 2) k) = g k.val) :
    Host.reduceWindowAdd (F := Ideal) (φ := .f32) ![1, 1, 1, 8192] ![1, 1, 1, 1] ![0, 0, 0, 0] ![0, 0, 0, 8191] f v
      reduceWindows_S2x8x8192x8192_S2x8x8192x8192_w1s1p0_0_w1s1p0_0_w1s1p0_0_w8192s1p0_8191 h_S_ i
      = ∑ j ∈ Finset.Ico (i 3).val 8192, g j := by
  have h0 : (i 0).val < 2 := (i 0).isLt
  have h1 : (i 1).val < 8 := (i 1).isLt
  have h2 : (i 2).val < 8192 := (i 2).isLt
  unfold Host.reduceWindowAdd
  rw [window_apply, hv, zero_add, ← sum_tail g]
  refine Fintype.sum_equiv along _ _ fun a => ?_
  unfold place
  have a0 : (a 0).val = 0 := Nat.lt_one_iff.mp (a 0).isLt
  have a1 : (a 1).val = 0 := Nat.lt_one_iff.mp (a 1).isLt
  have a2 : (a 2).val = 0 := Nat.lt_one_iff.mp (a 2).isLt
  by_cases hk : (i 3).val + (a 3).val < 8192
  · rw [dif_pos, if_pos (by exact hk)]
    · refine Eq.trans (congrArg f (funext fun b => Fin.ext ?_)) (hf ⟨(i 3).val + (a 3).val, hk⟩)
      match b with
      | ⟨0, _⟩ => show (i 0).val * 1 + (a 0).val - 0 = (i 0).val; omega
      | ⟨1, _⟩ => show (i 1).val * 1 + (a 1).val - 0 = (i 1).val; omega
      | ⟨2, _⟩ => show (i 2).val * 1 + (a 2).val - 0 = (i 2).val; omega
      | ⟨3, _⟩ => show (i 3).val * 1 + (a 3).val - 0 = (i 3).val + (a 3).val; omega
    · intro b
      match b with
      | ⟨0, _⟩ => show 0 ≤ (i 0).val * 1 + (a 0).val ∧ (i 0).val * 1 + (a 0).val - 0 < 2; omega
      | ⟨1, _⟩ => show 0 ≤ (i 1).val * 1 + (a 1).val ∧ (i 1).val * 1 + (a 1).val - 0 < 8; omega
      | ⟨2, _⟩ => show 0 ≤ (i 2).val * 1 + (a 2).val ∧ (i 2).val * 1 + (a 2).val - 0 < 8192; omega
      | ⟨3, _⟩ => show 0 ≤ (i 3).val * 1 + (a 3).val ∧ (i 3).val * 1 + (a 3).val - 0 < 8192; omega
  · rw [dif_neg, if_neg (by exact hk)]
    intro h
    have h3 : (i 3).val * 1 + (a 3).val - 0 < 8192 := (h 3).2
    omega

theorem weight_eq (x0 : S16384x14336.Idx → EReal) (x1 : S8.Idx → EReal) (i : S2x8x8192x8192.Idx) :
    val_main_v28 (F := Ideal) x0 x1 i = wgt (zAt x0 x1 (i 0).val (i 1).val (i 2).val) (i 2).val 8192 (i 3).val := by
  have h2 : (i 2).val < 8192 := (i 2).isLt
  have e : val_main_v23 (F := Ideal) x0 x1 i = ∑ j ∈ Finset.Ico (i 3).val 8192, -cut (zAt x0 x1 (i 0).val (i 1).val (i 2).val) (i 2).val j := by
    unfold val_main_v23
    refine tail_eq _ _ _ (fun k => ?_) i fun k => cut_eq x0 x1 (ix4 (i 0) (i 1) (i 2) k)
    rw [val_main_call2_v0_apply, val_main_call2_cst_apply, zero_host]
  rw [val_main_v28_apply, val_main_call4_v1_apply, mask_eq, val_main_call4_v2_apply, val_main_call4_v0_apply, val_main_cst_2_apply, zero_host]
  refine (select_decide ((i 3).val < (i 2).val) _ _).trans ?_
  by_cases hk : (i 3).val < (i 2).val
  · rw [if_pos hk, val_main_v27_apply, val_main_v26_apply, val_main_v24_apply, lsig_second, score_eq, e, cut_eq]
    exact wgt_eq (zAt x0 x1 (i 0).val (i 1).val (i 2).val) hk h2.le
  · rw [if_neg hk]
    unfold wgt
    rw [if_neg hk]

/-- The reference's result. -/
theorem result_eq (x0 : S16384x14336.Idx → EReal) (x1 : S8.Idx → EReal) (x : S16384x1024.Idx) :
    val_main_v32 (F := Ideal) x0 x1 x = stick x0 x1 ((x 0).val / 8192) ((x 1).val / 128) ((x 0).val % 8192) ((x 1).val % 128) := by
  have h0 : (x 0).val < 16384 := (x 0).isLt
  have h1 : (x 1).val < 1024 := (x 1).isLt
  have g0 : ((x 0).val * 1024 + (x 1).val) / 8388608 = (x 0).val / 8192 := by omega
  have g1 : ((x 0).val * 1024 + (x 1).val) / 1024 % 8192 = (x 0).val % 8192 := by omega
  have g2 : ((x 0).val * 1024 + (x 1).val) / 128 % 8 = (x 1).val / 128 := by omega
  have g3 : ((x 0).val * 1024 + (x 1).val) % 128 = (x 1).val % 128 := by omega
  rw [val_main_v32_apply]
  refine Eq.trans (show _ = val_main_v31 (F := Ideal) x0 x1 x from rfl) ?_
  rw [val_main_v31_apply, val_main_v30_apply, val_main_v29_apply]
  unfold stick
  rw [← Fin.sum_univ_eq_sum_range (fun i => wgt (zAt x0 x1 ((x 0).val / 8192) ((x 1).val / 128) ((x 0).val % 8192)) ((x 0).val % 8192) 8192 i
    * entry x0 (8192 * ((x 0).val / 8192) + i) (2048 + 128 * ((x 1).val / 128) + (x 1).val % 128)) 8192]
  refine Finset.sum_congr rfl fun k _ => ?_
  have hk := k.isLt
  rw [weight_eq, val_main_v5_apply, val_main_v4_apply, mul_comm]
  refine congrArg₂ (fun a b : EReal => a * b) ?_ (entry_eq x0 _ ?_ ?_)
  · show wgt (zAt x0 x1 (((x 0).val * 1024 + (x 1).val) / 8388608) (((x 0).val * 1024 + (x 1).val) / 128 % 8) (((x 0).val * 1024 + (x 1).val) / 1024 % 8192))
      (((x 0).val * 1024 + (x 1).val) / 1024 % 8192) 8192 k.val = _
    rw [g0, g1, g2]
  · show (((((x 0).val * 1024 + (x 1).val) / 8388608 * 8192 + k.val) * 8 + ((x 0).val * 1024 + (x 1).val) / 128 % 8) * 128
      + ((x 0).val * 1024 + (x 1).val) % 128) / 1024 = _
    rw [g0, g2, g3]; omega
  · show 2048 + (((((x 0).val * 1024 + (x 1).val) / 8388608 * 8192 + k.val) * 8 + ((x 0).val * 1024 + (x 1).val) / 128 % 8) * 128
      + ((x 0).val * 1024 + (x 1).val) % 128) % 1024 = _
    rw [g0, g2, g3]; omega

end Cert.ReferenceIdeal.Hand

end
-- ==== Proof.Value.lean ====
module

public import proofs.«01_k».proof.Defs
public import proofs.«01_k».proof.Proof.Arrays
public import proofs.«01_k».proof.Proof.RefValue

/-! The kernel and its reference compute one array. -/

@[expose] public section

noncomputable section

namespace Cert.Proof
open Idealize.ShloMosaic Idealize.SL.Sem
open Idealize.ShloMosaic.TcCoe

/-- The kernel's run, with its result. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v0)
          = Cert.KernelIdeal.Hand.result (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)) :=
  (θ_run Cert.KernelIdeal.defs _ _).mono
    (fun _ h c => ⟨((h.1 c).1 4).trans (Cert.KernelIdeal.Hand.final m c), h.2.1 c⟩)
    (θ_run_and (Cert.KernelIdeal.Hand.run_main (F := Ideal) m g) (Cert.KernelIdeal.Hand.frame_any (F := Ideal) m g))

theorem algebraic : Cert.algebraic_KernelIdeal_ReferenceIdeal := by
  intro m g m' g' _ hagree
  refine ⟨_, kernel_run m g, ?_⟩
  refine (θ_run Cert.ReferenceIdeal.defs _ _).mono (fun _ h c => ⟨(h c).1.trans ?_, (h c).2⟩)
    (Cert.ReferenceIdeal.Value.run (F := Ideal) m' g')
  rw [Cert.ReferenceIdeal.Read.val_main_v32_eq, (hagree c).1, (hagree c).2]
  exact funext fun x => Cert.ReferenceIdeal.Hand.result_eq _ _ x

end Cert.Proof
end
-- ==== Proof.In.Body.lean ====
module

public import proofs.«01_k».proof.Proof.Gen.Kernel2Ideal.Frame
public import proofs.«01_k».proof.Proof.Gen.Kernel2Ideal.Skeleton
public import Idealize.ShloMosaic.Lib.VecWindow

/-! One grid point of the input projection: the rows normalized where their blocks begin, one block of columns multiplied. -/

@[expose] public section

set_option maxRecDepth 16384

noncomputable section

namespace Cert.Kernel2Ideal.Hand

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The normalized rows after column block `j`: computed at the first block, kept at the others. -/
def normed (j : ℕ) (x : Vec F S1024x2048 .f32) (nw : Vec F S1x2048 .f32) (s : Vec F S1024x2048 .bf16) : Vec F S1024x2048 .bf16 :=
  if j = 0 then k0_pay2 x nw else s

/-- The products stored at column block `j`: the first weights for the first seven blocks, the second for the rest. -/
def outOf (j : ℕ) (xn : Vec F S1024x2048 .bf16) (wa wb : Vec F S2048x1024 .bf16) : Vec F S1024x1024 .f32 :=
  if j < 7 then k0_pay4 xn wa else k0_pay4 xn wb

/-- The narrow columns' products: stored at the first block, kept at the others. -/
def abOf (j : ℕ) (x : Vec F S1024x2048 .f32) (nw : Vec F S1x2048 .f32) (wab : Vec F S2048x128 .f32) (ab : Vec F S1024x128 .f32) : Vec F S1024x128 .f32 :=
  if j = 0 then k0_pay3 x nw wab else ab

theorem cond1_iff (i : grid0.Coords) : k0_cond1 i = 1#1 ↔ (i 1).val = 0 := by
  unfold k0_cond1; generalize i 1 = n; revert n; decide +kernel

theorem cond2_iff (i : grid0.Coords) : k0_cond2 i = 1#1 ↔ (i 1).val < 7 := by
  unfold k0_cond2; generalize i 1 = n; revert n; decide +kernel

theorem cond3_iff (i : grid0.Coords) : k0_cond3 i = 1#1 ↔ ¬(i 1).val < 7 := by
  unfold k0_cond3; generalize i 1 = n; revert n; decide +kernel

set_option maxHeartbeats 4000000 in
/-- THE BODY at a point. -/
theorem run_body (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S2048x128 .f32) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S1024x2048 .bf16) (harg9 : arg9.IsWhole)
    (x : Vec F S1024x2048 .f32) (nw : Vec F S1x2048 .f32) (wa wb : Vec F S2048x1024 .bf16) (wab : Vec F S2048x128 .f32) (ab : Vec F S1024x128 .f32) (s : Vec F S1024x2048 .bf16) (E : Set ℕ) (K : PUnit → sProp 𝕄) :
    iprop(owns (c : Thread nD τ) arg2 fullShare x ∗ owns (c : Thread nD τ) arg3 fullShare nw ∗ owns (c : Thread nD τ) arg4 fullShare wa ∗ owns (c : Thread nD τ) arg5 fullShare wb ∗ owns (c : Thread nD τ) arg6 fullShare wab ∗ (∃ d, owns (c : Thread nD τ) arg7 fullShare d) ∗ owns (c : Thread nD τ) arg8 fullShare ab ∗ owns (c : Thread nD τ) arg9 fullShare s
        ∗ (iprop(owns (c : Thread nD τ) arg2 fullShare x ∗ owns (c : Thread nD τ) arg3 fullShare nw ∗ owns (c : Thread nD τ) arg4 fullShare wa ∗ owns (c : Thread nD τ) arg5 fullShare wb ∗ owns (c : Thread nD τ) arg6 fullShare wab ∗ owns (c : Thread nD τ) arg7 fullShare (outOf (i 1).val (normed (i 1).val x nw s) wa wb) ∗ owns (c : Thread nD τ) arg8 fullShare (abOf (i 1).val x nw wab ab) ∗ owns (c : Thread nD τ) arg9 fullShare (normed (i 1).val x nw s)) -∗ K ⟨⟩))
      ⊢ wp frame (wpE (defs₀ (F := F)) Variants.none c none) E (cc0_proj i arg2 harg2 arg3 harg3 arg4 harg4 arg5 harg5 arg6 harg6 arg7 harg7 arg8 harg8 arg9 harg9) K := by
  simp only [cc0_proj_eq_skeleton]; unfold cc0_proj_skel
  iintro ⟨H2, H3, H4, H5, H6, ⟨%d, H7⟩, H8, H9, Hk⟩
  unfold owns
  icases H2 with ⟨%f2, %h2, H2⟩
  icases H3 with ⟨%f3, %h3, H3⟩
  icases H4 with ⟨%f4, %h4, H4⟩
  icases H5 with ⟨%f5, %h5, H5⟩
  icases H6 with ⟨%f6, %h6, H6⟩
  icases H7 with ⟨%f7, -, H7⟩
  icases H8 with ⟨%f8, %h8, H8⟩
  icases H9 with ⟨%f9, %h9, H9⟩
  obtain rfl := harg2.eq_unread h2; obtain rfl := harg3.eq_unread h3; obtain rfl := harg4.eq_unread h4; obtain rfl := harg5.eq_unread h5
  obtain rfl := harg6.eq_unread h6; obtain rfl := harg8.eq_unread h8; obtain rfl := harg9.eq_unread h9
  by_cases j0 : (i 1).val = 0
  · have c1 := (cond1_iff i).mpr j0
    have j7 : (i 1).val < 7 := by omega
    have c2 := (cond2_iff i).mpr j7
    have c3 := mt (cond3_iff i).mp (not_not.mpr j7)
    rw [show normed (i 1).val x nw s = k0_pay2 x nw from if_pos j0, show abOf (i 1).val x nw wab ab = k0_pay3 x nw wab from if_pos j0,
      show outOf (i 1).val (k0_pay2 x nw) wa wb = k0_pay4 (k0_pay2 x nw) wa from if_pos j7]
    sl_exec (disch := first | sl_exact c1 | sl_exact c2 | sl_exact c3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro
      refine (View.read_writes_full arg7.view _ _ _ []).trans ?_
      refine congrArg₂ k0_pay4 ((View.readCov_full arg9.view _ _ _ []).trans ?_) ((View.readAt_full _ _ _).trans (harg4.read_unread wa))
      exact congrArg₂ k0_pay2 ((View.readAt_full _ _ _).trans (harg2.read_unread _)) ((View.readAt_full _ _ _).trans (harg3.read_unread _))
    isplitl [H8]
    · iexists _; isplitr; swap; · iexact H8
      ipureintro
      refine (View.read_writes_full arg8.view _ _ _ []).trans ?_
      exact congr (congrArg₂ k0_pay3 ((View.readAt_full _ _ _).trans (harg2.read_unread _)) ((View.readAt_full _ _ _).trans (harg3.read_unread _))) ((View.readAt_full _ _ _).trans (harg6.read_unread _))
    iexists _; isplitr; swap; · iexact H9
    ipureintro
    refine (View.read_writes_full arg9.view _ _ _ []).trans ?_
    exact congrArg₂ k0_pay2 ((View.readAt_full _ _ _).trans (harg2.read_unread _)) ((View.readAt_full _ _ _).trans (harg3.read_unread _))
  · have c1 := mt (cond1_iff i).mp j0
    rw [show normed (i 1).val x nw s = s from if_neg j0, show abOf (i 1).val x nw wab ab = ab from if_neg j0]
    by_cases j7 : (i 1).val < 7
    · have c2 := (cond2_iff i).mpr j7
      have c3 := mt (cond3_iff i).mp (not_not.mpr j7)
      rw [show outOf (i 1).val s wa wb = k0_pay4 s wa from if_pos j7]
      sl_exec (disch := first | sl_exact c1 | sl_exact c2 | sl_exact c3)
      sl_step
      iapply Hk
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; swap; · iexact H7
        ipureintro
        refine (View.read_writes_full arg7.view _ _ _ []).trans ?_
        exact congrArg₂ k0_pay4 ((View.readAt_full _ _ _).trans (harg9.read_unread _)) ((View.readAt_full _ _ _).trans (harg4.read_unread _))
      isplitl [H8]
      · iexists _; isplitr; · ipureintro; exact harg8.read_unread _
        iexact H8
      iexists _; isplitr; · ipureintro; exact harg9.read_unread _
      iexact H9
    · have c2 := mt (cond2_iff i).mp j7
      have c3 := (cond3_iff i).mpr j7
      rw [show outOf (i 1).val s wa wb = k0_pay4 s wb from if_neg j7]
      sl_exec (disch := first | sl_exact c1 | sl_exact c2 | sl_exact c3)
      sl_step
      iapply Hk
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; swap; · iexact H7
        ipureintro
        refine (View.read_writes_full arg7.view _ _ _ []).trans ?_
        exact congrArg₂ k0_pay5 ((View.readAt_full _ _ _).trans (harg9.read_unread _)) ((View.readAt_full _ _ _).trans (harg5.read_unread _))
      isplitl [H8]
      · iexists _; isplitr; · ipureintro; exact harg8.read_unread _
        iexact H8
      iexists _; isplitr; · ipureintro; exact harg9.read_unread _
      iexact H9

end Cert.Kernel2Ideal.Hand
end
-- ==== Proof.In.Run.lean ====
module

public import proofs.«01_k».proof.Proof.In.Body
public import Idealize.ShloMosaic.Lib.Claim

/-! The run of the input projection: what each grid point leaves, and what the arrays hold at the end. -/

@[expose] public section

set_option maxRecDepth 16384

noncomputable section

namespace Cert.Kernel2Ideal.Hand

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point of the block of rows that point `p` works on. -/
def headPt (p : ℕ) : Fin cfg0.N := ⟨14 * (p / 14) % 224, lt_of_lt_of_eq (Nat.mod_lt _ (by decide)) (show 224 = cfg0.N from N_0.symm)⟩

theorem headPt_eq {t : Fin cfg0.N} (h : t.val % 14 = 0) : headPt t.val = t := by
  have ht : t.val < 224 := lt_of_lt_of_eq t.isLt (show cfg0.N = 224 from N_0)
  refine Fin.ext ?_
  show 14 * (t.val / 14) % 224 = t.val
  omega

theorem headPt_succ {p : ℕ} (h : (p + 1) % 14 ≠ 0) : headPt (p + 1) = headPt p := by
  refine Fin.ext ?_
  show 14 * ((p + 1) / 14) % 224 = 14 * (p / 14) % 224
  omega

/-- The normalized rows that the scratch holds while point `p`'s block of rows is worked on. -/
def rowsAt (c : Dev nD) (p : ℕ) : Vec F S1024x2048 .bf16 := k0_pay2 (iblk m c 0 (headPt p)) (iblk m c 1 (headPt p))

/-- The narrow columns of that block of rows. -/
def abAt (c : Dev nD) (p : ℕ) : Vec F S1024x128 .f32 := k0_pay3 (iblk m c 0 (headPt p)) (iblk m c 1 (headPt p)) (iblk m c 4 (headPt p))

/-- What point `t` leaves in the wide output's buffer. -/
def outAt (c : Dev nD) (t : Fin cfg0.N) : Vec F S1024x1024 .f32 :=
  outOf (grid0.coords t 1).val (rowsAt m c t.val) (iblk m c 2 t) (iblk m c 3 t)

abbrev sc0 : Memref sig .tc .vmem S1024x2048 .bf16 := Memref.whole cc0_scratch0

/-- The scratch before point `p`: anything where a block of rows begins, the block's normalized rows elsewhere. -/
def Scratch (c : Dev nD) (p : ℕ) : sProp 𝕄 :=
  iprop((∃ s, ⌜p % 14 ≠ 0 → s = rowsAt m c p⌝ ∗ owns (c : Thread nD τ) sc0 fullShare s) ∗ (∃ r, prngReg c r))

/-- The launch's own invariant is the scratch at anything. -/
theorem launch_eq (c : Dev nD) : (Pipeline.ΦA spec0 c : sProp 𝕄)
    = iprop((∃ d, owns (c : Thread nD τ) sc0 fullShare d) ∗ (∃ r, prngReg c r)) := by
  unfold Pipeline.ΦA; rw [scopedRest0_eq]; simp only [sc0, owns_whole]; try rfl

theorem scratch_in (c : Dev nD) : (Pipeline.ΦA spec0 c : sProp 𝕄) ⊢ Scratch m c 0 := by
  rw [launch_eq]; unfold Scratch
  iintro ⟨⟨%s, H⟩, Hg⟩
  isplitl [H]
  · iexists s
    isplitr
    · ipureintro; intro h; exact absurd rfl h
    iexact H
  iexact Hg

theorem scratch_out (c : Dev nD) (p : ℕ) : Scratch m c p ⊢ (Pipeline.ΦA spec0 c : sProp 𝕄) := by
  rw [launch_eq]; unfold Scratch
  iintro ⟨⟨%s, -, H⟩, Hg⟩
  isplitl [H]
  · iexists _; iexact H
  iexact Hg

/-- The pipeline's data: the arrays as launched, each input's buffer at its block, the outputs' at `outAt` and `abAt`, the scratch tracked. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
    | ⟨6, _⟩ => abAt m c t.val
  Φ p := Scratch m c p.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]
theorem after_6 (c : Dev nD) (t : Fin cfg0.N) : (dats m 0 c).after 6 t = abAt m c t.val := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

theorem coord1 (t : Fin cfg0.N) : (grid0.coords t 1).val = t.val % 14 := by
  have e1 : (grid0.coords t 1).val = t.val / 1 % 14 := Pipeline.Grid.coords_val t 1 (by decide) rfl
  rw [e1, Nat.div_one]

/-- The wide output is stored at every point. -/
theorem idle_5 (t : Fin cfg0.N) : cfg0.idle 5 (grid0.coords t) = false := by
  show (!(k0_cond2 (grid0.coords t) == 1#1) && !(k0_cond3 (grid0.coords t) == 1#1)) = false
  by_cases h : (grid0.coords t 1).val < 7
  · rw [(cond2_iff (grid0.coords t)).mpr h]; rfl
  · rw [(cond3_iff (grid0.coords t)).mpr h, Bool.and_comm]; rfl

/-- The narrow output is stored where a block of rows begins, and only there. -/
theorem idle_6 {t : Fin cfg0.N} (h : t.val % 14 ≠ 0) : cfg0.idle 6 (grid0.coords t) = true := by
  show (!(k0_cond1 (grid0.coords t) == 1#1)) = true
  have h1 : ¬k0_cond1 (grid0.coords t) = 1#1 := fun e => h ((coord1 t) ▸ (cond1_iff (grid0.coords t)).mp e)
  simpa using h1

theorem live_6 {t : Fin cfg0.N} (h : t.val % 14 = 0) : cfg0.idle 6 (grid0.coords t) = false := by
  show (!(k0_cond1 (grid0.coords t) == 1#1)) = false
  rw [(cond1_iff (grid0.coords t)).mpr ((coord1 t).trans h)]; rfl

theorem keep_6 {t : Fin cfg0.N} (h : t.val % 14 ≠ 13) : (cfg0.win 6).flush t = false :=
  Bool.eq_false_iff.mpr fun e => h ((flush0_6 t).mp e)

/-- Within a block of rows the narrow output's buffer still holds what the block's first point stored. -/
theorem before_6 (c : Dev nD) (d) : ∀ (n : ℕ) (t : Fin cfg0.N), t.val = n → n % 14 ≠ 0 → (dats m 0 c).before 6 t d = abAt m c n := by
  intro n
  induction n with
  | zero => intro t _ h; exact absurd rfl h
  | succ n ih =>
    intro t ht h
    have hne : t.val ≠ 0 := by omega
    rw [(dats m 0 c).before_of_pos 6 t hne ((cfg0.win 6).fetch_out rfl t)]
    have hp : (⟨t.val - 1, Nat.lt_of_le_of_lt (Nat.sub_le _ _) t.isLt⟩ : Fin cfg0.N).val = n := by
      show t.val - 1 = n
      omega
    generalize (⟨t.val - 1, Nat.lt_of_le_of_lt (Nat.sub_le _ _) t.isLt⟩ : Fin cfg0.N) = u at hp
    rw [keep_6 (t := u) (by omega), if_neg Bool.false_ne_true]
    unfold Dat.left
    have hh : abAt m c (n + 1) = abAt m c n := by unfold abAt; rw [headPt_succ h]
    rw [hh]
    by_cases h0 : n % 14 = 0
    · rw [live_6 (t := u) (by omega)]
      show (dats m 0 c).after 6 u = _
      rw [after_6, hp]
    · rw [idle_6 (t := u) (by omega)]
      exact ih u hp h0

/-- What the body is handed at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t ∗ (dats m 0 c).leavesExact 6 t)

/-- The wide output's buffer is left at its products. -/
theorem leaves_5 (c : Dev nD) (t : Fin cfg0.N) : (dats m 0 c).leavesExact 5 t = owns (c : Thread nD τ) (st0_5 t) fullShare (outAt m c t) := by
  unfold Dat.leavesExact; rw [idle_5 t, after_5]

/-- The narrow output's buffer, left at its products or as found. -/
theorem leaves_6 (c : Dev nD) (t : Fin cfg0.N) (ab d : Vec F S1024x128 .f32) (hab : ab = (dats m 0 c).before 6 t d) :
    owns (c : Thread nD τ) (st0_6 t) fullShare (abOf (grid0.coords t 1).val (iblk m c 0 t) (iblk m c 1 t) (iblk m c 4 t) ab)
      ⊢ ((dats m 0 c).leavesExact 6 t : sProp 𝕄) := by
  by_cases h0 : t.val % 14 = 0
  · have e : abOf (grid0.coords t 1).val (iblk m c 0 t) (iblk m c 1 t) (iblk m c 4 t) ab = (dats m 0 c).after 6 t := by
      rw [after_6]; unfold abOf abAt; rw [if_pos ((coord1 t).trans h0), headPt_eq h0]
    rw [e]; unfold Dat.leavesExact; rw [live_6 h0]
  · have e : abOf (grid0.coords t 1).val (iblk m c 0 t) (iblk m c 1 t) (iblk m c 4 t) ab = ab := if_neg (by rw [coord1]; exact h0)
    rw [e]
    by_cases h1 : t.val % 14 = 13
    · have e' : ab = (dats m 0 c).after 6 t := by rw [hab, before_6 m c d t.val t rfl h0, after_6]
      unfold Dat.leavesExact; rw [idle_6 h0, (flush0_6 t).mpr h1, e']
    · rw [(dats m 0 c).leavesExact_idle 6 t (idle_6 h0) (keep_6 h1), hab]
      iintro H; iexists d; iexact H

/-- The scratch after a point's first step. -/
theorem normed_eq (c : Dev nD) (t : Fin cfg0.N) (s : Vec F S1024x2048 .bf16) (h : t.val % 14 ≠ 0 → s = rowsAt m c t.val) :
    normed (grid0.coords t 1).val (iblk m c 0 t) (iblk m c 1 t) s = rowsAt m c t.val := by
  unfold normed
  rw [coord1]
  by_cases h0 : t.val % 14 = 0
  · rw [if_pos h0]; unfold rowsAt; rw [headPt_eq h0]
  · rw [if_neg h0]; exact h h0

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4, leaves_5]
  rw [show (dats m 0 c).Φ t.castSucc = Scratch m c t.val from rfl, show (dats m 0 c).Φ t.succ = Scratch m c (t.val + 1) from rfl]
  unfold Scratch
  iintro ⟨⟨⟨%s, %hs, H9⟩, Hg⟩, Ho, ⟨%d0, H0⟩, ⟨%d1, H1⟩, ⟨%d2, H2⟩, ⟨%d3, H3⟩, ⟨%d4, H4⟩, ⟨%d5, H5⟩, ⟨%d6, H6⟩⟩
  have e9 := normed_eq m c t s hs
  iapply (run_body c (grid0.coords t) _ _ _ _ _ _ _ _ _ _ _ _ _ _ _ _ (iblk m c 0 t) (iblk m c 1 t) (iblk m c 2 t) (iblk m c 3 t) (iblk m c 4 t) ((dats m 0 c).before 6 t d6) s Set.univ _)
  rw [e9]
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H9]; · iexact H9
  iintro ⟨H0, H1, H2, H3, H4, H5, H6, H9⟩
  isplitl [H9 Hg]
  · isplitl [H9]
    · iexists _
      isplitr
      swap
      · iexact H9
      ipureintro
      intro h
      unfold rowsAt
      rw [headPt_succ h]
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leaves_6 m c t _ d6 rfl)
  iexact H6

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

set_option backward.isDefEq.respectTransparency.types false in
/-- The run: the arrays end as the data say, and every counter at zero. -/
theorem run_end : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := scratch_in m) (hout := fun c => scratch_out m c _)

theorem run_main : θ_run defs (onTc (τ := τ) (main (F := F))) (s₀ m ρ) (Pipeline.FramePost cfgs (dats m) 0 (V m)) :=
  (θ_run defs _ _).mono (fun _ h => h.1) (run_end m ρ)

/-- The frame, at any values: the arguments end unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_end m ρ))

end Cert.Kernel2Ideal.Hand
end
-- ==== Proof.In.Norm.lean ====
module

public import Idealize.ShloMosaic.Lib.ValueIdx
public import Idealize.ShloMosaic.Lib.MatmulPlain
public import Idealize.ShloMosaic.Lib.IdealHost
public import Idealize.ShloMosaic.Lib.Pipeline.Value
public import Idealize.ShloMosaic.Lib.Pipeline.ValueKit

/-! A row normalized and multiplied into a column, on the extended reals. -/

@[expose] public section

set_option maxRecDepth 16384

noncomputable section

namespace Cert.Rows

open Idealize.ShloMosaic hiding ix1 ix2 ix3
open Idealize.ShloMosaic.ValueIdx
open scoped BigOperators

/-- One normalized entry of a row `f` with weights `g`. -/
def rms (f g : Fin 2048 → EReal) (k : Fin 2048) : EReal :=
  f k * Ideal.rsqrt (Ideal.div (∑ j, f j * f j) (Ideal.ofBits .f32 0x45000000#32) + Ideal.ofBits .f32 0x358637BD#32) * g k

/-- A normalized row against a column. -/
def dot (f g w : Fin 2048 → EReal) : EReal := ∑ k, rms f g k * w k

/-- The tile's rows, normalized as the kernels do it, at an element. -/
theorem rms_apply {M : ℕ} (x : FVec Ideal ⟨2, ![M, 2048]⟩ .f32) (g : FVec Ideal ⟨2, ![1, 2048]⟩ .f32)
    (hr : Shape.Reduces ⟨2, ![M, 2048]⟩ [1] ⟨1, ![M]⟩) (hc : Shape.ShapeCasts ⟨1, ![M]⟩ ⟨2, ![M, 1]⟩)
    (hb : Shape.Broadcasts ⟨2, ![M, 1]⟩ ⟨2, ![M, 2048]⟩) (hg : Shape.Broadcasts ⟨2, ![1, 2048]⟩ ⟨2, ![M, 2048]⟩)
    (hφ : FKind.Formats .f32) (ha : (0x00000000#32 : BitVec 32) = FKind.add.neutral .f32 hφ) (r : Fin M) (k : Fin 2048) :
    mulf (mulf x (broadcastTo ⟨2, ![M, 2048]⟩ (rsqrt (addf (divf (shapeCast ⟨2, ![M, 1]⟩
        (multiReduction .add [1] ⟨1, ![M]⟩ (mulf x x) 0x00000000#32 hr hφ ha) hc)
        (broadcast ⟨2, ![M, 1]⟩ (Scalar.ofBits (F := Ideal) .f32 0x45000000#32))) (broadcast ⟨2, ![M, 1]⟩ (Scalar.ofBits (F := Ideal) .f32 0x358637BD#32)))) hb))
      (broadcastTo ⟨2, ![M, 2048]⟩ g hg) (ix2 r k)
      = rms (fun j => x (ix2 r j)) (fun j => g (ix2 0 j)) k := by
  have eb : ∀ v : FVec Ideal ⟨2, ![M, 1]⟩ .f32, broadcastTo ⟨2, ![M, 2048]⟩ v hb (ix2 r k) = v (ix2 r 0) := fun v =>
    broadcastTo_apply v hb (ix2 r k) (ix2 r 0) (fun a => by
      match a with
      | ⟨0, _⟩ =>
        show r.val = if M = 1 then 0 else r.val
        split
        · have := r.isLt; omega
        · rfl
      | ⟨1, _⟩ => rfl)
  have eg : broadcastTo ⟨2, ![M, 2048]⟩ g hg (ix2 r k) = g (ix2 0 k) :=
    broadcastTo_apply g hg (ix2 r k) (ix2 0 k) (fun a => by
      match a with
      | ⟨0, _⟩ => rfl
      | ⟨1, _⟩ => rfl)
  have ec : ∀ v : FVec Ideal ⟨1, ![M]⟩ .f32, shapeCast ⟨2, ![M, 1]⟩ v hc (ix2 r 0) = v (ix1 r) := fun v =>
    shapeCast_apply v hc (ix2 r 0) (ix1 r) (by
      rw [Shape.rowMajor_val_one, Shape.rowMajor_val_two]
      show r.val = r.val * 1 + 0
      omega)
  have es : multiReduction .add [1] ⟨1, ![M]⟩ (mulf x x) 0x00000000#32 hr hφ ha (ix1 r) = ∑ j : Fin 2048, x (ix2 r j) * x (ix2 r j) := by
    refine (Ideal.multiReduction_add_single (mulf x x) 0x00000000#32 hr hφ ha (ix1 r)).trans ?_
    refine Finset.sum_congr rfl fun j _ => ?_
    have hl : hr.lift (ix1 r) j = ix2 r j := funext fun a => Fin.ext (by
      match a with
      | ⟨0, _⟩ => rfl
      | ⟨1, _⟩ => rfl)
    show x _ * x _ = _
    rw [hl]
    rfl
  show x (ix2 r k) * broadcastTo _ _ hb (ix2 r k) * broadcastTo _ g hg (ix2 r k) = _
  rw [eb, eg]
  show x (ix2 r k) * Ideal.rsqrt (Ideal.div (shapeCast _ _ hc (ix2 r 0)) _ + _) * g (ix2 0 k) = _
  rw [ec, es]
  rfl

/-- A plain product from zero, at an element. -/
theorem product_apply {M N : ℕ} {φ : FTy} (x : FVec Ideal ⟨2, ![M, 2048]⟩ φ) (w : FVec Ideal ⟨2, ![2048, N]⟩ φ) (r : Fin M) (j : Fin N) :
    FloatOps.matmul (DotDims.plain M 2048 N) none x w (constant ⟨2, ![M, N]⟩ .f32 0x00000000#32) (ix2 r j) = ∑ k : Fin 2048, x (ix2 r k) * w (ix2 k j) := by
  have z : constant (F := Ideal) ⟨2, ![M, N]⟩ .f32 0x00000000#32 (ix2 r j) = (0 : EReal) := by
    show Ideal.ofBits .f32 0x00000000#32 = 0
    norm_num [Ideal.ofBits, Ideal.ieee]
  rw [Ideal.matmul_plain_apply (M := M) (K := 2048) (N := N) none x w _ r j, z, zero_add]

/-- Row `r` of a batch of sequences laid end to end. -/
def row {B S : ℕ} [NeZero B] [NeZero S] (X : (⟨3, ![B, S, 2048]⟩ : Shape).Idx → EReal) (r : ℕ) (k : Fin 2048) : EReal :=
  X (ix3 (Fin.ofNat B (r / S)) (Fin.ofNat S (r % S)) k)

/-- Column `j` of a matrix. -/
def col {N : ℕ} [NeZero N] (W : (⟨2, ![2048, N]⟩ : Shape).Idx → EReal) (j : ℕ) (k : Fin 2048) : EReal := W (ix2 k (Fin.ofNat N j))

/-- A vector by its coordinate. -/
def vec (g : (⟨1, ![2048]⟩ : Shape).Idx → EReal) (k : Fin 2048) : EReal := g (ix1 k)

theorem row_eq {B S : ℕ} [NeZero B] [NeZero S] (X : (⟨3, ![B, S, 2048]⟩ : Shape).Idx → EReal) (i : (⟨3, ![B, S, 2048]⟩ : Shape).Idx)
    {r : ℕ} {k : Fin 2048} (h0 : (i 0).val = r / S) (h1 : (i 1).val = r % S) (h2 : (i 2).val = k.val) : X i = row X r k := by
  have l0 : (i 0).val < B := (i 0).isLt
  have l1 : (i 1).val < S := (i 1).isLt
  unfold row
  refine congrArg X (funext fun a => Fin.ext ?_)
  match a with
  | ⟨0, _⟩ => show (i 0).val = r / S % B; rw [← h0, Nat.mod_eq_of_lt l0]
  | ⟨1, _⟩ => show (i 1).val = r % S % S; rw [← h1, Nat.mod_eq_of_lt l1]
  | ⟨2, _⟩ => exact h2

theorem col_eq {N : ℕ} [NeZero N] (W : (⟨2, ![2048, N]⟩ : Shape).Idx → EReal) (i : (⟨2, ![2048, N]⟩ : Shape).Idx)
    {j : ℕ} {k : Fin 2048} (h0 : (i 0).val = k.val) (h1 : (i 1).val = j) : W i = col W j k := by
  have l1 : (i 1).val < N := (i 1).isLt
  unfold col
  refine congrArg W (funext fun a => Fin.ext ?_)
  match a with
  | ⟨0, _⟩ => exact h0
  | ⟨1, _⟩ => show (i 1).val = j % N; rw [← h1, Nat.mod_eq_of_lt l1]

theorem vec_eq (g : (⟨1, ![2048]⟩ : Shape).Idx → EReal) (i : (⟨1, ![2048]⟩ : Shape).Idx) {k : Fin 2048} (h : (i 0).val = k.val) : g i = vec g k := by
  unfold vec
  refine congrArg g (funext fun a => Fin.ext ?_)
  match a with
  | ⟨0, _⟩ => exact h

end Cert.Rows
end
-- ==== Proof.In.Arrays.lean ====
module

public import proofs.«01_k».proof.Proof.In.Run
public import proofs.«01_k».proof.Proof.In.Norm
public import Idealize.ShloMosaic.Lib.KernelVsHost

/-! The input projection's two result arrays: every element is its normalized row against its column. -/

@[expose] public section

set_option maxRecDepth 16384

noncomputable section

namespace Cert.Kernel2Ideal.Hand

open Cert.Kernel2Ideal.Gen Cert.Rows
open Idealize.ShloMosaic hiding ix1 ix2 ix3
open Idealize.ShloMosaic.TcCoe Idealize.SL.Sem Idealize.ShloMosaic.ValueIdx
open Idealize.ShloMosaic.Pipeline (Dat)
open scoped BigOperators

variable (m : (ℓ : Loc nD τ sig) → Buf (Elt Ideal) ℓ)

/-- The arguments at their shapes. -/
abbrev argX (c : Dev nD) : S2x8192x2048.Idx → EReal := m ((c : Thread nD τ).loc main_arg0)
abbrev argG (c : Dev nD) : S2048.Idx → EReal := m ((c : Thread nD τ).loc main_arg1)
abbrev argW (c : Dev nD) : S2048x14352.Idx → EReal := m ((c : Thread nD τ).loc main_arg2)

/-- The index maps, by the point's number. -/
theorem idx : ∀ t : Fin cfg0.N, win0_0.index t = ![t.val / 14, 0] ∧ win0_1.index t = ![0, 0]
    ∧ win0_2.index t = ![0, min (t.val % 14) 6] ∧ win0_3.index t = ![0, t.val % 14 - 7]
    ∧ win0_4.index t = ![0, 0] ∧ win0_5.index t = ![t.val / 14, t.val % 14] ∧ win0_6.index t = ![t.val / 14, 0] :=
  (by decide +kernel : ∀ t : Fin grid0.N, _)

/-- The arrays that the host code prepares. -/
theorem V_x (c : Dev nD) : (V m c main_v6 : S16384x2048.Idx → EReal) = shapeCast S16384x2048 (argX m c) shapeCasts_S2x8192x2048_S16384x2048 := by
  simp only [V, hostOps0, hostOps0_1, hostOps0_2, List.flatten_cons, List.flatten_nil, List.cons_append, List.nil_append]
  after_results
  rfl

theorem V_g (c : Dev nD) : (V m c main_v7 : S1x2048.Idx → EReal) = shapeCast S1x2048 (argG m c) shapeCasts_S2048_S1x2048 := by
  simp only [V, hostOps0, hostOps0_1, hostOps0_2, List.flatten_cons, List.flatten_nil, List.cons_append, List.nil_append]
  after_results
  rfl

theorem V_a (c : Dev nD) : (V m c main_v3 : S2048x7168.Idx → EReal)
    = extractStridedSlice S2048x7168 ![0, 0] (argW m c) slices_S2048x14352_S2048x7168_0_0 := by
  simp only [V, hostOps0, hostOps0_1, hostOps0_2, List.flatten_cons, List.flatten_nil, List.cons_append, List.nil_append]
  after_results
  rfl

theorem V_b (c : Dev nD) : (V m c main_v5 : S2048x7168.Idx → EReal)
    = extractStridedSlice S2048x7168 ![0, 7184] (argW m c) slices_S2048x14352_S2048x7168_0_7184 := by
  simp only [V, hostOps0, hostOps0_1, hostOps0_2, List.flatten_cons, List.flatten_nil, List.cons_append, List.nil_append]
  after_results
  rfl

theorem V_ab (c : Dev nD) : (V m c main_v1 : S2048x128.Idx → EReal) = pad S2048x128 ![0, 0] ![0, 112] ![0, 0]
    (extractStridedSlice S2048x16 ![0, 7168] (argW m c) slices_S2048x14352_S2048x16_0_7168) (sitofp (F := Ideal) .f32 (constantI S_ 32 0#32))
    pads_S2048x16_S2048x128_000_01120 h_S_ := by
  simp only [V, hostOps0, hostOps0_1, hostOps0_2, List.flatten_cons, List.flatten_nil, List.cons_append, List.nil_append]
  after_results
  rfl

/-- The rows' block, at an element. -/
theorem iblk_x (c : Dev nD) (t : Fin cfg0.N) (r : Fin 1024) (k : Fin 2048) :
    (iblk m c 0 t : FVec Ideal S1024x2048 .f32) (ix2 r k) = row (argX m c) (1024 * (t.val / 14) + r.val) k := by
  have hr := r.isLt
  have hk := k.isLt
  have ht : t.val < 224 := lt_of_lt_of_eq t.isLt (show cfg0.N = 224 from N_0)
  have e0 : (((win0_0.blk t).view.emb (ix2 r k)) 0 : ℕ) = 1024 * (t.val / 14) + r.val := by
    blk_simp [idx t]
    show t.val / 14 * 1024 + r.val = _
    omega
  have e1 : (((win0_0.blk t).view.emb (ix2 r k)) 1 : ℕ) = k.val := by blk_simp [idx t]; rfl
  show (V m c main_v6 : S16384x2048.Idx → EReal) ((win0_0.blk t).view.emb (ix2 r k)) = _
  rw [V_x]
  generalize (win0_0.blk t).view.emb (ix2 r k) = i at e0 e1
  have hi0 : (i 0).val = 1024 * (t.val / 14) + r.val := e0
  have hi1 : (i 1).val = k.val := e1
  refine (shapeCast_apply _ shapeCasts_S2x8192x2048_S16384x2048 i
    (ix3 ⟨(i 0).val / 8192, by omega⟩ ⟨(i 0).val % 8192, by omega⟩ k) ?_).trans ?_
  · rw [Shape.rowMajor_val_three, Shape.rowMajor_val_two]
    show ((i 0).val / 8192 * 8192 + (i 0).val % 8192) * 2048 + k.val = (i 0).val * 2048 + (i 1).val
    omega
  · rw [← hi0]
    exact row_eq _ _ rfl rfl rfl

/-- The norm weights' block. -/
theorem iblk_g (c : Dev nD) (t : Fin cfg0.N) (k : Fin 2048) :
    (iblk m c 1 t : FVec Ideal S1x2048 .f32) (ix2 0 k) = vec (argG m c) k := by
  have e0 : (((win0_1.blk t).view.emb (ix2 (0 : Fin 1) k)) 0 : ℕ) = 0 := by blk_simp [idx t]
  have e1 : (((win0_1.blk t).view.emb (ix2 (0 : Fin 1) k)) 1 : ℕ) = k.val := by blk_simp [idx t]; rfl
  show (V m c main_v7 : S1x2048.Idx → EReal) ((win0_1.blk t).view.emb (ix2 0 k)) = _
  rw [V_g]
  generalize (win0_1.blk t).view.emb (ix2 (0 : Fin 1) k) = i at e0 e1
  have hi0 : (i 0).val = 0 := e0
  have hi1 : (i 1).val = k.val := e1
  refine (shapeCast_apply _ shapeCasts_S2048_S1x2048 i (ix1 k) ?_).trans ?_
  · rw [Shape.rowMajor_val_one, Shape.rowMajor_val_two]
    show k.val = (i 0).val * 2048 + (i 1).val
    omega
  · rfl

/-- The first wide weights' block. -/
theorem iblk_a (c : Dev nD) (t : Fin cfg0.N) (h : t.val % 14 < 7) (k : Fin 2048) (j : Fin 1024) :
    (iblk m c 2 t : FVec Ideal S2048x1024 .bf16) (ix2 k j) = col (argW m c) (1024 * (t.val % 14) + j.val) k := by
  have hj := j.isLt
  have e0 : (((win0_2.blk t).view.emb (ix2 k j)) 0 : ℕ) = k.val := by blk_simp [idx t]; rfl
  have e1 : (((win0_2.blk t).view.emb (ix2 k j)) 1 : ℕ) = 1024 * (t.val % 14) + j.val := by
    blk_simp [idx t]
    show min (t.val % 14) 6 * 1024 + j.val = _
    omega
  show (V m c main_v3 : S2048x7168.Idx → EReal) ((win0_2.blk t).view.emb (ix2 k j)) = _
  rw [V_a]
  generalize (win0_2.blk t).view.emb (ix2 k j) = i at e0 e1
  have hi0 : (i 0).val = k.val := e0
  have hi1 : (i 1).val = 1024 * (t.val % 14) + j.val := e1
  refine (extractStridedSlice_apply _ _ slices_S2048x14352_S2048x7168_0_0 i (ix2 k ⟨(i 1).val, by omega⟩) (fun a => ?_)).trans ?_
  · match a with
    | ⟨0, _⟩ => show k.val = 0 + (i 0).val; omega
    | ⟨1, _⟩ => show (i 1).val = 0 + (i 1).val; omega
  · exact col_eq _ _ rfl hi1

/-- The second wide weights' block. -/
theorem iblk_b (c : Dev nD) (t : Fin cfg0.N) (h : ¬t.val % 14 < 7) (k : Fin 2048) (j : Fin 1024) :
    (iblk m c 3 t : FVec Ideal S2048x1024 .bf16) (ix2 k j) = col (argW m c) (1024 * (t.val % 14) + j.val + 16) k := by
  have hj := j.isLt
  have e0 : (((win0_3.blk t).view.emb (ix2 k j)) 0 : ℕ) = k.val := by blk_simp [idx t]; rfl
  have e1 : (((win0_3.blk t).view.emb (ix2 k j)) 1 : ℕ) = 1024 * (t.val % 14 - 7) + j.val := by
    blk_simp [idx t]
    show (t.val % 14 - 7) * 1024 + j.val = _
    omega
  show (V m c main_v5 : S2048x7168.Idx → EReal) ((win0_3.blk t).view.emb (ix2 k j)) = _
  rw [V_b]
  generalize (win0_3.blk t).view.emb (ix2 k j) = i at e0 e1
  have hi0 : (i 0).val = k.val := e0
  have hi1 : (i 1).val = 1024 * (t.val % 14 - 7) + j.val := e1
  refine (extractStridedSlice_apply _ _ slices_S2048x14352_S2048x7168_0_7184 i (ix2 k ⟨7184 + (i 1).val, by omega⟩) (fun a => ?_)).trans ?_
  · match a with
    | ⟨0, _⟩ => show k.val = 0 + (i 0).val; omega
    | ⟨1, _⟩ => rfl
  · refine col_eq _ _ rfl ?_
    show 7184 + (i 1).val = _
    omega

/-- The narrow weights' block: the sixteen columns between, then zeros. -/
theorem iblk_ab (c : Dev nD) (t : Fin cfg0.N) (k : Fin 2048) (j : Fin 128) :
    (iblk m c 4 t : FVec Ideal S2048x128 .f32) (ix2 k j) = if j.val < 16 then col (argW m c) (7168 + j.val) k else 0 := by
  have e0 : (((win0_4.blk t).view.emb (ix2 k j)) 0 : ℕ) = k.val := by blk_simp [idx t]; rfl
  have e1 : (((win0_4.blk t).view.emb (ix2 k j)) 1 : ℕ) = j.val := by blk_simp [idx t]; rfl
  show (V m c main_v1 : S2048x128.Idx → EReal) ((win0_4.blk t).view.emb (ix2 k j)) = _
  rw [V_ab]
  generalize (win0_4.blk t).view.emb (ix2 k j) = i at e0 e1
  have hi0 : (i 0).val = k.val := e0
  have hi1 : (i 1).val = j.val := e1
  by_cases hj : j.val < 16
  · rw [if_pos hj]
    refine (pad_apply_of_inside _ _ _ _ _ pads_S2048x16_S2048x128_000_01120 h_S_ i (ix2 k ⟨j.val, hj⟩) (fun a => ?_)).trans ?_
    · match a with
      | ⟨0, _⟩ => show (i 0).val = 0 + k.val * (0 + 1); omega
      | ⟨1, _⟩ => show (i 1).val = 0 + j.val * (0 + 1); omega
    refine (extractStridedSlice_apply _ _ slices_S2048x14352_S2048x16_0_7168 _ (ix2 k ⟨7168 + j.val, by omega⟩) (fun a => ?_)).trans ?_
    · match a with
      | ⟨0, _⟩ => show k.val = 0 + k.val; omega
      | ⟨1, _⟩ => rfl
    exact col_eq _ _ rfl rfl
  · rw [if_neg hj]
    refine (pad_apply_of_not_inside _ _ _ _ _ pads_S2048x16_S2048x128_000_01120 h_S_ i (1 : Fin 2) (fun hh => hj ?_)).trans ?_
    · have h3 : ((i 1).val - 0) / (0 + 1) < 16 := hh.2.2
      omega
    · show (((0#32 : BitVec 32).toInt : ℝ) : EReal) = 0
      simp

theorem headPt_div (t : Fin cfg0.N) : (headPt t.val).val / 14 = t.val / 14 := by
  have ht : t.val < 224 := lt_of_lt_of_eq t.isLt (show cfg0.N = 224 from N_0)
  show 14 * (t.val / 14) % 224 / 14 = _
  omega

theorem normed_apply (x : FVec Ideal S1024x2048 .f32) (g : FVec Ideal S1x2048 .f32) (r : Fin 1024) (k : Fin 2048) :
    (k0_pay1 (F := Ideal) x g) (ix2 r k) = rms (fun j => x (ix2 r j)) (fun j => g (ix2 0 j)) k := by
  unfold k0_pay1
  simp only [shapeCast_self]
  exact rms_apply x g reduces_S1024x2048_S1024 shapeCasts_S1024_S1024x1 broadcasts_S1024x1_S1024x2048 broadcasts_S1x2048_S1024x2048 _ _ r k

/-- The scratch's normalized rows. -/
theorem rowsAt_apply (c : Dev nD) (t : Fin cfg0.N) (r : Fin 1024) (k : Fin 2048) :
    (rowsAt m c t.val : FVec Ideal S1024x2048 .bf16) (ix2 r k) = rms (row (argX m c) (1024 * (t.val / 14) + r.val)) (vec (argG m c)) k := by
  unfold rowsAt k0_pay2
  simp only [shapeCast_self]
  rw [normed_apply, funext fun j => iblk_x m c (headPt t.val) r j, headPt_div, funext fun j => iblk_g m c (headPt t.val) j]

/-- What a point leaves in the wide output's block. -/
theorem outAt_apply (c : Dev nD) (t : Fin cfg0.N) (r j : Fin 1024) :
    (outAt m c t : FVec Ideal S1024x1024 .f32) (ix2 r j)
      = dot (row (argX m c) (1024 * (t.val / 14) + r.val)) (vec (argG m c))
        (col (argW m c) (if 1024 * (t.val % 14) + j.val < 7168 then 1024 * (t.val % 14) + j.val else 1024 * (t.val % 14) + j.val + 16)) := by
  have hj := j.isLt
  unfold outAt outOf dot
  rw [coord1]
  by_cases h : t.val % 14 < 7
  · rw [if_pos h, if_pos (by omega)]
    unfold k0_pay4
    simp only [shapeCast_self]
    refine (product_apply (M := 1024) (N := 1024) (rowsAt m c t.val) (iblk m c 2 t) r j).trans ?_
    exact Finset.sum_congr rfl fun k _ => congrArg₂ (· * ·) (rowsAt_apply m c t r k) (iblk_a m c t h k j)
  · rw [if_neg h, if_neg (by omega)]
    unfold k0_pay4
    simp only [shapeCast_self]
    refine (product_apply (M := 1024) (N := 1024) (rowsAt m c t.val) (iblk m c 3 t) r j).trans ?_
    exact Finset.sum_congr rfl fun k _ => congrArg₂ (· * ·) (rowsAt_apply m c t r k) (iblk_b m c t h k j)

/-- What a block of rows leaves in the narrow output's block. -/
theorem abAt_apply (c : Dev nD) (t : Fin cfg0.N) (r : Fin 1024) (j : Fin 128) :
    (abAt m c t.val : FVec Ideal S1024x128 .f32) (ix2 r j)
      = if j.val < 16 then dot (row (argX m c) (1024 * (t.val / 14) + r.val)) (vec (argG m c)) (col (argW m c) (7168 + j.val)) else 0 := by
  unfold abAt k0_pay3
  simp only [shapeCast_self]
  refine (product_apply (M := 1024) (N := 128) (k0_pay1 (F := Ideal) (iblk m c 0 (headPt t.val)) (iblk m c 1 (headPt t.val))) (iblk m c 4 (headPt t.val)) r j).trans ?_
  have e : ∀ k : Fin 2048, (k0_pay1 (F := Ideal) (iblk m c 0 (headPt t.val)) (iblk m c 1 (headPt t.val))) (ix2 r k)
      = rms (row (argX m c) (1024 * (t.val / 14) + r.val)) (vec (argG m c)) k := fun k => by
    rw [normed_apply, funext fun j => iblk_x m c (headPt t.val) r j, headPt_div, funext fun j => iblk_g m c (headPt t.val) j]
  rw [Finset.sum_congr rfl fun k _ => congrArg₂ (· * ·) (e k) (iblk_ab m c (headPt t.val) k j)]
  by_cases h : j.val < 16
  · rw [if_pos h]
    unfold dot
    exact Finset.sum_congr rfl fun k _ => by rw [if_pos h]
  · rw [if_neg h]
    exact Finset.sum_eq_zero fun k _ => by rw [if_neg h, mul_zero]

theorem outAt_at (c : Dev nD) (t : Fin cfg0.N) (y : S1024x1024.Idx) :
    (outAt m c t : FVec Ideal S1024x1024 .f32) y
      = dot (row (argX m c) (1024 * (t.val / 14) + (y 0).val)) (vec (argG m c))
        (col (argW m c) (if 1024 * (t.val % 14) + (y 1).val < 7168 then 1024 * (t.val % 14) + (y 1).val else 1024 * (t.val % 14) + (y 1).val + 16)) := by
  conv_lhs => rw [ValueIdx.eq_ix2 y]
  exact outAt_apply m c t (y 0) (y 1)

theorem abAt_at (c : Dev nD) (t : Fin cfg0.N) (y : S1024x128.Idx) :
    (abAt m c t.val : FVec Ideal S1024x128 .f32) y
      = if (y 1).val < 16 then dot (row (argX m c) (1024 * (t.val / 14) + (y 0).val)) (vec (argG m c)) (col (argW m c) (7168 + (y 1).val)) else 0 := by
  conv_lhs => rw [ValueIdx.eq_ix2 y]
  exact abAt_apply m c t (y 0) (y 1)

/-- The wide result: the projection's columns without the sixteen narrow ones. -/
def wide (X : S2x8192x2048.Idx → EReal) (g : S2048.Idx → EReal) (W : S2048x14352.Idx → EReal) : S16384x14336.Idx → EReal := fun i =>
  dot (row X (i 0).val) (vec g) (col W (if (i 1).val < 7168 then (i 1).val else (i 1).val + 16))

/-- The narrow result: the sixteen columns, then zeros. -/
def narrow (X : S2x8192x2048.Idx → EReal) (g : S2048.Idx → EReal) (W : S2048x14352.Idx → EReal) : S16384x128.Idx → EReal := fun i =>
  if (i 1).val < 16 then dot (row X (i 0).val) (vec g) (col W (7168 + (i 1).val)) else 0

/-- What the kernel leaves in the wide result array. -/
theorem final_wide (c : Dev nD) : (dats m 0 c).arrAt 5 cfg0.N = wide (argX m c) (argG m c) (argW m c) := by
  refine (dats m 0 c).arrAt_eq_of_covers 5 _ (by decide +kernel) fun t hf y => ?_
  have hy0 : (y 0).val < 1024 := (y 0).isLt
  have hy1 : (y 1).val < 1024 := (y 1).isLt
  have e0 : ((((cfg0.win 5).blk t).view.emb y) 0 : ℕ) = 1024 * (t.val / 14) + (y 0).val := by blk_simp [idx t]; omega
  have e1 : ((((cfg0.win 5).blk t).view.emb y) 1 : ℕ) = 1024 * (t.val % 14) + (y 1).val := by blk_simp [idx t]; omega
  have e2 := outAt_at m c t y
  unfold wide
  rw [e0, e1]
  blk_simp
  rw [after_5]
  exact e2

/-- What the kernel leaves in the narrow result array. -/
theorem final_narrow (c : Dev nD) : (dats m 0 c).arrAt 6 cfg0.N = narrow (argX m c) (argG m c) (argW m c) := by
  refine (dats m 0 c).arrAt_eq_of_covers 6 _ (by decide +kernel) fun t hf y => ?_
  have hy0 : (y 0).val < 1024 := (y 0).isLt
  have hy1 : (y 1).val < 128 := (y 1).isLt
  have e0 : ((((cfg0.win 6).blk t).view.emb y) 0 : ℕ) = 1024 * (t.val / 14) + (y 0).val := by blk_simp [idx t]; omega
  have e1 : ((((cfg0.win 6).blk t).view.emb y) 1 : ℕ) = (y 1).val := by blk_simp [idx t]
  have e2 := abAt_at m c t y
  unfold narrow
  rw [e0, e1]
  blk_simp
  rw [after_6]
  exact e2

end Cert.Kernel2Ideal.Hand

end
-- ==== Proof.In.RefValue.lean ====
module

public import proofs.«01_k».proof.Proof.Gen.Reference2Ideal.Read
public import proofs.«01_k».proof.Proof.In.Arrays
public import Idealize.ShloMosaic.Lib.KernelVsHost

/-! The input projection's reference, as rows against columns. -/

@[expose] public section

set_option maxRecDepth 16384

noncomputable section

namespace Cert.Reference2Ideal.Hand

open Idealize.ShloMosaic hiding ix1 ix2 ix3
open Idealize.ShloMosaic.ValueIdx Cert.Rows Cert.Reference2Ideal.Gen Cert.Reference2Ideal.Read
open scoped BigOperators

variable (X : (⟨S2x8192x2048, .f32⟩ : BufTy).Contents (Elt Ideal)) (g : (⟨S2048, .f32⟩ : BufTy).Contents (Elt Ideal))
  (W : (⟨S2048x14352, .f32⟩ : BufTy).Contents (Elt Ideal))

/-- A normalized element. -/
theorem normed_at (i : S2x8192x2048.Idx) {r : ℕ} {k : Fin 2048} (h0 : (i 0).val = r / 8192) (h1 : (i 1).val = r % 8192) (h2 : (i 2).val = k.val) :
    val_main_v12 (F := Ideal) X g i = rms (row (B := 2) (S := 8192) X r) (vec g) k := by
  have z : (FloatOps.ofBits .f32 0x00000000#32 : Ideal .f32) = (0 : EReal) := by
    show Ideal.ofBits .f32 0x00000000#32 = 0
    norm_num [Ideal.ofBits, Ideal.ieee]
  rw [val_main_v12_apply, val_main_v9_apply, val_main_v8_apply, val_main_v7_apply, val_main_v6_apply, val_main_v4_apply, val_main_v2_apply,
    val_main_v1_apply, val_main_v3_apply, val_main_v5_apply, val_main_v11_apply, val_main_v10_apply, val_main_cst_apply, val_main_cst_0_apply,
    val_main_cst_1_apply, z, row_eq (B := 2) (S := 8192) X i h0 h1 h2, vec_eq g _ (k := k) h2]
  have s : ∀ j : Fin 2048, val_main_v0 (F := Ideal) X (idx_main_v1 (idx_main_v2 (idx_main_v8 i)) j)
      = row (B := 2) (S := 8192) X r j * row (B := 2) (S := 8192) X r j := fun j => by
    rw [val_main_v0_apply, row_eq (B := 2) (S := 8192) X (idx_main_v1 (idx_main_v2 (idx_main_v8 i)) j) (r := r) (k := j) h0 h1 rfl]
    rfl
  rw [Finset.sum_congr rfl fun j _ => s j]
  show _ * Ideal.rsqrt (Ideal.div (0 + _) _ + _) * _ = _
  rw [zero_add]
  rfl

/-- An element of the whole projection. -/
theorem proj_at (i : S16384x14352.Idx) {r j : ℕ} (h0 : (i 0).val = r) (h1 : (i 1).val = j) :
    val_main_v14 (F := Ideal) X g W i = dot (row (B := 2) (S := 8192) X r) (vec g) (col (N := 14352) W j) := by
  have l0 : (i 0).val < 16384 := (i 0).isLt
  have l1 : (i 1).val < 14352 := (i 1).isLt
  rw [val_main_v14_apply, val_main_v13_apply]
  refine Finset.sum_congr rfl fun k _ => congrArg₂ (· * ·) (normed_at X g _ ?_ ?_ rfl) (col_eq (N := 14352) W _ rfl ?_)
  · show ((i 0).val * 14352 + (i 1).val) / 117571584 = r / 8192
    omega
  · show ((i 0).val * 14352 + (i 1).val) / 14352 % 8192 = r % 8192
    omega
  · show ((i 0).val * 14352 + (i 1).val) % 14352 = j
    omega

theorem wide_eq : val_main_v18 (F := Ideal) X g W = Cert.Kernel2Ideal.Hand.wide X g W := by
  funext i
  have l1 : (i 1).val < 14336 := (i 1).isLt
  unfold val_main_v18 Cert.Kernel2Ideal.Hand.wide
  by_cases h : (i 1).val < 7168
  · rw [if_pos h]
    let k : S16384x7168.Idx := ix2 (n0 := 16384) (n1 := 7168) (i 0) ⟨(i 1).val, h⟩
    refine (concatenate_pair_apply_left (t := S16384x14336) (s₁ := S16384x7168) (s₂ := S16384x7168) 1 _ _ _ i rfl k (fun b => ?_)).trans ?_
    · match b with
      | ⟨0, _⟩ => rfl
      | ⟨1, _⟩ => rfl
    · rw [val_main_v16_apply]
      exact proj_at X g W _ rfl rfl
  · rw [if_neg h]
    let k : S16384x7168.Idx := ix2 (n0 := 16384) (n1 := 7168) (i 0) ⟨(i 1).val - 7168, by omega⟩
    refine (concatenate_pair_apply_right (t := S16384x14336) (s₁ := S16384x7168) (s₂ := S16384x7168) 1 _ _ _ i rfl rfl k (fun b hb => ?_) ?_).trans ?_
    · match b with
      | ⟨0, _⟩ => rfl
      | ⟨1, _⟩ => exact absurd rfl hb
    · show (i 1).val - 7168 + 7168 = (i 1).val
      omega
    · rw [val_main_v17_apply]
      refine proj_at X g W _ rfl ?_
      show 7184 + ((i 1).val - 7168) = (i 1).val + 16
      omega

theorem narrow_eq : val_main_v19 (F := Ideal) X g W = Cert.Kernel2Ideal.Hand.narrow X g W := by
  funext i
  have l1 : (i 1).val < 128 := (i 1).isLt
  unfold val_main_v19 Cert.Kernel2Ideal.Hand.narrow
  by_cases h : (i 1).val < 16
  · rw [if_pos h]
    let k : S16384x16.Idx := ix2 (n0 := 16384) (n1 := 16) (i 0) ⟨(i 1).val, h⟩
    refine (pad_apply_of_inside _ _ _ _ _ _ _ i k (fun b => ?_)).trans ?_
    · match b with
      | ⟨0, _⟩ => show (i 0).val = 0 + (i 0).val * 1; omega
      | ⟨1, _⟩ => show (i 1).val = 0 + (i 1).val * 1; omega
    · rw [val_main_v15_apply]
      exact proj_at X g W _ rfl rfl
  · rw [if_neg h]
    refine (pad_apply_of_not_inside _ _ _ _ _ _ _ i 1 (fun hin => h ?_)).trans ?_
    · have h3 := hin.2.2
      have h4 : ((i 1).val - 0) / 1 < 16 := h3
      omega
    · rw [val_main_call0_v0_apply, val_main_c_apply]
      show (((0#32 : BitVec 32).toInt : ℝ) : EReal) = 0
      norm_num

end Cert.Reference2Ideal.Hand

end
-- ==== Proof.In.Value.lean ====
module

public import proofs.«01_k».proof.Proof.In.Run
public import proofs.«01_k».proof.Proof.In.RefValue
public import proofs.«01_k».proof.Proof.Gen.Reference2Ideal.Run
public import proofs.«01_k».proof.Proof.Gen.Kernel2
public import proofs.«01_k».proof.Proof.Gen.Kernel2Ideal
public import proofs.«01_k».proof.Proof.Gen.Reference2Ideal
public import proofs.«01_k».proof.Defs
public import Idealize.ShloMosaic.Lib.Quiescent

/-! The input projection's claims: the frames, and that the kernel and its reference compute the same two arrays. -/

@[expose] public section

noncomputable section

namespace Cert.Kernel2Ideal.Hand

open Cert.Kernel2Ideal Cert.Kernel2Ideal.Gen Idealize.ShloMosaic Idealize.ShloMosaic.TcCoe Idealize.SL.Sem

/-- The kernel's run, with its two results named. -/
theorem kernel_run (m : (ℓ : Loc nD τ sig) → Buf (Elt Ideal) ℓ) (g : Dev nD → PrngReg) :
    θ_run (Cert.Kernel2Ideal.defs (F := Ideal)) (onTc (τ := τ) (Cert.Kernel2Ideal.main (F := Ideal))) ⟨m, fun _ => 0, g⟩ fun r => ∀ c : Dev nD,
      r.2.mem ((c.tc : Thread nD τ).loc main_v8_0) = wide (argX m c) (argG m c) (argW m c)
      ∧ r.2.mem ((c.tc : Thread nD τ).loc main_v8_1) = narrow (argX m c) (argG m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run Cert.Kernel2Ideal.defs _ _).mono
    (fun _ h c => ⟨((h.1 c).1 5).trans (final_wide m c), ((h.1 c).1 6).trans (final_narrow m c), h.2.1 c⟩)
    (θ_run_and (run_main (F := Ideal) m g) (frame_any (F := Ideal) m g))

end Cert.Kernel2Ideal.Hand

namespace Cert.Proof

open Idealize.ShloMosaic Idealize.SL.Sem

set_option smartUnfolding false in
/-- The printed kernel and its reading on the extended reals are one text: one run serves both. -/
theorem frame_kernel2 : Cert.quiescent_Kernel2 := fun m ρ _ =>
  (θ_run Cert.Kernel2Ideal.defs _ _).mono (fun _ h => h) (Cert.Kernel2Ideal.Hand.frame_any (F := Bits) m ρ)

theorem frame_kernel2Ideal : Cert.quiescent_Kernel2Ideal := fun m ρ _ => Cert.Kernel2Ideal.Hand.frame_any (F := Ideal) m ρ

theorem frame_reference2 : Cert.quiescent_Reference2Ideal := fun m ρ _ =>
  (θ_run Cert.Reference2Ideal.defs _ _).mono (fun r h => ⟨fun c => (h c).2.2, Idealize.ShloMosaic.sem_eq_zero_of_no_sems (by decide) r.2⟩)
    (Cert.Reference2Ideal.Value.run (F := Ideal) m ρ)

/-- The kernel and its reference leave the same two arrays. -/
theorem algebraic2 : Cert.algebraic_Kernel2Ideal_Reference2Ideal := by
  intro m g m' g' _ hagree
  refine ⟨_, _, Cert.Kernel2Ideal.Hand.kernel_run m g, ?_⟩
  refine (θ_run Cert.Reference2Ideal.defs _ _).mono (fun _ h c => ⟨(h c).1.trans ?_, (h c).2.1.trans ?_, (h c).2.2⟩) (Cert.Reference2Ideal.Value.run (F := Ideal) m' g')
  · rw [Cert.Reference2Ideal.Read.val_main_v18_eq, (hagree c).1, (hagree c).2.1, (hagree c).2.2]
    exact Cert.Reference2Ideal.Hand.wide_eq _ _ _
  · rw [Cert.Reference2Ideal.Read.val_main_v19_eq, (hagree c).1, (hagree c).2.1, (hagree c).2.2]
    exact Cert.Reference2Ideal.Hand.narrow_eq _ _ _

end Cert.Proof

end
-- ==== Proof.Mem.Arrays.lean ====
module

public import proofs.«01_k».proof.Proof.Gen.Kernel3Ideal.Value
public import proofs.«01_k».proof.Proof.In.Norm
public import Idealize.ShloMosaic.Lib.VecWindow

/-! The memory projection's result array: every element is its normalized row against its column of one weight matrix or the other. -/

@[expose] public section

set_option maxRecDepth 16384

noncomputable section

namespace Cert.Kernel3Ideal.Hand

open Cert.Kernel3Ideal.Gen Cert.Rows
open Idealize.ShloMosaic hiding ix1 ix2 ix3
open Idealize.ShloMosaic.TcCoe Idealize.SL.Sem Idealize.ShloMosaic.ValueIdx
open Idealize.ShloMosaic.Pipeline (Dat)
open scoped BigOperators

section AnyFloat

variable {F : FTy → Type} [FloatOps F] (m : (ℓ : Loc nD τ sig) → Buf (Elt F) ℓ)

/-- The memory's rows, normalized. -/
def normed (c : Dev nD) : FVec F S512x2048 .bf16 :=
  k0_pay1 (iblk m c 0 ⟨0, by rw [show cfg0.N = 4 from N_0]; decide⟩) (iblk m c 1 ⟨0, by rw [show cfg0.N = 4 from N_0]; decide⟩)

/-- The stores of a point's body, read back: the normalized rows, and the product with one block of weights. -/
theorem read_rows (c : Dev nD) (i : grid0.Coords) (a2 : Memref sig .tc .vmem S512x2048 .f32) (h2 : a2.IsWhole) (a3 : Memref sig .tc .vmem S1x2048 .f32)
    (h3 : a3.IsWhole) (a4 a5 : Memref sig .tc .vmem S2048x512 .f32) (h4 : a4.IsWhole) (h5 : a5.IsWhole) (a6 : Memref sig .tc .vmem S512x512 .f32)
    (h6 : a6.IsWhole) (a7 : Memref sig .tc .vmem S512x2048 .bf16) (h7 : a7.IsWhole) (hc0 : cond0_0 i) (hc1 : cond0_1 i) (hc2 : ¬cond0_2 i)
    (x : Vec F S512x2048 .f32) (g : Vec F S1x2048 .f32) (wk wv : Vec F S2048x512 .f32) :
    sout0_A_0 c i a2 h2 a3 h3 a4 h4 a5 h5 a6 h6 a7 h7 hc0 hc1 hc2 x g wk wv = k0_pay1 x g := by
  unfold sout0_A_0 kernelRun0_A
  dsimp only
  refine (View.read_writes_full VS0_0 _ _ _ []).trans ?_
  exact congrArg₂ k0_pay1 ((View.readAt_full _ _ _).trans (h2.read_unread _)) ((View.readAt_full _ _ _).trans (h3.read_unread _))

theorem read_A (c : Dev nD) (i : grid0.Coords) (a2 : Memref sig .tc .vmem S512x2048 .f32) (h2 : a2.IsWhole) (a3 : Memref sig .tc .vmem S1x2048 .f32)
    (h3 : a3.IsWhole) (a4 a5 : Memref sig .tc .vmem S2048x512 .f32) (h4 : a4.IsWhole) (h5 : a5.IsWhole) (a6 : Memref sig .tc .vmem S512x512 .f32)
    (h6 : a6.IsWhole) (a7 : Memref sig .tc .vmem S512x2048 .bf16) (h7 : a7.IsWhole) (hc0 : cond0_0 i) (hc1 : cond0_1 i) (hc2 : ¬cond0_2 i)
    (x : Vec F S512x2048 .f32) (g : Vec F S1x2048 .f32) (wk wv : Vec F S2048x512 .f32) :
    out0_A_4 c i a2 h2 a3 h3 a4 h4 a5 h5 a6 h6 a7 h7 hc0 hc1 hc2 x g wk wv = k0_pay2 (k0_pay1 x g) wk := by
  unfold out0_A_4 kernelRun0_A
  dsimp only
  refine (View.read_writes_full VO0_4 _ _ _ []).trans ?_
  refine congrArg₂ k0_pay2 ((View.readCov_full a7.view _ _ _ []).trans ?_) ((View.readAt_full _ _ _).trans (h4.read_unread _))
  exact congrArg₂ k0_pay1 ((View.readAt_full _ _ _).trans (h2.read_unread _)) ((View.readAt_full _ _ _).trans (h3.read_unread _))

theorem read_B (c : Dev nD) (i : grid0.Coords) (a2 : Memref sig .tc .vmem S512x2048 .f32) (h2 : a2.IsWhole) (a3 : Memref sig .tc .vmem S1x2048 .f32)
    (h3 : a3.IsWhole) (a4 a5 : Memref sig .tc .vmem S2048x512 .f32) (h4 : a4.IsWhole) (h5 : a5.IsWhole) (a6 : Memref sig .tc .vmem S512x512 .f32)
    (h6 : a6.IsWhole) (a7 : Memref sig .tc .vmem S512x2048 .bf16) (h7 : a7.IsWhole) (hc0 : ¬cond0_0 i) (hc1 : cond0_1 i) (hc2 : ¬cond0_2 i)
    (x : Vec F S512x2048 .f32) (g : Vec F S1x2048 .f32) (wk wv : Vec F S2048x512 .f32) (xn : Vec F S512x2048 .bf16) :
    out0_B_4 c i a2 h2 a3 h3 a4 h4 a5 h5 a6 h6 a7 h7 hc0 hc1 hc2 x g wk wv xn = k0_pay2 xn wk := by
  unfold out0_B_4 kernelRun0_B
  dsimp only
  refine (View.read_writes_full VO0_4 _ _ _ []).trans ?_
  exact congrArg₂ k0_pay2 ((View.readAt_full _ _ _).trans (h7.read_unread _)) ((View.readAt_full _ _ _).trans (h4.read_unread _))

theorem read_C (c : Dev nD) (i : grid0.Coords) (a2 : Memref sig .tc .vmem S512x2048 .f32) (h2 : a2.IsWhole) (a3 : Memref sig .tc .vmem S1x2048 .f32)
    (h3 : a3.IsWhole) (a4 a5 : Memref sig .tc .vmem S2048x512 .f32) (h4 : a4.IsWhole) (h5 : a5.IsWhole) (a6 : Memref sig .tc .vmem S512x512 .f32)
    (h6 : a6.IsWhole) (a7 : Memref sig .tc .vmem S512x2048 .bf16) (h7 : a7.IsWhole) (hc0 : ¬cond0_0 i) (hc1 : ¬cond0_1 i) (hc2 : cond0_2 i)
    (x : Vec F S512x2048 .f32) (g : Vec F S1x2048 .f32) (wk wv : Vec F S2048x512 .f32) (xn : Vec F S512x2048 .bf16) :
    out0_C_4 c i a2 h2 a3 h3 a4 h4 a5 h5 a6 h6 a7 h7 hc0 hc1 hc2 x g wk wv xn = k0_pay2 xn wv := by
  unfold out0_C_4 kernelRun0_C
  dsimp only
  refine (View.read_writes_full VO0_4 _ _ _ []).trans ?_
  exact congrArg₂ k0_pay2 ((View.readAt_full _ _ _).trans (h7.read_unread _)) ((View.readAt_full _ _ _).trans (h5.read_unread _))

/-- The first point leaves the normalized rows in the scratch, and no later point touches it. -/
theorem kept (c : Dev nD) (n : ℕ) : ∀ h : n < cfg0.N, (outsAt0 m c n h).2 = normed m c := by
  induction n with
  | zero =>
    intro h
    rw [outsAt0_A m c ⟨0, h⟩ rfl (show 0 < 2 by decide) (show ¬2 ≤ 0 by decide)]
    dsimp only
    rw [read_rows]
    rfl
  | succ n ih =>
    intro h
    have hN : n + 1 < 4 := lt_of_lt_of_eq h (show cfg0.N = 4 from N_0)
    by_cases h1 : n + 1 < 2
    · rw [outsAt0_B m c ⟨n + 1, h⟩ (by show ¬(n + 1) % 4 = 0; omega) h1 (by show ¬2 ≤ n + 1; omega)]
      exact ih _
    · rw [outsAt0_C m c ⟨n + 1, h⟩ (by show ¬(n + 1) % 4 = 0; omega) h1 (by show 2 ≤ n + 1; omega)]
      exact ih _

/-- What a point leaves in the output's block. -/
theorem left (c : Dev nD) (t : Fin cfg0.N) : (outsAt0 m c t.val t.isLt).1
    = if t.val < 2 then k0_pay2 (normed m c) (iblk m c 2 t) else k0_pay2 (normed m c) (iblk m c 3 t) := by
  have hN : t.val < 4 := lt_of_lt_of_eq t.isLt (show cfg0.N = 4 from N_0)
  by_cases h1 : t.val < 2
  · rw [if_pos h1]
    by_cases h0 : t.val % 4 = 0
    · have ht : t = ⟨0, by rw [show cfg0.N = 4 from N_0]; decide⟩ := Fin.ext (show t.val = 0 by omega)
      rw [outsAt0_A m c t h0 h1 (by omega)]
      dsimp only
      rw [read_A]
      subst ht
      rfl
    · rw [outsAt0_B m c t h0 h1 (by omega)]
      dsimp only
      rw [read_B, kept]
  · rw [if_neg h1, outsAt0_C m c t (by omega) h1 (by omega)]
    dsimp only
    rw [read_C, kept]

end AnyFloat

variable (m : (ℓ : Loc nD τ sig) → Buf (Elt Ideal) ℓ)

/-- The arguments at their shapes. -/
abbrev argX (c : Dev nD) : S2x256x2048.Idx → EReal := m ((c : Thread nD τ).loc main_arg0)
abbrev argG (c : Dev nD) : S2048.Idx → EReal := m ((c : Thread nD τ).loc main_arg1)
abbrev argK (c : Dev nD) : S2048x1024.Idx → EReal := m ((c : Thread nD τ).loc main_arg2)
abbrev argV (c : Dev nD) : S2048x1024.Idx → EReal := m ((c : Thread nD τ).loc main_arg3)

/-- The index maps, by the point's number. -/
theorem idx : ∀ t : Fin cfg0.N, win0_0.index t = ![0, 0] ∧ win0_1.index t = ![0, 0]
    ∧ win0_2.index t = ![0, min t.val 1] ∧ win0_3.index t = ![0, t.val - 2] ∧ win0_4.index t = ![0, t.val] :=
  (by decide +kernel : ∀ t : Fin grid0.N, _)

/-- The arrays that the host code prepares. -/
theorem V_x (c : Dev nD) : (V m c main_v0 : S512x2048.Idx → EReal) = shapeCast S512x2048 (argX m c) shapeCasts_S2x256x2048_S512x2048 := by
  simp only [V, hostOps0]
  after_results
  rfl

theorem V_g (c : Dev nD) : (V m c main_v1 : S1x2048.Idx → EReal) = shapeCast S1x2048 (argG m c) shapeCasts_S2048_S1x2048 := by
  simp only [V, hostOps0]
  after_results
  rfl

/-- The rows' block, at an element. -/
theorem iblk_x (c : Dev nD) (t : Fin cfg0.N) (r : Fin 512) (k : Fin 2048) :
    (iblk m c 0 t : FVec Ideal S512x2048 .f32) (ix2 r k) = row (argX m c) r.val k := by
  have hr := r.isLt
  have e0 : (((win0_0.blk t).view.emb (ix2 r k)) 0 : ℕ) = r.val := by blk_simp [idx t]; rfl
  have e1 : (((win0_0.blk t).view.emb (ix2 r k)) 1 : ℕ) = k.val := by blk_simp [idx t]; rfl
  show (V m c main_v0 : S512x2048.Idx → EReal) ((win0_0.blk t).view.emb (ix2 r k)) = _
  rw [V_x]
  generalize (win0_0.blk t).view.emb (ix2 r k) = i at e0 e1
  have hi0 : (i 0).val = r.val := e0
  have hi1 : (i 1).val = k.val := e1
  refine (shapeCast_apply _ shapeCasts_S2x256x2048_S512x2048 i
    (ix3 ⟨(i 0).val / 256, by omega⟩ ⟨(i 0).val % 256, by omega⟩ k) ?_).trans ?_
  · rw [Shape.rowMajor_val_three, Shape.rowMajor_val_two]
    show ((i 0).val / 256 * 256 + (i 0).val % 256) * 2048 + k.val = (i 0).val * 2048 + (i 1).val
    omega
  · rw [← hi0]
    exact row_eq _ _ rfl rfl rfl

/-- The norm weights' block. -/
theorem iblk_g (c : Dev nD) (t : Fin cfg0.N) (k : Fin 2048) :
    (iblk m c 1 t : FVec Ideal S1x2048 .f32) (ix2 0 k) = vec (argG m c) k := by
  have e0 : (((win0_1.blk t).view.emb (ix2 (0 : Fin 1) k)) 0 : ℕ) = 0 := by blk_simp [idx t]
  have e1 : (((win0_1.blk t).view.emb (ix2 (0 : Fin 1) k)) 1 : ℕ) = k.val := by blk_simp [idx t]; rfl
  show (V m c main_v1 : S1x2048.Idx → EReal) ((win0_1.blk t).view.emb (ix2 0 k)) = _
  rw [V_g]
  generalize (win0_1.blk t).view.emb (ix2 (0 : Fin 1) k) = i at e0 e1
  have hi0 : (i 0).val = 0 := e0
  have hi1 : (i 1).val = k.val := e1
  refine (shapeCast_apply _ shapeCasts_S2048_S1x2048 i (ix1 k) ?_).trans ?_
  · rw [Shape.rowMajor_val_one, Shape.rowMajor_val_two]
    show k.val = (i 0).val * 2048 + (i 1).val
    omega
  · rfl

/-- The key weights' block. -/
theorem iblk_k (c : Dev nD) (t : Fin cfg0.N) (h : t.val < 2) (k : Fin 2048) (j : Fin 512) :
    (iblk m c 2 t : FVec Ideal S2048x512 .f32) (ix2 k j) = col (argK m c) (512 * t.val + j.val) k := by
  have e0 : (((win0_2.blk t).view.emb (ix2 k j)) 0 : ℕ) = k.val := by blk_simp [idx t]; rfl
  have e1 : (((win0_2.blk t).view.emb (ix2 k j)) 1 : ℕ) = 512 * t.val + j.val := by
    blk_simp [idx t]
    show min t.val 1 * 512 + j.val = _
    omega
  show (V m c main_arg2 : S2048x1024.Idx → EReal) ((win0_2.blk t).view.emb (ix2 k j)) = _
  rw [V_main_arg2]
  exact col_eq _ _ e0 e1

/-- The value weights' block. -/
theorem iblk_v (c : Dev nD) (t : Fin cfg0.N) (h : ¬t.val < 2) (k : Fin 2048) (j : Fin 512) :
    (iblk m c 3 t : FVec Ideal S2048x512 .f32) (ix2 k j) = col (argV m c) (512 * t.val + j.val - 1024) k := by
  have e0 : (((win0_3.blk t).view.emb (ix2 k j)) 0 : ℕ) = k.val := by blk_simp [idx t]; rfl
  have e1 : (((win0_3.blk t).view.emb (ix2 k j)) 1 : ℕ) = 512 * t.val + j.val - 1024 := by
    blk_simp [idx t]
    show (t.val - 2) * 512 + j.val = _
    omega
  show (V m c main_arg3 : S2048x1024.Idx → EReal) ((win0_3.blk t).view.emb (ix2 k j)) = _
  rw [V_main_arg3]
  exact col_eq _ _ e0 e1

theorem normed_apply (c : Dev nD) (r : Fin 512) (k : Fin 2048) : (normed m c) (ix2 r k) = rms (row (argX m c) r.val) (vec (argG m c)) k := by
  unfold normed k0_pay1
  simp only [shapeCast_self]
  refine (rms_apply _ _ reduces_S512x2048_S512 shapeCasts_S512_S512x1 broadcasts_S512x1_S512x2048 broadcasts_S1x2048_S512x2048 _ _ r k).trans ?_
  rw [funext fun j => iblk_x m c _ r j, funext fun j => iblk_g m c _ j]

/-- The result: the rows against the key weights' columns, then against the value weights'. -/
def both (X : S2x256x2048.Idx → EReal) (g : S2048.Idx → EReal) (K W : S2048x1024.Idx → EReal) : S512x2048.Idx → EReal := fun i =>
  if (i 1).val < 1024 then dot (row X (i 0).val) (vec g) (col K (i 1).val) else dot (row X (i 0).val) (vec g) (col W ((i 1).val - 1024))

theorem left_at (c : Dev nD) (t : Fin cfg0.N) (y : S512x512.Idx) : ((outsAt0 m c t.val t.isLt).1 : FVec Ideal S512x512 .f32) y
    = if 512 * t.val + (y 1).val < 1024 then dot (row (argX m c) (y 0).val) (vec (argG m c)) (col (argK m c) (512 * t.val + (y 1).val))
      else dot (row (argX m c) (y 0).val) (vec (argG m c)) (col (argV m c) (512 * t.val + (y 1).val - 1024)) := by
  have hy1 : (y 1).val < 512 := (y 1).isLt
  rw [left]
  conv_lhs => rw [ValueIdx.eq_ix2 y]
  by_cases h : t.val < 2
  · rw [if_pos h, if_pos (by omega)]
    unfold k0_pay2
    refine (product_apply (M := 512) (N := 512) (normed m c) (iblk m c 2 t) (y 0) (y 1)).trans ?_
    exact Finset.sum_congr rfl fun k _ => congrArg₂ (· * ·) (normed_apply m c (y 0) k) (iblk_k m c t h k (y 1))
  · rw [if_neg h, if_neg (by omega)]
    unfold k0_pay2
    refine (product_apply (M := 512) (N := 512) (normed m c) (iblk m c 3 t) (y 0) (y 1)).trans ?_
    exact Finset.sum_congr rfl fun k _ => congrArg₂ (· * ·) (normed_apply m c (y 0) k) (iblk_v m c t h k (y 1))

/-- What the kernel leaves in the result array. -/
theorem final (c : Dev nD) : (dats m 0 c).arrAt 4 cfg0.N = both (argX m c) (argG m c) (argK m c) (argV m c) := by
  refine (dats m 0 c).arrAt_eq_of_covers 4 _ (by decide +kernel) fun t hf y => ?_
  have hy0 : (y 0).val < 512 := (y 0).isLt
  have hy1 : (y 1).val < 512 := (y 1).isLt
  have e0 : ((((cfg0.win 4).blk t).view.emb y) 0 : ℕ) = (y 0).val := by blk_simp [idx t]
  have e1 : ((((cfg0.win 4).blk t).view.emb y) 1 : ℕ) = 512 * t.val + (y 1).val := by blk_simp [idx t]; omega
  have e2 := left_at m c t y
  unfold both
  rw [e0, e1]
  blk_simp
  rw [after0_4]
  exact e2

end Cert.Kernel3Ideal.Hand

end
-- ==== Proof.Mem.RefValue.lean ====
module

public import proofs.«01_k».proof.Proof.Gen.Reference3Ideal.Read
public import proofs.«01_k».proof.Proof.Mem.Arrays
public import Idealize.ShloMosaic.Lib.Pipeline.Value

/-! The memory projection's reference, as rows against columns. -/

@[expose] public section

set_option maxRecDepth 16384

noncomputable section

namespace Cert.Reference3Ideal.Hand

open Idealize.ShloMosaic hiding ix1 ix2 ix3
open Idealize.ShloMosaic.ValueIdx Cert.Rows Cert.Reference3Ideal.Gen Cert.Reference3Ideal.Read
open scoped BigOperators

variable (X : (⟨S2x256x2048, .f32⟩ : BufTy).Contents (Elt Ideal)) (g : (⟨S2048, .f32⟩ : BufTy).Contents (Elt Ideal))
  (K W : (⟨S2048x1024, .f32⟩ : BufTy).Contents (Elt Ideal))

/-- A normalized element. -/
theorem normed_at (i : S2x256x2048.Idx) {r : ℕ} {k : Fin 2048} (h0 : (i 0).val = r / 256) (h1 : (i 1).val = r % 256) (h2 : (i 2).val = k.val) :
    val_main_v12 (F := Ideal) X g i = rms (row (B := 2) (S := 256) X r) (vec g) k := by
  have z : (FloatOps.ofBits .f32 0x00000000#32 : Ideal .f32) = (0 : EReal) := by
    show Ideal.ofBits .f32 0x00000000#32 = 0
    norm_num [Ideal.ofBits, Ideal.ieee]
  rw [val_main_v12_apply, val_main_v9_apply, val_main_v8_apply, val_main_v7_apply, val_main_v6_apply, val_main_v4_apply, val_main_v2_apply,
    val_main_v1_apply, val_main_v3_apply, val_main_v5_apply, val_main_v11_apply, val_main_v10_apply, val_main_cst_apply, val_main_cst_0_apply,
    val_main_cst_1_apply, z, row_eq (B := 2) (S := 256) X i h0 h1 h2, vec_eq g _ (k := k) h2]
  have s : ∀ j : Fin 2048, val_main_v0 (F := Ideal) X (idx_main_v1 (idx_main_v2 (idx_main_v8 i)) j)
      = row (B := 2) (S := 256) X r j * row (B := 2) (S := 256) X r j := fun j => by
    rw [val_main_v0_apply, row_eq (B := 2) (S := 256) X (idx_main_v1 (idx_main_v2 (idx_main_v8 i)) j) (r := r) (k := j) h0 h1 rfl]
    rfl
  rw [Finset.sum_congr rfl fun j _ => s j]
  show _ * Ideal.rsqrt (Ideal.div (0 + _) _ + _) * _ = _
  rw [zero_add]
  rfl

/-- A product against either weight matrix, at an element. -/
theorem key_at (i : S2x256x1024.Idx) {r j : ℕ} (h0 : (i 0).val = r / 256) (h1 : (i 1).val = r % 256) (h2 : (i 2).val = j) :
    val_main_v13 (F := Ideal) X g K i = dot (row (B := 2) (S := 256) X r) (vec g) (col (N := 1024) K j) := by
  rw [val_main_v13_apply]
  exact Finset.sum_congr rfl fun k _ => congrArg₂ (· * ·) (normed_at X g _ h0 h1 rfl) (col_eq (N := 1024) K _ rfl h2)

theorem value_at (i : S2x256x1024.Idx) {r j : ℕ} (h0 : (i 0).val = r / 256) (h1 : (i 1).val = r % 256) (h2 : (i 2).val = j) :
    val_main_v14 (F := Ideal) X g W i = dot (row (B := 2) (S := 256) X r) (vec g) (col (N := 1024) W j) := by
  rw [val_main_v14_apply]
  exact Finset.sum_congr rfl fun k _ => congrArg₂ (· * ·) (normed_at X g _ h0 h1 rfl) (col_eq (N := 1024) W _ rfl h2)

theorem both_eq : val_main_v16 (F := Ideal) X g K W = Cert.Kernel3Ideal.Hand.both X g K W := by
  funext i
  have l0 : (i 0).val < 512 := (i 0).isLt
  have l1 : (i 1).val < 2048 := (i 1).isLt
  rw [val_main_v16_apply]
  have e0 : (idx_main_v16 i 0).val = (i 0).val / 256 := by
    show ((i 0).val * 2048 + (i 1).val) / 524288 = _
    omega
  have e1 : (idx_main_v16 i 1).val = (i 0).val % 256 := by
    show ((i 0).val * 2048 + (i 1).val) / 2048 % 256 = _
    omega
  have e2 : (idx_main_v16 i 2).val = (i 1).val := by
    show ((i 0).val * 2048 + (i 1).val) % 2048 = _
    omega
  generalize idx_main_v16 i = y at e0 e1 e2
  unfold val_main_v15 Cert.Kernel3Ideal.Hand.both
  by_cases h : (i 1).val < 1024
  · rw [if_pos h]
    let k : S2x256x1024.Idx := ix3 (n0 := 2) (n1 := 256) (n2 := 1024) (y 0) (y 1) ⟨(i 1).val, h⟩
    refine (concatenate_pair_apply_left (t := S2x256x2048) (s₁ := S2x256x1024) (s₂ := S2x256x1024) 2 _ _ _ y rfl k (fun b => ?_)).trans
      (key_at X g K k e0 e1 rfl)
    match b with
    | ⟨0, _⟩ => rfl
    | ⟨1, _⟩ => rfl
    | ⟨2, _⟩ => exact e2.symm
  · rw [if_neg h]
    let k : S2x256x1024.Idx := ix3 (n0 := 2) (n1 := 256) (n2 := 1024) (y 0) (y 1) ⟨(i 1).val - 1024, by omega⟩
    refine (concatenate_pair_apply_right (t := S2x256x2048) (s₁ := S2x256x1024) (s₂ := S2x256x1024) 2 _ _ _ y rfl rfl k (fun b hb => ?_) ?_).trans
      (value_at X g W k e0 e1 rfl)
    · match b with
      | ⟨0, _⟩ => rfl
      | ⟨1, _⟩ => rfl
      | ⟨2, _⟩ => exact absurd rfl hb
    · show (i 1).val - 1024 + 1024 = (y 2).val
      omega

end Cert.Reference3Ideal.Hand

end
-- ==== Proof.Mem.Value.lean ====
module

public import proofs.«01_k».proof.Proof.Mem.RefValue
public import proofs.«01_k».proof.Proof.Gen.Kernel3.Frame
public import proofs.«01_k».proof.Proof.Gen.Reference3Ideal.Run
public import proofs.«01_k».proof.Proof.Gen.Kernel3
public import proofs.«01_k».proof.Proof.Gen.Kernel3Ideal
public import proofs.«01_k».proof.Proof.Gen.Reference3Ideal
public import proofs.«01_k».proof.Defs
public import Idealize.ShloMosaic.Lib.Quiescent

/-! The memory projection's claims: the frames, and that the kernel and its reference compute one array. -/

@[expose] public section

noncomputable section

namespace Cert.Kernel3Ideal.Hand

open Cert.Kernel3Ideal Cert.Kernel3Ideal.Gen Idealize.ShloMosaic Idealize.ShloMosaic.TcCoe Idealize.SL.Sem

/-- The kernel's run, with its result named. -/
theorem kernel_run (m : (ℓ : Loc nD τ sig) → Buf (Elt Ideal) ℓ) (g : Dev nD → PrngReg) :
    θ_run (Cert.Kernel3Ideal.defs (F := Ideal)) (onTc (τ := τ) (Cert.Kernel3Ideal.main (F := Ideal))) ⟨m, fun _ => 0, g⟩ fun r => ∀ c : Dev nD,
      r.2.mem ((c.tc : Thread nD τ).loc main_v2) = both (argX m c) (argG m c) (argK m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run Cert.Kernel3Ideal.defs _ _).mono (fun _ h c => ⟨(h c).1.trans (final m c), (h c).2⟩) (Cert.Kernel3Ideal.Value.run_blocks (F := Ideal) m g)

end Cert.Kernel3Ideal.Hand

namespace Cert.Proof

open Idealize.ShloMosaic Idealize.SL.Sem

theorem frame_kernel3 : Cert.quiescent_Kernel3 := fun m ρ _ => Cert.Kernel3.Gen.frame (F := Bits) m ρ

theorem frame_kernel3Ideal : Cert.quiescent_Kernel3Ideal := fun m ρ _ => Cert.Kernel3Ideal.Gen.frame (F := Ideal) m ρ

theorem frame_reference3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The kernel and its reference leave the same array. -/
theorem algebraic3 : Cert.algebraic_Kernel3Ideal_Reference3Ideal := by
  intro m g m' g' _ hagree
  refine ⟨_, Cert.Kernel3Ideal.Hand.kernel_run m g, ?_⟩
  refine (θ_run Cert.Reference3Ideal.defs _ _).mono (fun _ h c => ⟨(h c).1.trans ?_, (h c).2⟩) (Cert.Reference3Ideal.Value.run (F := Ideal) m' g')
  rw [Cert.Reference3Ideal.Read.val_main_v16_eq, (hagree c).1, (hagree c).2.1, (hagree c).2.2.1, (hagree c).2.2.2]
  exact Cert.Reference3Ideal.Hand.both_eq _ _ _ _

end Cert.Proof

end
-- ==== Proof.At.lean ====
module

public import Idealize.ShloMosaic.Lib.ValueIdx
public import Idealize.ShloMosaic.Lib.MatmulPlain
public import Idealize.ShloMosaic.Lib.IdealHost
public import Idealize.ShloMosaic.Lib.Pipeline.Value
public import Idealize.ShloMosaic.Lib.Pipeline.ValueKit

/-! Arrays read by natural-number coordinates, plain products at an element, and the gate function, on the extended reals. -/

@[expose] public section

set_option maxRecDepth 16384

noncomputable section

namespace Cert.Rows

open Idealize.ShloMosaic hiding ix1 ix2 ix3
open Idealize.ShloMosaic.ValueIdx
open scoped BigOperators

/-- The entry of a matrix at a row and a column. -/
def at2 {A B : ℕ} [NeZero A] [NeZero B] (X : (⟨2, ![A, B]⟩ : Shape).Idx → EReal) (r c : ℕ) : EReal := X (ix2 (Fin.ofNat A r) (Fin.ofNat B c))

theorem at2_eq {A B : ℕ} [NeZero A] [NeZero B] (X : (⟨2, ![A, B]⟩ : Shape).Idx → EReal) (i : (⟨2, ![A, B]⟩ : Shape).Idx)
    {r c : ℕ} (h0 : (i 0).val = r) (h1 : (i 1).val = c) : X i = at2 X r c := by
  have l0 : (i 0).val < A := (i 0).isLt
  have l1 : (i 1).val < B := (i 1).isLt
  unfold at2
  refine congrArg X (funext fun a => Fin.ext ?_)
  match a with
  | ⟨0, _⟩ => show (i 0).val = r % A; rw [← h0, Nat.mod_eq_of_lt l0]
  | ⟨1, _⟩ => show (i 1).val = c % B; rw [← h1, Nat.mod_eq_of_lt l1]

theorem bits_zero : Ideal.ofBits .f32 0x00000000#32 = 0 := by norm_num [Ideal.ofBits, Ideal.ieee]

/-- A plain product from zero, at an element. -/
theorem plain_apply {M K N : ℕ} {φ ψ : FTy} (x : FVec Ideal ⟨2, ![M, K]⟩ φ) (w : FVec Ideal ⟨2, ![K, N]⟩ ψ) (r : Fin M) (j : Fin N) :
    FloatOps.matmul (DotDims.plain M K N) none x w (constant ⟨2, ![M, N]⟩ .f32 0x00000000#32) (ix2 r j) = ∑ k : Fin K, x (ix2 r k) * w (ix2 k j) := by
  have z : constant (F := Ideal) ⟨2, ![M, N]⟩ .f32 0x00000000#32 (ix2 r j) = (0 : EReal) := bits_zero
  rw [Ideal.matmul_plain_apply (M := M) (K := K) (N := N) none x w _ r j, z, zero_add]

/-- The gate function. -/
def gate (x : EReal) : EReal := Ideal.div (Ideal.ofBits .f32 0x3F800000#32) (Ideal.ofBits .f32 0x3F800000#32 + Ideal.exp (-x))

end Cert.Rows
end
-- ==== Proof.Merge.Arrays.lean ====
module

public import proofs.«01_k».proof.Proof.Gen.Kernel4Ideal.Value
public import proofs.«01_k».proof.Proof.At
public import Idealize.ShloMosaic.Lib.VecWindow

/-! The gated merge's result array: at each element, three rows against three columns, each under its gate. -/

@[expose] public section

set_option maxRecDepth 16384

noncomputable section

namespace Cert.Kernel4Ideal.Hand

open Cert.Kernel4Ideal.Gen Cert.Rows
open Idealize.ShloMosaic hiding ix1 ix2 ix3
open Idealize.ShloMosaic.TcCoe Idealize.SL.Sem Idealize.ShloMosaic.ValueIdx
open Idealize.ShloMosaic.Pipeline (Dat)
open scoped BigOperators

variable (m : (ℓ : Loc nD τ sig) → Buf (Elt Ideal) ℓ)

/-- The arguments at their shapes. -/
abbrev argS (c : Dev nD) : S16384x1024.Idx → EReal := m ((c : Thread nD τ).loc main_arg0)
abbrev argD (c : Dev nD) : S16384x1024.Idx → EReal := m ((c : Thread nD τ).loc main_arg1)
abbrev argC (c : Dev nD) : S16384x1024.Idx → EReal := m ((c : Thread nD τ).loc main_arg2)
abbrev argWS (c : Dev nD) : S1024x2048.Idx → EReal := m ((c : Thread nD τ).loc main_arg3)
abbrev argWD (c : Dev nD) : S1024x2048.Idx → EReal := m ((c : Thread nD τ).loc main_arg4)
abbrev argWC (c : Dev nD) : S1024x2048.Idx → EReal := m ((c : Thread nD τ).loc main_arg5)
abbrev argP (c : Dev nD) : S16384x14336.Idx → EReal := m ((c : Thread nD τ).loc main_arg6)

/-- The index maps, by the point's number. -/
theorem idx : ∀ t : Fin cfg0.N, win0_0.index t = ![t.val / 4, 0] ∧ win0_1.index t = ![t.val / 4, 0] ∧ win0_2.index t = ![t.val / 4, 0]
    ∧ win0_3.index t = ![0, t.val % 4] ∧ win0_4.index t = ![0, t.val % 4] ∧ win0_5.index t = ![0, t.val % 4]
    ∧ win0_6.index t = ![t.val / 4, 16 + t.val % 4] ∧ win0_7.index t = ![t.val / 4, 20 + t.val % 4] ∧ win0_8.index t = ![t.val / 4, 24 + t.val % 4]
    ∧ win0_9.index t = ![t.val / 4, t.val % 4] :=
  (by decide +kernel : ∀ t : Fin grid0.N, _)

/-- The weights that the host code prepares are the arguments, rounded. -/
theorem V_ws (c : Dev nD) : (V m c main_v0 : S1024x2048.Idx → EReal) = argWS m c := by
  simp only [V, hostOps0]
  after_results
  rfl

theorem V_wd (c : Dev nD) : (V m c main_v1 : S1024x2048.Idx → EReal) = argWD m c := by
  simp only [V, hostOps0]
  after_results
  rfl

theorem V_wc (c : Dev nD) : (V m c main_v2 : S1024x2048.Idx → EReal) = argWC m c := by
  simp only [V, hostOps0]
  after_results
  rfl

/-- The branches' blocks, at an element. -/
theorem iblk_s (c : Dev nD) (t : Fin cfg0.N) (r k : Fin 1024) :
    (iblk m c 0 t : FVec Ideal S1024x1024 .bf16) (ix2 r k) = at2 (argS m c) (t.val / 4 * 1024 + r.val) k.val := by
  show (V m c main_arg0 : S16384x1024.Idx → EReal) ((win0_0.blk t).view.emb (ix2 r k)) = _
  rw [V_main_arg0]
  exact at2_eq _ _ (by blk_simp [idx t]) (by blk_simp [idx t])

theorem iblk_d (c : Dev nD) (t : Fin cfg0.N) (r k : Fin 1024) :
    (iblk m c 1 t : FVec Ideal S1024x1024 .bf16) (ix2 r k) = at2 (argD m c) (t.val / 4 * 1024 + r.val) k.val := by
  show (V m c main_arg1 : S16384x1024.Idx → EReal) ((win0_1.blk t).view.emb (ix2 r k)) = _
  rw [V_main_arg1]
  exact at2_eq _ _ (by blk_simp [idx t]) (by blk_simp [idx t])

theorem iblk_c (c : Dev nD) (t : Fin cfg0.N) (r k : Fin 1024) :
    (iblk m c 2 t : FVec Ideal S1024x1024 .bf16) (ix2 r k) = at2 (argC m c) (t.val / 4 * 1024 + r.val) k.val := by
  show (V m c main_arg2 : S16384x1024.Idx → EReal) ((win0_2.blk t).view.emb (ix2 r k)) = _
  rw [V_main_arg2]
  exact at2_eq _ _ (by blk_simp [idx t]) (by blk_simp [idx t])

/-- The weights' blocks. -/
theorem iblk_ws (c : Dev nD) (t : Fin cfg0.N) (k : Fin 1024) (j : Fin 512) :
    (iblk m c 3 t : FVec Ideal S1024x512 .bf16) (ix2 k j) = at2 (argWS m c) k.val (t.val % 4 * 512 + j.val) := by
  show (V m c main_v0 : S1024x2048.Idx → EReal) ((win0_3.blk t).view.emb (ix2 k j)) = _
  rw [V_ws]
  exact at2_eq _ _ (by blk_simp [idx t]) (by blk_simp [idx t])

theorem iblk_wd (c : Dev nD) (t : Fin cfg0.N) (k : Fin 1024) (j : Fin 512) :
    (iblk m c 4 t : FVec Ideal S1024x512 .bf16) (ix2 k j) = at2 (argWD m c) k.val (t.val % 4 * 512 + j.val) := by
  show (V m c main_v1 : S1024x2048.Idx → EReal) ((win0_4.blk t).view.emb (ix2 k j)) = _
  rw [V_wd]
  exact at2_eq _ _ (by blk_simp [idx t]) (by blk_simp [idx t])

theorem iblk_wc (c : Dev nD) (t : Fin cfg0.N) (k : Fin 1024) (j : Fin 512) :
    (iblk m c 5 t : FVec Ideal S1024x512 .bf16) (ix2 k j) = at2 (argWC m c) k.val (t.val % 4 * 512 + j.val) := by
  show (V m c main_v2 : S1024x2048.Idx → EReal) ((win0_5.blk t).view.emb (ix2 k j)) = _
  rw [V_wc]
  exact at2_eq _ _ (by blk_simp [idx t]) (by blk_simp [idx t])

/-- The gates' blocks, all of one array. -/
theorem iblk_gs (c : Dev nD) (t : Fin cfg0.N) (r : Fin 1024) (j : Fin 512) :
    (iblk m c 6 t : FVec Ideal S1024x512 .f32) (ix2 r j) = at2 (argP m c) (t.val / 4 * 1024 + r.val) (8192 + (t.val % 4 * 512 + j.val)) := by
  show (V m c main_arg6 : S16384x14336.Idx → EReal) ((win0_6.blk t).view.emb (ix2 r j)) = _
  rw [V_main_arg6]
  exact at2_eq _ _ (by blk_simp [idx t]) (by blk_simp [idx t]; show (16 + t.val % 4) * 512 + j.val = _; omega)

theorem iblk_gd (c : Dev nD) (t : Fin cfg0.N) (r : Fin 1024) (j : Fin 512) :
    (iblk m c 7 t : FVec Ideal S1024x512 .f32) (ix2 r j) = at2 (argP m c) (t.val / 4 * 1024 + r.val) (10240 + (t.val % 4 * 512 + j.val)) := by
  show (V m c main_arg6 : S16384x14336.Idx → EReal) ((win0_7.blk t).view.emb (ix2 r j)) = _
  rw [V_main_arg6]
  exact at2_eq _ _ (by blk_simp [idx t]) (by blk_simp [idx t]; show (20 + t.val % 4) * 512 + j.val = _; omega)

theorem iblk_gc (c : Dev nD) (t : Fin cfg0.N) (r : Fin 1024) (j : Fin 512) :
    (iblk m c 8 t : FVec Ideal S1024x512 .f32) (ix2 r j) = at2 (argP m c) (t.val / 4 * 1024 + r.val) (12288 + (t.val % 4 * 512 + j.val)) := by
  show (V m c main_arg6 : S16384x14336.Idx → EReal) ((win0_8.blk t).view.emb (ix2 r j)) = _
  rw [V_main_arg6]
  exact at2_eq _ _ (by blk_simp [idx t]) (by blk_simp [idx t]; show (24 + t.val % 4) * 512 + j.val = _; omega)

/-- A branch's row against a column of its output weights. -/
def branch (A : S16384x1024.Idx → EReal) (W : S1024x2048.Idx → EReal) (r j : ℕ) : EReal := ∑ k : Fin 1024, at2 A r k.val * at2 W k.val j

/-- The merged element. -/
def mergedAt (A B C : S16384x1024.Idx → EReal) (WA WB WC : S1024x2048.Idx → EReal) (P : S16384x14336.Idx → EReal) (r j : ℕ) : EReal :=
  gate (at2 P r (8192 + j)) * branch A WA r j + gate (at2 P r (10240 + j)) * branch B WB r j + gate (at2 P r (12288 + j)) * branch C WC r j

/-- What the body leaves of its blocks, at an element. -/
theorem body_at (a b d : FVec Ideal S1024x1024 .bf16) (wa wb wd : FVec Ideal S1024x512 .bf16) (ga gb gd : FVec Ideal S1024x512 .f32) (r : Fin 1024) (j : Fin 512) :
    (out0_9 (F := Ideal) a b d wa wb wd ga gb gd : FVec Ideal S1024x512 .bf16) (ix2 r j)
      = gate (ga (ix2 r j)) * (∑ k : Fin 1024, a (ix2 r k) * wa (ix2 k j)) + gate (gb (ix2 r j)) * (∑ k : Fin 1024, b (ix2 r k) * wb (ix2 k j))
        + gate (gd (ix2 r j)) * (∑ k : Fin 1024, d (ix2 r k) * wd (ix2 k j)) := by
  have z : ∀ ι : S1024x512.Idx, ∀ g : FVec Ideal S1024x512 .f32, Ideal.div (Ideal.ofBits .f32 0x3F800000#32)
      (Ideal.ofBits .f32 0x3F800000#32 + Ideal.exp (Ideal.ofBits .f32 0x00000000#32 - g ι)) = gate (g ι) := fun ι g => by
    rw [bits_zero, zero_sub]
    rfl
  unfold out0_9
  rw [View.canon_cons_unit_lit _ _ _ (by decide)]
  have e : ∀ x : Vec Ideal S1024x1024 .bf16, View.ld x r0_1 = x := fun x => View.ld_unit_zero (S := S1024x1024) (show (![0, 0] : Fin 2 → Nat) = 0 by decide) _ x
  have e' : ∀ x : Vec Ideal S1024x512 .bf16, View.ld x r0_0 = x := fun x => View.ld_unit_zero (S := S1024x512) (show (![0, 0] : Fin 2 → Nat) = 0 by decide) _ x
  have f : ∀ x : Vec Ideal S1024x512 .f32, View.ld x r0_0 = x := fun x => View.ld_unit_zero (S := S1024x512) (show (![0, 0] : Fin 2 → Nat) = 0 by decide) _ x
  rw [e a, e b, e d, e' wa, e' wb, e' wd, f ga, f gb, f gd]
  unfold k0_pay1 k0_pay2 k0_pay3
  simp only [shapeCast_self]
  show Ideal.div _ (_ + Ideal.exp (_ - ga (ix2 r j))) * FloatOps.matmul _ none a wa _ (ix2 r j)
    + Ideal.div _ (_ + Ideal.exp (_ - gb (ix2 r j))) * FloatOps.matmul _ none b wb _ (ix2 r j)
    + Ideal.div _ (_ + Ideal.exp (_ - gd (ix2 r j))) * FloatOps.matmul _ none d wd _ (ix2 r j) = _
  have p : ∀ (x : FVec Ideal S1024x1024 .bf16) (w : FVec Ideal S1024x512 .bf16),
      FloatOps.matmul dot_S1024x1024_S1024x512_S1024x512_1_0_0_1_n_n none x w (constant S1024x512 .f32 0x00000000#32) (ix2 r j)
        = ∑ k : Fin 1024, x (ix2 r k) * w (ix2 k j) := fun x w => plain_apply (M := 1024) (K := 1024) (N := 512) x w r j
  rw [p, p, p]
  exact congrArg₂ (· + ·) (congrArg₂ (· + ·) (congrArg (· * _) (z (ix2 r j) ga)) (congrArg (· * _) (z (ix2 r j) gb))) (congrArg (· * _) (z (ix2 r j) gd))

/-- The whole result. -/
def merged (A B C : S16384x1024.Idx → EReal) (WA WB WC : S1024x2048.Idx → EReal) (P : S16384x14336.Idx → EReal) : S16384x2048.Idx → EReal :=
  fun i => mergedAt A B C WA WB WC P (i 0).val (i 1).val

/-- What the kernel leaves in the result array. -/
theorem final (c : Dev nD) : (dats m 0 c).arrAt 9 cfg0.N
    = merged (argS m c) (argD m c) (argC m c) (argWS m c) (argWD m c) (argWC m c) (argP m c) := by
  refine (dats m 0 c).arrAt_eq_of_covers 9 _ (by decide +kernel) fun t hf y => ?_
  have e0 : ((((cfg0.win 9).blk t).view.emb y) 0 : ℕ) = t.val / 4 * 1024 + (y 0).val := by blk_simp [idx t]
  have e1 : ((((cfg0.win 9).blk t).view.emb y) 1 : ℕ) = t.val % 4 * 512 + (y 1).val := by blk_simp [idx t]
  unfold merged
  rw [e0, e1]
  blk_simp
  rw [after0_9]
  show (out0_9 (F := Ideal) (iblk m c 0 t) (iblk m c 1 t) (iblk m c 2 t) (iblk m c 3 t) (iblk m c 4 t) (iblk m c 5 t) (iblk m c 6 t) (iblk m c 7 t) (iblk m c 8 t)
    : FVec Ideal S1024x512 .bf16) y = _
  conv_lhs => rw [ValueIdx.eq_ix2 y]
  refine (body_at _ _ _ _ _ _ _ _ _ (y 0) (y 1)).trans ?_
  unfold mergedAt branch
  rw [iblk_gs m c t (y 0) (y 1), iblk_gd m c t (y 0) (y 1), iblk_gc m c t (y 0) (y 1)]
  refine congrArg₂ (· + ·) (congrArg₂ (· + ·) (congrArg _ (Finset.sum_congr rfl fun k _ => congrArg₂ (· * ·) (iblk_s m c t (y 0) k) (iblk_ws m c t k (y 1))))
    (congrArg _ (Finset.sum_congr rfl fun k _ => congrArg₂ (· * ·) (iblk_d m c t (y 0) k) (iblk_wd m c t k (y 1)))))
    (congrArg _ (Finset.sum_congr rfl fun k _ => congrArg₂ (· * ·) (iblk_c m c t (y 0) k) (iblk_wc m c t k (y 1))))

end Cert.Kernel4Ideal.Hand

end
-- ==== Proof.Merge.RefValue.lean ====
module

public import proofs.«01_k».proof.Proof.Gen.Reference4Ideal.Read
public import proofs.«01_k».proof.Proof.Merge.Arrays

/-! The merge's reference, at an element. -/

@[expose] public section

set_option maxRecDepth 16384

noncomputable section

namespace Cert.Reference4Ideal.Hand

open Idealize.ShloMosaic hiding ix1 ix2 ix3
open Idealize.ShloMosaic.ValueIdx Cert.Rows Cert.Reference4Ideal.Gen Cert.Reference4Ideal.Read
open scoped BigOperators

variable (A B C : (⟨S16384x1024, .bf16⟩ : BufTy).Contents (Elt Ideal)) (WA WB WC : (⟨S1024x2048, .f32⟩ : BufTy).Contents (Elt Ideal))
  (P : (⟨S16384x14336, .f32⟩ : BufTy).Contents (Elt Ideal))

/-- The first gate: one over one plus the exponential of the negated entry. -/
theorem gate_s (i : S16384x2048.Idx) : val_main_v8 (F := Ideal) P i = gate (at2 (A := 16384) (B := 14336) P (i 0).val (8192 + (i 1).val)) := by
  rw [val_main_v8_apply, val_main_v7_apply, val_main_cst_0_apply, val_main_v6_apply, val_main_v5_apply, val_main_cst_apply, val_main_v4_apply,
    val_main_v3_apply, val_main_v0_apply, at2_eq (A := 16384) (B := 14336) P (idx_main_v0 i) rfl rfl]
  rfl

theorem gate_d (i : S16384x2048.Idx) : val_main_v17 (F := Ideal) P i = gate (at2 (A := 16384) (B := 14336) P (i 0).val (10240 + (i 1).val)) := by
  rw [val_main_v17_apply, val_main_v16_apply, val_main_cst_2_apply, val_main_v15_apply, val_main_v14_apply, val_main_cst_1_apply, val_main_v13_apply,
    val_main_v12_apply, val_main_v1_apply, at2_eq (A := 16384) (B := 14336) P (idx_main_v1 i) rfl rfl]
  rfl

theorem gate_c (i : S16384x2048.Idx) : val_main_v27 (F := Ideal) P i = gate (at2 (A := 16384) (B := 14336) P (i 0).val (12288 + (i 1).val)) := by
  rw [val_main_v27_apply, val_main_v26_apply, val_main_cst_4_apply, val_main_v25_apply, val_main_v24_apply, val_main_cst_3_apply, val_main_v23_apply,
    val_main_v22_apply, val_main_v2_apply, at2_eq (A := 16384) (B := 14336) P (idx_main_v2 i) rfl rfl]
  rfl

theorem merged_eq : val_main_v32 (F := Ideal) A B C WA WB WC P = Cert.Kernel4Ideal.Hand.merged A B C WA WB WC P := by
  funext i
  rw [val_main_v32_apply, val_main_v31_apply, val_main_v21_apply, val_main_v11_apply, val_main_v20_apply, val_main_v30_apply, gate_s, gate_d, gate_c,
    val_main_v10_apply, val_main_v19_apply, val_main_v29_apply]
  refine congrArg₂ (· + ·) (congrArg₂ (· + ·)
    (congrArg (_ * ·) (Finset.sum_congr rfl fun k _ => congrArg₂ (· * ·) (at2_eq (A := 16384) (B := 1024) A _ rfl rfl) (at2_eq (A := 1024) (B := 2048) WA _ rfl rfl)))
    (congrArg (_ * ·) (Finset.sum_congr rfl fun k _ => congrArg₂ (· * ·) (at2_eq (A := 16384) (B := 1024) B _ rfl rfl) (at2_eq (A := 1024) (B := 2048) WB _ rfl rfl))))
    (congrArg (_ * ·) (Finset.sum_congr rfl fun k _ => congrArg₂ (· * ·) (at2_eq (A := 16384) (B := 1024) C _ rfl rfl) (at2_eq (A := 1024) (B := 2048) WC _ rfl rfl)))

end Cert.Reference4Ideal.Hand

end
-- ==== Proof.Merge.Value.lean ====
module

public import proofs.«01_k».proof.Proof.Merge.RefValue
public import proofs.«01_k».proof.Proof.Gen.Kernel4.Frame
public import proofs.«01_k».proof.Proof.Gen.Reference4Ideal.Run
public import proofs.«01_k».proof.Proof.Gen.Kernel4
public import proofs.«01_k».proof.Proof.Gen.Kernel4Ideal
public import proofs.«01_k».proof.Proof.Gen.Reference4Ideal
public import proofs.«01_k».proof.Defs
public import Idealize.ShloMosaic.Lib.Quiescent

/-! The merge's claims: the frames, and that the kernel and its reference compute one array. -/

@[expose] public section

noncomputable section

namespace Cert.Kernel4Ideal.Hand

open Cert.Kernel4Ideal Cert.Kernel4Ideal.Gen Idealize.ShloMosaic Idealize.ShloMosaic.TcCoe Idealize.SL.Sem

/-- The kernel's run, with its result named. -/
theorem kernel_run (m : (ℓ : Loc nD τ sig) → Buf (Elt Ideal) ℓ) (g : Dev nD → PrngReg) :
    θ_run (Cert.Kernel4Ideal.defs (F := Ideal)) (onTc (τ := τ) (Cert.Kernel4Ideal.main (F := Ideal))) ⟨m, fun _ => 0, g⟩ fun r => ∀ c : Dev nD,
      r.2.mem ((c.tc : Thread nD τ).loc main_v3) = merged (argS m c) (argD m c) (argC m c) (argWS m c) (argWD m c) (argWC m c) (argP m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run Cert.Kernel4Ideal.defs _ _).mono (fun _ h c => ⟨(h c).1.trans (final m c), (h c).2⟩) (Cert.Kernel4Ideal.Value.run_blocks (F := Ideal) m g)

end Cert.Kernel4Ideal.Hand

namespace Cert.Proof

open Idealize.ShloMosaic Idealize.SL.Sem

theorem frame_kernel4 : Cert.quiescent_Kernel4 := fun m ρ _ => Cert.Kernel4.Gen.frame (F := Bits) m ρ

theorem frame_kernel4Ideal : Cert.quiescent_Kernel4Ideal := fun m ρ _ => Cert.Kernel4Ideal.Gen.frame (F := Ideal) m ρ

theorem frame_reference4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- The kernel and its reference leave the same array. -/
theorem algebraic4 : Cert.algebraic_Kernel4Ideal_Reference4Ideal := by
  intro m g m' g' _ hagree
  refine ⟨_, Cert.Kernel4Ideal.Hand.kernel_run m g, ?_⟩
  refine (θ_run Cert.Reference4Ideal.defs _ _).mono (fun _ h c => ⟨(h c).1.trans ?_, (h c).2⟩) (Cert.Reference4Ideal.Value.run (F := Ideal) m' g')
  rw [Cert.Reference4Ideal.Read.val_main_v32_eq, (hagree c).1, (hagree c).2.1, (hagree c).2.2.1, (hagree c).2.2.2.1, (hagree c).2.2.2.2.1,
    (hagree c).2.2.2.2.2.1, (hagree c).2.2.2.2.2.2]
  exact Cert.Reference4Ideal.Hand.merged_eq _ _ _ _ _ _ _

end Cert.Proof

end
-- ==== Proof.Cross.Head.lean ====
module

public import proofs.«01_k».proof.Proof.Gen.Kernel6Ideal.Value
public import proofs.«01_k».proof.Proof.At

/-! One head of the attention over the memory, at an element: a query row against the head's keys, scaled, a softmax over the
memory's rows, and the weights against a column of the head's values. -/

@[expose] public section

set_option maxRecDepth 16384

noncomputable section

namespace Cert.Rows

open Idealize.ShloMosaic hiding ix1 ix2 ix3
open Idealize.ShloMosaic.ValueIdx
open scoped BigOperators

/-- The largest of a row's scores. -/
def peak {n : ℕ} (s : Fin n → EReal) : EReal := (Finset.univ : Finset (Fin n)).fold max (Ideal.ofBits .f32 0xFF800000#32) s

theorem max_peak {n : ℕ} (s : Fin n → EReal) : max (Ideal.ofBits .f32 0xFF800000#32) (peak s) = peak s :=
  max_eq_right ((Finset.le_fold_max _).2 (.inl le_rfl))

/-- The softmax of a row of scores. -/
def soft {n : ℕ} (s : Fin n → EReal) (j : Fin n) : EReal := Ideal.div (Ideal.exp (s j - peak s)) (∑ i : Fin n, Ideal.exp (s i - peak s))

/-- The scaled scores of a query against keys. -/
def score {n d : ℕ} (q : Fin d → EReal) (k : Fin n → Fin d → EReal) (j : Fin n) : EReal :=
  (∑ e : Fin d, q e * k j e) * Ideal.ofBits .f32 0x3D800000#32

/-- One attention element. -/
def attend {n d : ℕ} (q : Fin d → EReal) (k : Fin n → Fin d → EReal) (v : Fin n → EReal) : EReal :=
  ∑ j : Fin n, soft (score q k) j * v j

/-- The entry of a three-axis array. -/
def at3 {A B C : ℕ} [NeZero A] [NeZero B] [NeZero C] (X : (⟨3, ![A, B, C]⟩ : Shape).Idx → EReal) (p r c : ℕ) : EReal :=
  X (ix3 (Fin.ofNat A p) (Fin.ofNat B r) (Fin.ofNat C c))

theorem at3_eq {A B C : ℕ} [NeZero A] [NeZero B] [NeZero C] (X : (⟨3, ![A, B, C]⟩ : Shape).Idx → EReal) (i : (⟨3, ![A, B, C]⟩ : Shape).Idx)
    {p r c : ℕ} (h0 : (i 0).val = p) (h1 : (i 1).val = r) (h2 : (i 2).val = c) : X i = at3 X p r c := by
  have l0 : (i 0).val < A := (i 0).isLt
  have l1 : (i 1).val < B := (i 1).isLt
  have l2 : (i 2).val < C := (i 2).isLt
  unfold at3
  refine congrArg X (funext fun a => Fin.ext ?_)
  match a with
  | ⟨0, _⟩ => show (i 0).val = p % A; rw [← h0, Nat.mod_eq_of_lt l0]
  | ⟨1, _⟩ => show (i 1).val = r % B; rw [← h1, Nat.mod_eq_of_lt l1]
  | ⟨2, _⟩ => show (i 2).val = c % C; rw [← h2, Nat.mod_eq_of_lt l2]

end Cert.Rows

namespace Cert.Kernel6Ideal.Hand

open Cert.Kernel6Ideal.Gen Cert.Rows
open Idealize.ShloMosaic hiding ix1 ix2 ix3
open Idealize.ShloMosaic.ValueIdx
open scoped BigOperators

/-- A head's columns of a memory block. -/
def memCols (o : ℕ) (h : S256x1024.Slices ![0, o] S256x256) (x : Vec Ideal S1x256x1024 .f32) : FVec Ideal S256x256 .f32 :=
  extractStridedSlice S256x256 ![0, o] (shapeCast S256x1024 x shapeCasts_S1x256x1024_S256x1024) h

theorem memCols_apply (o : ℕ) (h : S256x1024.Slices ![0, o] S256x256) (x : Vec Ideal S1x256x1024 .f32) (j e : Fin 256) :
    memCols o h x (ix2 j e) = at3 (A := 1) (B := 256) (C := 1024) x 0 j.val (o + e.val) := by
  have hb : o + 256 ≤ 1024 := h.2 1
  have hlt : o + e.val < 1024 := by have := e.isLt; omega
  unfold memCols
  rw [extractStridedSlice_apply ![0, o] _ h (ix2 j e) (ix2 (n0 := 256) (n1 := 1024) j ⟨o + e.val, hlt⟩) (fun a => match a with
      | ⟨0, _⟩ => (Nat.zero_add _).symm
      | ⟨1, _⟩ => rfl),
    shapeCast_apply x _ (ix2 (n0 := 256) (n1 := 1024) j ⟨o + e.val, hlt⟩) (ix3 (n0 := 1) (n1 := 256) (n2 := 1024) 0 j ⟨o + e.val, hlt⟩) (by
      rw [Shape.rowMajor_val_three, Shape.rowMajor_val_two]
      show (0 * 256 + j.val) * 1024 + (o + e.val) = j.val * 1024 + (o + e.val)
      omega)]
  exact at3_eq _ _ rfl rfl rfl

/-- A head's scaled scores. -/
def scores (q : FVec Ideal S512x256 .f32) (k : FVec Ideal S256x256 .f32) : FVec Ideal S512x256 .f32 :=
  mulf (matmul dot_S512x256_S256x256_S512x256_1_1_0_0_n_n none (truncf .bf16 q bitsLt_bf16_f32) (truncf .bf16 k bitsLt_bf16_f32)
    (constant S512x256 .f32 0x00000000#32)) (broadcast S512x256 (Scalar.ofBits .f32 0x3D800000#32))

/-- The exponentials of a head's scores less the row's largest. -/
def weights (s : FVec Ideal S512x256 .f32) : FVec Ideal S512x256 .f32 :=
  exp (subf s (broadcastTo S512x256 (shapeCast S512x1 (multiReduction .maximumf [1] S512 s 0xFF800000#32 reduces_S512x256_S512 (.inl rfl) rfl)
    shapeCasts_S512_S512x1) broadcasts_S512x1_S512x256))

/-- A head's result. -/
def headOf (s : FVec Ideal S512x256 .f32) (v : FVec Ideal S256x256 .f32) : FVec Ideal S512x256 .bf16 :=
  truncf .bf16 (matmul dot_S512x256_S256x256_S512x256_1_0_0_1_n_n none
    (truncf .bf16 (divf (weights s) (broadcastTo S512x256 (shapeCast S512x1 (multiReduction .add [1] S512 (weights s) 0x00000000#32 reduces_S512x256_S512 (.inl rfl) rfl)
      shapeCasts_S512_S512x1) broadcasts_S512x1_S512x256)) bitsLt_bf16_f32)
    (truncf .bf16 v bitsLt_bf16_f32) (constant S512x256 .f32 0x00000000#32)) bitsLt_bf16_f32

theorem head0_eq (q : Vec Ideal S512x256 .f32) (k v : Vec Ideal S1x256x1024 .f32) :
    k0_pay3 q k v = headOf (scores q (memCols 0 slices_S256x1024_o0_0_S256x256 k)) (memCols 0 slices_S256x1024_o0_0_S256x256 v) := rfl

theorem head1_eq (q : Vec Ideal S512x256 .f32) (k v : Vec Ideal S1x256x1024 .f32) :
    k0_pay5 (k0_pay4 q k) v = headOf (scores q (memCols 256 slices_S256x1024_o0_256_S256x256 k)) (memCols 256 slices_S256x1024_o0_256_S256x256 v) := rfl

theorem head2_eq (q : Vec Ideal S512x256 .f32) (k v : Vec Ideal S1x256x1024 .f32) :
    k0_pay1 (k0_pay6 v) (k0_pay7 q k) = headOf (scores q (memCols 512 slices_S256x1024_o0_512_S256x256 k)) (memCols 512 slices_S256x1024_o0_512_S256x256 v) := rfl

theorem head3_eq (q : Vec Ideal S512x256 .f32) (k v : Vec Ideal S1x256x1024 .f32) :
    k0_pay2 q k v = headOf (scores q (memCols 768 slices_S256x1024_o0_768_S256x256 k)) (memCols 768 slices_S256x1024_o0_768_S256x256 v) := rfl

theorem scores_apply (q : FVec Ideal S512x256 .f32) (k : FVec Ideal S256x256 .f32) (r : Fin 512) (j : Fin 256) :
    scores q k (ix2 r j) = score (fun e : Fin 256 => q (ix2 r e)) (fun (j : Fin 256) (e : Fin 256) => k (ix2 j e)) j := by
  have z : constant (F := Ideal) S512x256 .f32 0x00000000#32 (ix2 r j) = (0 : EReal) := bits_zero
  show FloatOps.matmul (DotDims.transposedRhs 512 256 256) none (truncf .bf16 q bitsLt_bf16_f32) (truncf .bf16 k bitsLt_bf16_f32)
    (constant (F := Ideal) S512x256 .f32 0x00000000#32) (ix2 r j) * Ideal.ofBits .f32 0x3D800000#32 = _
  rw [Ideal.matmul_transposedRhs_apply (M := 512) (K := 256) (N := 256), z, zero_add]
  rfl

/-- A column broadcast along the rows reads the row's entry. -/
theorem column_apply (f : FVec Ideal S512 .f32) (r : Fin 512) (j : Fin 256) :
    broadcastTo S512x256 (shapeCast S512x1 f shapeCasts_S512_S512x1) broadcasts_S512x1_S512x256 (ix2 r j) = f (ix1 r) := by
  rw [broadcastTo_apply _ broadcasts_S512x1_S512x256 (ix2 r j) (ix2 (n0 := 512) (n1 := 1) r 0) (fun a => by
    match a with
    | ⟨0, _⟩ => rfl
    | ⟨1, _⟩ => rfl)]
  exact shapeCast_apply f _ (ix2 (n0 := 512) (n1 := 1) r 0) (ix1 r) (by
    rw [Shape.rowMajor_val_one, Shape.rowMajor_val_two]
    show r.val = r.val * 1 + 0
    omega)

theorem lift_row (r : Fin 512) (j : Fin 256) : reduces_S512x256_S512.lift (ix1 r) j = ix2 r j := funext fun a => Fin.ext (by
  match a with
  | ⟨0, _⟩ => rfl
  | ⟨1, _⟩ => rfl)

theorem weights_apply (s : FVec Ideal S512x256 .f32) (r : Fin 512) (j : Fin 256) :
    weights s (ix2 r j) = Ideal.exp (s (ix2 r j) - peak (fun i : Fin 256 => s (ix2 r i))) := by
  show Ideal.exp (s (ix2 r j) - broadcastTo S512x256 _ _ (ix2 r j)) = _
  rw [column_apply]
  refine congrArg (fun p => Ideal.exp (s (ix2 r j) - p))
    ((Ideal.multiReduction_maximumf_single (φ := .f32) s 0xFF800000#32 reduces_S512x256_S512 (.inl rfl) rfl (ix1 r)).trans ?_)
  exact Finset.fold_congr fun i _ => congrArg s (lift_row r i)

theorem headOf_apply (s : FVec Ideal S512x256 .f32) (v : FVec Ideal S256x256 .f32) (r : Fin 512) (d : Fin 256) :
    headOf s v (ix2 r d) = ∑ j : Fin 256, soft (fun i : Fin 256 => s (ix2 r i)) j * v (ix2 j d) := by
  show FloatOps.matmul (DotDims.plain 512 256 256) none (truncf .bf16 (divf (weights s) _) bitsLt_bf16_f32) (truncf .bf16 v bitsLt_bf16_f32)
    (constant (F := Ideal) S512x256 .f32 0x00000000#32) (ix2 r d) = _
  rw [plain_apply (M := 512) (K := 256) (N := 256)]
  refine Finset.sum_congr rfl fun j _ => congrArg (· * v (ix2 j d)) ?_
  show Ideal.div (weights s (ix2 r j)) (broadcastTo S512x256 _ _ (ix2 r j)) = _
  rw [column_apply, weights_apply]
  refine congrArg (Ideal.div _) ((Ideal.multiReduction_add_single (φ := .f32) (weights s) 0x00000000#32 reduces_S512x256_S512 (.inl rfl) rfl (ix1 r)).trans ?_)
  exact Finset.sum_congr rfl fun i _ => (congrArg (weights s) (lift_row r i)).trans (weights_apply s r i)

end Cert.Kernel6Ideal.Hand

end
-- ==== Proof.Cross.Arrays.lean ====
module

public import proofs.«01_k».proof.Proof.Cross.Head
public import Idealize.ShloMosaic.Lib.VecWindow

/-! The attention's result array over the memory, at an element. -/

@[expose] public section

set_option maxRecDepth 16384

noncomputable section

namespace Cert.Kernel6Ideal.Hand

open Cert.Kernel6Ideal.Gen Cert.Rows
open Idealize.ShloMosaic hiding ix1 ix2 ix3
open Idealize.ShloMosaic.TcCoe Idealize.SL.Sem Idealize.ShloMosaic.ValueIdx
open Idealize.ShloMosaic.Pipeline (Dat)
open scoped BigOperators

variable (m : (ℓ : Loc nD τ sig) → Buf (Elt Ideal) ℓ)

/-- The arguments at their shapes. -/
abbrev argP (c : Dev nD) : S16384x14336.Idx → EReal := m ((c : Thread nD τ).loc main_arg0)
abbrev argK (c : Dev nD) : S2x256x1024.Idx → EReal := m ((c : Thread nD τ).loc main_arg1)
abbrev argV (c : Dev nD) : S2x256x1024.Idx → EReal := m ((c : Thread nD τ).loc main_arg2)

/-- The index maps, by the point's number. -/
theorem idx : ∀ t : Fin cfg0.N, win0_0.index t = ![t.val, 7] ∧ win0_1.index t = ![t.val / 16, 0, 0] ∧ win0_2.index t = ![t.val / 16, 0, 0]
    ∧ win0_3.index t = ![t.val, 0] :=
  (by decide +kernel : ∀ t : Fin grid0.N, _)

theorem iblk_q (c : Dev nD) (t : Fin cfg0.N) (y : S512x1024.Idx) :
    (iblk m c 0 t : FVec Ideal S512x1024 .f32) y = at2 (argP m c) (t.val * 512 + (y 0).val) (7168 + (y 1).val) := by
  show (V m c main_arg0 : S16384x14336.Idx → EReal) ((win0_0.blk t).view.emb y) = _
  rw [V_main_arg0]
  exact at2_eq _ _ (by blk_simp [idx t]) (by blk_simp [idx t])

theorem iblk_k (c : Dev nD) (t : Fin cfg0.N) (y : S1x256x1024.Idx) :
    (iblk m c 1 t : FVec Ideal S1x256x1024 .f32) y = at3 (argK m c) (t.val / 16) (y 1).val (y 2).val := by
  show (V m c main_arg1 : S2x256x1024.Idx → EReal) ((win0_1.blk t).view.emb y) = _
  rw [V_main_arg1]
  exact at3_eq _ _ (by blk_simp [idx t]) (by blk_simp [idx t]) (by blk_simp [idx t])

theorem iblk_v (c : Dev nD) (t : Fin cfg0.N) (y : S1x256x1024.Idx) :
    (iblk m c 2 t : FVec Ideal S1x256x1024 .f32) y = at3 (argV m c) (t.val / 16) (y 1).val (y 2).val := by
  show (V m c main_arg2 : S2x256x1024.Idx → EReal) ((win0_2.blk t).view.emb y) = _
  rw [V_main_arg2]
  exact at3_eq _ _ (by blk_simp [idx t]) (by blk_simp [idx t]) (by blk_simp [idx t])

/-- An element of a block's result: column `j` belongs to head `j / 256`. -/
def blockAt (x : FVec Ideal S512x1024 .f32) (k v : FVec Ideal S1x256x1024 .f32) : S512x1024.Idx → EReal := fun y =>
  attend (fun e : Fin 256 => at2 (A := 512) (B := 1024) x (y 0).val ((y 1).val / 256 * 256 + e.val))
    (fun (i : Fin 256) (e : Fin 256) => at3 (A := 1) (B := 256) (C := 1024) k 0 i.val ((y 1).val / 256 * 256 + e.val))
    (fun i : Fin 256 => at3 (A := 1) (B := 256) (C := 1024) v 0 i.val (y 1).val)

/-- The head at column offset `256 n`, as a piece of the block's result. -/
theorem piece_eq (n : ℕ) (inb : ∀ a, (![0, 256 * n] : Fin 2 → ℕ) a + S512x256.size a ≤ S512x1024.size a)
    (h : S256x1024.Slices ![0, 256 * n] S256x256) (x : FVec Ideal S512x1024 .f32) (k v : FVec Ideal S1x256x1024 .f32) (z : S512x256.Idx) :
    headOf (scores (View.ld (Val := Elt Ideal) (S := S512x1024) (e' := .f32) x (Rect.unit (s := S512x1024) ![0, 256 * n] S512x256.size inb)) (memCols (256 * n) h k)) (memCols (256 * n) h v) z
      = blockAt x k v ((Rect.unit (s := S512x1024) ![0, 256 * n] S512x256.size inb).emb z) := by
  have z1 : (z 1).val < 256 := (z 1).isLt
  have e0 : ∀ z : S512x256.Idx, ((Rect.unit (s := S512x1024) ![0, 256 * n] S512x256.size inb).emb z 0).val = (z 0).val := fun z =>
    (Rect.idx_unit_val (s := S512x1024) ![0, 256 * n] S512x256.size inb z 0).trans (Nat.zero_add (z 0).val)
  have e1 : ∀ z : S512x256.Idx, ((Rect.unit (s := S512x1024) ![0, 256 * n] S512x256.size inb).emb z 1).val = 256 * n + (z 1).val := fun z =>
    Rect.idx_unit_val (s := S512x1024) ![0, 256 * n] S512x256.size inb z 1
  have hd : (256 * n + (z 1).val) / 256 * 256 = 256 * n := by omega
  conv_lhs => rw [ValueIdx.eq_ix2 z]
  refine (headOf_apply _ _ (z 0) (z 1)).trans ?_
  unfold blockAt attend
  rw [e0, e1, hd]
  refine Finset.sum_congr rfl fun j _ => congrArg₂ (· * ·) (congrArg (fun s => soft s j) (funext fun i => ?_)) (memCols_apply _ h v j (z 1))
  refine (scores_apply _ _ (z 0) i).trans ?_
  refine congrArg₂ (fun a b => score a b i) (funext fun e => ?_) (funext fun j => funext fun e => memCols_apply _ h k j e)
  exact at2_eq (A := 512) (B := 1024) x _ (e0 (ix2 (z 0) e)) (e1 (ix2 (z 0) e))

/-- What the body leaves of its blocks. -/
theorem body_eq (x : FVec Ideal S512x1024 .f32) (k v : FVec Ideal S1x256x1024 .f32) :
    (out0_3 (F := Ideal) x k v : FVec Ideal S512x1024 .bf16) = blockAt x k v := by
  have f : ∀ x : Vec Ideal S1x256x1024 .f32, View.ld x r0_1 = x := fun x => View.ld_unit_zero (S := S1x256x1024) (show (![0, 0, 0] : Fin 3 → Nat) = 0 by decide) _ x
  funext y
  unfold out0_3
  rw [f k, f v]
  refine View.canon_apply_of_pieces (Val := Elt Ideal) (e := .bf16) (blockAt x k v) _ (fun p hp z => ?_) y ?_
  · simp only [List.mem_cons, List.not_mem_nil, or_false] at hp
    rcases hp with rfl | rfl | rfl | rfl
    · exact (congrFun (head3_eq _ k v) z).trans (piece_eq 3 inb_S512x1024_S512x256_0_768 slices_S256x1024_o0_768_S256x256 x k v z)
    · exact (congrFun (head2_eq _ k v) z).trans (piece_eq 2 inb_S512x1024_S512x256_0_512 slices_S256x1024_o0_512_S256x256 x k v z)
    · exact (congrFun (head1_eq _ k v) z).trans (piece_eq 1 inb_S512x1024_S512x256_0_256 slices_S256x1024_o0_256_S256x256 x k v z)
    · exact (congrFun (head0_eq _ k v) z).trans (piece_eq 0 inb_S512x1024_S512x256_0_0 slices_S256x1024_o0_0_S256x256 x k v z)
  · have y1 : (y 1).val < 1024 := (y 1).isLt
    have y0 : (y 0).val < 512 := (y 0).isLt
    have hm : ∀ n : ℕ, ∀ inb, (y 1).val / 256 = n → y ∈ (Rect.unit (s := S512x1024) ![0, 256 * n] S512x256.size inb).set := fun n inb hn =>
      Rect.mem_set_unit.2 fun a => by
        match a with
        | ⟨0, _⟩ => exact ⟨Nat.zero_le _, by show (y 0).val < 0 + 512; omega⟩
        | ⟨1, _⟩ => exact ⟨by show 256 * n ≤ (y 1).val; omega, by show (y 1).val < 256 * n + 256; omega⟩
    have hq : (y 1).val / 256 = 0 ∨ (y 1).val / 256 = 1 ∨ (y 1).val / 256 = 2 ∨ (y 1).val / 256 = 3 := by omega
    rcases hq with h | h | h | h
    · exact ⟨_, .tail _ (.tail _ (.tail _ (.head _))), hm 0 inb_S512x1024_S512x256_0_0 h⟩
    · exact ⟨_, .tail _ (.tail _ (.head _)), hm 1 inb_S512x1024_S512x256_0_256 h⟩
    · exact ⟨_, .tail _ (.head _), hm 2 inb_S512x1024_S512x256_0_512 h⟩
    · exact ⟨_, .head _, hm 3 inb_S512x1024_S512x256_0_768 h⟩

/-- The whole result. -/
def crossed (P : S16384x14336.Idx → EReal) (K W : S2x256x1024.Idx → EReal) : S16384x1024.Idx → EReal := fun i =>
  attend (fun e : Fin 256 => at2 P (i 0).val (7168 + ((i 1).val / 256 * 256 + e.val)))
    (fun (j : Fin 256) (e : Fin 256) => at3 K ((i 0).val / 8192) j.val ((i 1).val / 256 * 256 + e.val))
    (fun j : Fin 256 => at3 W ((i 0).val / 8192) j.val (i 1).val)

/-- What the kernel leaves in the result array. -/
theorem final (c : Dev nD) : (dats m 0 c).arrAt 3 cfg0.N = crossed (argP m c) (argK m c) (argV m c) := by
  refine (dats m 0 c).arrAt_eq_of_covers 3 _ (by decide +kernel) fun t hf y => ?_
  have e0 : ((((cfg0.win 3).blk t).view.emb y) 0 : ℕ) = t.val * 512 + (y 0).val := by blk_simp [idx t]
  have e1 : ((((cfg0.win 3).blk t).view.emb y) 1 : ℕ) = (y 1).val := by blk_simp [idx t]
  have y0 : (y 0).val < 512 := (y 0).isLt
  have y1 : (y 1).val < 1024 := (y 1).isLt
  have hd : (t.val * 512 + (y 0).val) / 8192 = t.val / 16 := by omega
  unfold crossed
  rw [e0, e1, hd]
  blk_simp
  rw [after0_3]
  refine (congrFun (body_eq (iblk m c 0 t) (iblk m c 1 t) (iblk m c 2 t)) y).trans ?_
  unfold blockAt attend
  have hb : ∀ e : Fin 256, (y 1).val / 256 * 256 + e.val < 1024 := fun e => by have := e.isLt; omega
  refine Finset.sum_congr rfl fun j _ => congrArg₂ (· * ·) (congrArg₂ (fun a b => soft (score a b) j) (funext fun e => ?_) (funext fun i => funext fun e => ?_)) ?_
  · refine (iblk_q m c t _).trans (congrArg₂ (at2 (argP m c)) (congrArg (_ + ·) (Nat.mod_eq_of_lt y0)) (congrArg (_ + ·) (Nat.mod_eq_of_lt (hb e))))
  · refine (iblk_k m c t _).trans (congrArg₂ (at3 (argK m c) _) (Nat.mod_eq_of_lt i.isLt) (Nat.mod_eq_of_lt (hb e)))
  · refine (iblk_v m c t _).trans (congrArg₂ (at3 (argV m c) _) (Nat.mod_eq_of_lt j.isLt) (Nat.mod_eq_of_lt y1))

end Cert.Kernel6Ideal.Hand

end
-- ==== Proof.Cross.RefValue.lean ====
module

public import proofs.«01_k».proof.Proof.Gen.Reference6Ideal.Read
public import proofs.«01_k».proof.Proof.Cross.Arrays

/-! The reference of the attention over the memory, at an element. -/

@[expose] public section

set_option maxRecDepth 16384

noncomputable section

namespace Cert.Reference6Ideal.Hand

open Idealize.ShloMosaic hiding ix1 ix2 ix3
open Idealize.ShloMosaic.ValueIdx Cert.Rows Cert.Reference6Ideal.Gen Cert.Reference6Ideal.Read
open scoped BigOperators

variable (P : (⟨S16384x14336, .f32⟩ : BufTy).Contents (Elt Ideal)) (K W : (⟨S2x256x1024, .f32⟩ : BufTy).Contents (Elt Ideal))

/-- A query's entries: batch `b`, head `h`, position `q`. -/
def query (b h q : ℕ) (e : Fin 256) : EReal := at2 (A := 16384) (B := 14336) P (b * 8192 + q) (7168 + (h * 256 + e.val))

/-- A head's keys, or values. -/
def headRow (X : (⟨S2x256x1024, .f32⟩ : BufTy).Contents (Elt Ideal)) (b h : ℕ) (j e : Fin 256) : EReal :=
  at3 (A := 2) (B := 256) (C := 1024) X b j.val (h * 256 + e.val)

theorem query_eq (i : S2x8192x4x256.Idx) : val_main_v1 (F := Ideal) P i = query P (i 0).val (i 2).val (i 1).val (i 3) := by
  have h0 : (i 0).val < 2 := (i 0).isLt
  have h1 : (i 1).val < 8192 := (i 1).isLt
  have h2 : (i 2).val < 4 := (i 2).isLt
  have h3 : (i 3).val < 256 := (i 3).isLt
  rw [val_main_v1_apply, val_main_v0_apply]
  refine at2_eq (A := 16384) (B := 14336) P _ ?_ ?_
  · show ((((i 0).val * 8192 + (i 1).val) * 4 + (i 2).val) * 256 + (i 3).val) / 1024 = _
    omega
  · show 7168 + ((((i 0).val * 8192 + (i 1).val) * 4 + (i 2).val) * 256 + (i 3).val) % 1024 = _
    omega

theorem key_eq (i : S2x256x4x256.Idx) : val_main_v2 (F := Ideal) K i = headRow K (i 0).val (i 2).val (i 1) (i 3) := by
  have h0 : (i 0).val < 2 := (i 0).isLt
  have h1 : (i 1).val < 256 := (i 1).isLt
  have h2 : (i 2).val < 4 := (i 2).isLt
  have h3 : (i 3).val < 256 := (i 3).isLt
  rw [val_main_v2_apply]
  refine at3_eq (A := 2) (B := 256) (C := 1024) K _ ?_ ?_ ?_
  · show ((((i 0).val * 256 + (i 1).val) * 4 + (i 2).val) * 256 + (i 3).val) / 262144 = _
    omega
  · show ((((i 0).val * 256 + (i 1).val) * 4 + (i 2).val) * 256 + (i 3).val) / 1024 % 256 = _
    omega
  · show ((((i 0).val * 256 + (i 1).val) * 4 + (i 2).val) * 256 + (i 3).val) % 1024 = _
    omega

/-- The keys' and the values' reshapes are one function. -/
theorem value_eq (i : S2x256x4x256.Idx) : val_main_v3 (F := Ideal) W i = headRow W (i 0).val (i 2).val (i 1) (i 3) := key_eq W i

/-- The scaled scores of a query. -/
def scoreAt (b h q : ℕ) : Fin 256 → EReal := score (query P b h q) (headRow K b h)

theorem score_eq (i : S2x4x8192x256.Idx) : val_main_v6 (F := Ideal) P K i = scoreAt P K (i 0).val (i 1).val (i 2).val (i 3) := by
  rw [val_main_v6_apply, val_main_v5_apply, val_main_cst_apply, val_main_v4_apply]
  refine congrArg (· * Ideal.ofBits .f32 0x3D800000#32) (Finset.sum_congr rfl fun e _ => ?_)
  rw [query_eq, key_eq]
  rfl

/-- The largest score of a query. -/
theorem peak_eq (i : S2x4x8192.Idx) : val_main_v9 (F := Ideal) P K i = peak (scoreAt P K (i 0).val (i 1).val (i 2).val) := by
  have r : S2x4x8192x256.Reduces [3] S2x4x8192 := by decide
  have e : val_main_v7 (F := Ideal) P K i = peak (scoreAt P K (i 0).val (i 1).val (i 2).val) := by
    unfold val_main_v7
    refine (Host.reduce_eq_fold_single (FloatOps.maximumf (F := Ideal) (φ := .f32)) _ _ _ r h_S_ i).trans ?_
    refine Finset.fold_congr fun j _ => ?_
    exact score_eq P K (r.lift i j)
  rw [val_main_v9_apply, val_main_v8_apply, val_main_cst_1_apply, e]
  exact max_peak _

/-- The exponentials. -/
theorem exp_eq (i : S2x4x8192x256.Idx) : val_main_v13 (F := Ideal) P K i
    = Ideal.exp (scoreAt P K (i 0).val (i 1).val (i 2).val (i 3) - peak (scoreAt P K (i 0).val (i 1).val (i 2).val)) := by
  rw [val_main_v13_apply, val_main_v12_apply, val_main_v11_apply, val_main_v10_apply, peak_eq, score_eq]
  rfl

/-- The softmax. -/
theorem soft_eq (i : S2x4x8192x256.Idx) : val_main_v17 (F := Ideal) P K i = soft (scoreAt P K (i 0).val (i 1).val (i 2).val) (i 3) := by
  rw [val_main_v17_apply, val_main_v16_apply, val_main_v15_apply, val_main_v14_apply, val_main_cst_2_apply, exp_eq]
  refine congrArg (Ideal.div _) ((congrArg (· + _) bits_zero).trans ((zero_add _).trans (Finset.sum_congr rfl fun j _ => ?_)))
  rw [exp_eq]
  rfl

theorem crossed_eq : val_main_v21 (F := Ideal) P K W = Cert.Kernel6Ideal.Hand.crossed P K W := by
  funext i
  have h0 : (i 0).val < 16384 := (i 0).isLt
  have h1 : (i 1).val < 1024 := (i 1).isLt
  have eb : ((i 0).val * 1024 + (i 1).val) / 8388608 = (i 0).val / 8192 := by omega
  have eq : ((i 0).val * 1024 + (i 1).val) / 1024 % 8192 = (i 0).val % 8192 := by omega
  have eh : ((i 0).val * 1024 + (i 1).val) / 256 % 4 = (i 1).val / 256 := by omega
  have ed : ((i 0).val * 1024 + (i 1).val) % 256 = (i 1).val % 256 := by omega
  have er : (i 0).val / 8192 * 8192 + (i 0).val % 8192 = (i 0).val := by omega
  have ec : (i 1).val / 256 * 256 + (i 1).val % 256 = (i 1).val := by omega
  rw [val_main_v21_apply, val_main_v20_apply, val_main_v19_apply, val_main_v18_apply]
  unfold Cert.Kernel6Ideal.Hand.crossed attend
  show (∑ k : Fin 256, (val_main_v3 (F := Ideal) W (lidx_main_v18 (idx_main_v19 (idx_main_v20 i)) k) : EReal)
    * val_main_v17 (F := Ideal) P K (ridx_main_v18 (idx_main_v19 (idx_main_v20 i)) k)) = _
  refine Finset.sum_congr rfl fun j _ => (mul_comm (_ : EReal) _).trans (congrArg₂ (fun a b : EReal => a * b) ?_ ?_)
  · rw [soft_eq]
    show soft (scoreAt P K (((i 0).val * 1024 + (i 1).val) / 8388608) (((i 0).val * 1024 + (i 1).val) / 256 % 4) (((i 0).val * 1024 + (i 1).val) / 1024 % 8192)) j = _
    rw [eb, eq, eh]
    refine congrArg (fun s => soft s j) ?_
    unfold scoreAt query headRow
    rw [er]
  · rw [value_eq]
    show at3 (A := 2) (B := 256) (C := 1024) W (((i 0).val * 1024 + (i 1).val) / 8388608) j.val (((i 0).val * 1024 + (i 1).val) / 256 % 4 * 256 + ((i 0).val * 1024 + (i 1).val) % 256) = _
    rw [eb, eh, ed, ec]

end Cert.Reference6Ideal.Hand

end
-- ==== Proof.Cross.Value.lean ====
module

public import proofs.«01_k».proof.Proof.Cross.RefValue
public import proofs.«01_k».proof.Proof.Gen.Kernel6.Frame
public import proofs.«01_k».proof.Proof.Gen.Reference6Ideal.Run
public import proofs.«01_k».proof.Proof.Gen.Kernel6
public import proofs.«01_k».proof.Proof.Gen.Kernel6Ideal
public import proofs.«01_k».proof.Proof.Gen.Reference6Ideal
public import proofs.«01_k».proof.Defs
public import Idealize.ShloMosaic.Lib.Quiescent

/-! The claims of the attention over the memory: the frames, and that the kernel and its reference compute one array. -/

@[expose] public section

noncomputable section

namespace Cert.Kernel6Ideal.Hand

open Cert.Kernel6Ideal Cert.Kernel6Ideal.Gen Idealize.ShloMosaic Idealize.ShloMosaic.TcCoe Idealize.SL.Sem

/-- The kernel's run, with its result named. -/
theorem kernel_run (m : (ℓ : Loc nD τ sig) → Buf (Elt Ideal) ℓ) (g : Dev nD → PrngReg) :
    θ_run (Cert.Kernel6Ideal.defs (F := Ideal)) (onTc (τ := τ) (Cert.Kernel6Ideal.main (F := Ideal))) ⟨m, fun _ => 0, g⟩ fun r => ∀ c : Dev nD,
      r.2.mem ((c.tc : Thread nD τ).loc main_v0) = crossed (argP m c) (argK m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run Cert.Kernel6Ideal.defs _ _).mono (fun _ h c => ⟨(h c).1.trans (final m c), (h c).2⟩) (Cert.Kernel6Ideal.Value.run_blocks (F := Ideal) m g)

end Cert.Kernel6Ideal.Hand

namespace Cert.Proof

open Idealize.ShloMosaic Idealize.SL.Sem

theorem frame_kernel6 : Cert.quiescent_Kernel6 := fun m ρ _ => Cert.Kernel6.Gen.frame (F := Bits) m ρ

theorem frame_kernel6Ideal : Cert.quiescent_Kernel6Ideal := fun m ρ _ => Cert.Kernel6Ideal.Gen.frame (F := Ideal) m ρ

theorem frame_reference6 : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-- The kernel and its reference leave the same array. -/
theorem algebraic6 : Cert.algebraic_Kernel6Ideal_Reference6Ideal := by
  intro m g m' g' _ hagree
  refine ⟨_, Cert.Kernel6Ideal.Hand.kernel_run m g, ?_⟩
  refine (θ_run Cert.Reference6Ideal.defs _ _).mono (fun _ h c => ⟨(h c).1.trans ?_, (h c).2⟩) (Cert.Reference6Ideal.Value.run (F := Ideal) m' g')
  rw [Cert.Reference6Ideal.Read.val_main_v21_eq, (hagree c).1, (hagree c).2.1, (hagree c).2.2]
  exact Cert.Reference6Ideal.Hand.crossed_eq _ _ _

end Cert.Proof

end
-- ==== Proof.Out.Body.lean ====
module

public import proofs.«01_k».proof.Proof.Gen.Kernel5Ideal.Frame
public import proofs.«01_k».proof.Proof.Gen.Kernel5Ideal.Skeleton
public import Idealize.ShloMosaic.Lib.VecWindow

/-! One grid point of the output projection: a block of rows projected, added, normalized and routed; the last point stores zeros. -/

@[expose] public section

set_option maxRecDepth 16384

noncomputable section

namespace Cert.Kernel5Ideal.Hand

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The router's scores, before the bias, in their two parts. -/
abbrev hiOf (x : Vec F S512x2048 .f32) (a : Vec F S512x2048 .bf16) (w : Vec F S2048x2048 .bf16) (nw : Vec F S1x2048 .f32) (wr : Vec F S2048x128 .f32) : FVec F S512x128 .f32 :=
  k0_pay8 x a w nw wr
abbrev loOf (x : Vec F S512x2048 .f32) (a : Vec F S512x2048 .bf16) (w : Vec F S2048x2048 .bf16) (nw : Vec F S1x2048 .f32) (wr : Vec F S2048x128 .f32) : FVec F S512x128 .f32 :=
  k0_pay9 x a w nw wr

/-- The lane numbers. -/
abbrev lanes : IVec S512x128 32 := iota .tc S512x128 32 [1] iota_S512x128_d1_w32

/-- The chosen experts of a block of rows. -/
def idsOf (x : Vec F S512x2048 .f32) (a : Vec F S512x2048 .bf16) (w : Vec F S2048x2048 .bf16) (nw : Vec F S1x2048 .f32) (wr : Vec F S2048x128 .f32) (br : Vec F S1x128 .f32) :
    Vec F S512x128 .i32 :=
  k0_pay22 lanes (k0_pay11 (F := F)) (k0_pay15 (hiOf x a w nw wr) (loOf x a w nw wr) br)

/-- Their weights. -/
def gatesOf (x : Vec F S512x2048 .f32) (a : Vec F S512x2048 .bf16) (w : Vec F S2048x2048 .bf16) (nw : Vec F S1x2048 .f32) (wr : Vec F S2048x128 .f32) (br : Vec F S1x128 .f32) :
    Vec F S512x128 .f32 :=
  k0_pay2 lanes (k0_pay20 (k0_pay11 (F := F)) (k0_pay15 (hiOf x a w nw wr) (loOf x a w nw wr) br))
    (k0_pay21 (k0_pay11 (F := F)) (k0_pay14 (hiOf x a w nw wr) (loOf x a w nw wr) br) (k0_pay15 (hiOf x a w nw wr) (loOf x a w nw wr) br)) k0_pay23

theorem cond1_iff (i : grid0.Coords) : k0_cond1 i = 1#1 ↔ ¬(i 0).val < 32 := by
  unfold k0_cond1; generalize i 0 = n; revert n; decide +kernel

theorem cond2_iff (i : grid0.Coords) : k0_cond2 i = 1#1 ↔ (i 0).val < 32 := by
  unfold k0_cond2; generalize i 0 = n; revert n; decide +kernel

/-- A buffer, stored at the first 32 points and kept at the last. -/
def atRows {α : Type} (i : ℕ) (new old : α) : α := if i < 32 then new else old

theorem congr_six {A B C D E G R : Type} (f : A → B → C → D → E → G → R) {a a' : A} {b b' : B} {c c' : C} {d d' : D} {e e' : E} {g g' : G}
    (ha : a = a') (hb : b = b') (hc : c = c') (hd : d = d') (he : e = e') (hg : g = g') : f a b c d e g = f a' b' c' d' e' g' := by
  rw [ha, hb, hc, hd, he, hg]

set_option maxHeartbeats 8000000 in
/-- THE BODY at a point. -/
theorem run_body (c : Dev nD) (i : grid0.Coords) (arg1 : Memref sig .tc .vmem S512x2048 .f32) (harg1 : arg1.IsWhole) (arg2 : Memref sig .tc .vmem S512x2048 .bf16) (harg2 : arg2.IsWhole) (arg3 : Memref sig .tc .vmem S2048x2048 .bf16) (harg3 : arg3.IsWhole) (arg4 : Memref sig .tc .vmem S1x2048 .f32) (harg4 : arg4.IsWhole) (arg5 : Memref sig .tc .vmem S2048x128 .f32) (harg5 : arg5.IsWhole) (arg6 : Memref sig .tc .vmem S1x128 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x128 .i32) (harg9 : arg9.IsWhole) (arg10 : Memref sig .tc .vmem S512x128 .f32) (harg10 : arg10.IsWhole)
    (x : Vec F S512x2048 .f32) (a : Vec F S512x2048 .bf16) (w : Vec F S2048x2048 .bf16) (nw : Vec F S1x2048 .f32) (wr : Vec F S2048x128 .f32) (br : Vec F S1x128 .f32)
    (h : Vec F S512x2048 .f32) (ids : Vec F S512x128 .i32) (gates : Vec F S512x128 .f32) (E : Set ℕ) (K : PUnit → sProp 𝕄) :
    iprop(owns (c : Thread nD τ) arg1 fullShare x ∗ owns (c : Thread nD τ) arg2 fullShare a ∗ owns (c : Thread nD τ) arg3 fullShare w ∗ owns (c : Thread nD τ) arg4 fullShare nw ∗ owns (c : Thread nD τ) arg5 fullShare wr ∗ owns (c : Thread nD τ) arg6 fullShare br ∗ owns (c : Thread nD τ) arg7 fullShare h ∗ (∃ d, owns (c : Thread nD τ) arg8 fullShare d) ∗ owns (c : Thread nD τ) arg9 fullShare ids ∗ owns (c : Thread nD τ) arg10 fullShare gates
        ∗ (iprop(owns (c : Thread nD τ) arg1 fullShare x ∗ owns (c : Thread nD τ) arg2 fullShare a ∗ owns (c : Thread nD τ) arg3 fullShare w ∗ owns (c : Thread nD τ) arg4 fullShare nw ∗ owns (c : Thread nD τ) arg5 fullShare wr ∗ owns (c : Thread nD τ) arg6 fullShare br
          ∗ owns (c : Thread nD τ) arg7 fullShare (atRows (i 0).val (k0_pay3 x a w) h) ∗ owns (c : Thread nD τ) arg8 fullShare (atRows (i 0).val (k0_pay4 x a w nw) k0_pay1)
          ∗ owns (c : Thread nD τ) arg9 fullShare (atRows (i 0).val (idsOf x a w nw wr br) ids) ∗ owns (c : Thread nD τ) arg10 fullShare (atRows (i 0).val (gatesOf x a w nw wr br) gates)) -∗ K ⟨⟩))
      ⊢ wp frame (wpE (defs₀ (F := F)) Variants.none c none) E (cc0_out_router i arg1 harg1 arg2 harg2 arg3 harg3 arg4 harg4 arg5 harg5 arg6 harg6 arg7 harg7 arg8 harg8 arg9 harg9 arg10 harg10) K := by
  simp only [cc0_out_router_eq_skeleton]; unfold cc0_out_router_skel
  simp only [k0_part1_eq_skeleton, k0_part2_eq_skeleton, k0_part3_eq_skeleton]
  iintro ⟨H1, H2, H3, H4, H5, H6, H7, ⟨%d, H8⟩, H9, H10, Hk⟩
  unfold owns
  icases H1 with ⟨%f1, %h1, H1⟩
  icases H2 with ⟨%f2, %h2, H2⟩
  icases H3 with ⟨%f3, %h3, H3⟩
  icases H4 with ⟨%f4, %h4, H4⟩
  icases H5 with ⟨%f5, %h5, H5⟩
  icases H6 with ⟨%f6, %h6, H6⟩
  icases H7 with ⟨%f7, %h7, H7⟩
  icases H8 with ⟨%f8, -, H8⟩
  icases H9 with ⟨%f9, %h9, H9⟩
  icases H10 with ⟨%f10, %h10, H10⟩
  obtain rfl := harg1.eq_unread h1; obtain rfl := harg2.eq_unread h2; obtain rfl := harg3.eq_unread h3; obtain rfl := harg4.eq_unread h4
  obtain rfl := harg5.eq_unread h5; obtain rfl := harg6.eq_unread h6; obtain rfl := harg7.eq_unread h7
  obtain rfl := harg9.eq_unread h9; obtain rfl := harg10.eq_unread h10
  by_cases j : (i 0).val < 32
  · have c1 := mt (cond1_iff i).mp (not_not.mpr j)
    have c2 := (cond2_iff i).mpr j
    have e : ∀ {α : Type} (new old : α), atRows (i 0).val new old = new := fun _ _ => if_pos j
    rw [e, e, e, e]
    sl_exec (disch := first | sl_exact c1 | sl_exact c2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro
      refine (View.read_writes_full arg7.view _ _ _ []).trans ?_
      exact congr (congrArg₂ k0_pay3 ((View.readAt_full _ _ _).trans (harg1.read_unread _))
        ((View.readAt_full _ _ _).trans (harg2.read_unread _)))
        ((View.readAt_full _ _ _).trans (harg3.read_unread _))
    isplitl [H8]
    · iexists _; isplitr; swap; · iexact H8
      ipureintro
      refine (View.read_writes_full arg8.view _ _ _ []).trans ?_
      exact congr (congr (congrArg₂ k0_pay4 ((View.readAt_full _ _ _).trans (harg1.read_unread _))
        ((View.readAt_full _ _ _).trans (harg2.read_unread _)))
        ((View.readAt_full _ _ _).trans (harg3.read_unread _)))
        ((View.readAt_full _ _ _).trans (harg4.read_unread _))
    isplitl [H9]
    · iexists _; isplitr; swap; · iexact H9
      ipureintro
      refine (View.read_writes_full arg9.view _ _ _ []).trans ?_
      exact congr_six idsOf
        ((View.readAt_full _ _ _).trans (harg1.read_unread _))
        ((View.readAt_full _ _ _).trans (harg2.read_unread _))
        ((View.readAt_full _ _ _).trans (harg3.read_unread _))
        ((View.readAt_full _ _ _).trans (harg4.read_unread _))
        ((View.readAt_full _ _ _).trans (harg5.read_unread _))
        ((View.readAt_full _ _ _).trans (harg6.read_unread _))
    iexists _; isplitr; swap; · iexact H10
    ipureintro
    refine (View.read_writes_full arg10.view _ _ _ []).trans ?_
    exact congr_six gatesOf
      ((View.readAt_full _ _ _).trans (harg1.read_unread _))
      ((View.readAt_full _ _ _).trans (harg2.read_unread _))
      ((View.readAt_full _ _ _).trans (harg3.read_unread _))
      ((View.readAt_full _ _ _).trans (harg4.read_unread _))
      ((View.readAt_full _ _ _).trans (harg5.read_unread _))
      ((View.readAt_full _ _ _).trans (harg6.read_unread _))
  · have c1 := (cond1_iff i).mpr j
    have c2 := mt (cond2_iff i).mp j
    have e : ∀ {α : Type} (new old : α), atRows (i 0).val new old = old := fun _ _ => if_neg j
    rw [e, e, e, e]
    sl_exec (disch := first | sl_exact c1 | sl_exact c2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro
      exact View.read_writes_full arg8.view _ _ _ []
    isplitl [H9]
    · iexists _; isplitr; · ipureintro; exact harg9.read_unread _
      iexact H9
    iexists _; isplitr; · ipureintro; exact harg10.read_unread _
    iexact H10

end Cert.Kernel5Ideal.Hand
end
-- ==== Proof.Out.Run.lean ====
module

public import proofs.«01_k».proof.Proof.Out.Body
public import Idealize.ShloMosaic.Lib.Claim

/-! The run of the output projection: what each grid point leaves, and what the arrays hold at the end. -/

@[expose] public section

set_option maxRecDepth 16384

noncomputable section

namespace Cert.Kernel5Ideal.Hand

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of rows that point `p` works on: the last point works on the last block once more. -/
def rowPt (p : ℕ) : Fin cfg0.N := ⟨min p 31, lt_of_lt_of_eq (show min p 31 < 33 by omega) (show 33 = cfg0.N from N_0.symm)⟩

theorem rowPt_eq {t : Fin cfg0.N} (h : t.val < 32) : rowPt t.val = t := by
  refine Fin.ext ?_
  show min t.val 31 = t.val
  omega

/-- The pipeline's data: the arrays as launched, each input's buffer at its block, the outputs' at what the body stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay3 (iblk m c 0 (rowPt t.val)) (iblk m c 1 (rowPt t.val)) (iblk m c 2 (rowPt t.val))
    | ⟨7, _⟩ => atRows t.val (k0_pay4 (iblk m c 0 t) (iblk m c 1 t) (iblk m c 2 t) (iblk m c 3 t)) k0_pay1
    | ⟨8, _⟩ => idsOf (iblk m c 0 (rowPt t.val)) (iblk m c 1 (rowPt t.val)) (iblk m c 2 (rowPt t.val)) (iblk m c 3 (rowPt t.val)) (iblk m c 4 (rowPt t.val)) (iblk m c 5 (rowPt t.val))
    | ⟨9, _⟩ => gatesOf (iblk m c 0 (rowPt t.val)) (iblk m c 1 (rowPt t.val)) (iblk m c 2 (rowPt t.val)) (iblk m c 3 (rowPt t.val)) (iblk m c 4 (rowPt t.val)) (iblk m c 5 (rowPt t.val))
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = k0_pay3 (iblk m c 0 (rowPt t.val)) (iblk m c 1 (rowPt t.val)) (iblk m c 2 (rowPt t.val)) := by dsimp only [dats]
theorem after_7 (c : Dev nD) (t : Fin cfg0.N) : (dats m 0 c).after 7 t = atRows t.val (k0_pay4 (iblk m c 0 t) (iblk m c 1 t) (iblk m c 2 t) (iblk m c 3 t)) k0_pay1 := by dsimp only [dats]
theorem after_8 (c : Dev nD) (t : Fin cfg0.N) : (dats m 0 c).after 8 t = idsOf (iblk m c 0 (rowPt t.val)) (iblk m c 1 (rowPt t.val)) (iblk m c 2 (rowPt t.val)) (iblk m c 3 (rowPt t.val)) (iblk m c 4 (rowPt t.val)) (iblk m c 5 (rowPt t.val)) := by dsimp only [dats]
theorem after_9 (c : Dev nD) (t : Fin cfg0.N) : (dats m 0 c).after 9 t = gatesOf (iblk m c 0 (rowPt t.val)) (iblk m c 1 (rowPt t.val)) (iblk m c 2 (rowPt t.val)) (iblk m c 3 (rowPt t.val)) (iblk m c 4 (rowPt t.val)) (iblk m c 5 (rowPt t.val)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

theorem coord (t : Fin cfg0.N) : (grid0.coords t 0).val = t.val := by
  have e : (grid0.coords t 0).val = t.val / 1 % 33 := Pipeline.Grid.coords_val t 0 (by decide) rfl
  have ht : t.val < 33 := lt_of_lt_of_eq t.isLt (show cfg0.N = 33 from N_0)
  rw [e, Nat.div_one, Nat.mod_eq_of_lt ht]

/-- The body stores into these three outputs at the first 32 points, -/
theorem live {t : Fin cfg0.N} (h : t.val < 32) : (!(k0_cond2 (grid0.coords t) == 1#1)) = false := by
  rw [(cond2_iff (grid0.coords t)).mpr (by rw [coord]; exact h)]; rfl

/-- and into the normalized rows at every point. -/
theorem live_7 (t : Fin cfg0.N) : cfg0.idle 7 (grid0.coords t) = false := by
  show (!(k0_cond1 (grid0.coords t) == 1#1) && !(k0_cond2 (grid0.coords t) == 1#1)) = false
  by_cases h : (grid0.coords t 0).val < 32
  · rw [(cond2_iff (grid0.coords t)).mpr h, Bool.and_comm]; rfl
  · rw [(cond1_iff (grid0.coords t)).mpr h]; rfl

/-- The last block of these three is written back at the last point, and not before. -/
theorem flush_last : ∀ t : Fin cfg0.N, (t.val = 31 → (cfg0.win 6).flush t = false ∧ (cfg0.win 8).flush t = false ∧ (cfg0.win 9).flush t = false)
    ∧ (t.val = 32 → (cfg0.win 6).flush t = true ∧ (cfg0.win 8).flush t = true ∧ (cfg0.win 9).flush t = true) :=
  (by decide +kernel : ∀ t : Fin grid0.N, (t.val = 31 → win0_6.flush t = false ∧ win0_8.flush t = false ∧ win0_9.flush t = false)
    ∧ (t.val = 32 → win0_6.flush t = true ∧ win0_8.flush t = true ∧ win0_9.flush t = true))

/-- An output stored at point 31 and not written back there is found at the last point as it was left. -/
theorem held (c : Dev nD) (w : Fin cfg0.W) (hout : (cfg0.win w).isOut = true) (hl : ∀ u : Fin cfg0.N, u.val = 31 → cfg0.idle w (grid0.coords u) = false)
    (hf : ∀ u : Fin cfg0.N, u.val = 31 → (cfg0.win w).flush u = false) (hk : ∀ u d, (dats m 0 c).kept w u d = (dats m 0 c).after w u)
    (t : Fin cfg0.N) (ht : t.val = 32) (d) : (dats m 0 c).before w t d = (dats m 0 c).after w (rowPt t.val) := by
  have hne : t.val ≠ 0 := by omega
  rw [(dats m 0 c).before_of_pos w t hne ((cfg0.win w).fetch_out hout t)]
  have hp : (⟨t.val - 1, Nat.lt_of_le_of_lt (Nat.sub_le _ _) t.isLt⟩ : Fin cfg0.N) = rowPt t.val := by
    refine Fin.ext ?_
    show t.val - 1 = min t.val 31
    omega
  have hv : (rowPt t.val).val = 31 := by
    show min t.val 31 = 31
    omega
  rw [hp, hf _ hv, if_neg Bool.false_ne_true]
  unfold Dat.left
  rw [hl _ hv]
  exact hk _ d

/-- What an output's buffer must be left at where it is stored or written back. -/
theorem leaves_at (c : Dev nD) (w : Fin cfg0.W) (t : Fin cfg0.N) (h : cfg0.idle w (grid0.coords t) = false ∨ (cfg0.win w).flush t = true) :
    (dats m 0 c).leavesExact w t = owns (c : Thread nD τ) ((cfg0.win w).stage (cfg0.slots t w)) fullShare ((dats m 0 c).after w t) := by
  unfold Dat.leavesExact
  rcases h with h | h
  · rw [h]
  · rw [h]; cases cfg0.idle w (cfg0.grid.coords t) <;> rfl

/-- A buffer stored at the first 32 points, and found at the last as the point before left it, is left at its data throughout. -/
theorem atRows_eq {α : Type} (t : Fin cfg0.N) (f : Fin cfg0.N → α) (old : α) (h : t.val = 32 → old = f (rowPt t.val)) :
    atRows (grid0.coords t 0).val (f t) old = f (rowPt t.val) := by
  have ht : t.val < 33 := lt_of_lt_of_eq t.isLt (show cfg0.N = 33 from N_0)
  unfold atRows
  rw [coord]
  by_cases j : t.val < 32
  · rw [if_pos j, rowPt_eq j]
  · rw [if_neg j, h (by omega)]

theorem rowPt_rowPt (p : ℕ) : rowPt (rowPt p).val = rowPt p := by
  refine Fin.ext ?_
  show min (min p 31) 31 = min p 31
  omega

/-- Stored, or written back: one of the two at every point. -/
theorem stored_or (t : Fin cfg0.N) : (!(k0_cond2 (grid0.coords t) == 1#1)) = false ∨ t.val = 32 := by
  have ht : t.val < 33 := lt_of_lt_of_eq t.isLt (show cfg0.N = 33 from N_0)
  by_cases j : t.val < 32
  · exact .inl (live j)
  · exact .inr (by omega)

theorem leaves_6 (c : Dev nD) (t : Fin cfg0.N) (d) : (dats m 0 c).leavesExact 6 t = owns (c : Thread nD τ) (st0_6 t) fullShare
    (atRows (grid0.coords t 0).val (k0_pay3 (iblk m c 0 t) (iblk m c 1 t) (iblk m c 2 t)) ((dats m 0 c).before 6 t d)) := by
  rw [leaves_at m c 6 t ((stored_or t).imp id fun h => ((flush_last t).2 h).1), after_6]
  refine congrArg _ (atRows_eq t (fun u => k0_pay3 (iblk m c 0 u) (iblk m c 1 u) (iblk m c 2 u)) _ fun h => ?_).symm
  rw [held m c 6 rfl (fun u hu => live (by omega)) (fun u hu => ((flush_last u).1 hu).1) (fun _ _ => rfl) t h d, after_6, rowPt_rowPt]

theorem leaves_7 (c : Dev nD) (t : Fin cfg0.N) : (dats m 0 c).leavesExact 7 t = owns (c : Thread nD τ) (st0_7 t) fullShare
    (atRows (grid0.coords t 0).val (k0_pay4 (iblk m c 0 t) (iblk m c 1 t) (iblk m c 2 t) (iblk m c 3 t)) k0_pay1) := by
  rw [leaves_at m c 7 t (.inl (live_7 t)), after_7, coord]

theorem leaves_8 (c : Dev nD) (t : Fin cfg0.N) (d) : (dats m 0 c).leavesExact 8 t = owns (c : Thread nD τ) (st0_8 t) fullShare
    (atRows (grid0.coords t 0).val (idsOf (iblk m c 0 t) (iblk m c 1 t) (iblk m c 2 t) (iblk m c 3 t) (iblk m c 4 t) (iblk m c 5 t)) ((dats m 0 c).before 8 t d)) := by
  rw [leaves_at m c 8 t ((stored_or t).imp id fun h => ((flush_last t).2 h).2.1), after_8]
  refine congrArg _ (atRows_eq t (fun u => idsOf (iblk m c 0 u) (iblk m c 1 u) (iblk m c 2 u) (iblk m c 3 u) (iblk m c 4 u) (iblk m c 5 u)) _ fun h => ?_).symm
  rw [held m c 8 rfl (fun u hu => live (by omega)) (fun u hu => ((flush_last u).1 hu).2.1) (fun _ _ => rfl) t h d, after_8, rowPt_rowPt]

theorem leaves_9 (c : Dev nD) (t : Fin cfg0.N) (d) : (dats m 0 c).leavesExact 9 t = owns (c : Thread nD τ) (st0_9 t) fullShare
    (atRows (grid0.coords t 0).val (gatesOf (iblk m c 0 t) (iblk m c 1 t) (iblk m c 2 t) (iblk m c 3 t) (iblk m c 4 t) (iblk m c 5 t)) ((dats m 0 c).before 9 t d)) := by
  rw [leaves_at m c 9 t ((stored_or t).imp id fun h => ((flush_last t).2 h).2.2), after_9]
  refine congrArg _ (atRows_eq t (fun u => gatesOf (iblk m c 0 u) (iblk m c 1 u) (iblk m c 2 u) (iblk m c 3 u) (iblk m c 4 u) (iblk m c 5 u)) _ fun h => ?_).symm
  rw [held m c 9 rfl (fun u hu => live (by omega)) (fun u hu => ((flush_last u).1 hu).2.2) (fun _ _ => rfl) t h d, after_9, rowPt_rowPt]

/-- What the body is handed at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t ∗ (dats m 0 c).leavesExact 7 t ∗ (dats m 0 c).leavesExact 8 t ∗ (dats m 0 c).leavesExact 9 t)

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    show (dats m 0 c).Φ t.succ = (dats m 0 c).Φ t.castSucc from rfl,
    after_0, after_1, after_2, after_3, after_4, after_5]
  iintro ⟨Hs, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [leaves_6 m c t d6, leaves_7 m c t, leaves_8 m c t d8, leaves_9 m c t d9]
  iapply (run_body c (grid0.coords t) _ _ _ _ _ _ _ _ _ _ _ _ _ _ _ _ _ _ _ _ (iblk m c 0 t) (iblk m c 1 t) (iblk m c 2 t) (iblk m c 3 t) (iblk m c 4 t) (iblk m c 5 t)
    ((dats m 0 c).before 6 t d6) ((dats m 0 c).before 8 t d8) ((dats m 0 c).before 9 t d9) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  iintro ⟨H0, H1, H2, H3, H4, H5, H6, H7, H8, H9⟩
  isplitl [Hs]; · iexact Hs
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

set_option backward.isDefEq.respectTransparency.types false in
/-- The run: the arrays end as the data say, and every counter at zero. -/
theorem run_end : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_end m ρ)

/-- The frame, at any values: the arguments end unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_end m ρ))

end Cert.Kernel5Ideal.Hand
end
-- ==== Proof.Out.Arrays.lean ====
module

public import proofs.«01_k».proof.Proof.Out.Run
public import proofs.«01_k».proof.Proof.In.Norm
public import proofs.«01_k».proof.Proof.At

/-! The output projection's two result arrays: the rows it is added to, and those rows normalized, with 512 rows of zeros below. -/

@[expose] public section

set_option maxRecDepth 16384

noncomputable section

namespace Cert.Kernel5Ideal.Hand

open Cert.Kernel5Ideal.Gen Cert.Rows
open Idealize.ShloMosaic hiding ix1 ix2 ix3
open Idealize.ShloMosaic.TcCoe Idealize.SL.Sem Idealize.ShloMosaic.ValueIdx
open Idealize.ShloMosaic.Pipeline (Dat)
open scoped BigOperators

variable (m : (ℓ : Loc nD τ sig) → Buf (Elt Ideal) ℓ)

/-- The arguments at their shapes. -/
abbrev argX (c : Dev nD) : S2x8192x2048.Idx → EReal := m ((c : Thread nD τ).loc main_arg0)
abbrev argA (c : Dev nD) : S16384x2048.Idx → EReal := m ((c : Thread nD τ).loc main_arg1)
abbrev argW (c : Dev nD) : S2048x2048.Idx → EReal := m ((c : Thread nD τ).loc main_arg2)
abbrev argG (c : Dev nD) : S2048.Idx → EReal := m ((c : Thread nD τ).loc main_arg3)

/-- The index maps, by the point's number. -/
theorem idx : ∀ t : Fin cfg0.N, win0_0.index t = ![min t.val 31, 0] ∧ win0_1.index t = ![min t.val 31, 0] ∧ win0_2.index t = ![0, 0]
    ∧ win0_3.index t = ![0, 0] ∧ win0_6.index t = ![min t.val 31, 0] ∧ win0_7.index t = ![t.val, 0] :=
  (by decide +kernel : ∀ t : Fin grid0.N, _)

/-- The arrays that the host code prepares. -/
theorem V_x (c : Dev nD) : (V m c main_v5 : S16384x2048.Idx → EReal) = shapeCast S16384x2048 (argX m c) shapeCasts_S2x8192x2048_S16384x2048 := by
  simp only [V, hostOps0, hostOps0_1, hostOps0_2, hostOps0_3, hostOps0_4, List.flatten_cons, List.flatten_nil, List.cons_append, List.nil_append]
  after_results
  rfl

theorem V_w (c : Dev nD) : (V m c main_v6 : S2048x2048.Idx → EReal) = argW m c := by
  simp only [V, hostOps0, hostOps0_1, hostOps0_2, hostOps0_3, hostOps0_4, List.flatten_cons, List.flatten_nil, List.cons_append, List.nil_append]
  after_results
  rfl

theorem V_g (c : Dev nD) : (V m c main_v7 : S1x2048.Idx → EReal) = shapeCast S1x2048 (argG m c) shapeCasts_S2048_S1x2048 := by
  simp only [V, hostOps0, hostOps0_1, hostOps0_2, hostOps0_3, hostOps0_4, List.flatten_cons, List.flatten_nil, List.cons_append, List.nil_append]
  after_results
  rfl

/-- The rows' block, at an element. -/
theorem iblk_x (c : Dev nD) (t : Fin cfg0.N) (r : Fin 512) (k : Fin 2048) :
    (iblk m c 0 t : FVec Ideal S512x2048 .f32) (ix2 r k) = row (argX m c) (min t.val 31 * 512 + r.val) k := by
  have hr := r.isLt
  have hk := k.isLt
  have e0 : (((win0_0.blk t).view.emb (ix2 r k)) 0 : ℕ) = min t.val 31 * 512 + r.val := by blk_simp [idx t]; rfl
  have e1 : (((win0_0.blk t).view.emb (ix2 r k)) 1 : ℕ) = k.val := by blk_simp [idx t]; rfl
  show (V m c main_v5 : S16384x2048.Idx → EReal) ((win0_0.blk t).view.emb (ix2 r k)) = _
  rw [V_x]
  generalize (win0_0.blk t).view.emb (ix2 r k) = i at e0 e1
  have hi0 : (i 0).val = min t.val 31 * 512 + r.val := e0
  have hi1 : (i 1).val = k.val := e1
  refine (shapeCast_apply _ shapeCasts_S2x8192x2048_S16384x2048 i
    (ix3 ⟨(i 0).val / 8192, by omega⟩ ⟨(i 0).val % 8192, by omega⟩ k) ?_).trans ?_
  · rw [Shape.rowMajor_val_three, Shape.rowMajor_val_two]
    show ((i 0).val / 8192 * 8192 + (i 0).val % 8192) * 2048 + k.val = (i 0).val * 2048 + (i 1).val
    omega
  · rw [← hi0]
    exact row_eq _ _ rfl rfl rfl

/-- The merged rows' block. -/
theorem iblk_a (c : Dev nD) (t : Fin cfg0.N) (r : Fin 512) (k : Fin 2048) :
    (iblk m c 1 t : FVec Ideal S512x2048 .bf16) (ix2 r k) = at2 (argA m c) (min t.val 31 * 512 + r.val) k.val := by
  show (V m c main_arg1 : S16384x2048.Idx → EReal) ((win0_1.blk t).view.emb (ix2 r k)) = _
  rw [V_main_arg1]
  exact at2_eq _ _ (by blk_simp [idx t]) (by blk_simp [idx t])

/-- The weights' block. -/
theorem iblk_w (c : Dev nD) (t : Fin cfg0.N) (k j : Fin 2048) :
    (iblk m c 2 t : FVec Ideal S2048x2048 .bf16) (ix2 k j) = at2 (argW m c) k.val j.val := by
  show (V m c main_v6 : S2048x2048.Idx → EReal) ((win0_2.blk t).view.emb (ix2 k j)) = _
  rw [V_w]
  exact at2_eq _ _ (by blk_simp [idx t]) (by blk_simp [idx t])

/-- The norm weights' block. -/
theorem iblk_g (c : Dev nD) (t : Fin cfg0.N) (k : Fin 2048) :
    (iblk m c 3 t : FVec Ideal S1x2048 .f32) (ix2 0 k) = vec (argG m c) k := by
  have e0 : (((win0_3.blk t).view.emb (ix2 (0 : Fin 1) k)) 0 : ℕ) = 0 := by blk_simp [idx t]
  have e1 : (((win0_3.blk t).view.emb (ix2 (0 : Fin 1) k)) 1 : ℕ) = k.val := by blk_simp [idx t]; rfl
  show (V m c main_v7 : S1x2048.Idx → EReal) ((win0_3.blk t).view.emb (ix2 0 k)) = _
  rw [V_g]
  generalize (win0_3.blk t).view.emb (ix2 (0 : Fin 1) k) = i at e0 e1
  have hi0 : (i 0).val = 0 := e0
  have hi1 : (i 1).val = k.val := e1
  refine (shapeCast_apply _ shapeCasts_S2048_S1x2048 i (ix1 k) ?_).trans rfl
  rw [Shape.rowMajor_val_one, Shape.rowMajor_val_two]
  show k.val = (i 0).val * 2048 + (i 1).val
  omega

/-- An entry of the rows: what came in, and a merged row against a column. -/
def hid (X : S2x8192x2048.Idx → EReal) (A : S16384x2048.Idx → EReal) (W : S2048x2048.Idx → EReal) (r : ℕ) (k : Fin 2048) : EReal :=
  row X r k + ∑ j : Fin 2048, at2 A r j.val * at2 W j.val k.val

/-- The block of rows, at an element. -/
theorem sums_apply (c : Dev nD) (t : Fin cfg0.N) (r : Fin 512) (k : Fin 2048) :
    (k0_pay3 (F := Ideal) (iblk m c 0 t) (iblk m c 1 t) (iblk m c 2 t)) (ix2 r k) = hid (argX m c) (argA m c) (argW m c) (min t.val 31 * 512 + r.val) k := by
  unfold k0_pay3
  simp only [shapeCast_self]
  refine congrArg₂ (· + ·) (iblk_x m c t r k) ((plain_apply (M := 512) (K := 2048) (N := 2048) (φ := .bf16) (ψ := .bf16) (iblk m c 1 t) (iblk m c 2 t) r k).trans ?_)
  exact Finset.sum_congr rfl fun j _ => congrArg₂ (· * ·) (iblk_a m c t r j) (iblk_w m c t j k)

/-- The block of rows normalized, at an element. -/
theorem normed_apply (c : Dev nD) (t : Fin cfg0.N) (r : Fin 512) (k : Fin 2048) :
    (k0_pay4 (F := Ideal) (iblk m c 0 t) (iblk m c 1 t) (iblk m c 2 t) (iblk m c 3 t)) (ix2 r k)
      = rms (hid (argX m c) (argA m c) (argW m c) (min t.val 31 * 512 + r.val)) (vec (argG m c)) k := by
  unfold k0_pay4
  simp only [shapeCast_self]
  refine (rms_apply (M := 512) (k0_pay3 (F := Ideal) (iblk m c 0 t) (iblk m c 1 t) (iblk m c 2 t)) (iblk m c 3 t)
    reduces_S512x2048_S512 shapeCasts_S512_S512x1 broadcasts_S512x1_S512x2048 broadcasts_S1x2048_S512x2048 _ _ r k).trans ?_
  rw [funext fun j => sums_apply m c t r j, funext fun j => iblk_g m c t j]

/-- The rows. -/
def hs (X : S2x8192x2048.Idx → EReal) (A : S16384x2048.Idx → EReal) (W : S2048x2048.Idx → EReal) : S16384x2048.Idx → EReal := fun i =>
  hid X A W (i 0).val (Fin.ofNat 2048 (i 1).val)

/-- The rows normalized, and zeros below. -/
def hns (X : S2x8192x2048.Idx → EReal) (A : S16384x2048.Idx → EReal) (W : S2048x2048.Idx → EReal) (g : S2048.Idx → EReal) : S16896x2048.Idx → EReal := fun i =>
  if (i 0).val < 16384 then rms (hid X A W (i 0).val) (vec g) (Fin.ofNat 2048 (i 1).val) else 0

theorem ofNat_val (k : Fin 2048) : Fin.ofNat 2048 k.val = k := Fin.ext (Nat.mod_eq_of_lt k.isLt)

/-- What the kernel leaves in the rows' array. -/
theorem final_h (c : Dev nD) : (dats m 0 c).arrAt 6 cfg0.N = hs (argX m c) (argA m c) (argW m c) := by
  refine (dats m 0 c).arrAt_eq_of_covers 6 _ (by decide +kernel) fun t hf y => ?_
  have e0 : ((((cfg0.win 6).blk t).view.emb y) 0 : ℕ) = min t.val 31 * 512 + (y 0).val := by blk_simp [idx t]
  have e1 : ((((cfg0.win 6).blk t).view.emb y) 1 : ℕ) = (y 1).val := by blk_simp [idx t]
  have hm : min (rowPt t.val).val 31 = min t.val 31 := by
    show min (min t.val 31) 31 = min t.val 31
    omega
  have e2 : (k0_pay3 (F := Ideal) (iblk m c 0 (rowPt t.val)) (iblk m c 1 (rowPt t.val)) (iblk m c 2 (rowPt t.val))) y
      = hid (argX m c) (argA m c) (argW m c) (min t.val 31 * 512 + (y 0).val) (Fin.ofNat 2048 (y 1).val) := by
    conv_lhs => rw [ValueIdx.eq_ix2 y]
    rw [ofNat_val (y 1), ← hm]
    exact sums_apply m c (rowPt t.val) (y 0) (y 1)
  unfold hs
  rw [e0, e1]
  blk_simp
  rw [after_6]
  exact e2

/-- What the kernel leaves in the normalized rows' array. -/
theorem final_hn (c : Dev nD) : (dats m 0 c).arrAt 7 cfg0.N = hns (argX m c) (argA m c) (argW m c) (argG m c) := by
  refine (dats m 0 c).arrAt_eq_of_covers 7 _ (by decide +kernel) fun t hf y => ?_
  have ht : t.val < 33 := lt_of_lt_of_eq t.isLt (show cfg0.N = 33 from N_0)
  have hy0 : (y 0).val < 512 := (y 0).isLt
  have e0 : ((((cfg0.win 7).blk t).view.emb y) 0 : ℕ) = t.val * 512 + (y 0).val := by blk_simp [idx t]
  have e1 : ((((cfg0.win 7).blk t).view.emb y) 1 : ℕ) = (y 1).val := by blk_simp [idx t]
  have e2 : (atRows t.val (k0_pay4 (F := Ideal) (iblk m c 0 t) (iblk m c 1 t) (iblk m c 2 t) (iblk m c 3 t)) k0_pay1 : FVec Ideal S512x2048 .f32) y
      = if t.val * 512 + (y 0).val < 16384 then rms (hid (argX m c) (argA m c) (argW m c) (t.val * 512 + (y 0).val)) (vec (argG m c)) (Fin.ofNat 2048 (y 1).val) else 0 := by
    unfold atRows
    by_cases h : t.val < 32
    · have hm : min t.val 31 = t.val := by omega
      rw [if_pos h, if_pos (by omega)]
      conv_lhs => rw [ValueIdx.eq_ix2 y]
      rw [ofNat_val (y 1)]
      refine (normed_apply m c t (y 0) (y 1)).trans ?_
      rw [hm]
    · rw [if_neg h, if_neg (by omega)]
      exact bits_zero
  unfold hns
  rw [e0, e1]
  blk_simp
  rw [after_7]
  exact e2

end Cert.Kernel5Ideal.Hand

end
-- ==== Proof.Out.RefValue.lean ====
module

public import proofs.«01_k».proof.Proof.Gen.Reference5Ideal.Read
public import proofs.«01_k».proof.Proof.Out.Arrays
public import Idealize.ShloMosaic.Lib.KernelVsHost

/-! The output projection's reference, at an element. -/

@[expose] public section

set_option maxRecDepth 16384

noncomputable section

namespace Cert.Reference5Ideal.Hand

open Idealize.ShloMosaic hiding ix1 ix2 ix3
open Idealize.ShloMosaic.ValueIdx Cert.Rows Cert.Reference5Ideal.Gen Cert.Reference5Ideal.Read
open scoped BigOperators
open Cert.Kernel5Ideal.Hand (hid hs hns ofNat_val)

variable (X : (⟨S2x8192x2048, .f32⟩ : BufTy).Contents (Elt Ideal)) (A : (⟨S16384x2048, .bf16⟩ : BufTy).Contents (Elt Ideal))
  (W : (⟨S2048x2048, .f32⟩ : BufTy).Contents (Elt Ideal)) (g : (⟨S2048, .f32⟩ : BufTy).Contents (Elt Ideal))

/-- An entry of the rows. -/
theorem sums_at (i : S16384x2048.Idx) {r : ℕ} {k : Fin 2048} (h0 : (i 0).val = r) (h1 : (i 1).val = k.val) :
    val_main_v3 (F := Ideal) X A W i = hid X A W r k := by
  have l0 : (i 0).val < 16384 := (i 0).isLt
  have l1 : (i 1).val < 2048 := (i 1).isLt
  rw [val_main_v3_apply, val_main_v0_apply, val_main_v2_apply]
  refine congrArg₂ (· + ·) (row_eq (B := 2) (S := 8192) X _ ?_ ?_ ?_) (Finset.sum_congr rfl fun j _ => congrArg₂ (· * ·) (at2_eq (A := 16384) (B := 2048) A _ h0 rfl) (at2_eq (A := 2048) (B := 2048) W _ rfl h1))
  · show ((i 0).val * 2048 + (i 1).val) / 16777216 = r / 8192
    omega
  · show ((i 0).val * 2048 + (i 1).val) / 2048 % 8192 = r % 8192
    omega
  · show ((i 0).val * 2048 + (i 1).val) % 2048 = k.val
    omega

theorem h_eq : val_main_v3 (F := Ideal) X A W = hs X A W := by
  funext i
  exact sums_at X A W i rfl (congrArg Fin.val (ofNat_val (i 1))).symm

/-- An entry of the normalized rows. -/
theorem normed_at (i : S16384x2048.Idx) {r : ℕ} {k : Fin 2048} (h0 : (i 0).val = r) (h1 : (i 1).val = k.val) :
    val_main_v16 (F := Ideal) X A W g i = rms (hid X A W r) (vec g) k := by
  have z : (FloatOps.ofBits .f32 0x00000000#32 : Ideal .f32) = (0 : EReal) := bits_zero
  rw [val_main_v16_apply, val_main_v13_apply, val_main_v12_apply, val_main_v11_apply, val_main_v10_apply, val_main_v8_apply, val_main_v6_apply,
    val_main_v5_apply, val_main_v7_apply, val_main_v9_apply, val_main_v15_apply, val_main_v14_apply, val_main_cst_apply, val_main_cst_0_apply,
    val_main_cst_1_apply, z, sums_at X A W i h0 h1, vec_eq g _ (k := k) h1]
  have s : ∀ j : Fin 2048, val_main_v4 (F := Ideal) X A W (idx_main_v5 (idx_main_v6 (idx_main_v12 i)) j) = hid X A W r j * hid X A W r j := fun j => by
    rw [val_main_v4_apply, sums_at X A W (idx_main_v5 (idx_main_v6 (idx_main_v12 i)) j) (r := r) (k := j) h0 rfl]
    rfl
  rw [Finset.sum_congr rfl fun j _ => s j]
  show _ * Ideal.rsqrt (Ideal.div (0 + _) _ + _) * _ = _
  rw [zero_add]
  rfl

theorem hn_eq : val_main_v17 (F := Ideal) X A W g = hns X A W g := by
  funext i
  have l0 : (i 0).val < 16896 := (i 0).isLt
  unfold val_main_v17 hns
  by_cases h : (i 0).val < 16384
  · rw [if_pos h]
    let k : S16384x2048.Idx := ix2 (n0 := 16384) (n1 := 2048) ⟨(i 0).val, h⟩ (i 1)
    refine (pad_apply_of_inside _ _ _ _ _ _ _ i k (fun b => ?_)).trans ?_
    · match b with
      | ⟨0, _⟩ => show (i 0).val = 0 + (i 0).val * 1; omega
      | ⟨1, _⟩ => show (i 1).val = 0 + (i 1).val * 1; omega
    · exact normed_at X A W g k rfl (congrArg Fin.val (ofNat_val (i 1))).symm
  · rw [if_neg h]
    refine (pad_apply_of_not_inside _ _ _ _ _ _ _ i 0 (fun hin => h ?_)).trans ?_
    · have h3 := hin.2.2
      have h4 : ((i 0).val - 0) / 1 < 16384 := h3
      omega
    · rw [val_main_call0_v0_apply, val_main_c_apply]
      show (((0#32 : BitVec 32).toInt : ℝ) : EReal) = 0
      norm_num

end Cert.Reference5Ideal.Hand

end
-- ==== Proof.Out.Value.lean ====
module

public import proofs.«01_k».proof.Proof.Out.Run
public import proofs.«01_k».proof.Proof.Out.RefValue
public import proofs.«01_k».proof.Proof.Gen.Reference5Ideal.Run
public import proofs.«01_k».proof.Proof.Gen.Kernel5
public import proofs.«01_k».proof.Proof.Gen.Kernel5Ideal
public import proofs.«01_k».proof.Proof.Gen.Reference5Ideal
public import proofs.«01_k».proof.Defs
public import Idealize.ShloMosaic.Lib.Quiescent

/-! The output projection's claims: the frames, and that the kernel and its reference compute the same two arrays. -/

@[expose] public section

noncomputable section

namespace Cert.Kernel5Ideal.Hand

open Cert.Kernel5Ideal Cert.Kernel5Ideal.Gen Idealize.ShloMosaic Idealize.ShloMosaic.TcCoe Idealize.SL.Sem

/-- The kernel's run, with its two results named. -/
theorem kernel_run (m : (ℓ : Loc nD τ sig) → Buf (Elt Ideal) ℓ) (g : Dev nD → PrngReg) :
    θ_run (Cert.Kernel5Ideal.defs (F := Ideal)) (onTc (τ := τ) (Cert.Kernel5Ideal.main (F := Ideal))) ⟨m, fun _ => 0, g⟩ fun r => ∀ c : Dev nD,
      r.2.mem ((c.tc : Thread nD τ).loc main_v8_0) = hs (argX m c) (argA m c) (argW m c)
      ∧ r.2.mem ((c.tc : Thread nD τ).loc main_v8_1) = hns (argX m c) (argA m c) (argW m c) (argG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run Cert.Kernel5Ideal.defs _ _).mono
    (fun _ h c => ⟨((h.1 c).1 6).trans (final_h m c), ((h.1 c).1 7).trans (final_hn m c), h.2.1 c⟩)
    (θ_run_and (run_main (F := Ideal) m g) (frame_any (F := Ideal) m g))

end Cert.Kernel5Ideal.Hand

namespace Cert.Proof

open Idealize.ShloMosaic Idealize.SL.Sem

set_option smartUnfolding false in
/-- The printed kernel and its reading on the extended reals are one text: one run serves both. -/
theorem frame_kernel5 : Cert.quiescent_Kernel5 := fun m ρ _ =>
  (θ_run Cert.Kernel5Ideal.defs _ _).mono (fun _ h => h) (Cert.Kernel5Ideal.Hand.frame_any (F := Bits) m ρ)

theorem frame_kernel5Ideal : Cert.quiescent_Kernel5Ideal := fun m ρ _ => Cert.Kernel5Ideal.Hand.frame_any (F := Ideal) m ρ

theorem frame_reference5 : Cert.quiescent_Reference5Ideal := fun m ρ _ =>
  (θ_run Cert.Reference5Ideal.defs _ _).mono (fun r h => ⟨fun c => (h c).2.2, Idealize.ShloMosaic.sem_eq_zero_of_no_sems (by decide) r.2⟩)
    (Cert.Reference5Ideal.Value.run (F := Ideal) m ρ)

/-- The kernel and its reference leave the same two arrays. -/
theorem algebraic5 : Cert.algebraic_Kernel5Ideal_Reference5Ideal := by
  intro m g m' g' _ hagree
  refine ⟨_, _, Cert.Kernel5Ideal.Hand.kernel_run m g, ?_⟩
  refine (θ_run Cert.Reference5Ideal.defs _ _).mono (fun _ h c => ⟨(h c).1.trans ?_, (h c).2.1.trans ?_, (h c).2.2⟩) (Cert.Reference5Ideal.Value.run (F := Ideal) m' g')
  · rw [Cert.Reference5Ideal.Read.val_main_v3_eq, (hagree c).1, (hagree c).2.1, (hagree c).2.2.1]
    exact Cert.Reference5Ideal.Hand.h_eq _ _ _
  · rw [Cert.Reference5Ideal.Read.val_main_v17_eq, (hagree c).1, (hagree c).2.1, (hagree c).2.2.1, (hagree c).2.2.2.1]
    exact Cert.Reference5Ideal.Hand.hn_eq _ _ _ _

end Cert.Proof

end
-- ==== Proof.Sample.Body.lean ====
module

public import proofs.«01_k».proof.Proof.Gen.Kernel7Ideal.Frame
public import proofs.«01_k».proof.Proof.Gen.Kernel7Ideal.Skeleton
public import Idealize.ShloMosaic.Lib.VecWindow

/-! One grid point of the sample's input projection: the rows normalized at the first point, one block of columns multiplied. -/

@[expose] public section

set_option maxRecDepth 16384

noncomputable section

namespace Cert.Kernel7Ideal.Hand

open Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The normalized rows after column block `j`: computed at the first block, kept at the others. -/
def normed (j : ℕ) (x : Vec F S256x2048 .f32) (nw : Vec F S1x2048 .f32) (s : Vec F S256x2048 .bf16) : Vec F S256x2048 .bf16 :=
  if j = 0 then k0_pay2 x nw else s

/-- The products stored at column block `j`: the first weights for the first seven blocks, the second for the rest. -/
def outOf (j : ℕ) (xn : Vec F S256x2048 .bf16) (wa wb : Vec F S2048x1024 .bf16) : Vec F S256x1024 .f32 :=
  if j < 7 then k0_pay4 xn wa else k0_pay4 xn wb

/-- The narrow columns' products: stored at the first block, kept at the others. -/
def abOf (j : ℕ) (x : Vec F S256x2048 .f32) (nw : Vec F S1x2048 .f32) (wab : Vec F S2048x128 .f32) (ab : Vec F S256x128 .f32) : Vec F S256x128 .f32 :=
  if j = 0 then k0_pay3 x nw wab else ab

theorem cond1_iff (i : grid0.Coords) : k0_cond1 i = 1#1 ↔ (i 1).val = 0 := by
  unfold k0_cond1; generalize i 1 = n; revert n; decide +kernel

theorem cond2_iff (i : grid0.Coords) : k0_cond2 i = 1#1 ↔ (i 1).val < 7 := by
  unfold k0_cond2; generalize i 1 = n; revert n; decide +kernel

theorem cond3_iff (i : grid0.Coords) : k0_cond3 i = 1#1 ↔ ¬(i 1).val < 7 := by
  unfold k0_cond3; generalize i 1 = n; revert n; decide +kernel

set_option maxHeartbeats 4000000 in
/-- THE BODY at a point. -/
theorem run_body (c : Dev nD) (i : grid0.Coords) (arg2 : Memref sig .tc .vmem S256x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S2048x128 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x2048 .bf16) (harg9 : arg9.IsWhole)
    (x : Vec F S256x2048 .f32) (nw : Vec F S1x2048 .f32) (wa wb : Vec F S2048x1024 .bf16) (wab : Vec F S2048x128 .f32) (ab : Vec F S256x128 .f32) (s : Vec F S256x2048 .bf16) (E : Set ℕ) (K : PUnit → sProp 𝕄) :
    iprop(owns (c : Thread nD τ) arg2 fullShare x ∗ owns (c : Thread nD τ) arg3 fullShare nw ∗ owns (c : Thread nD τ) arg4 fullShare wa ∗ owns (c : Thread nD τ) arg5 fullShare wb ∗ owns (c : Thread nD τ) arg6 fullShare wab ∗ (∃ d, owns (c : Thread nD τ) arg7 fullShare d) ∗ owns (c : Thread nD τ) arg8 fullShare ab ∗ owns (c : Thread nD τ) arg9 fullShare s
        ∗ (iprop(owns (c : Thread nD τ) arg2 fullShare x ∗ owns (c : Thread nD τ) arg3 fullShare nw ∗ owns (c : Thread nD τ) arg4 fullShare wa ∗ owns (c : Thread nD τ) arg5 fullShare wb ∗ owns (c : Thread nD τ) arg6 fullShare wab ∗ owns (c : Thread nD τ) arg7 fullShare (outOf (i 1).val (normed (i 1).val x nw s) wa wb) ∗ owns (c : Thread nD τ) arg8 fullShare (abOf (i 1).val x nw wab ab) ∗ owns (c : Thread nD τ) arg9 fullShare (normed (i 1).val x nw s)) -∗ K ⟨⟩))
      ⊢ wp frame (wpE (defs₀ (F := F)) Variants.none c none) E (cc0_proj i arg2 harg2 arg3 harg3 arg4 harg4 arg5 harg5 arg6 harg6 arg7 harg7 arg8 harg8 arg9 harg9) K := by
  simp only [cc0_proj_eq_skeleton]; unfold cc0_proj_skel
  iintro ⟨H2, H3, H4, H5, H6, ⟨%d, H7⟩, H8, H9, Hk⟩
  unfold owns
  icases H2 with ⟨%f2, %h2, H2⟩
  icases H3 with ⟨%f3, %h3, H3⟩
  icases H4 with ⟨%f4, %h4, H4⟩
  icases H5 with ⟨%f5, %h5, H5⟩
  icases H6 with ⟨%f6, %h6, H6⟩
  icases H7 with ⟨%f7, -, H7⟩
  icases H8 with ⟨%f8, %h8, H8⟩
  icases H9 with ⟨%f9, %h9, H9⟩
  obtain rfl := harg2.eq_unread h2; obtain rfl := harg3.eq_unread h3; obtain rfl := harg4.eq_unread h4; obtain rfl := harg5.eq_unread h5
  obtain rfl := harg6.eq_unread h6; obtain rfl := harg8.eq_unread h8; obtain rfl := harg9.eq_unread h9
  by_cases j0 : (i 1).val = 0
  · have c1 := (cond1_iff i).mpr j0
    have j7 : (i 1).val < 7 := by omega
    have c2 := (cond2_iff i).mpr j7
    have c3 := mt (cond3_iff i).mp (not_not.mpr j7)
    rw [show normed (i 1).val x nw s = k0_pay2 x nw from if_pos j0, show abOf (i 1).val x nw wab ab = k0_pay3 x nw wab from if_pos j0,
      show outOf (i 1).val (k0_pay2 x nw) wa wb = k0_pay4 (k0_pay2 x nw) wa from if_pos j7]
    sl_exec (disch := first | sl_exact c1 | sl_exact c2 | sl_exact c3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro
      refine (View.read_writes_full arg7.view _ _ _ []).trans ?_
      refine congrArg₂ k0_pay4 ((View.readCov_full arg9.view _ _ _ []).trans ?_) ((View.readAt_full _ _ _).trans (harg4.read_unread wa))
      exact congrArg₂ k0_pay2 ((View.readAt_full _ _ _).trans (harg2.read_unread _)) ((View.readAt_full _ _ _).trans (harg3.read_unread _))
    isplitl [H8]
    · iexists _; isplitr; swap; · iexact H8
      ipureintro
      refine (View.read_writes_full arg8.view _ _ _ []).trans ?_
      exact congr (congrArg₂ k0_pay3 ((View.readAt_full _ _ _).trans (harg2.read_unread _)) ((View.readAt_full _ _ _).trans (harg3.read_unread _))) ((View.readAt_full _ _ _).trans (harg6.read_unread _))
    iexists _; isplitr; swap; · iexact H9
    ipureintro
    refine (View.read_writes_full arg9.view _ _ _ []).trans ?_
    exact congrArg₂ k0_pay2 ((View.readAt_full _ _ _).trans (harg2.read_unread _)) ((View.readAt_full _ _ _).trans (harg3.read_unread _))
  · have c1 := mt (cond1_iff i).mp j0
    rw [show normed (i 1).val x nw s = s from if_neg j0, show abOf (i 1).val x nw wab ab = ab from if_neg j0]
    by_cases j7 : (i 1).val < 7
    · have c2 := (cond2_iff i).mpr j7
      have c3 := mt (cond3_iff i).mp (not_not.mpr j7)
      rw [show outOf (i 1).val s wa wb = k0_pay4 s wa from if_pos j7]
      sl_exec (disch := first | sl_exact c1 | sl_exact c2 | sl_exact c3)
      sl_step
      iapply Hk
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; swap; · iexact H7
        ipureintro
        refine (View.read_writes_full arg7.view _ _ _ []).trans ?_
        exact congrArg₂ k0_pay4 ((View.readAt_full _ _ _).trans (harg9.read_unread _)) ((View.readAt_full _ _ _).trans (harg4.read_unread _))
      isplitl [H8]
      · iexists _; isplitr; · ipureintro; exact harg8.read_unread _
        iexact H8
      iexists _; isplitr; · ipureintro; exact harg9.read_unread _
      iexact H9
    · have c2 := mt (cond2_iff i).mp j7
      have c3 := (cond3_iff i).mpr j7
      rw [show outOf (i 1).val s wa wb = k0_pay4 s wb from if_neg j7]
      sl_exec (disch := first | sl_exact c1 | sl_exact c2 | sl_exact c3)
      sl_step
      iapply Hk
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; swap; · iexact H7
        ipureintro
        refine (View.read_writes_full arg7.view _ _ _ []).trans ?_
        exact congrArg₂ k0_pay5 ((View.readAt_full _ _ _).trans (harg9.read_unread _)) ((View.readAt_full _ _ _).trans (harg5.read_unread _))
      isplitl [H8]
      · iexists _; isplitr; · ipureintro; exact harg8.read_unread _
        iexact H8
      iexists _; isplitr; · ipureintro; exact harg9.read_unread _
      iexact H9

end Cert.Kernel7Ideal.Hand
end
-- ==== Proof.Sample.Run.lean ====
module

public import proofs.«01_k».proof.Proof.Sample.Body
public import Idealize.ShloMosaic.Lib.Claim

/-! The run of the sample's input projection: what each grid point leaves, and what the arrays hold at the end. -/

@[expose] public section

set_option maxRecDepth 16384

noncomputable section

namespace Cert.Kernel7Ideal.Hand

open Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
def firstPt : Fin cfg0.N := ⟨0, lt_of_lt_of_eq (by decide : 0 < 14) (show 14 = cfg0.N from N_0.symm)⟩

theorem firstPt_eq {t : Fin cfg0.N} (h : t.val = 0) : firstPt = t := Fin.ext h.symm

/-- The normalized rows that the scratch holds from the first point on. -/
def rowsAt (c : Dev nD) : Vec F S256x2048 .bf16 := k0_pay2 (iblk m c 0 firstPt) (iblk m c 1 firstPt)

/-- Their narrow columns. -/
def abAt (c : Dev nD) : Vec F S256x128 .f32 := k0_pay3 (iblk m c 0 firstPt) (iblk m c 1 firstPt) (iblk m c 4 firstPt)

/-- What point `t` leaves in the wide output's buffer. -/
def outAt (c : Dev nD) (t : Fin cfg0.N) : Vec F S256x1024 .f32 :=
  outOf (grid0.coords t 1).val (rowsAt m c) (iblk m c 2 t) (iblk m c 3 t)

abbrev sc0 : Memref sig .tc .vmem S256x2048 .bf16 := Memref.whole cc0_scratch0

/-- The scratch before point `p`: anything at the first point, the normalized rows at the others. -/
def Scratch (c : Dev nD) (p : ℕ) : sProp 𝕄 :=
  iprop((∃ s, ⌜p ≠ 0 → s = rowsAt m c⌝ ∗ owns (c : Thread nD τ) sc0 fullShare s) ∗ (∃ r, prngReg c r))

/-- The launch's own invariant is the scratch at anything. -/
theorem launch_eq (c : Dev nD) : (Pipeline.ΦA spec0 c : sProp 𝕄)
    = iprop((∃ d, owns (c : Thread nD τ) sc0 fullShare d) ∗ (∃ r, prngReg c r)) := by
  unfold Pipeline.ΦA; rw [scopedRest0_eq]; simp only [sc0, owns_whole]; try rfl

theorem scratch_in (c : Dev nD) : (Pipeline.ΦA spec0 c : sProp 𝕄) ⊢ Scratch m c 0 := by
  rw [launch_eq]; unfold Scratch
  iintro ⟨⟨%s, H⟩, Hg⟩
  isplitl [H]
  · iexists s
    isplitr
    · ipureintro; intro h; exact absurd rfl h
    iexact H
  iexact Hg

theorem scratch_out (c : Dev nD) (p : ℕ) : Scratch m c p ⊢ (Pipeline.ΦA spec0 c : sProp 𝕄) := by
  rw [launch_eq]; unfold Scratch
  iintro ⟨⟨%s, -, H⟩, Hg⟩
  isplitl [H]
  · iexists _; iexact H
  iexact Hg

/-- The pipeline's data: the arrays as launched, each input's buffer at its block, the outputs' at `outAt` and `abAt`, the scratch tracked. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
    | ⟨6, _⟩ => abAt m c
  Φ p := Scratch m c p.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]
theorem after_6 (c : Dev nD) (t : Fin cfg0.N) : (dats m 0 c).after 6 t = abAt m c := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

theorem coord1 (t : Fin cfg0.N) : (grid0.coords t 1).val = t.val := by
  have e1 : (grid0.coords t 1).val = t.val / 1 % 14 := Pipeline.Grid.coords_val t 1 (by decide) rfl
  have ht : t.val < 14 := lt_of_lt_of_eq t.isLt (show cfg0.N = 14 from N_0)
  rw [e1, Nat.div_one, Nat.mod_eq_of_lt ht]

/-- The wide output is stored at every point. -/
theorem idle_5 (t : Fin cfg0.N) : cfg0.idle 5 (grid0.coords t) = false := by
  show (!(k0_cond2 (grid0.coords t) == 1#1) && !(k0_cond3 (grid0.coords t) == 1#1)) = false
  by_cases h : (grid0.coords t 1).val < 7
  · rw [(cond2_iff (grid0.coords t)).mpr h]; rfl
  · rw [(cond3_iff (grid0.coords t)).mpr h, Bool.and_comm]; rfl

/-- The narrow output is stored at the first point, and only there. -/
theorem idle_6 {t : Fin cfg0.N} (h : t.val ≠ 0) : cfg0.idle 6 (grid0.coords t) = true := by
  show (!(k0_cond1 (grid0.coords t) == 1#1)) = true
  have h1 : ¬k0_cond1 (grid0.coords t) = 1#1 := fun e => h ((coord1 t) ▸ (cond1_iff (grid0.coords t)).mp e)
  simpa using h1

theorem live_6 {t : Fin cfg0.N} (h : t.val = 0) : cfg0.idle 6 (grid0.coords t) = false := by
  show (!(k0_cond1 (grid0.coords t) == 1#1)) = false
  rw [(cond1_iff (grid0.coords t)).mpr ((coord1 t).trans h)]; rfl

theorem keep_6 {t : Fin cfg0.N} (h : t.val ≠ 13) : (cfg0.win 6).flush t = false :=
  Bool.eq_false_iff.mpr fun e => by
    have ht : t.val < 14 := lt_of_lt_of_eq t.isLt (show cfg0.N = 14 from N_0)
    have := (flush0_6 t).mp e
    omega

/-- The narrow output's buffer still holds what the first point stored. -/
theorem before_6 (c : Dev nD) (d) : ∀ (n : ℕ) (t : Fin cfg0.N), t.val = n → n ≠ 0 → (dats m 0 c).before 6 t d = abAt m c := by
  intro n
  induction n with
  | zero => intro t _ h; exact absurd rfl h
  | succ n ih =>
    intro t ht h
    have hne : t.val ≠ 0 := by omega
    rw [(dats m 0 c).before_of_pos 6 t hne ((cfg0.win 6).fetch_out rfl t)]
    have hp : (⟨t.val - 1, Nat.lt_of_le_of_lt (Nat.sub_le _ _) t.isLt⟩ : Fin cfg0.N).val = n := by
      show t.val - 1 = n
      omega
    generalize (⟨t.val - 1, Nat.lt_of_le_of_lt (Nat.sub_le _ _) t.isLt⟩ : Fin cfg0.N) = u at hp
    have ht14 : t.val < 14 := lt_of_lt_of_eq t.isLt (show cfg0.N = 14 from N_0)
    rw [keep_6 (t := u) (by omega), if_neg Bool.false_ne_true]
    unfold Dat.left
    by_cases h0 : n = 0
    · rw [live_6 (t := u) (by omega)]
      show (dats m 0 c).after 6 u = _
      rw [after_6]
    · rw [idle_6 (t := u) (by omega)]
      exact ih u hp h0

/-- What the body is handed at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t ∗ (dats m 0 c).leavesExact 6 t)

/-- The wide output's buffer is left at its products. -/
theorem leaves_5 (c : Dev nD) (t : Fin cfg0.N) : (dats m 0 c).leavesExact 5 t = owns (c : Thread nD τ) (st0_5 t) fullShare (outAt m c t) := by
  unfold Dat.leavesExact; rw [idle_5 t, after_5]

/-- The narrow output's buffer, left at its products or as found. -/
theorem leaves_6 (c : Dev nD) (t : Fin cfg0.N) (ab d : Vec F S256x128 .f32) (hab : ab = (dats m 0 c).before 6 t d) :
    owns (c : Thread nD τ) (st0_6 t) fullShare (abOf (grid0.coords t 1).val (iblk m c 0 t) (iblk m c 1 t) (iblk m c 4 t) ab)
      ⊢ ((dats m 0 c).leavesExact 6 t : sProp 𝕄) := by
  by_cases h0 : t.val = 0
  · have e : abOf (grid0.coords t 1).val (iblk m c 0 t) (iblk m c 1 t) (iblk m c 4 t) ab = (dats m 0 c).after 6 t := by
      rw [after_6]; unfold abOf abAt; rw [if_pos ((coord1 t).trans h0), firstPt_eq h0]
    rw [e]; unfold Dat.leavesExact; rw [live_6 h0]
  · have e : abOf (grid0.coords t 1).val (iblk m c 0 t) (iblk m c 1 t) (iblk m c 4 t) ab = ab := if_neg (by rw [coord1]; exact h0)
    rw [e]
    by_cases h1 : t.val = 13
    · have e' : ab = (dats m 0 c).after 6 t := by rw [hab, before_6 m c d t.val t rfl h0, after_6]
      unfold Dat.leavesExact; rw [idle_6 h0, (flush0_6 t).mpr (by omega), e']
    · rw [(dats m 0 c).leavesExact_idle 6 t (idle_6 h0) (keep_6 h1), hab]
      iintro H; iexists d; iexact H

/-- The scratch after a point's first step. -/
theorem normed_eq (c : Dev nD) (t : Fin cfg0.N) (s : Vec F S256x2048 .bf16) (h : t.val ≠ 0 → s = rowsAt m c) :
    normed (grid0.coords t 1).val (iblk m c 0 t) (iblk m c 1 t) s = rowsAt m c := by
  unfold normed
  rw [coord1]
  by_cases h0 : t.val = 0
  · rw [if_pos h0]; unfold rowsAt; rw [firstPt_eq h0]
  · rw [if_neg h0]; exact h h0

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4, leaves_5]
  rw [show (dats m 0 c).Φ t.castSucc = Scratch m c t.val from rfl, show (dats m 0 c).Φ t.succ = Scratch m c (t.val + 1) from rfl]
  unfold Scratch
  iintro ⟨⟨⟨%s, %hs, H9⟩, Hg⟩, Ho, ⟨%d0, H0⟩, ⟨%d1, H1⟩, ⟨%d2, H2⟩, ⟨%d3, H3⟩, ⟨%d4, H4⟩, ⟨%d5, H5⟩, ⟨%d6, H6⟩⟩
  have e9 := normed_eq m c t s hs
  iapply (run_body c (grid0.coords t) _ _ _ _ _ _ _ _ _ _ _ _ _ _ _ _ (iblk m c 0 t) (iblk m c 1 t) (iblk m c 2 t) (iblk m c 3 t) (iblk m c 4 t) ((dats m 0 c).before 6 t d6) s Set.univ _)
  rw [e9]
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H9]; · iexact H9
  iintro ⟨H0, H1, H2, H3, H4, H5, H6, H9⟩
  isplitl [H9 Hg]
  · isplitl [H9]
    · iexists _
      isplitr
      swap
      · iexact H9
      ipureintro
      intro _
      rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leaves_6 m c t _ d6 rfl)
  iexact H6

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

set_option backward.isDefEq.respectTransparency.types false in
/-- The run: the arrays end as the data say, and every counter at zero. -/
theorem run_end : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := scratch_in m) (hout := fun c => scratch_out m c _)

theorem run_main : θ_run defs (onTc (τ := τ) (main (F := F))) (s₀ m ρ) (Pipeline.FramePost cfgs (dats m) 0 (V m)) :=
  (θ_run defs _ _).mono (fun _ h => h.1) (run_end m ρ)

/-- The frame, at any values: the arguments end unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_end m ρ))

end Cert.Kernel7Ideal.Hand
end
-- ==== Proof.Sample.Arrays.lean ====
module

public import proofs.«01_k».proof.Proof.Sample.Run
public import proofs.«01_k».proof.Proof.In.Norm
public import Idealize.ShloMosaic.Lib.KernelVsHost

/-! The sample's input projection's two result arrays: every element is its normalized row against its column. -/

@[expose] public section

set_option maxRecDepth 16384

noncomputable section

namespace Cert.Kernel7Ideal.Hand

open Cert.Kernel7Ideal.Gen Cert.Rows
open Idealize.ShloMosaic hiding ix1 ix2 ix3
open Idealize.ShloMosaic.TcCoe Idealize.SL.Sem Idealize.ShloMosaic.ValueIdx
open Idealize.ShloMosaic.Pipeline (Dat)
open scoped BigOperators

variable (m : (ℓ : Loc nD τ sig) → Buf (Elt Ideal) ℓ)

/-- The arguments at their shapes. -/
abbrev argX (c : Dev nD) : S32x8x2048.Idx → EReal := m ((c : Thread nD τ).loc main_arg0)
abbrev argG (c : Dev nD) : S2048.Idx → EReal := m ((c : Thread nD τ).loc main_arg1)
abbrev argW (c : Dev nD) : S2048x14352.Idx → EReal := m ((c : Thread nD τ).loc main_arg2)

/-- The index maps, by the point's number. -/
theorem idx : ∀ t : Fin cfg0.N, win0_0.index t = ![0, 0] ∧ win0_1.index t = ![0, 0]
    ∧ win0_2.index t = ![0, min t.val 6] ∧ win0_3.index t = ![0, t.val - 7]
    ∧ win0_4.index t = ![0, 0] ∧ win0_5.index t = ![0, t.val] ∧ win0_6.index t = ![0, 0] :=
  (by decide +kernel : ∀ t : Fin grid0.N, _)

/-- The arrays that the host code prepares. -/
theorem V_x (c : Dev nD) : (V m c main_v6 : S256x2048.Idx → EReal) = shapeCast S256x2048 (argX m c) shapeCasts_S32x8x2048_S256x2048 := by
  simp only [V, hostOps0, hostOps0_1, hostOps0_2, List.flatten_cons, List.flatten_nil, List.cons_append, List.nil_append]
  after_results
  rfl

theorem V_g (c : Dev nD) : (V m c main_v7 : S1x2048.Idx → EReal) = shapeCast S1x2048 (argG m c) shapeCasts_S2048_S1x2048 := by
  simp only [V, hostOps0, hostOps0_1, hostOps0_2, List.flatten_cons, List.flatten_nil, List.cons_append, List.nil_append]
  after_results
  rfl

theorem V_a (c : Dev nD) : (V m c main_v3 : S2048x7168.Idx → EReal)
    = extractStridedSlice S2048x7168 ![0, 0] (argW m c) slices_S2048x14352_S2048x7168_0_0 := by
  simp only [V, hostOps0, hostOps0_1, hostOps0_2, List.flatten_cons, List.flatten_nil, List.cons_append, List.nil_append]
  after_results
  rfl

theorem V_b (c : Dev nD) : (V m c main_v5 : S2048x7168.Idx → EReal)
    = extractStridedSlice S2048x7168 ![0, 7184] (argW m c) slices_S2048x14352_S2048x7168_0_7184 := by
  simp only [V, hostOps0, hostOps0_1, hostOps0_2, List.flatten_cons, List.flatten_nil, List.cons_append, List.nil_append]
  after_results
  rfl

theorem V_ab (c : Dev nD) : (V m c main_v1 : S2048x128.Idx → EReal) = pad S2048x128 ![0, 0] ![0, 112] ![0, 0]
    (extractStridedSlice S2048x16 ![0, 7168] (argW m c) slices_S2048x14352_S2048x16_0_7168) (sitofp (F := Ideal) .f32 (constantI S_ 32 0#32))
    pads_S2048x16_S2048x128_000_01120 h_S_ := by
  simp only [V, hostOps0, hostOps0_1, hostOps0_2, List.flatten_cons, List.flatten_nil, List.cons_append, List.nil_append]
  after_results
  rfl

/-- The rows' block, at an element. -/
theorem iblk_x (c : Dev nD) (t : Fin cfg0.N) (r : Fin 256) (k : Fin 2048) :
    (iblk m c 0 t : FVec Ideal S256x2048 .f32) (ix2 r k) = row (argX m c) r.val k := by
  have hr := r.isLt
  have hk := k.isLt
  have e0 : (((win0_0.blk t).view.emb (ix2 r k)) 0 : ℕ) = r.val := by blk_simp [idx t]; rfl
  have e1 : (((win0_0.blk t).view.emb (ix2 r k)) 1 : ℕ) = k.val := by blk_simp [idx t]; rfl
  show (V m c main_v6 : S256x2048.Idx → EReal) ((win0_0.blk t).view.emb (ix2 r k)) = _
  rw [V_x]
  generalize (win0_0.blk t).view.emb (ix2 r k) = i at e0 e1
  have hi0 : (i 0).val = r.val := e0
  have hi1 : (i 1).val = k.val := e1
  refine (shapeCast_apply _ shapeCasts_S32x8x2048_S256x2048 i
    (ix3 ⟨(i 0).val / 8, by omega⟩ ⟨(i 0).val % 8, by omega⟩ k) ?_).trans ?_
  · rw [Shape.rowMajor_val_three, Shape.rowMajor_val_two]
    show ((i 0).val / 8 * 8 + (i 0).val % 8) * 2048 + k.val = (i 0).val * 2048 + (i 1).val
    omega
  · rw [← hi0]
    exact row_eq _ _ rfl rfl rfl

/-- The norm weights' block. -/
theorem iblk_g (c : Dev nD) (t : Fin cfg0.N) (k : Fin 2048) :
    (iblk m c 1 t : FVec Ideal S1x2048 .f32) (ix2 0 k) = vec (argG m c) k := by
  have e0 : (((win0_1.blk t).view.emb (ix2 (0 : Fin 1) k)) 0 : ℕ) = 0 := by blk_simp [idx t]
  have e1 : (((win0_1.blk t).view.emb (ix2 (0 : Fin 1) k)) 1 : ℕ) = k.val := by blk_simp [idx t]; rfl
  show (V m c main_v7 : S1x2048.Idx → EReal) ((win0_1.blk t).view.emb (ix2 0 k)) = _
  rw [V_g]
  generalize (win0_1.blk t).view.emb (ix2 (0 : Fin 1) k) = i at e0 e1
  have hi0 : (i 0).val = 0 := e0
  have hi1 : (i 1).val = k.val := e1
  refine (shapeCast_apply _ shapeCasts_S2048_S1x2048 i (ix1 k) ?_).trans ?_
  · rw [Shape.rowMajor_val_one, Shape.rowMajor_val_two]
    show k.val = (i 0).val * 2048 + (i 1).val
    omega
  · rfl

/-- The first wide weights' block. -/
theorem iblk_a (c : Dev nD) (t : Fin cfg0.N) (h : t.val < 7) (k : Fin 2048) (j : Fin 1024) :
    (iblk m c 2 t : FVec Ideal S2048x1024 .bf16) (ix2 k j) = col (argW m c) (1024 * t.val + j.val) k := by
  have hj := j.isLt
  have e0 : (((win0_2.blk t).view.emb (ix2 k j)) 0 : ℕ) = k.val := by blk_simp [idx t]; rfl
  have e1 : (((win0_2.blk t).view.emb (ix2 k j)) 1 : ℕ) = 1024 * t.val + j.val := by
    blk_simp [idx t]
    show min t.val 6 * 1024 + j.val = _
    omega
  show (V m c main_v3 : S2048x7168.Idx → EReal) ((win0_2.blk t).view.emb (ix2 k j)) = _
  rw [V_a]
  generalize (win0_2.blk t).view.emb (ix2 k j) = i at e0 e1
  have hi0 : (i 0).val = k.val := e0
  have hi1 : (i 1).val = 1024 * t.val + j.val := e1
  refine (extractStridedSlice_apply _ _ slices_S2048x14352_S2048x7168_0_0 i (ix2 k ⟨(i 1).val, by omega⟩) (fun a => ?_)).trans ?_
  · match a with
    | ⟨0, _⟩ => show k.val = 0 + (i 0).val; omega
    | ⟨1, _⟩ => show (i 1).val = 0 + (i 1).val; omega
  · exact col_eq _ _ rfl hi1

/-- The second wide weights' block. -/
theorem iblk_b (c : Dev nD) (t : Fin cfg0.N) (h : ¬t.val < 7) (k : Fin 2048) (j : Fin 1024) :
    (iblk m c 3 t : FVec Ideal S2048x1024 .bf16) (ix2 k j) = col (argW m c) (1024 * t.val + j.val + 16) k := by
  have hj := j.isLt
  have ht : t.val < 14 := lt_of_lt_of_eq t.isLt (show cfg0.N = 14 from N_0)
  have e0 : (((win0_3.blk t).view.emb (ix2 k j)) 0 : ℕ) = k.val := by blk_simp [idx t]; rfl
  have e1 : (((win0_3.blk t).view.emb (ix2 k j)) 1 : ℕ) = 1024 * (t.val - 7) + j.val := by
    blk_simp [idx t]
    show (t.val - 7) * 1024 + j.val = _
    omega
  show (V m c main_v5 : S2048x7168.Idx → EReal) ((win0_3.blk t).view.emb (ix2 k j)) = _
  rw [V_b]
  generalize (win0_3.blk t).view.emb (ix2 k j) = i at e0 e1
  have hi0 : (i 0).val = k.val := e0
  have hi1 : (i 1).val = 1024 * (t.val - 7) + j.val := e1
  refine (extractStridedSlice_apply _ _ slices_S2048x14352_S2048x7168_0_7184 i (ix2 k ⟨7184 + (i 1).val, by omega⟩) (fun a => ?_)).trans ?_
  · match a with
    | ⟨0, _⟩ => show k.val = 0 + (i 0).val; omega
    | ⟨1, _⟩ => rfl
  · refine col_eq _ _ rfl ?_
    show 7184 + (i 1).val = _
    omega

/-- The narrow weights' block: the sixteen columns between, then zeros. -/
theorem iblk_ab (c : Dev nD) (t : Fin cfg0.N) (k : Fin 2048) (j : Fin 128) :
    (iblk m c 4 t : FVec Ideal S2048x128 .f32) (ix2 k j) = if j.val < 16 then col (argW m c) (7168 + j.val) k else 0 := by
  have e0 : (((win0_4.blk t).view.emb (ix2 k j)) 0 : ℕ) = k.val := by blk_simp [idx t]; rfl
  have e1 : (((win0_4.blk t).view.emb (ix2 k j)) 1 : ℕ) = j.val := by blk_simp [idx t]; rfl
  show (V m c main_v1 : S2048x128.Idx → EReal) ((win0_4.blk t).view.emb (ix2 k j)) = _
  rw [V_ab]
  generalize (win0_4.blk t).view.emb (ix2 k j) = i at e0 e1
  have hi0 : (i 0).val = k.val := e0
  have hi1 : (i 1).val = j.val := e1
  by_cases hj : j.val < 16
  · rw [if_pos hj]
    refine (pad_apply_of_inside _ _ _ _ _ pads_S2048x16_S2048x128_000_01120 h_S_ i (ix2 k ⟨j.val, hj⟩) (fun a => ?_)).trans ?_
    · match a with
      | ⟨0, _⟩ => show (i 0).val = 0 + k.val * (0 + 1); omega
      | ⟨1, _⟩ => show (i 1).val = 0 + j.val * (0 + 1); omega
    refine (extractStridedSlice_apply _ _ slices_S2048x14352_S2048x16_0_7168 _ (ix2 k ⟨7168 + j.val, by omega⟩) (fun a => ?_)).trans ?_
    · match a with
      | ⟨0, _⟩ => show k.val = 0 + k.val; omega
      | ⟨1, _⟩ => rfl
    exact col_eq _ _ rfl rfl
  · rw [if_neg hj]
    refine (pad_apply_of_not_inside _ _ _ _ _ pads_S2048x16_S2048x128_000_01120 h_S_ i (1 : Fin 2) (fun hh => hj ?_)).trans ?_
    · have h3 : ((i 1).val - 0) / (0 + 1) < 16 := hh.2.2
      omega
    · show (((0#32 : BitVec 32).toInt : ℝ) : EReal) = 0
      simp

theorem normed_apply (x : FVec Ideal S256x2048 .f32) (g : FVec Ideal S1x2048 .f32) (r : Fin 256) (k : Fin 2048) :
    (k0_pay1 (F := Ideal) x g) (ix2 r k) = rms (fun j => x (ix2 r j)) (fun j => g (ix2 0 j)) k := by
  unfold k0_pay1
  simp only [shapeCast_self]
  exact rms_apply x g reduces_S256x2048_S256 shapeCasts_S256_S256x1 broadcasts_S256x1_S256x2048 broadcasts_S1x2048_S256x2048 _ _ r k

/-- The scratch's normalized rows. -/
theorem rowsAt_apply (c : Dev nD) (r : Fin 256) (k : Fin 2048) :
    (rowsAt m c : FVec Ideal S256x2048 .bf16) (ix2 r k) = rms (row (argX m c) r.val) (vec (argG m c)) k := by
  unfold rowsAt k0_pay2
  simp only [shapeCast_self]
  rw [normed_apply, funext fun j => iblk_x m c firstPt r j, funext fun j => iblk_g m c firstPt j]

/-- What a point leaves in the wide output's block. -/
theorem outAt_apply (c : Dev nD) (t : Fin cfg0.N) (r : Fin 256) (j : Fin 1024) :
    (outAt m c t : FVec Ideal S256x1024 .f32) (ix2 r j)
      = dot (row (argX m c) r.val) (vec (argG m c))
        (col (argW m c) (if 1024 * t.val + j.val < 7168 then 1024 * t.val + j.val else 1024 * t.val + j.val + 16)) := by
  have hj := j.isLt
  unfold outAt outOf dot
  rw [coord1]
  by_cases h : t.val < 7
  · rw [if_pos h, if_pos (by omega)]
    unfold k0_pay4
    simp only [shapeCast_self]
    refine (product_apply (M := 256) (N := 1024) (rowsAt m c) (iblk m c 2 t) r j).trans ?_
    exact Finset.sum_congr rfl fun k _ => congrArg₂ (· * ·) (rowsAt_apply m c r k) (iblk_a m c t h k j)
  · rw [if_neg h, if_neg (by omega)]
    unfold k0_pay4
    simp only [shapeCast_self]
    refine (product_apply (M := 256) (N := 1024) (rowsAt m c) (iblk m c 3 t) r j).trans ?_
    exact Finset.sum_congr rfl fun k _ => congrArg₂ (· * ·) (rowsAt_apply m c r k) (iblk_b m c t h k j)

/-- What the first point leaves in the narrow output's block. -/
theorem abAt_apply (c : Dev nD) (r : Fin 256) (j : Fin 128) :
    (abAt m c : FVec Ideal S256x128 .f32) (ix2 r j)
      = if j.val < 16 then dot (row (argX m c) r.val) (vec (argG m c)) (col (argW m c) (7168 + j.val)) else 0 := by
  unfold abAt k0_pay3
  simp only [shapeCast_self]
  refine (product_apply (M := 256) (N := 128) (k0_pay1 (F := Ideal) (iblk m c 0 firstPt) (iblk m c 1 firstPt)) (iblk m c 4 firstPt) r j).trans ?_
  have e : ∀ k : Fin 2048, (k0_pay1 (F := Ideal) (iblk m c 0 firstPt) (iblk m c 1 firstPt)) (ix2 r k)
      = rms (row (argX m c) r.val) (vec (argG m c)) k := fun k => by
    rw [normed_apply, funext fun j => iblk_x m c firstPt r j, funext fun j => iblk_g m c firstPt j]
  rw [Finset.sum_congr rfl fun k _ => congrArg₂ (· * ·) (e k) (iblk_ab m c firstPt k j)]
  by_cases h : j.val < 16
  · rw [if_pos h]
    unfold dot
    exact Finset.sum_congr rfl fun k _ => by rw [if_pos h]
  · rw [if_neg h]
    exact Finset.sum_eq_zero fun k _ => by rw [if_neg h, mul_zero]

theorem outAt_at (c : Dev nD) (t : Fin cfg0.N) (y : S256x1024.Idx) :
    (outAt m c t : FVec Ideal S256x1024 .f32) y
      = dot (row (argX m c) (y 0).val) (vec (argG m c))
        (col (argW m c) (if 1024 * t.val + (y 1).val < 7168 then 1024 * t.val + (y 1).val else 1024 * t.val + (y 1).val + 16)) := by
  conv_lhs => rw [ValueIdx.eq_ix2 y]
  exact outAt_apply m c t (y 0) (y 1)

theorem abAt_at (c : Dev nD) (y : S256x128.Idx) :
    (abAt m c : FVec Ideal S256x128 .f32) y
      = if (y 1).val < 16 then dot (row (argX m c) (y 0).val) (vec (argG m c)) (col (argW m c) (7168 + (y 1).val)) else 0 := by
  conv_lhs => rw [ValueIdx.eq_ix2 y]
  exact abAt_apply m c (y 0) (y 1)

/-- The wide result: the projection's columns without the sixteen narrow ones. -/
def wide (X : S32x8x2048.Idx → EReal) (g : S2048.Idx → EReal) (W : S2048x14352.Idx → EReal) : S256x14336.Idx → EReal := fun i =>
  dot (row X (i 0).val) (vec g) (col W (if (i 1).val < 7168 then (i 1).val else (i 1).val + 16))

/-- The narrow result: the sixteen columns, then zeros. -/
def narrow (X : S32x8x2048.Idx → EReal) (g : S2048.Idx → EReal) (W : S2048x14352.Idx → EReal) : S256x128.Idx → EReal := fun i =>
  if (i 1).val < 16 then dot (row X (i 0).val) (vec g) (col W (7168 + (i 1).val)) else 0

/-- What the kernel leaves in the wide result array. -/
theorem final_wide (c : Dev nD) : (dats m 0 c).arrAt 5 cfg0.N = wide (argX m c) (argG m c) (argW m c) := by
  refine (dats m 0 c).arrAt_eq_of_covers 5 _ (by decide +kernel) fun t hf y => ?_
  have hy0 : (y 0).val < 256 := (y 0).isLt
  have hy1 : (y 1).val < 1024 := (y 1).isLt
  have e0 : ((((cfg0.win 5).blk t).view.emb y) 0 : ℕ) = (y 0).val := by blk_simp [idx t]
  have e1 : ((((cfg0.win 5).blk t).view.emb y) 1 : ℕ) = 1024 * t.val + (y 1).val := by blk_simp [idx t]; omega
  have e2 := outAt_at m c t y
  unfold wide
  rw [e0, e1]
  blk_simp
  rw [after_5]
  exact e2

/-- What the kernel leaves in the narrow result array. -/
theorem final_narrow (c : Dev nD) : (dats m 0 c).arrAt 6 cfg0.N = narrow (argX m c) (argG m c) (argW m c) := by
  refine (dats m 0 c).arrAt_eq_of_covers 6 _ (by decide +kernel) fun t hf y => ?_
  have hy0 : (y 0).val < 256 := (y 0).isLt
  have hy1 : (y 1).val < 128 := (y 1).isLt
  have e0 : ((((cfg0.win 6).blk t).view.emb y) 0 : ℕ) = (y 0).val := by blk_simp [idx t]
  have e1 : ((((cfg0.win 6).blk t).view.emb y) 1 : ℕ) = (y 1).val := by blk_simp [idx t]
  have e2 := abAt_at m c y
  unfold narrow
  rw [e0, e1]
  blk_simp
  rw [after_6]
  exact e2

end Cert.Kernel7Ideal.Hand

end
-- ==== Proof.Sample.RefValue.lean ====
module

public import proofs.«01_k».proof.Proof.Gen.Reference7Ideal.Read
public import proofs.«01_k».proof.Proof.Sample.Arrays
public import Idealize.ShloMosaic.Lib.KernelVsHost

/-! The sample's input projection's reference, as rows against columns. -/

@[expose] public section

set_option maxRecDepth 16384

noncomputable section

namespace Cert.Reference7Ideal.Hand

open Idealize.ShloMosaic hiding ix1 ix2 ix3
open Idealize.ShloMosaic.ValueIdx Cert.Rows Cert.Reference7Ideal.Gen Cert.Reference7Ideal.Read
open scoped BigOperators

variable (X : (⟨S32x8x2048, .f32⟩ : BufTy).Contents (Elt Ideal)) (g : (⟨S2048, .f32⟩ : BufTy).Contents (Elt Ideal))
  (W : (⟨S2048x14352, .f32⟩ : BufTy).Contents (Elt Ideal))

/-- A normalized element. -/
theorem normed_at (i : S32x8x2048.Idx) {r : ℕ} {k : Fin 2048} (h0 : (i 0).val = r / 8) (h1 : (i 1).val = r % 8) (h2 : (i 2).val = k.val) :
    val_main_v12 (F := Ideal) X g i = rms (row (B := 32) (S := 8) X r) (vec g) k := by
  have z : (FloatOps.ofBits .f32 0x00000000#32 : Ideal .f32) = (0 : EReal) := by
    show Ideal.ofBits .f32 0x00000000#32 = 0
    norm_num [Ideal.ofBits, Ideal.ieee]
  rw [val_main_v12_apply, val_main_v9_apply, val_main_v8_apply, val_main_v7_apply, val_main_v6_apply, val_main_v4_apply, val_main_v2_apply,
    val_main_v1_apply, val_main_v3_apply, val_main_v5_apply, val_main_v11_apply, val_main_v10_apply, val_main_cst_apply, val_main_cst_0_apply,
    val_main_cst_1_apply, z, row_eq (B := 32) (S := 8) X i h0 h1 h2, vec_eq g _ (k := k) h2]
  have s : ∀ j : Fin 2048, val_main_v0 (F := Ideal) X (idx_main_v1 (idx_main_v2 (idx_main_v8 i)) j)
      = row (B := 32) (S := 8) X r j * row (B := 32) (S := 8) X r j := fun j => by
    rw [val_main_v0_apply, row_eq (B := 32) (S := 8) X (idx_main_v1 (idx_main_v2 (idx_main_v8 i)) j) (r := r) (k := j) h0 h1 rfl]
    rfl
  rw [Finset.sum_congr rfl fun j _ => s j]
  show _ * Ideal.rsqrt (Ideal.div (0 + _) _ + _) * _ = _
  rw [zero_add]
  rfl

/-- An element of the whole projection. -/
theorem proj_at (i : S256x14352.Idx) {r j : ℕ} (h0 : (i 0).val = r) (h1 : (i 1).val = j) :
    val_main_v14 (F := Ideal) X g W i = dot (row (B := 32) (S := 8) X r) (vec g) (col (N := 14352) W j) := by
  have l0 : (i 0).val < 256 := (i 0).isLt
  have l1 : (i 1).val < 14352 := (i 1).isLt
  rw [val_main_v14_apply, val_main_v13_apply]
  refine Finset.sum_congr rfl fun k _ => congrArg₂ (· * ·) (normed_at X g _ ?_ ?_ rfl) (col_eq (N := 14352) W _ rfl ?_)
  · show ((i 0).val * 14352 + (i 1).val) / 114816 = r / 8
    omega
  · show ((i 0).val * 14352 + (i 1).val) / 14352 % 8 = r % 8
    omega
  · show ((i 0).val * 14352 + (i 1).val) % 14352 = j
    omega

theorem wide_eq : val_main_v18 (F := Ideal) X g W = Cert.Kernel7Ideal.Hand.wide X g W := by
  funext i
  have l1 : (i 1).val < 14336 := (i 1).isLt
  unfold val_main_v18 Cert.Kernel7Ideal.Hand.wide
  by_cases h : (i 1).val < 7168
  · rw [if_pos h]
    let k : S256x7168.Idx := ix2 (n0 := 256) (n1 := 7168) (i 0) ⟨(i 1).val, h⟩
    refine (concatenate_pair_apply_left (t := S256x14336) (s₁ := S256x7168) (s₂ := S256x7168) 1 _ _ _ i rfl k (fun b => ?_)).trans ?_
    · match b with
      | ⟨0, _⟩ => rfl
      | ⟨1, _⟩ => rfl
    · rw [val_main_v16_apply]
      exact proj_at X g W _ rfl rfl
  · rw [if_neg h]
    let k : S256x7168.Idx := ix2 (n0 := 256) (n1 := 7168) (i 0) ⟨(i 1).val - 7168, by omega⟩
    refine (concatenate_pair_apply_right (t := S256x14336) (s₁ := S256x7168) (s₂ := S256x7168) 1 _ _ _ i rfl rfl k (fun b hb => ?_) ?_).trans ?_
    · match b with
      | ⟨0, _⟩ => rfl
      | ⟨1, _⟩ => exact absurd rfl hb
    · show (i 1).val - 7168 + 7168 = (i 1).val
      omega
    · rw [val_main_v17_apply]
      refine proj_at X g W _ rfl ?_
      show 7184 + ((i 1).val - 7168) = (i 1).val + 16
      omega

theorem narrow_eq : val_main_v19 (F := Ideal) X g W = Cert.Kernel7Ideal.Hand.narrow X g W := by
  funext i
  have l1 : (i 1).val < 128 := (i 1).isLt
  unfold val_main_v19 Cert.Kernel7Ideal.Hand.narrow
  by_cases h : (i 1).val < 16
  · rw [if_pos h]
    let k : S256x16.Idx := ix2 (n0 := 256) (n1 := 16) (i 0) ⟨(i 1).val, h⟩
    refine (pad_apply_of_inside _ _ _ _ _ _ _ i k (fun b => ?_)).trans ?_
    · match b with
      | ⟨0, _⟩ => show (i 0).val = 0 + (i 0).val * 1; omega
      | ⟨1, _⟩ => show (i 1).val = 0 + (i 1).val * 1; omega
    · rw [val_main_v15_apply]
      exact proj_at X g W _ rfl rfl
  · rw [if_neg h]
    refine (pad_apply_of_not_inside _ _ _ _ _ _ _ i 1 (fun hin => h ?_)).trans ?_
    · have h3 := hin.2.2
      have h4 : ((i 1).val - 0) / 1 < 16 := h3
      omega
    · rw [val_main_call0_v0_apply, val_main_c_apply]
      show (((0#32 : BitVec 32).toInt : ℝ) : EReal) = 0
      norm_num

end Cert.Reference7Ideal.Hand

end
-- ==== Proof.Sample.Value.lean ====
module

public import proofs.«01_k».proof.Proof.Sample.Run
public import proofs.«01_k».proof.Proof.Sample.RefValue
public import proofs.«01_k».proof.Proof.Gen.Reference7Ideal.Run
public import proofs.«01_k».proof.Proof.Gen.Kernel7
public import proofs.«01_k».proof.Proof.Gen.Kernel7Ideal
public import proofs.«01_k».proof.Proof.Gen.Reference7Ideal
public import proofs.«01_k».proof.Defs
public import Idealize.ShloMosaic.Lib.Quiescent

/-! The sample's input projection's claims: the frames, and that the kernel and its reference compute the same two arrays. -/

@[expose] public section

noncomputable section

namespace Cert.Kernel7Ideal.Hand

open Cert.Kernel7Ideal Cert.Kernel7Ideal.Gen Idealize.ShloMosaic Idealize.ShloMosaic.TcCoe Idealize.SL.Sem

/-- The kernel's run, with its two results named. -/
theorem kernel_run (m : (ℓ : Loc nD τ sig) → Buf (Elt Ideal) ℓ) (g : Dev nD → PrngReg) :
    θ_run (Cert.Kernel7Ideal.defs (F := Ideal)) (onTc (τ := τ) (Cert.Kernel7Ideal.main (F := Ideal))) ⟨m, fun _ => 0, g⟩ fun r => ∀ c : Dev nD,
      r.2.mem ((c.tc : Thread nD τ).loc main_v8_0) = wide (argX m c) (argG m c) (argW m c)
      ∧ r.2.mem ((c.tc : Thread nD τ).loc main_v8_1) = narrow (argX m c) (argG m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run Cert.Kernel7Ideal.defs _ _).mono
    (fun _ h c => ⟨((h.1 c).1 5).trans (final_wide m c), ((h.1 c).1 6).trans (final_narrow m c), h.2.1 c⟩)
    (θ_run_and (run_main (F := Ideal) m g) (frame_any (F := Ideal) m g))

end Cert.Kernel7Ideal.Hand

namespace Cert.Proof

open Idealize.ShloMosaic Idealize.SL.Sem

set_option smartUnfolding false in
/-- The printed kernel and its reading on the extended reals are one text: one run serves both. -/
theorem frame_kernel7 : Cert.quiescent_Kernel7 := fun m ρ _ =>
  (θ_run Cert.Kernel7Ideal.defs _ _).mono (fun _ h => h) (Cert.Kernel7Ideal.Hand.frame_any (F := Bits) m ρ)

theorem frame_kernel7Ideal : Cert.quiescent_Kernel7Ideal := fun m ρ _ => Cert.Kernel7Ideal.Hand.frame_any (F := Ideal) m ρ

theorem frame_reference7 : Cert.quiescent_Reference7Ideal := fun m ρ _ =>
  (θ_run Cert.Reference7Ideal.defs _ _).mono (fun r h => ⟨fun c => (h c).2.2, Idealize.ShloMosaic.sem_eq_zero_of_no_sems (by decide) r.2⟩)
    (Cert.Reference7Ideal.Value.run (F := Ideal) m ρ)

/-- The kernel and its reference leave the same two arrays. -/
theorem algebraic7 : Cert.algebraic_Kernel7Ideal_Reference7Ideal := by
  intro m g m' g' _ hagree
  refine ⟨_, _, Cert.Kernel7Ideal.Hand.kernel_run m g, ?_⟩
  refine (θ_run Cert.Reference7Ideal.defs _ _).mono (fun _ h c => ⟨(h c).1.trans ?_, (h c).2.1.trans ?_, (h c).2.2⟩) (Cert.Reference7Ideal.Value.run (F := Ideal) m' g')
  · rw [Cert.Reference7Ideal.Read.val_main_v18_eq, (hagree c).1, (hagree c).2.1, (hagree c).2.2]
    exact Cert.Reference7Ideal.Hand.wide_eq _ _ _
  · rw [Cert.Reference7Ideal.Read.val_main_v19_eq, (hagree c).1, (hagree c).2.1, (hagree c).2.2]
    exact Cert.Reference7Ideal.Hand.narrow_eq _ _ _

end Cert.Proof

end
-- ==== Proof.Combine.Rows.lean ====
module

public import proofs.«01_k».proof.Proof.Gen.Kernel8Ideal.Launch
public import Idealize.ShloMosaic.Lib.Batch
public import Idealize.ShloMosaic.Lib.Ring
public import Idealize.ShloMosaic.Lib.Pipeline.Frame
public import Idealize.ShloMosaic.Lib.Tactic

/-! The rows of experts' results that the sample's combine copies: their names, one copy started, and one word of the table read. -/

@[expose] public section

set_option maxRecDepth 16384

noncomputable section

namespace Cert.Kernel8Ideal.Hand

open Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem row_inb (i : ℕ) : ∀ a, (![i % 256, 0] : Fin 2 → ℕ) a + S1x2048.size a ≤ S256x2048.size a := by
  have := Nat.mod_lt i (show 0 < 256 by decide)
  intro a; fin_cases a
  · show i % 256 + 1 ≤ 256; omega
  · show 0 + 2048 ≤ 2048; omega

theorem src_inb (i : ℕ) : ∀ a, (![i % 45264, 0] : Fin 2 → ℕ) a + S1x2048.size a ≤ S45264x2048.size a := by
  have := Nat.mod_lt i (show 0 < 45264 by decide)
  intro a; fin_cases a
  · show i % 45264 + 1 ≤ 45264; omega
  · show 0 + 2048 ≤ 2048; omega

/-- Row `i` of a buffer. -/
def rowOf0 (i : ℕ) : Memref sig .tc .vmem S1x2048 .f32 :=
  (Memref.whole cc0_scratch0).slice (Rect.unit (s := S256x2048) ![i % 256, 0] S1x2048.size (row_inb i)) (fun _ => rfl)
def rowOf1 (i : ℕ) : Memref sig .tc .vmem S1x2048 .f32 :=
  (Memref.whole cc0_scratch1).slice (Rect.unit (s := S256x2048) ![i % 256, 0] S1x2048.size (row_inb i)) (fun _ => rfl)

/-- The destination of copy `t`: row `t / 2`, in the first buffer for an even `t` and in the second for an odd one. -/
def dRow (t : ℕ) : Memref sig .tc .vmem S1x2048 .f32 := if t % 2 = 0 then rowOf0 (t / 2) else rowOf1 (t / 2)

theorem dRow_even (i : ℕ) : dRow (2 * i) = rowOf0 i := by
  unfold dRow; rw [if_pos (by omega), Nat.mul_div_cancel_left _ (by decide)]

theorem dRow_odd (i : ℕ) : dRow (2 * i + 1) = rowOf1 i := by
  unfold dRow; rw [if_neg (by omega), show (2 * i + 1) / 2 = i by omega]

/-- Row `w` of the experts' results. -/
def yRow (w : ℕ) : Memref sig .tc .hbm S1x2048 .f32 :=
  (Memref.whole main_arg4).slice (Rect.unit (s := S45264x2048) ![w % 45264, 0] S1x2048.size (src_inb w)) (fun _ => rfl)

theorem tab_lt (t : ℕ) : (32768 + t) % 33280 < 33280 := Nat.mod_lt _ (by decide)

/-- The word of the table that copy `t` goes by. -/
def word (tab : Vec F S33280 .i32) (t : ℕ) : BitVec 32 := tab fun | 0 => ⟨(32768 + t) % 33280, tab_lt t⟩

/-- What row `w` holds. -/
def rowVal (y : Vec F S45264x2048 .f32) (w : ℕ) : Vec F S1x2048 .f32 := (yRow w).view.read (Elt F) y

/-- One copy's credit. -/
def cr : ℕ := (rowOf0 0).view.amount (.dma cc0_scratch2.sem)

theorem cr_eq (t : ℕ) : (dRow t).view.amount (.dma cc0_scratch2.sem) = cr := by
  unfold dRow; split <;> rfl

theorem cr_wait (t : ℕ) : (dRow t).view.dmaCredit = cr := by
  unfold dRow; split <;> rfl

theorem slice0_eq (t : ℕ) (ht : t < 512) (h2 : t % 2 = 0) {off : Fin 2 → ℕ} (ho : off = ![t / 2, 0]) {inb} {h} :
    (Memref.whole cc0_scratch0).slice (Rect.unit (s := S256x2048) off S1x2048.size inb) h = dRow t := by
  have e : off = ![t / 2 % 256, 0] := by rw [ho, Nat.mod_eq_of_lt (by omega)]
  subst e; unfold dRow; rw [if_pos h2]; rfl

theorem slice1_eq (t : ℕ) (ht : t < 512) (h2 : t % 2 = 1) {off : Fin 2 → ℕ} (ho : off = ![t / 2, 0]) {inb} {h} :
    (Memref.whole cc0_scratch1).slice (Rect.unit (s := S256x2048) off S1x2048.size inb) h = dRow t := by
  have e : off = ![t / 2 % 256, 0] := by rw [ho, Nat.mod_eq_of_lt (by omega)]
  subst e; unfold dRow; rw [if_neg (by omega)]; rfl

theorem slicey_eq (w : ℕ) (hw : w < 45264) {off : Fin 2 → ℕ} (ho : off = ![w, 0]) {inb} {h} :
    (Memref.whole main_arg4).slice (Rect.unit (s := S45264x2048) off S1x2048.size inb) h = yRow w := by
  have e : off = ![w % 45264, 0] := by rw [ho, Nat.mod_eq_of_lt hw]
  subst e; rfl

variable (c : Dev nD) (tab : Vec F S33280 .i32) (y : Vec F S45264x2048 .f32) (q qt : PosShare TreeShare)

/-- The table, held at a share. -/
def tabAt : sProp 𝕄 := ((c : Thread nD τ).loc main_arg0) ↦{qt} tab

/-- The share of its source row that copy `t` goes with. -/
def tok (t : ℕ) : sProp 𝕄 :=
  (yRow (word tab t).toNat).view.loc (c : Thread nD τ) ↦[(yRow (word tab t).toNat).view.set]{Transfers.shareTokN q t} y

/-- What copy `t` needs: its destination at any contents, and its share of the source. -/
def slot (t : ℕ) : sProp 𝕄 := iprop((∃ d, owns (c : Thread nD τ) (dRow t) fullShare d) ∗ tok c tab y q t)

/-- What copy `t` hands back: its destination holding the row, and the share of the source. -/
def dlv (t : ℕ) : sProp 𝕄 :=
  iprop(owns (c : Thread nD τ) (dRow t) fullShare (rowVal y (word tab t).toNat) ∗ tok c tab y q t)

theorem held_storable {ℓ : Loc nD τ sig} (S : Finset (Idx ℓ)) (r : PosShare TreeShare) (f : Buf (Elt F) ℓ) :
    BI.Storable (upEmb : UEmb _ 𝕄) (ℓ ↦[S]{r} f : sProp 𝕄) := by infer_instance

instance tok_storable (t : ℕ) : BI.Storable (upEmb : UEmb _ 𝕄) (tok c tab y q t) := by
  unfold tok; exact held_storable _ _ _

instance dlv_storable (t : ℕ) : BI.Storable (upEmb : UEmb _ 𝕄) (dlv c tab y q t) := by
  unfold dlv
  have := owns_storable (Ix := Unit) (Name := ℕ) (U := Pipeline.UD sig nD τ) (Lvl := ℕ) (c : Thread nD τ) (dRow t) fullShare (rowVal y (word tab t).toNat)
  infer_instance

/-- The copies on their cell: `t` started, `u` units waited for. -/
def copies (t u : ℕ) : sProp 𝕄 :=
  Transfers.Batch (countersEmb (U := Pipeline.UD sig nD τ)) (c : Thread nD τ) (.dma cc0_scratch2.sem) () cr (fun t : Fin 512 => dlv c tab y q t.val) t u

/-- The first `t` copies started, the others to be. -/
def started (t : ℕ) : sProp 𝕄 :=
  iprop(copies c tab y q t 0 ∗ bigSep (Ring.rangeSet 512 t 512) fun s => slot c tab y q s.val)

/-- COPY `t` STARTED. -/
theorem start_one (t : ℕ) (ht : t < 512) {src : Memref sig .tc .hbm S1x2048 .f32} {dst : Memref sig .tc .vmem S1x2048 .f32}
    (hs : src = yRow (word tab t).toNat) (hd : dst = dRow t) {h1 h2 h3} {α : Type} {k : PUnit → Prog (TpuEff nD τ sig (Elt F) Λ₀ .tc) α} {Q : α → sProp 𝕄} :
    started c tab y q t ⊢ iprop((started c tab y q (t + 1) -∗ wp frame (wpE (defs₀ (F := F)) Variants.none c none) Set.univ (k ⟨⟩) Q)
      -∗ wp frame (wpE (defs₀ (F := F)) Variants.none c none) Set.univ (.op (.enqueueDmaAs src (.here dst) .same (.dma cc0_scratch2.sem) h1 h2 h3) k) Q) := by
  subst hs hd
  unfold started
  rw [Ring.bigSep_rangeSet_head (lo := t) (hi := 512) ht ht]
  unfold slot copies
  iintro ⟨HB, ⟨⟨%d, Hd⟩, Ht⟩, Hr⟩ Hk
  unfold owns
  icases Hd with ⟨%f, -, Hd⟩
  unfold tok
  iapply (Transfers.wp_dmaBatch (countersEmb (U := Pipeline.UD sig nD τ)) Variants.none (c : Thread nD τ) none (D := fun t : Fin 512 => dlv c tab y q t.val) (fs := y) (fd := f) (Sd := (dRow t).view.set) () cr (cr_eq t) (Finset.Subset.refl _) ht (Nat.zero_le _) (by
    unfold dlv owns tok
    iintro ⟨Ha, Hb⟩
    isplitl [Ha]
    · iexists (dRow t).view.write (Elt F) f ((yRow (word tab t).toNat).view.read (Elt F) y) Finset.univ
      isplitr
      · ipureintro; exact View.read_write_univ f _
      iexact Ha
    iexact Hb)) $$ [Ht Hd HB]
  · isplitl [Ht]; · iexact Ht
    isplitl [Hd]; · iexact Hd
    iexact HB
  iintro HB
  iapply Hk
  isplitl [HB]; · iexact HB
  iexact Hr

/-- THE WORD of copy `t` read. -/
theorem read_one (t : ℕ) (ht : t < 512) {off : Fin 1 → ℕ} (ho : off = ![32768 + t]) {inb} {h} {α : Type}
    {k : ((Rect.unit (s := S33280) off S1.size inb).toLoadRect.shape.Idx → Elt F .i32) → Prog (TpuEff nD τ sig (Elt F) Λ₀ .tc) α} {Q : α → sProp 𝕄} :
    tabAt c tab qt ⊢ iprop((tabAt c tab qt -∗ wp frame (wpE (defs₀ (F := F)) Variants.none c none) Set.univ (k fun _ => word tab t) Q)
      -∗ wp frame (wpE (defs₀ (F := F)) Variants.none c none) Set.univ (.op (.load (Memref.whole main_arg0) (Rect.unit (s := S33280) off S1.size inb).toLoadRect h) k) Q) := by
  subst ho
  have e : ((Memref.whole main_arg0).access (Rect.unit (s := S33280) ![32768 + t] S1.size inb)).read (Elt F) tab = fun _ => word tab t := by
    funext x
    show tab ((Rect.unit (s := S33280) ![32768 + t] S1.size inb).idx x) = _
    unfold word
    congr 1
    funext a; fin_cases a
    have hx : (x 0).val < 1 := (x 0).isLt
    apply Fin.ext
    show 32768 + t + 1 * (x 0).val = (32768 + t) % 33280
    omega
  iintro H Hk
  unfold tabAt
  iapply (wp_load_rect (defs := defs₀ (F := F)) Variants.none (c : Thread nD τ) none Set.univ (m := Memref.whole main_arg0) (S := Finset.univ) (q := qt) (f := tab) (Finset.subset_univ _)) $$ [H]
  · iexact H
  rw [e]
  iexact Hk

/-- The word read, and the body's check of it passed. -/
theorem word_one (t : ℕ) (ht : t < 512) {off : Fin 1 → ℕ} (ho : off = ![32768 + t]) {inb} {h} {α : Type}
    {P : ((Rect.unit (s := S33280) off S1.size inb).toLoadRect.shape.Idx → Elt F .i32) → Prop} {d : ∀ x, Decidable (P x)}
    {k : (x : (Rect.unit (s := S33280) off S1.size inb).toLoadRect.shape.Idx → Elt F .i32) → PLift (P x) → Prog (TpuEff nD τ sig (Elt F) Λ₀ .tc) α} {Q : α → sProp 𝕄}
    (hP : P fun _ => word tab t) :
    tabAt c tab qt ⊢ iprop((tabAt c tab qt -∗ wp frame (wpE (defs₀ (F := F)) Variants.none c none) Set.univ (k (fun _ => word tab t) ⟨hP⟩) Q)
      -∗ wp frame (wpE (defs₀ (F := F)) Variants.none c none) Set.univ (.op (.load (Memref.whole main_arg0) (Rect.unit (s := S33280) off S1.size inb).toLoadRect h) fun x => .op (.assume (P x) (d x)) (k x)) Q) := by
  iintro T Hk
  iapply (read_one c tab qt t ht ho) $$ T
  iintro T
  iapply (wp_assume Variants.none (c : Thread nD τ) none Set.univ hP)
  iapply Hk
  iexact T

/-- ONE COPY: its word read and checked, and the copy started. -/
theorem copy_one (t : ℕ) (ht : t < 512) {off : Fin 1 → ℕ} (ho : off = ![32768 + t]) {inb} {h} {α : Type}
    {P : ((Rect.unit (s := S33280) off S1.size inb).toLoadRect.shape.Idx → Elt F .i32) → Prop} {d : ∀ x, Decidable (P x)}
    {src : ∀ x, PLift (P x) → Memref sig .tc .hbm S1x2048 .f32} {dst : Memref sig .tc .vmem S1x2048 .f32} {h1 : ∀ x hw, (src x hw).view.WordExact} {h2 h3}
    {k : (x : (Rect.unit (s := S33280) off S1.size inb).toLoadRect.shape.Idx → Elt F .i32) → PLift (P x) → PUnit → Prog (TpuEff nD τ sig (Elt F) Λ₀ .tc) α} {Q : α → sProp 𝕄}
    (hP : P fun _ => word tab t) (hs : src (fun _ => word tab t) ⟨hP⟩ = yRow (word tab t).toNat) (hd : dst = dRow t) :
    iprop(tabAt c tab qt ∗ started c tab y q t) ⊢ iprop((iprop(tabAt c tab qt ∗ started c tab y q (t + 1)) -∗ wp frame (wpE (defs₀ (F := F)) Variants.none c none) Set.univ (k (fun _ => word tab t) ⟨hP⟩ ⟨⟩) Q)
      -∗ wp frame (wpE (defs₀ (F := F)) Variants.none c none) Set.univ (.op (.load (Memref.whole main_arg0) (Rect.unit (s := S33280) off S1.size inb).toLoadRect h) fun x => .op (.assume (P x) (d x)) fun hw =>
          .op (.enqueueDmaAs (src x hw) (.here dst) .same (.dma cc0_scratch2.sem) (h1 x hw) h2 h3) (k x hw)) Q) := by
  iintro ⟨T, S⟩ Hk
  iapply (word_one c tab qt t ht ho hP) $$ T
  iintro T
  iapply (start_one c tab y q t ht hs hd) $$ S
  iintro S
  iapply Hk
  isplitl [T] <;> iassumption

end Cert.Kernel8Ideal.Hand
-- ==== Proof.Combine.Body.lean ====
module

public import proofs.«01_k».proof.Proof.Combine.Rows

/-! The sample's combine at its one point: 512 rows copied, sixteen to a trip, then waited for, then weighted, added and normalized. -/

@[expose] public section

set_option maxRecDepth 16384

noncomputable section

namespace Cert.Kernel8Ideal.Hand

open Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A row in range is a row of the array. -/
theorem row_ok {w : ℕ} (hw : w < 45264) : ∀ a, (![w, 0] : Fin 2 → ℕ) a + S1x2048.size a ≤ S45264x2048.size a := by
  intro a; fin_cases a
  · show w + 1 ≤ 45264; omega
  · show 0 + 2048 ≤ 2048; omega

theorem trips1 (k : Fin k0_t1_loop.trips) : k.val < 32 := lt_of_lt_of_eq k.isLt (by decide)

theorem point (i : grid0.Coords) : (i 0).val = 0 := by
  have : (i 0).val < 1 := (i 0).isLt
  omega

/-- An offset in the table, and in a buffer, from its closed form. -/
theorem at_word (i : grid0.Coords) (t : ℕ) {off : Fin 1 → ℕ} {a b : ℕ} (h : off = ![512 * (i 0).val + a + b]) (hm : a + b = 32768 + t) : off = ![32768 + t] := by
  rw [h, point i, ← hm]; simp

theorem at_row (m : ℕ) {off : Fin 2 → ℕ} {n : ℕ} (h : off = ![n, 0]) (hm : n = m) : off = ![m, 0] := by rw [h, hm]

section Parts

variable (c : Dev nD) (tab : Vec F S33280 .i32) (y : Vec F S45264x2048 .f32) (q qt : PosShare TreeShare) (hp : ∀ t, (word tab t).toNat < 45264)
variable (i : grid0.Coords) (arg2 : Memref sig .tc .vmem S256x2048 .f32) (harg2 : arg2.IsWhole) (arg3 : Memref sig .tc .vmem S256x128 .f32) (harg3 : arg3.IsWhole) (arg4 : Memref sig .tc .vmem S1x2048 .f32) (harg4 : arg4.IsWhole) (arg6 : Memref sig .tc .vmem S256x2048 .f32) (harg6 : arg6.IsWhole)
variable (v2 : BitVec 32) (k : Fin k0_t1_loop.trips)

include hp

/-- The first part of a trip: three copies, and the fourth's word. -/
theorem part1_run (c0 c1 : BitVec 32) :
    iprop(tabAt c tab qt ∗ started c tab y q (16 * k.val)) ⊢ wp frame (wpE (defs₀ (F := F)) Variants.none c none) Set.univ
      (k0_part1 i (Memref.whole main_arg0) (Memref.isWhole_whole _) arg2 harg2 arg3 harg3 arg4 harg4 (Memref.whole main_arg4) (Memref.isWhole_whole _) arg6 harg6 (Memref.whole cc0_scratch0) (Memref.isWhole_whole _) (Memref.whole cc0_scratch1) (Memref.isWhole_whole _) cc0_scratch2 v2 c0 c1 k)
      (fun r => iprop(⌜r.2.1 = word tab (16 * k.val + 3)⌝ ∗ tabAt c tab qt ∗ started c tab y q (16 * k.val + 3))) := by
  have hk := trips1 k
  unfold k0_part1
  simp only [smemLoad, smemLoadElt, Prog.lift, Prog.bind_op, Prog.bind_ret, Prog.pure_eq_ret]
  iintro H
  iapply (copy_one c tab y q qt (16 * k.val) (by omega) (at_word i _ (k0_off1_eq i k) (by omega)) (row_ok (hp _)) (slicey_eq _ (hp _) rfl) (slice0_eq _ (by omega) (by omega) (at_row _ (k0_off2_eq k) (by omega)))) $$ H
  iintro H
  iapply (copy_one c tab y q qt (16 * k.val + 1) (by omega) (at_word i _ (k0_off4_eq i k) (by omega)) (row_ok (hp _)) (slicey_eq _ (hp _) rfl) (slice1_eq _ (by omega) (by omega) (at_row _ (k0_off5_eq k) (by omega)))) $$ H
  iintro H
  iapply (copy_one c tab y q qt (16 * k.val + 2) (by omega) (at_word i _ (k0_off7_eq i k) (by omega)) (row_ok (hp _)) (slicey_eq _ (hp _) rfl) (slice0_eq _ (by omega) (by omega) (at_row _ (k0_off8_eq k) (by omega)))) $$ H
  iintro ⟨T, S⟩
  iapply (word_one c tab qt (16 * k.val + 3) (by omega) (at_word i _ (k0_off10_eq i k) (by omega)) (row_ok (hp _))) $$ T
  iintro T
  sl_step
  isplitr; · ipureintro; rfl
  isplitl [T] <;> iassumption

/-- The second: the fourth copy, three more, and the eighth's word. -/
theorem part2_run (a10 v61 : BitVec 32) (hw : k0_chk4 v61) (hv : v61 = word tab (16 * k.val + 3)) :
    iprop(tabAt c tab qt ∗ started c tab y q (16 * k.val + 3)) ⊢ wp frame (wpE (defs₀ (F := F)) Variants.none c none) Set.univ
      (k0_part2 i (Memref.whole main_arg0) (Memref.isWhole_whole _) arg2 harg2 arg3 harg3 arg4 harg4 (Memref.whole main_arg4) (Memref.isWhole_whole _) arg6 harg6 (Memref.whole cc0_scratch0) (Memref.isWhole_whole _) (Memref.whole cc0_scratch1) (Memref.isWhole_whole _) cc0_scratch2 v2 k a10 v61 hw)
      (fun r => iprop(⌜r.1 = word tab (16 * k.val + 7)⌝ ∗ tabAt c tab qt ∗ started c tab y q (16 * k.val + 7))) := by
  have hk := trips1 k
  subst hv
  unfold k0_part2
  simp only [smemLoad, smemLoadElt, Prog.lift, Prog.bind_op, Prog.bind_ret, Prog.pure_eq_ret]
  iintro ⟨T, S⟩
  iapply (start_one c tab y q (16 * k.val + 3) (by omega) (slicey_eq _ (hp _) rfl) (slice1_eq _ (by omega) (by omega) (at_row _ (k0_off11_eq k) (by omega)))) $$ S
  iintro S
  iapply (copy_one c tab y q qt (16 * k.val + 4) (by omega) (at_word i _ (k0_off13_eq i k) (by omega)) (row_ok (hp _)) (slicey_eq _ (hp _) rfl) (slice0_eq _ (by omega) (by omega) (at_row _ (k0_off14_eq k) (by omega)))) $$ [T S]
  · isplitl [T] <;> iassumption
  iintro H
  iapply (copy_one c tab y q qt (16 * k.val + 5) (by omega) (at_word i _ (k0_off16_eq i k) (by omega)) (row_ok (hp _)) (slicey_eq _ (hp _) rfl) (slice1_eq _ (by omega) (by omega) (at_row _ (k0_off17_eq k) (by omega)))) $$ H
  iintro H
  iapply (copy_one c tab y q qt (16 * k.val + 6) (by omega) (at_word i _ (k0_off19_eq i k) (by omega)) (row_ok (hp _)) (slicey_eq _ (hp _) rfl) (slice0_eq _ (by omega) (by omega) (at_row _ (k0_off20_eq k) (by omega)))) $$ H
  iintro ⟨T, S⟩
  iapply (word_one c tab qt (16 * k.val + 7) (by omega) (at_word i _ (k0_off22_eq i k) (by omega)) (row_ok (hp _))) $$ T
  iintro T
  sl_step
  isplitr; · ipureintro; rfl
  isplitl [T] <;> iassumption

/-- The third. -/
theorem part3_run (a10 v93 : BitVec 32) (hw : k0_chk8 v93) (hv : v93 = word tab (16 * k.val + 7)) :
    iprop(tabAt c tab qt ∗ started c tab y q (16 * k.val + 7)) ⊢ wp frame (wpE (defs₀ (F := F)) Variants.none c none) Set.univ
      (k0_part3 i (Memref.whole main_arg0) (Memref.isWhole_whole _) arg2 harg2 arg3 harg3 arg4 harg4 (Memref.whole main_arg4) (Memref.isWhole_whole _) arg6 harg6 (Memref.whole cc0_scratch0) (Memref.isWhole_whole _) (Memref.whole cc0_scratch1) (Memref.isWhole_whole _) cc0_scratch2 v2 k a10 v93 hw)
      (fun r => iprop(⌜r.1 = word tab (16 * k.val + 11)⌝ ∗ tabAt c tab qt ∗ started c tab y q (16 * k.val + 11))) := by
  have hk := trips1 k
  subst hv
  unfold k0_part3
  simp only [smemLoad, smemLoadElt, Prog.lift, Prog.bind_op, Prog.bind_ret, Prog.pure_eq_ret]
  iintro ⟨T, S⟩
  iapply (start_one c tab y q (16 * k.val + 7) (by omega) (slicey_eq _ (hp _) rfl) (slice1_eq _ (by omega) (by omega) (at_row _ (k0_off23_eq k) (by omega)))) $$ S
  iintro S
  iapply (copy_one c tab y q qt (16 * k.val + 8) (by omega) (at_word i _ (k0_off25_eq i k) (by omega)) (row_ok (hp _)) (slicey_eq _ (hp _) rfl) (slice0_eq _ (by omega) (by omega) (at_row _ (k0_off26_eq k) (by omega)))) $$ [T S]
  · isplitl [T] <;> iassumption
  iintro H
  iapply (copy_one c tab y q qt (16 * k.val + 9) (by omega) (at_word i _ (k0_off28_eq i k) (by omega)) (row_ok (hp _)) (slicey_eq _ (hp _) rfl) (slice1_eq _ (by omega) (by omega) (at_row _ (k0_off29_eq k) (by omega)))) $$ H
  iintro H
  iapply (copy_one c tab y q qt (16 * k.val + 10) (by omega) (at_word i _ (k0_off31_eq i k) (by omega)) (row_ok (hp _)) (slicey_eq _ (hp _) rfl) (slice0_eq _ (by omega) (by omega) (at_row _ (k0_off32_eq k) (by omega)))) $$ H
  iintro ⟨T, S⟩
  iapply (word_one c tab qt (16 * k.val + 11) (by omega) (at_word i _ (k0_off34_eq i k) (by omega)) (row_ok (hp _))) $$ T
  iintro T
  sl_step
  isplitr; · ipureintro; rfl
  isplitl [T] <;> iassumption

/-- The fourth. -/
theorem part4_run (a10 v125 : BitVec 32) (hw : k0_chk12 v125) (hv : v125 = word tab (16 * k.val + 11)) :
    iprop(tabAt c tab qt ∗ started c tab y q (16 * k.val + 11)) ⊢ wp frame (wpE (defs₀ (F := F)) Variants.none c none) Set.univ
      (k0_part4 i (Memref.whole main_arg0) (Memref.isWhole_whole _) arg2 harg2 arg3 harg3 arg4 harg4 (Memref.whole main_arg4) (Memref.isWhole_whole _) arg6 harg6 (Memref.whole cc0_scratch0) (Memref.isWhole_whole _) (Memref.whole cc0_scratch1) (Memref.isWhole_whole _) cc0_scratch2 v2 k a10 v125 hw)
      (fun r => iprop(⌜r.1 = word tab (16 * k.val + 15)⌝ ∗ tabAt c tab qt ∗ started c tab y q (16 * k.val + 15))) := by
  have hk := trips1 k
  subst hv
  unfold k0_part4
  simp only [smemLoad, smemLoadElt, Prog.lift, Prog.bind_op, Prog.bind_ret, Prog.pure_eq_ret]
  iintro ⟨T, S⟩
  iapply (start_one c tab y q (16 * k.val + 11) (by omega) (slicey_eq _ (hp _) rfl) (slice1_eq _ (by omega) (by omega) (at_row _ (k0_off35_eq k) (by omega)))) $$ S
  iintro S
  iapply (copy_one c tab y q qt (16 * k.val + 12) (by omega) (at_word i _ (k0_off37_eq i k) (by omega)) (row_ok (hp _)) (slicey_eq _ (hp _) rfl) (slice0_eq _ (by omega) (by omega) (at_row _ (k0_off38_eq k) (by omega)))) $$ [T S]
  · isplitl [T] <;> iassumption
  iintro H
  iapply (copy_one c tab y q qt (16 * k.val + 13) (by omega) (at_word i _ (k0_off40_eq i k) (by omega)) (row_ok (hp _)) (slicey_eq _ (hp _) rfl) (slice1_eq _ (by omega) (by omega) (at_row _ (k0_off41_eq k) (by omega)))) $$ H
  iintro H
  iapply (copy_one c tab y q qt (16 * k.val + 14) (by omega) (at_word i _ (k0_off43_eq i k) (by omega)) (row_ok (hp _)) (slicey_eq _ (hp _) rfl) (slice0_eq _ (by omega) (by omega) (at_row _ (k0_off44_eq k) (by omega)))) $$ H
  iintro ⟨T, S⟩
  iapply (word_one c tab qt (16 * k.val + 15) (by omega) (at_word i _ (k0_off46_eq i k) (by omega)) (row_ok (hp _))) $$ T
  iintro T
  sl_step
  isplitr; · ipureintro; rfl
  isplitl [T] <;> iassumption

end Parts

end Cert.Kernel8Ideal.Hand
-- ==== Proof.Combine.Join.lean ====
module

public import proofs.«01_k».proof.Proof.Combine.Rows

/-! The two buffers taken apart into rows before the copies, and put together after them; the shares of the source likewise. -/

@[expose] public section

set_option maxRecDepth 16384

noncomputable section

namespace Cert.Kernel8Ideal.Hand

open Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Row `i` of a buffer of 256 rows, as a rectangle of it. -/
abbrev rowR (i : ℕ) : Rect S256x2048 := Rect.unit (s := S256x2048) ![i % 256, 0] S1x2048.size (row_inb i)

abbrev rowM (M : Memref sig .tc .vmem S256x2048 .f32) (i : ℕ) : Memref sig .tc .vmem S1x2048 .f32 := M.slice (rowR i) (fun _ => rfl)

theorem mem_rowR {i : ℕ} (hi : i < 256) (x : S256x2048.Idx) : x ∈ (rowR i).set ↔ (x 0).val = i := by
  rw [Rect.mem_set_unit]
  have h1 : (x 1).val < 2048 := (x 1).isLt
  have hm := Nat.mod_eq_of_lt hi
  constructor
  · intro H
    have a0 : i % 256 ≤ (x 0).val ∧ (x 0).val < i % 256 + 1 := H 0
    omega
  · intro H a; fin_cases a
    · show i % 256 ≤ (x 0).val ∧ (x 0).val < i % 256 + 1; omega
    · show 0 ≤ (x 1).val ∧ (x 1).val < 0 + 2048; omega

theorem rows_disjoint (M : Memref sig .tc .vmem S256x2048 .f32) : ∀ i ∈ Finset.range 256, ∀ j ∈ Finset.range 256, i ≠ j → Disjoint (rowM M i).view.set (rowM M j).view.set := by
  intro i hi j hj hne
  rw [Finset.mem_range] at hi hj
  show Disjoint (M.view.slice (rowR i)).set (M.view.slice (rowR j)).set
  rw [View.set_slice, View.set_slice, Finset.disjoint_map, Finset.disjoint_left]
  intro x hx hx'
  rw [mem_rowR hi] at hx; rw [mem_rowR hj] at hx'
  exact hne (hx.symm.trans hx')

theorem rows_cover (M : Memref sig .tc .vmem S256x2048 .f32) : (Finset.range 256).biUnion (fun i => (rowM M i).view.set) = M.view.set := by
  ext z
  rw [Finset.mem_biUnion]
  constructor
  · rintro ⟨i, -, hz⟩
    exact View.set_slice_subset _ _ hz
  · intro hz
    obtain ⟨x, -, rfl⟩ := Finset.mem_map.mp hz
    refine ⟨(x 0).val, Finset.mem_range.mpr (x 0).isLt, ?_⟩
    show _ ∈ (M.view.slice (rowR (x 0).val)).set
    rw [View.set_slice]
    exact Finset.mem_map_of_mem _ ((mem_rowR (x 0).isLt x).mpr rfl)

/-- Contents by rows. -/
def rowsAt (X : Vec F S256x2048 .f32) (i : ℕ) : Vec F S1x2048 .f32 := fun x => X ((rowR i).emb x)

variable (c : Dev nD)

/-- A buffer is its rows. -/
theorem rows_split (M : Memref sig .tc .vmem S256x2048 .f32) (X : Vec F S256x2048 .f32) :
    (owns (c : Thread nD τ) M fullShare X : sProp 𝕄) ⊢ bigSep (Finset.range 256) fun i => iprop(∃ d, owns (c : Thread nD τ) (rowM M i) fullShare d) := by
  unfold owns
  iintro ⟨%f, -, H⟩
  ihave H' := (show (M.view.loc (c : Thread nD τ) ↦[M.view.set]{fullShare} f : sProp 𝕄) ⊢ bigSep (Finset.range 256) fun i => M.view.loc (c : Thread nD τ) ↦[(rowM M i).view.set]{fullShare} f
    from Entails.of_eq (by rw [← pointsTo_biUnion _ _ (rows_disjoint M), rows_cover M])) $$ H
  have hm : (bigSep (Finset.range 256) fun i => (M.view.loc (c : Thread nD τ) ↦[(rowM M i).view.set]{fullShare} f : sProp 𝕄))
      ⊢ bigSep (Finset.range 256) fun i => iprop(∃ d f, ⌜(rowM M i).view.read (Elt F) f = d⌝ ∗ ((rowM M i).view.loc (c : Thread nD τ) ↦[(rowM M i).view.set]{fullShare} f)) := by
    refine BI.bigSep_mono fun i _ => ?_
    show (M.view.loc (c : Thread nD τ) ↦[(rowM M i).view.set]{fullShare} f : sProp 𝕄) ⊢ iprop(∃ d f, ⌜(rowM M i).view.read (Elt F) f = d⌝ ∗ ((rowM M i).view.loc (c : Thread nD τ) ↦[(rowM M i).view.set]{fullShare} f))
    iintro H
    iexists (rowM M i).view.read (Elt F) f
    iexists f
    isplitr
    · ipureintro; rfl
    iexact H
  iapply hm
  iexact H'

/-- Rows that hold contents' rows are a buffer that holds the contents. -/
theorem rows_join (M : Memref sig .tc .vmem S256x2048 .f32) (X : Vec F S256x2048 .f32) (f₁ : M.view.ty.Contents (Elt F)) (hf : M.view.read (Elt F) f₁ = X) :
    (bigSep (Finset.range 256) fun i => owns (c : Thread nD τ) (rowM M i) fullShare (rowsAt X i) : sProp 𝕄) ⊢ owns (c : Thread nD τ) M fullShare X := by
  have h : (bigSep (Finset.range 256) fun i => owns (c : Thread nD τ) (rowM M i) fullShare (rowsAt X i) : sProp 𝕄)
      ⊢ bigSep (Finset.range 256) fun i => M.view.loc (c : Thread nD τ) ↦[(rowM M i).view.set]{fullShare} f₁ := by
    refine BI.bigSep_mono fun i _ => ?_
    unfold owns
    show (iprop(∃ f, ⌜(rowM M i).view.read (Elt F) f = rowsAt X i⌝ ∗ ((rowM M i).view.loc (c : Thread nD τ) ↦[(rowM M i).view.set]{fullShare} f)) : sProp 𝕄) ⊢ (M.view.loc (c : Thread nD τ) ↦[(rowM M i).view.set]{fullShare} f₁)
    iintro ⟨%f, %hr, H⟩
    have e : ∀ z ∈ (rowM M i).view.set, f z = f₁ z := by
      intro z hz
      obtain ⟨x, -, rfl⟩ := Finset.mem_map.mp hz
      have h1 : (rowM M i).view.read (Elt F) f x = (rowM M i).view.read (Elt F) f₁ x := by
        rw [hr]; unfold rowsAt; rw [← hf]; rfl
      rw [View.read_apply, View.read_apply] at h1
      exact (cast_inj _).mp h1
    ihave H' := (show ((rowM M i).view.loc (c : Thread nD τ) ↦[(rowM M i).view.set]{fullShare} f : sProp 𝕄) ⊢ M.view.loc (c : Thread nD τ) ↦[(rowM M i).view.set]{fullShare} f₁
      from Entails.of_eq (pointsTo_congr e)) $$ H
    iexact H'
  refine h.trans ?_
  unfold owns
  iintro H
  iexists f₁
  isplitr
  · ipureintro; exact hf
  ihave H' := (show (bigSep (Finset.range 256) fun i => M.view.loc (c : Thread nD τ) ↦[(rowM M i).view.set]{fullShare} f₁ : sProp 𝕄) ⊢ M.view.loc (c : Thread nD τ) ↦[M.view.set]{fullShare} f₁
    from Entails.of_eq (by rw [← pointsTo_biUnion _ _ (rows_disjoint M), rows_cover M])) $$ H
  iexact H'

variable (tab : Vec F S33280 .i32) (y : Vec F S45264x2048 .f32) (q : PosShare TreeShare)

/-- The rows that the words of one choice name: of the even copies for `p = 0`, of the odd for `p = 1`. -/
def gath (p : ℕ) : Vec F S256x2048 .f32 := fun x =>
  y fun | 0 => ⟨(word tab (2 * (x 0).val + p)).toNat % 45264, Nat.mod_lt _ (by decide)⟩ | 1 => x 1

theorem rowsAt_gath (p i : ℕ) (hi : i < 256) : rowsAt (gath tab y p) i = rowVal y (word tab (2 * i + p)).toNat := by
  funext x
  unfold rowsAt gath rowVal yRow
  show y _ = y ((Rect.unit (s := S45264x2048) ![(word tab (2 * i + p)).toNat % 45264, 0] S1x2048.size (src_inb _)).emb x)
  congr 1
  have h0 : (x 0).val < 1 := (x 0).isLt
  have hm := Nat.mod_eq_of_lt hi
  have e : ((rowR i).emb x 0).val = i := by
    show i % 256 + 1 * (x 0).val = i; omega
  funext a
  fin_cases a
  · apply Fin.ext
    show (word tab (2 * ((rowR i).emb x 0).val + p)).toNat % 45264 = (word tab (2 * i + p)).toNat % 45264 + 1 * (x 0).val
    rw [e]; omega
  · apply Fin.ext
    show 0 + 1 * (x 1).val = 0 + 1 * (x 1).val
    rfl

/-- What is left of the source beside the copies' shares. -/
def yRest : sProp 𝕄 :=
  iprop((((c : Thread nD τ).loc main_arg4) ↦{Transfers.shareDrop q 512} y)
    ∗ bigSep (Finset.range 512) fun t => ((c : Thread nD τ).loc main_arg4) ↦[Finset.univ \ (yRow (word tab t).toNat).view.set]{Transfers.shareTokN q t} y)

theorem y_shares : (((c : Thread nD τ).loc main_arg4) ↦{q} y : sProp 𝕄) ⊣⊢ iprop(yRest c tab y q ∗ bigSep (Finset.range 512) (tok c tab y q)) := by
  have e : (bigSep (Finset.range 512) (fun t => ((c : Thread nD τ).loc main_arg4) ↦{Transfers.shareTokN q t} y) : sProp 𝕄)
      = iprop(bigSep (Finset.range 512) (tok c tab y q) ∗ bigSep (Finset.range 512) fun t => ((c : Thread nD τ).loc main_arg4) ↦[Finset.univ \ (yRow (word tab t).toNat).view.set]{Transfers.shareTokN q t} y) := by
    rw [show iprop(bigSep (Finset.range 512) (tok c tab y q) ∗ bigSep (Finset.range 512) fun t => ((c : Thread nD τ).loc main_arg4) ↦[Finset.univ \ (yRow (word tab t).toNat).view.set]{Transfers.shareTokN q t} y)
      = _ from (BI.bigSep_sep _ _ _).symm]
    refine BI.bigSep_congr fun t _ => ?_
    have h := pointsTo_split_subset (nD := nD) (τ := τ) (sig := sig) (Val := Elt F) (Ix := Unit) (Name := ℕ) (U := Pipeline.UD sig nD τ) (Lvl := ℕ) (ℓ := (c : Thread nD τ).loc main_arg4) (q := Transfers.shareTokN q t) (f := y)
      (Finset.subset_univ (yRow (word tab t).toNat).view.set)
    exact BI.equiv_iff.mp ⟨h.1, h.2⟩
  constructor
  · iintro H
    ihave H' := (Transfers.pointsTo_toks_range q 512).1 $$ H
    icases H' with ⟨Hd, Ht⟩
    ihave Ht' := (Entails.of_eq e) $$ Ht
    icases Ht' with ⟨Ht, Hc⟩
    unfold yRest
    isplitl [Hd Hc]
    · isplitl [Hd] <;> iassumption
    iexact Ht
  · unfold yRest
    iintro ⟨⟨Hd, Hc⟩, Ht⟩
    iapply (Transfers.pointsTo_toks_range q 512).2
    isplitl [Hd]; · iexact Hd
    iapply (Entails.of_eq e.symm)
    isplitl [Ht] <;> iassumption

/-- BEFORE: both buffers and the source give what the 512 copies need. -/
theorem take (X0 X1 : Vec F S256x2048 .f32) :
    iprop(owns (c : Thread nD τ) (Memref.whole cc0_scratch0) fullShare X0 ∗ owns (c : Thread nD τ) (Memref.whole cc0_scratch1) fullShare X1 ∗ (((c : Thread nD τ).loc main_arg4) ↦{q} y))
      ⊢ (iprop(yRest c tab y q ∗ bigSep (Ring.rangeSet 512 0 512) fun s => slot c tab y q s.val) : sProp 𝕄) := by
  have e0 : (bigSep (Finset.range 256) (fun i => iprop(∃ d, owns (c : Thread nD τ) (rowM (Memref.whole cc0_scratch0) i) fullShare d)) : sProp 𝕄) = bigSep (Finset.range 256) (fun i => iprop(∃ d, owns (c : Thread nD τ) (dRow (2 * i)) fullShare d)) :=
    BI.bigSep_congr fun i _ => by rw [dRow_even]; rfl
  have e1 : (bigSep (Finset.range 256) (fun i => iprop(∃ d, owns (c : Thread nD τ) (rowM (Memref.whole cc0_scratch1) i) fullShare d)) : sProp 𝕄) = bigSep (Finset.range 256) (fun i => iprop(∃ d, owns (c : Thread nD τ) (dRow (2 * i + 1)) fullShare d)) :=
    BI.bigSep_congr fun i _ => by rw [dRow_odd]; rfl
  iintro ⟨H0, H1, Hy⟩
  ihave H0' := (rows_split c (Memref.whole cc0_scratch0) X0) $$ H0
  ihave H1' := (rows_split c (Memref.whole cc0_scratch1) X1) $$ H1
  ihave Hy' := (y_shares c tab y q).1 $$ Hy
  icases Hy' with ⟨Hr, Ht⟩
  isplitl [Hr]; · iexact Hr
  iapply (Entails.of_eq (Ring.bigSep_rangeSet_eq_range (NB := 512) (lo := 0) (hi := 512) (Φ := fun s => slot c tab y q s.val) le_rfl (slot c tab y q) (fun k h => congrArg (slot c tab y q) (Nat.zero_add k).symm)).symm)
  unfold slot
  iapply (show iprop(bigSep (Finset.range 512) (fun t => iprop(∃ d, owns (c : Thread nD τ) (dRow t) fullShare d)) ∗ bigSep (Finset.range 512) (tok c tab y q))
    ⊢ (bigSep (Finset.range 512) (fun t => iprop((∃ d, owns (c : Thread nD τ) (dRow t) fullShare d) ∗ tok c tab y q t)) : sProp 𝕄) from Entails.of_eq (BI.bigSep_sep _ _ _).symm)
  isplitr [Ht]
  · iapply (Entails.of_eq (Ring.bigSep_range_deinterleave 256 (fun t => (iprop(∃ d, owns (c : Thread nD τ) (dRow t) fullShare d) : sProp 𝕄))).symm)
    isplitl [H0']
    · iapply (Entails.of_eq e0)
      iexact H0'
    · iapply (Entails.of_eq e1)
      iexact H1'
  iexact Ht

/-- AFTER: what the 512 copies hand back is both buffers holding the rows that the words name, and the source. -/
theorem give :
    iprop(yRest c tab y q ∗ bigSep Finset.univ fun t : Fin 512 => dlv c tab y q t.val)
      ⊢ (iprop(owns (c : Thread nD τ) (Memref.whole cc0_scratch0) fullShare (gath tab y 0) ∗ owns (c : Thread nD τ) (Memref.whole cc0_scratch1) fullShare (gath tab y 1) ∗ (((c : Thread nD τ).loc main_arg4) ↦{q} y)) : sProp 𝕄) := by
  have e0 : (bigSep (Finset.range 256) (fun i => owns (c : Thread nD τ) (dRow (2 * i)) fullShare (rowVal y (word tab (2 * i)).toNat)) : sProp 𝕄) = bigSep (Finset.range 256) (fun i => owns (c : Thread nD τ) (rowM (Memref.whole cc0_scratch0) i) fullShare (rowsAt (gath tab y 0) i)) :=
    BI.bigSep_congr fun i hi => by rw [dRow_even, rowsAt_gath tab y 0 i (Finset.mem_range.mp hi)]; rfl
  have e1 : (bigSep (Finset.range 256) (fun i => owns (c : Thread nD τ) (dRow (2 * i + 1)) fullShare (rowVal y (word tab (2 * i + 1)).toNat)) : sProp 𝕄) = bigSep (Finset.range 256) (fun i => owns (c : Thread nD τ) (rowM (Memref.whole cc0_scratch1) i) fullShare (rowsAt (gath tab y 1) i)) :=
    BI.bigSep_congr fun i hi => by rw [dRow_odd, rowsAt_gath tab y 1 i (Finset.mem_range.mp hi)]; rfl
  iintro ⟨Hr, HD⟩
  ihave HD' := (Entails.of_eq (Ring.bigSep_fin_eq_range 512 (fun t : Fin 512 => dlv c tab y q t.val) (dlv c tab y q) (fun t h => rfl))) $$ HD
  unfold dlv
  ihave HD2 := (show (bigSep (Finset.range 512) (fun t => iprop(owns (c : Thread nD τ) (dRow t) fullShare (rowVal y (word tab t).toNat) ∗ tok c tab y q t)) : sProp 𝕄)
    ⊢ iprop(bigSep (Finset.range 512) (fun t => owns (c : Thread nD τ) (dRow t) fullShare (rowVal y (word tab t).toNat)) ∗ bigSep (Finset.range 512) (tok c tab y q)) from Entails.of_eq (BI.bigSep_sep _ _ _)) $$ HD'
  icases HD2 with ⟨Hd, Ht⟩
  ihave Hd' := (Entails.of_eq (Ring.bigSep_range_deinterleave 256 (fun t => (owns (c : Thread nD τ) (dRow t) fullShare (rowVal y (word tab t).toNat) : sProp 𝕄)))) $$ Hd
  icases Hd' with ⟨H0, H1⟩
  isplitl [H0]
  · iapply (rows_join c (Memref.whole cc0_scratch0) (gath tab y 0) (gath tab y 0) (View.read_whole _ _))
    iapply (Entails.of_eq e0)
    iexact H0
  isplitl [H1]
  · iapply (rows_join c (Memref.whole cc0_scratch1) (gath tab y 1) (gath tab y 1) (View.read_whole _ _))
    iapply (Entails.of_eq e1)
    iexact H1
  iapply (y_shares c tab y q).2
  isplitl [Hr] <;> iassumption

end Cert.Kernel8Ideal.Hand
-- ==== Proof.Combine.Loops.lean ====
module

public import proofs.«01_k».proof.Proof.Combine.Body
public import proofs.«01_k».proof.Proof.Combine.Join
public import Idealize.ShloMosaic.Lib.VecWindow

/-! The sample's combine at its one point: the 512 copies started, waited for, and the rows weighted, added and normalized. -/

@[expose] public section

set_option maxRecDepth 16384

noncomputable section

namespace Cert.Kernel8Ideal.Hand

open Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem cr_pos : 0 < cr := View.dmaCredit_pos (rowOf0 0).view (by decide)

theorem trips2 (k : Fin k0_t2_loop.trips) : k.val < 256 := lt_of_lt_of_eq k.isLt (by decide)

section Loops

variable (c : Dev nD) (tab : Vec F S33280 .i32) (y : Vec F S45264x2048 .f32) (q qt : PosShare TreeShare) (hp : ∀ t, (word tab t).toNat < 45264)
variable (i : grid0.Coords) (arg2 : Memref sig .tc .vmem S256x2048 .f32) (harg2 : arg2.IsWhole) (arg3 : Memref sig .tc .vmem S256x128 .f32) (harg3 : arg3.IsWhole) (arg4 : Memref sig .tc .vmem S1x2048 .f32) (harg4 : arg4.IsWhole) (arg6 : Memref sig .tc .vmem S256x2048 .f32) (harg6 : arg6.IsWhole)

/-- ONE ROW WAITED FOR: the credit of one copy consumed. -/
theorem wait_one (u : ℕ) (hu : u + 1 ≤ 512) {srcw : Memref sig .tc .hbm S1x2048 .f32} {dstw : Memref sig .tc .vmem S1x2048 .f32} (hd : dstw.view.dmaCredit = cr)
    {h1 h2} {α : Type} {k : PUnit → Prog (TpuEff nD τ sig (Elt F) Λ₀ .tc) α} {Q : α → sProp 𝕄} :
    iprop(copies c tab y q 512 (cr * u) ∗ (∃ W, owes (c : Thread nD τ) 0 W))
      ⊢ iprop((iprop(copies c tab y q 512 (cr * (u + 1)) ∗ (∃ W, owes (c : Thread nD τ) 0 W)) -∗ wp frame (wpE (defs₀ (F := F)) Variants.none c none) Set.univ (k ⟨⟩) Q)
        -∗ wp frame (wpE (defs₀ (F := F)) Variants.none c none) Set.univ (.op (.waitDma2 cc0_scratch2.sem srcw dstw h1 h2) k) Q) := by
  unfold copies
  iintro ⟨HB, ⟨%Ws, HO⟩⟩ Hk
  iapply (Transfers.wp_waitBatchMul (countersEmb (U := Pipeline.UD sig nD τ)) Variants.none (c : Thread nD τ) none (D := fun t : Fin 512 => dlv c tab y q t.val) () 1 (hd.trans (Nat.one_mul _).symm)
    (show cr * u + 1 * cr ≤ cr * 512 by rw [Nat.one_mul, ← Nat.mul_succ]; exact Nat.mul_le_mul_left _ hu)) $$ [HB HO]
  · isplitl [HB] <;> iassumption
  rw [Nat.one_mul, ← Nat.mul_succ]
  iintro ⟨HB, HO⟩
  iapply Hk
  isplitl [HB]; · iexact HB
  iexists _; iexact HO

/-- The copies, all started and all waited for: every row, and the semaphore at zero. -/
theorem collect : copies c tab y q 512 (cr * 512) ⊢ (|={Set.univ}=> iprop(bigSep Finset.univ (fun t : Fin 512 => dlv c tab y q t.val) ∗ semVal ((c : Thread nD τ), .dma cc0_scratch2.sem) 0) : sProp 𝕄) := by
  unfold copies
  exact Transfers.batch_collect' (countersEmb (U := Pipeline.UD sig nD τ)) (c : Thread nD τ) cr_pos

/-- The body's result: the residual rows, and the two experts' rows under their gates, added and normalized. -/
def combOut (h : Vec F S256x2048 .f32) (g : Vec F S256x128 .f32) (nw : Vec F S1x2048 .f32) (a b : Vec F S256x2048 .f32) : Vec F S256x2048 .f32 :=
  have v16 : FVec F S256x2048 .f32 := addf h (addf (mulf (broadcastTo S256x2048 (extractStridedSlice S256x1 ![0, 0] g slices_S256x128_o0_0_S256x1) broadcasts_S256x1_S256x2048) a)
    (mulf (broadcastTo S256x2048 (extractStridedSlice S256x1 ![0, 1] g slices_S256x128_o0_1_S256x1) broadcasts_S256x1_S256x2048) b))
  have v19 : FVec F S256x1 .f32 := shapeCast S256x1 (multiReduction .add [1] S256 (mulf v16 v16) 0x00000000#32 reduces_S256x2048_S256 (.inl rfl) rfl) shapeCasts_S256_S256x1
  have v24 : FVec F S256x1 .f32 := rsqrt (addf (divf v19 (broadcast S256x1 (Scalar.ofBits .f32 0x45000000#32))) (broadcast S256x1 (Scalar.ofBits .f32 0x358637BD#32)))
  mulf (mulf v16 (broadcastTo S256x2048 v24 broadcasts_S256x1_S256x2048)) (broadcastTo S256x2048 (shapeCast S1x2048 nw shapeCasts_S1x2048_S1x2048) broadcasts_S1x2048_S256x2048)

include hp

set_option maxHeartbeats 4000000 in
/-- THE BODY. -/
theorem run_body (h : Vec F S256x2048 .f32) (g : Vec F S256x128 .f32) (nw : Vec F S1x2048 .f32) (s0 s1 : Vec F S256x2048 .f32) (K : PUnit → sProp 𝕄) :
    iprop(owns (c : Thread nD τ) arg2 fullShare h ∗ owns (c : Thread nD τ) arg3 fullShare g ∗ owns (c : Thread nD τ) arg4 fullShare nw ∗ (∃ d, owns (c : Thread nD τ) arg6 fullShare d)
        ∗ owns (c : Thread nD τ) (Memref.whole cc0_scratch0) fullShare s0 ∗ owns (c : Thread nD τ) (Memref.whole cc0_scratch1) fullShare s1
        ∗ tabAt c tab qt ∗ (((c : Thread nD τ).loc main_arg4) ↦{q} y) ∗ semVal ((c : Thread nD τ), .dma cc0_scratch2.sem) 0 ∗ (∃ W, owes (c : Thread nD τ) 0 W)
        ∗ (iprop(owns (c : Thread nD τ) arg2 fullShare h ∗ owns (c : Thread nD τ) arg3 fullShare g ∗ owns (c : Thread nD τ) arg4 fullShare nw ∗ owns (c : Thread nD τ) arg6 fullShare (combOut h g nw (gath tab y 0) (gath tab y 1))
            ∗ (∃ d, owns (c : Thread nD τ) (Memref.whole cc0_scratch0) fullShare d) ∗ (∃ d, owns (c : Thread nD τ) (Memref.whole cc0_scratch1) fullShare d)
            ∗ tabAt c tab qt ∗ (((c : Thread nD τ).loc main_arg4) ↦{q} y) ∗ semVal ((c : Thread nD τ), .dma cc0_scratch2.sem) 0 ∗ (∃ W, owes (c : Thread nD τ) 0 W)) -∗ K ⟨⟩))
      ⊢ wp frame (wpE (defs₀ (F := F)) Variants.none c none) Set.univ (cc0_moe_combine i (Memref.whole main_arg0) (Memref.isWhole_whole _) arg2 harg2 arg3 harg3 arg4 harg4 (Memref.whole main_arg4) (Memref.isWhole_whole _) arg6 harg6 (Memref.whole cc0_scratch0) (Memref.isWhole_whole _) (Memref.whole cc0_scratch1) (Memref.isWhole_whole _) cc0_scratch2) K := by
  iintro ⟨H2, H3, H4, H6, HA, HB, HT, Hy, Hs, HO, Hk⟩
  ihave Htk := (take c tab y q s0 s1) $$ [HA HB Hy]
  · isplitl [HA]; · iexact HA
    isplitl [HB] <;> iassumption
  icases Htk with ⟨Hrest, Hslots⟩
  imod (Transfers.batch_alloc' (countersEmb (U := Pipeline.UD sig nD τ)) (c : Thread nD τ) () cr (fun t : Fin 512 => dlv c tab y q t.val) (sm := .dma cc0_scratch2.sem) (E := Set.univ)) $$ Hs with HB
  ihave Hst : started c tab y q 0 $$ [HB Hslots]
  · unfold started copies
    isplitl [HB] <;> iassumption
  sl_unfold [cc0_moe_combine, k0_part5]
  rw [wp_bind]
  sl_exec
  sl_for (fun (k : ℕ) (_ : PUnit) => iprop(tabAt c tab qt ∗ started c tab y q (16 * k))) $$ [HT Hst]
  · intro k acc
    have hk := trips1 k
    unfold run_body.sl.prog.body_1
    rw [wp_bind]
    iintro H
    ihave Hw := (part1_run c tab y q qt hp i arg2 harg2 arg3 harg3 arg4 harg4 arg6 harg6 _ k _ _) $$ H
    iapply (wp_wand _ _ _) $$ Hw
    iintro %r ⟨%hv, H⟩
    obtain ⟨a10, v61, hw4⟩ := r
    dsimp only at hv ⊢
    rw [wp_bind]
    ihave Hw := (part2_run c tab y q qt hp i arg2 harg2 arg3 harg3 arg4 harg4 arg6 harg6 _ k a10 v61 hw4 hv) $$ H
    iapply (wp_wand _ _ _) $$ Hw
    iintro %r ⟨%hv, H⟩
    obtain ⟨v93, hw8⟩ := r
    dsimp only at hv ⊢
    rw [wp_bind]
    ihave Hw := (part3_run c tab y q qt hp i arg2 harg2 arg3 harg3 arg4 harg4 arg6 harg6 _ k a10 v93 hw8 hv) $$ H
    iapply (wp_wand _ _ _) $$ Hw
    iintro %r ⟨%hv, H⟩
    obtain ⟨v125, hw12⟩ := r
    dsimp only at hv ⊢
    rw [wp_bind]
    ihave Hw := (part4_run c tab y q qt hp i arg2 harg2 arg3 harg3 arg4 harg4 arg6 harg6 _ k a10 v125 hw12 hv) $$ H
    iapply (wp_wand _ _ _) $$ Hw
    iintro %r ⟨%hv, HT, HS⟩
    obtain ⟨v157, hw16⟩ := r
    dsimp only at hv ⊢
    subst hv
    simp only [Prog.lift, Prog.bind_op, Prog.bind_ret, Prog.pure_eq_ret]
    iapply (start_one c tab y q (16 * k.val + 15) (by omega) (slicey_eq _ (hp _) rfl) (slice1_eq _ (by omega) (by omega) (at_row _ (k0_off47_eq k) (by omega)))) $$ HS
    iintro HS
    sl_step
    isplitl [HT] <;> iassumption
  · isplitl [HT] <;> iassumption
  iintro %acc ⟨HT, Hst⟩
  have e32 : Scf.trips k0_t1_loop.lb k0_t1_loop.ub k0_t1_loop.st = 32 := by decide
  have e256 : Scf.trips k0_t2_loop.lb k0_t2_loop.ub k0_t2_loop.st = 256 := by decide
  rw [e32]
  unfold started
  icases Hst with ⟨HB, -⟩
  sl_exec
  sl_for (fun (k : ℕ) (_ : PUnit) => iprop(copies c tab y q 512 (cr * (2 * k)) ∗ (∃ W, owes (c : Thread nD τ) 0 W))) $$ [HB HO]
  · intro k acc
    have hk := trips2 k
    unfold run_body.sl.prog.body_2
    simp only [Prog.lift, Prog.bind_op, Prog.bind_ret, Prog.pure_eq_ret]
    iintro H
    iapply (wait_one c tab y q (2 * k.val) (by omega) (srcw := (Memref.whole main_arg4).slice (Rect.unit (s := S45264x2048) ![0, 0] S1x2048.size inb_S45264x2048_S1x2048_0_0) (fun _ => rfl)) (dstw := (Memref.whole cc0_scratch0).slice (Rect.unit (s := S256x2048) (k0_off49 k) S1x2048.size (k0_off49_inb k)) (fun _ => rfl)) rfl) $$ H
    iintro H
    iapply (wait_one c tab y q (2 * k.val + 1) (by omega) (srcw := (Memref.whole main_arg4).slice (Rect.unit (s := S45264x2048) ![0, 0] S1x2048.size inb_S45264x2048_S1x2048_0_0) (fun _ => rfl)) (dstw := (Memref.whole cc0_scratch1).slice (Rect.unit (s := S256x2048) (k0_off49 k) S1x2048.size (k0_off49_inb k)) (fun _ => rfl)) rfl) $$ H
    iintro H
    sl_step
    iexact H
  · isplitl [HB]
    · iexact HB
    iexact HO
  iintro %acc ⟨HB, HO⟩
  rw [e256]
  imod (collect c tab y q) $$ HB with ⟨HD, Hs⟩
  ihave Hg := (give c tab y q) $$ [Hrest HD]
  · isplitl [Hrest] <;> iassumption
  icases Hg with ⟨H7, H8, Hy⟩
  unfold owns
  icases H2 with ⟨%f2, %h2, H2⟩
  icases H3 with ⟨%f3, %h3, H3⟩
  icases H4 with ⟨%f4, %h4, H4⟩
  icases H6 with ⟨%d6, %f6, -, H6⟩
  icases H7 with ⟨%f7, %h7, H7⟩
  icases H8 with ⟨%f8, %h8, H8⟩
  obtain rfl := harg2.eq_unread h2; obtain rfl := harg3.eq_unread h3; obtain rfl := harg4.eq_unread h4
  obtain rfl := (Memref.isWhole_whole cc0_scratch0).eq_unread h7; obtain rfl := (Memref.isWhole_whole cc0_scratch1).eq_unread h8
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H6]
  · iexists _; isplitr; swap; · iexact H6
    ipureintro
    refine (View.read_writes_full arg6.view _ _ _ []).trans ?_
    exact congr (congr (congr (congrArg₂ combOut ((View.readAt_full _ _ _).trans (harg2.read_unread _)) ((View.readAt_full _ _ _).trans (harg3.read_unread _)))
      ((View.readAt_full _ _ _).trans (harg4.read_unread _))) ((View.readAt_full _ _ _).trans ((Memref.isWhole_whole cc0_scratch0).read_unread _)))
      ((View.readAt_full _ _ _).trans ((Memref.isWhole_whole cc0_scratch1).read_unread _))
  isplitl [H7]
  · iexists _, _; isplitr; swap; · iexact H7
    ipureintro; rfl
  isplitl [H8]
  · iexists _, _; isplitr; swap; · iexact H8
    ipureintro; rfl
  isplitl [HT]; · iexact HT
  isplitl [Hy]; · iexact Hy
  isplitl [Hs]; · iexact Hs
  iexact HO

end Loops

end Cert.Kernel8Ideal.Hand
-- ==== Proof.Combine.Run.lean ====
module

public import proofs.«01_k».proof.Proof.Combine.Loops
public import Idealize.ShloMosaic.Lib.Pipeline.FrameBody
public import Idealize.ShloMosaic.Lib.Pipeline.Frame
public import Idealize.ShloMosaic.Lib.Claim

/-! The run of the sample's combine: what its one grid point leaves, and what the arrays hold at the end. -/

@[expose] public section

set_option maxRecDepth 16384

noncomputable section

namespace Cert.Kernel8Ideal.Hand

open Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The buffers when the call is entered: the norm's weights laid out as one row, all else as launched. -/
abbrev V (c : Dev nD) (b : Ref sig .tc) : Buf (Elt F) ((c : Thread nD τ).loc b) :=
  StableHlo.after hostOps0 (fun b => m (c, b)) b

theorem fresh_ops : (hostOps0 : List (HloOp τ sig (Elt F))).Forall fun op => op.fresh = ∅ := by
  simp only [List.Forall]; repeat' constructor

theorem main_to (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub fresh_ops main_chain

/-- Only the laid-out weights are written before the call. -/
theorem V_ne (c : Dev nD) (b : Ref sig .tc) (h : b ≠ main_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne h))

/-- The table as launched, on the one device. -/
def table : Vec F S33280 .i32 := m (((0 : Dev nD) : Thread nD τ).loc main_arg0)

set_option backward.proofsInPublic true in
/-- The table as the call's prefetched contents. -/
def adm : (pcfg0 (F := F)).Adm := ⟨fun | ⟨0, _⟩ => table m | ⟨_ + 1, h⟩ => absurd h (by simp), trivial⟩

/-- The pipeline at these contents. -/
abbrev cfgA : Cfg sig Λ₀ := cfg0 (adm m)

theorem V_table (c : Dev nD) (k : Fin 1) : V m c (pre0.ref k) = (adm m).1 k := by
  obtain rfl : c = 0 := Subsingleton.elim _ _
  fin_cases k
  exact V_ne m 0 main_arg0 (by decide)

/-- A window's block, read off its array. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- The experts' rows. -/
def rows (c : Dev nD) : Vec F S45264x2048 .f32 := V m c main_arg4

/-- What the point leaves in the output's buffer. -/
def outAt (c : Dev nD) (t : Fin (cfgA m).N) : Vec F S256x2048 .f32 :=
  combOut (iblk m c 0 t) (iblk m c 1 t) (iblk m c 2 t) (gath (table m) (rows m c) 0) (gath (table m) (rows m c) 1)

/-- The body's own semaphore. -/
abbrev osem : Fin 1 → SemLoc sig := fun _ => .dma cc0_scratch2.sem

/-- What the body keeps between points: its two buffers at anything, its semaphore at zero, the experts' rows, half of the table. -/
def Keep (c : Dev nD) : sProp 𝕄 :=
  iprop((∃ d, owns (c : Thread nD τ) (Memref.whole cc0_scratch0) fullShare d) ∗ (∃ d, owns (c : Thread nD τ) (Memref.whole cc0_scratch1) fullShare d)
    ∗ (∃ r, prngReg c r) ∗ semVal ((c : Thread nD τ), .dma cc0_scratch2.sem) 0 ∗ (((c : Thread nD τ).loc main_arg4) ↦{fullShare} rows m c)
    ∗ tabAt c (table m) fullShare.right)

/-- The data of the call: arrays as entered, each input's buffer at its block, the output's at `outAt`. -/
def dats (_ : Fin 1) (c : Dev nD) : Dat τ (Elt F) Unit ℕ (Pipeline.UD sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Keep m c
  q _ := fullShare
  owed _ := 0

theorem A_eq (c : Dev nD) (w : Fin (cfgA m).W) : (dats m 0 c).A w = V m c (Pipeline.arrRef spec0 w) := by dsimp only [dats]
theorem after_0 (c : Dev nD) (t : Fin (cfgA m).N) : (dats m 0 c).after 0 t = iblk m c 0 t := rfl
theorem after_1 (c : Dev nD) (t : Fin (cfgA m).N) : (dats m 0 c).after 1 t = iblk m c 1 t := rfl
theorem after_2 (c : Dev nD) (t : Fin (cfgA m).N) : (dats m 0 c).after 2 t = iblk m c 2 t := rfl
theorem after_3 (c : Dev nD) (t : Fin (cfgA m).N) : (dats m 0 c).after 3 t = outAt m c t := rfl

theorem before_0 (c : Dev nD) (t : Fin (cfgA m).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgA m).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgA m).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- The body at a point. -/
abbrev bodyA (t : Fin (cfgA m).N) : Prog (TpuEff nD τ sig (Elt F) Λ₀ .tc) PUnit :=
  cc0_moe_combine (grid0.coords t) (Memref.whole main_arg0) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (Memref.whole main_arg4) (Memref.isWhole_whole _) (spec0_3.stage ((cfgA m).slots t 3)) (hstage0_3 (((cfgA m).slots t 3).cast nbuf0_3)) (Memref.whole cc0_scratch0) (Memref.isWhole_whole _) (Memref.whole cc0_scratch1) (Memref.isWhole_whole _) cc0_scratch2

theorem defs_row (t : Fin (cfgA m).N) : defs₀ (F := F) .tc (cfgA m).body ((cfgA m).bodyArgs t ((cfgA m).slots t)) = bodyA m t := by
  unfold defs₀; rw [Defs.onTc_tc]

/-- What the body is handed. -/
def bodyPre (c : Dev nD) (t : Fin (cfgA m).N) : sProp 𝕄 :=
  iprop((dats m 0 c).Φ t.castSucc ∗ (dats m 0 c).owesAt () t.castSucc
    ∗ (∃ d, owns (c : Thread nD τ) (((cfgA m).win 0).stage ((cfgA m).slots t 0)) fullShare ((dats m 0 c).before 0 t d))
    ∗ (∃ d, owns (c : Thread nD τ) (((cfgA m).win 1).stage ((cfgA m).slots t 1)) fullShare ((dats m 0 c).before 1 t d))
    ∗ (∃ d, owns (c : Thread nD τ) (((cfgA m).win 2).stage ((cfgA m).slots t 2)) fullShare ((dats m 0 c).before 2 t d))
    ∗ (∃ d, owns (c : Thread nD τ) (((cfgA m).win 3).stage ((cfgA m).slots t 3)) fullShare ((dats m 0 c).before 3 t d)))

/-- What it hands back. -/
def bodyPost (c : Dev nD) (t : Fin (cfgA m).N) : sProp 𝕄 :=
  iprop((dats m 0 c).Φ t.succ ∗ (dats m 0 c).owesAt () t.succ
    ∗ owns (c : Thread nD τ) (((cfgA m).win 0).stage ((cfgA m).slots t 0)) fullShare ((dats m 0 c).after 0 t)
    ∗ owns (c : Thread nD τ) (((cfgA m).win 1).stage ((cfgA m).slots t 1)) fullShare ((dats m 0 c).after 1 t)
    ∗ owns (c : Thread nD τ) (((cfgA m).win 2).stage ((cfgA m).slots t 2)) fullShare ((dats m 0 c).after 2 t)
    ∗ owns (c : Thread nD τ) (((cfgA m).win 3).stage ((cfgA m).slots t 3)) fullShare ((dats m 0 c).after 3 t))

variable (hp : ∀ t, (word (table m) t).toNat < 45264)

include hp in
/-- The body at the point. -/
theorem sound_body (c : Dev nD) (t : Fin (cfgA m).N) :
    bodyPre m c t ⊢ wp frame (wpE (defs₀ (F := F)) Variants.none c none) Set.univ (bodyA m t) (fun _ => bodyPost m c t) := by
  unfold bodyPre bodyPost bodyA
  simp only [before_0, before_1, before_2]
  rw [after_0, after_1, after_2, after_3]
  rw [show (dats m 0 c).Φ t.castSucc = Keep m c from rfl, show (dats m 0 c).Φ t.succ = Keep m c from rfl]
  unfold Keep
  iintro ⟨⟨⟨%s0, HA⟩, ⟨%s1, HB⟩, Hg, Hs, Hy, HT⟩, ⟨%W, -, HO⟩, ⟨%d0, H0⟩, ⟨%d1, H1⟩, ⟨%d2, H2⟩, ⟨%d3, H3⟩⟩
  iapply (run_body c (table m) (rows m c) fullShare fullShare.right hp (grid0.coords t) _ _ _ _ _ _ _ _ (iblk m c 0 t) (iblk m c 1 t) (iblk m c 2 t) s0 s1 _)
  isplitl [H0]; · iexact H0
  isplitl [H1]; · iexact H1
  isplitl [H2]; · iexact H2
  isplitl [H3]; · iexists _; iexact H3
  isplitl [HA]; · iexact HA
  isplitl [HB]; · iexact HB
  isplitl [HT]; · iexact HT
  isplitl [Hy]; · iexact Hy
  isplitl [Hs]; · iexact Hs
  isplitl [HO]; · iexists _; iexact HO
  iintro ⟨H0, H1, H2, H3, HA, HB, HT, Hy, Hs, ⟨%W', HO⟩⟩
  isplitl [HA HB HT Hy Hs Hg]
  · isplitl [HA]; · iexact HA
    isplitl [HB]; · iexact HB
    isplitl [Hg]; · iexact Hg
    isplitl [Hs]; · iexact Hs
    isplitl [Hy]; · iexact Hy
    iexact HT
  isplitl [HO]
  · iexists W'
    isplitr
    · ipureintro
      exact fun x _ => Or.inl trivial
    iexact HO
  isplitl [H0]; · iexact H0
  isplitl [H1]; · iexact H1
  isplitl [H2]; · iexact H2
  iexact H3

include hp in
theorem body_obligation (c : Dev nD) : BodyObligation (dats (F := F) m 0 c) (defs₀ (F := F)) Variants.none () Set.univ := fun t => by
  rw [bigSep_W0, bigSep_W0, defs_row]
  exact triple_restated (sound_body m hp c t) rfl .rfl fun _ => .rfl

theorem keep_in (c : Dev nD) : iprop(Pipeline.ΦD osem spec0 {main_arg4} (V m) c ∗ Pipeline.ΦT pre0 (adm m).1 c) ⊢ (Keep m c : sProp 𝕄) := by
  obtain rfl : c = 0 := Subsingleton.elim _ _
  rw [Pipeline.ΦD_eq, scopedRest0_eq]
  unfold Pipeline.ΦT Pipeline.prefHeld Pipeline.ownSems0 Keep tabAt
  rw [bigSep_singleton, bigSep_univ_of_subsingleton (i := (0 : Fin 1)), bigSep_univ_of_subsingleton (i := (0 : Fin 1))]
  simp only [owns_whole]
  iintro ⟨⟨⟨HA, HB⟩, Hg, Hs, Hy⟩, HT⟩
  isplitl [HA]; · iexact HA
  isplitl [HB]; · iexact HB
  isplitl [Hg]; · iexact Hg
  isplitl [Hs]; · iexact Hs
  isplitl [Hy]; · iexact Hy
  iexact HT

theorem keep_out (c : Dev nD) : (Keep m c : sProp 𝕄) ⊢ Pipeline.ΦD osem spec0 {main_arg4} (V m) c := by
  rw [Pipeline.ΦD_eq, scopedRest0_eq]
  unfold Pipeline.ownSems0 Keep
  rw [bigSep_singleton, bigSep_univ_of_subsingleton (i := (0 : Fin 1))]
  simp only [owns_whole]
  iintro ⟨HA, HB, Hg, Hs, Hy, -⟩
  isplitl [HA HB]; · isplitl [HA] <;> iassumption
  isplitl [Hg]; · iexact Hg
  isplitl [Hs]; · iexact Hs
  iexact Hy

omit [FloatOps F] in
theorem own_facts : Pipeline.OwnSemFacts spec0 osem := by decide

theorem rest_facts : ({main_arg4} : Finset (Ref sig .tc)) ⊆ Pipeline.restRefsP sig pre0 spec0 := by decide

include hp in
set_option backward.isDefEq.respectTransparency.types false in
/-- The run: the arrays end as the data say, and every counter at zero. -/
theorem run_end : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP_dma (Q' := _) pcfgs (fun _ => adm m) (dats m) (0 : Fin 1) launch0 osem defs₀ Variants.none own_facts {main_arg4} rest_facts m ρ main
    (hbody := fun c => (body_obligation m hp c).loose) (hshare := fun c => (dats m 0 c).share_full fun _ => rfl)
    (howed := fun _ _ => rfl) (V := V m) (hmain := main_to m Variants.none) (hA := A_eq m) (hpf := V_table m)
    (hin := keep_in m) (hout := keep_out m)

include hp in
/-- The frame, at any values: the arguments end unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).2 main_arg0 (show main_arg0 ∈ Pipeline.restRefs sig spec0 from Pipeline.mem_restRefs_of main_arg0 (by decide) (by decide))).trans (V_ne m c _ (by decide)),
     (((h.1 c).1 0).trans ((dats m 0 c).arrAt_in 0 rfl _)).trans (V_ne m c main_arg1 (by decide)),
     (((h.1 c).1 1).trans ((dats m 0 c).arrAt_in 1 rfl _)).trans (V_ne m c main_arg2 (by decide)),
     ((h.1 c).2 main_arg3 (show main_arg3 ∈ Pipeline.restRefs sig spec0 from Pipeline.mem_restRefs_of main_arg3 (by decide) (by decide))).trans (V_ne m c _ (by decide)),
     ((h.1 c).2 main_arg4 (show main_arg4 ∈ Pipeline.restRefs sig spec0 from Pipeline.mem_restRefs_of main_arg4 (by decide) (by decide))).trans (V_ne m c _ (by decide))⟩, h.2⟩) (run_end m ρ hp)

end Cert.Kernel8Ideal.Hand
end
-- ==== Proof.Combine.Arrays.lean ====
module

public import proofs.«01_k».proof.Proof.Combine.Run
public import proofs.«01_k».proof.Proof.In.Norm
public import proofs.«01_k».proof.Proof.At

/-! The sample's combine: the array that it leaves, at an element. -/

@[expose] public section

set_option maxRecDepth 16384

noncomputable section

namespace Cert.Kernel8Ideal.Hand

open Cert.Kernel8Ideal.Gen Cert.Rows
open Idealize.ShloMosaic hiding ix1 ix2 ix3
open Idealize.ShloMosaic.TcCoe Idealize.SL.Sem Idealize.ShloMosaic.ValueIdx
open Idealize.ShloMosaic.Pipeline (Dat)
open scoped BigOperators

variable (m : (ℓ : Loc nD τ sig) → Buf (Elt Ideal) ℓ)

/-- The arguments at their shapes. -/
abbrev argH (c : Dev nD) : S256x2048.Idx → EReal := m ((c : Thread nD τ).loc main_arg1)
abbrev argS (c : Dev nD) : S256x128.Idx → EReal := m ((c : Thread nD τ).loc main_arg2)
abbrev argG (c : Dev nD) : S2048.Idx → EReal := m ((c : Thread nD τ).loc main_arg3)
abbrev argY (c : Dev nD) : S45264x2048.Idx → EReal := m ((c : Thread nD τ).loc main_arg4)

theorem idx_any : ∀ t : Fin grid0.N, cc0_transform_0 (grid0.coords t) = ![0, 0] ∧ cc0_transform_1 (grid0.coords t) = ![0, 0]
    ∧ cc0_transform_2 (grid0.coords t) = ![0, 0] ∧ cc0_transform_4 (grid0.coords t) = ![0, 0] := by decide +kernel

/-- Every window's one block is the block at the origin. -/
theorem idx (t : Fin (cfgA m).N) : ((cfgA m).win 0).index t = ![0, 0] ∧ ((cfgA m).win 1).index t = ![0, 0]
    ∧ ((cfgA m).win 2).index t = ![0, 0] ∧ ((cfgA m).win 3).index t = ![0, 0] :=
  ⟨(idx_any t).1, (idx_any t).2.1, (idx_any t).2.2.1, (idx_any t).2.2.2⟩

theorem V_g (c : Dev nD) : (V m c main_v0 : S1x2048.Idx → EReal) = shapeCast S1x2048 (argG m c) shapeCasts_S2048_S1x2048 := by
  simp only [V, hostOps0]
  after_results
  rfl

/-- The residual rows' block. -/
theorem iblk_h (c : Dev nD) (t : Fin (cfgA m).N) (r : Fin 256) (k : Fin 2048) :
    (iblk m c 0 t : FVec Ideal S256x2048 .f32) (ix2 r k) = at2 (argH m c) r.val k.val := by
  show (V m c main_arg1 : S256x2048.Idx → EReal) ((((cfgA m).win 0).blk t).view.emb (ix2 r k)) = _
  rw [V_ne m c main_arg1 (by decide)]
  exact at2_eq _ _ (by blk_simp [idx m t]) (by blk_simp [idx m t])

/-- The gates' block. -/
theorem iblk_s (c : Dev nD) (t : Fin (cfgA m).N) (r : Fin 256) (k : Fin 128) :
    (iblk m c 1 t : FVec Ideal S256x128 .f32) (ix2 r k) = at2 (argS m c) r.val k.val := by
  show (V m c main_arg2 : S256x128.Idx → EReal) ((((cfgA m).win 1).blk t).view.emb (ix2 r k)) = _
  rw [V_ne m c main_arg2 (by decide)]
  exact at2_eq _ _ (by blk_simp [idx m t]) (by blk_simp [idx m t])

theorem emb_g (t : Fin (cfgA m).N) (i : S1x2048.Idx) : @Eq S1x2048.Idx ((((cfgA m).win 2).blk t).view.emb i) i :=
  funext fun a => Fin.ext (by
    match a with
    | ⟨0, _⟩ => blk_simp [idx m t]
    | ⟨1, _⟩ => blk_simp [idx m t])

theorem emb_o (t : Fin (cfgA m).N) (i : S256x2048.Idx) : @Eq S256x2048.Idx ((((cfgA m).win 3).blk t).view.emb i) i :=
  funext fun a => Fin.ext (by
    match a with
    | ⟨0, _⟩ => blk_simp [idx m t]
    | ⟨1, _⟩ => blk_simp [idx m t])

/-- The norm weights' block. -/
theorem iblk_g (c : Dev nD) (t : Fin (cfgA m).N) (k : Fin 2048) :
    (iblk m c 2 t : FVec Ideal S1x2048 .f32) (ix2 0 k) = vec (argG m c) k := by
  refine (congrArg (V m c main_v0 : S1x2048.Idx → EReal) (emb_g m t (ix2 0 k))).trans ?_
  rw [V_g]
  refine (shapeCast_apply _ shapeCasts_S2048_S1x2048 (ix2 0 k) (ix1 k) ?_).trans rfl
  rw [Shape.rowMajor_val_one, Shape.rowMajor_val_two]
  show k.val = 0 * 2048 + k.val
  omega

/-- An entry of the rows before the norm: the residual entry and the two experts' entries, each times its gate. -/
def mix (tab : Vec Ideal S33280 .i32) (h : S256x2048.Idx → EReal) (s : S256x128.Idx → EReal) (y : S45264x2048.Idx → EReal) (r : ℕ) (k : Fin 2048) : EReal :=
  at2 h r k.val + (at2 s r 0 * at2 y (word tab (2 * r + 0)).toNat k.val + at2 s r 1 * at2 y (word tab (2 * r + 1)).toNat k.val)

/-- The rows named by the words, at an element. -/
theorem gath_apply (tab : Vec Ideal S33280 .i32) (y : Vec Ideal S45264x2048 .f32) (p : ℕ) (r : Fin 256) (k : Fin 2048) :
    gath tab y p (ix2 r k) = at2 (A := 45264) (B := 2048) y (word tab (2 * r.val + p)).toNat k.val := by
  unfold gath at2
  refine congrArg y (funext fun a => Fin.ext ?_)
  match a with
  | ⟨0, _⟩ => rfl
  | ⟨1, _⟩ => exact (Nat.mod_eq_of_lt k.isLt).symm

/-- A gate's column spread over its row. -/
theorem gate_apply (g : FVec Ideal S256x128 .f32) (o : Fin 128) (h : S256x128.Slices ![0, o.val] S256x1) (r : Fin 256) (k : Fin 2048) :
    broadcastTo S256x2048 (extractStridedSlice S256x1 ![0, o.val] g h) broadcasts_S256x1_S256x2048 (ix2 r k) = g (ix2 r o) :=
  (broadcastTo_apply _ broadcasts_S256x1_S256x2048 (ix2 r k) (ix2 r 0) (fun a => by
    match a with
    | ⟨0, _⟩ => rfl
    | ⟨1, _⟩ => rfl)).trans
  (extractStridedSlice_apply ![0, o.val] g h (ix2 r 0) (ix2 r o) (fun a => by
    match a with
    | ⟨0, _⟩ => show r.val = 0 + r.val; omega
    | ⟨1, _⟩ => show o.val = o.val + 0; omega))

/-- The rows before the norm, as the kernel adds them. -/
def sums (h : FVec Ideal S256x2048 .f32) (g : FVec Ideal S256x128 .f32) (a b : FVec Ideal S256x2048 .f32) : FVec Ideal S256x2048 .f32 :=
  addf h (addf (mulf (broadcastTo S256x2048 (extractStridedSlice S256x1 ![0, 0] g slices_S256x128_o0_0_S256x1) broadcasts_S256x1_S256x2048) a)
    (mulf (broadcastTo S256x2048 (extractStridedSlice S256x1 ![0, 1] g slices_S256x128_o0_1_S256x1) broadcasts_S256x1_S256x2048) b))

/-- The rows normalized, as the kernel does it. -/
def normed (x : FVec Ideal S256x2048 .f32) (nw : FVec Ideal S1x2048 .f32) : FVec Ideal S256x2048 .f32 :=
  mulf (mulf x (broadcastTo S256x2048 (rsqrt (addf (divf (shapeCast S256x1 (multiReduction .add [1] S256 (mulf x x) 0x00000000#32 reduces_S256x2048_S256 (.inl rfl) rfl) shapeCasts_S256_S256x1)
    (broadcast S256x1 (Scalar.ofBits (F := Ideal) .f32 0x45000000#32))) (broadcast S256x1 (Scalar.ofBits (F := Ideal) .f32 0x358637BD#32)))) broadcasts_S256x1_S256x2048))
    (broadcastTo S256x2048 (shapeCast S1x2048 nw shapeCasts_S1x2048_S1x2048) broadcasts_S1x2048_S256x2048)

theorem comb_eq (h : FVec Ideal S256x2048 .f32) (g : FVec Ideal S256x128 .f32) (nw : FVec Ideal S1x2048 .f32) (a b : FVec Ideal S256x2048 .f32) :
    combOut (F := Ideal) h g nw a b = normed (sums h g a b) nw := rfl

theorem sums_apply (h : FVec Ideal S256x2048 .f32) (g : FVec Ideal S256x128 .f32) (a b : FVec Ideal S256x2048 .f32) (r : Fin 256) (k : Fin 2048) :
    sums h g a b (ix2 r k) = h (ix2 r k) + (g (ix2 r 0) * a (ix2 r k) + g (ix2 r 1) * b (ix2 r k)) := by
  unfold sums
  refine congrArg (h (ix2 r k) + ·) (congrArg₂ (· + ·) (congrArg (· * a (ix2 r k)) ?_) (congrArg (· * b (ix2 r k)) ?_))
  · exact gate_apply g 0 slices_S256x128_o0_0_S256x1 r k
  · exact gate_apply g 1 slices_S256x128_o0_1_S256x1 r k

theorem normed_apply (x : FVec Ideal S256x2048 .f32) (nw : FVec Ideal S1x2048 .f32) (r : Fin 256) (k : Fin 2048) :
    normed x nw (ix2 r k) = rms (fun j => x (ix2 r j)) (fun j => nw (ix2 0 j)) k := by
  unfold normed
  rw [shapeCast_self]
  exact rms_apply (M := 256) x nw reduces_S256x2048_S256 shapeCasts_S256_S256x1 broadcasts_S256x1_S256x2048 broadcasts_S1x2048_S256x2048 _ _ r k

/-- What the point leaves, at an element. -/
theorem out_apply (c : Dev nD) (t : Fin (cfgA m).N) (r : Fin 256) (k : Fin 2048) :
    (outAt m c t : FVec Ideal S256x2048 .f32) (ix2 r k) = rms (mix (table m) (argH m c) (argS m c) (argY m c) r.val) (vec (argG m c)) k := by
  have ey : rows m c = argY m c := V_ne m c main_arg4 (by decide)
  unfold outAt
  rw [ey]
  refine (congrFun (comb_eq _ _ _ _ _) (ix2 r k)).trans ((normed_apply _ _ r k).trans ?_)
  rw [funext fun j => iblk_g m c t j]
  refine congrArg (fun f => rms f (vec (argG m c)) k) (funext fun j => ?_)
  refine (sums_apply _ _ _ _ r j).trans ?_
  rw [iblk_h m c t r j, iblk_s m c t r 0, iblk_s m c t r 1, gath_apply, gath_apply]
  rfl

/-- The array left. -/
def mixed (tab : Vec Ideal S33280 .i32) (h : S256x2048.Idx → EReal) (s : S256x128.Idx → EReal) (g : S2048.Idx → EReal) (y : S45264x2048.Idx → EReal) :
    S256x2048.Idx → EReal := fun i => rms (mix tab h s y (i 0).val) (vec g) (i 1)

theorem out_at (c : Dev nD) (t : Fin (cfgA m).N) (y : S256x2048.Idx) :
    (outAt m c t : FVec Ideal S256x2048 .f32) y = mixed (table m) (argH m c) (argS m c) (argG m c) (argY m c) y :=
  (congrArg (outAt m c t) (ValueIdx.eq_ix2 (n0 := 256) (n1 := 2048) y)).trans (out_apply m c t (y 0) (y 1))

/-- What the kernel leaves in its result. -/
theorem final_out (c : Dev nD) : (dats m 0 c).arrAt 3 (cfgA m).N = mixed (table m) (argH m c) (argS m c) (argG m c) (argY m c) := by
  refine (dats m 0 c).arrAt_eq_of_emb 3 _ (fun t hf y => ?_) fun i => ⟨t0_0, rfl, ?_⟩
  swap
  · have h := View.emb_mem_set (((cfgA m).win 3).blk t0_0).view i
    rwa [show (((cfgA m).win 3).blk t0_0).view.emb i = i from emb_o m t0_0 i] at h
  refine Eq.trans ?_ (congrArg (mixed (table m) (argH m c) (argS m c) (argG m c) (argY m c)) (emb_o m t y)).symm
  blk_simp
  rw [after_3]
  exact out_at m c t y

end Cert.Kernel8Ideal.Hand

end
-- ==== Proof.Combine.RefValue.lean ====
module

public import proofs.«01_k».proof.Proof.Gen.Reference8Ideal.Read
public import proofs.«01_k».proof.Proof.Combine.Arrays
public import Idealize.ShloMosaic.Lib.KernelVsHost
public import Idealize.ShloMosaic.Lib.Routing.Ops

/-! The combine's reference, at an element. -/

@[expose] public section

set_option maxRecDepth 16384

noncomputable section

namespace Cert.Reference8Ideal.Hand

open Idealize.ShloMosaic hiding ix1 ix2 ix3
open Idealize.ShloMosaic.ValueIdx Cert.Rows Cert.Reference8Ideal.Gen Cert.Reference8Ideal.Read
open scoped BigOperators
open Cert.Kernel8Ideal.Hand (mix mixed word)

variable (P : (⟨S33280, .i32⟩ : BufTy).Contents (Elt Ideal)) (H : (⟨S256x2048, .f32⟩ : BufTy).Contents (Elt Ideal))
  (S : (⟨S256x128, .f32⟩ : BufTy).Contents (Elt Ideal)) (g : (⟨S2048, .f32⟩ : BufTy).Contents (Elt Ideal)) (Y : (⟨S45264x2048, .f32⟩ : BufTy).Contents (Elt Ideal))
  (hp : ∀ t, (word (F := Ideal) P t).toNat < 45264)

/-- The first and the second choice's positions. -/
theorem first_at (i : S256.Idx) : val_main_v0 (F := Ideal) P i = word (F := Ideal) P (2 * (i 0).val + 0) := by
  have h : (i 0).val < 256 := (i 0).isLt
  unfold val_main_v0 Host.slice word
  refine congrArg P (funext fun a => Fin.ext ?_)
  match a with
  | ⟨0, _⟩ =>
    show 32768 + 2 * (i 0).val = (32768 + (2 * (i 0).val + 0)) % 33280
    omega

theorem second_at (i : S256.Idx) : val_main_v1 (F := Ideal) P i = word (F := Ideal) P (2 * (i 0).val + 1) := by
  have h : (i 0).val < 256 := (i 0).isLt
  unfold val_main_v1 Host.slice word
  refine congrArg P (funext fun a => Fin.ext ?_)
  match a with
  | ⟨0, _⟩ =>
    show 32769 + 2 * (i 0).val = (32768 + (2 * (i 0).val + 1)) % 33280
    omega

include hp in
/-- Rows taken at positions in range, at an element. -/
theorem take_at (q : IVec S256x1 32) (r : Fin 256) (k : Fin 2048) (n : ℕ) (hq : q (ix2 r 0) = word (F := Ideal) P n) :
    Host.gather gather_S45264x2048_S256x1_S256x2048_1_0_n_n_0_1_12048 Y q (ix2 r k) = at2 (A := 45264) (B := 2048) Y (word (F := Ideal) P n).toNat k.val := by
  refine (Routing.gather_row (nb := 45264) (B := 2048) (n := 256) gather_S45264x2048_S256x1_S256x2048_1_0_n_n_0_1_12048 rfl rfl rfl rfl rfl Y q r k
    ⟨(word (F := Ideal) P n).toNat, hp n⟩ (hq.trans (by simp)) (by decide)).trans ?_
  exact at2_eq _ _ rfl rfl

include hp in
/-- An entry of the rows before the norm. -/
theorem sums_at (i : S256x2048.Idx) {r : ℕ} {k : Fin 2048} (h0 : (i 0).val = r) (h1 : (i 1).val = k.val) :
    val_main_v11 (F := Ideal) P H S Y i = mix P H S Y r k := by
  obtain rfl : i 1 = k := Fin.ext h1
  subst h0
  have e := ValueIdx.eq_ix2 (n0 := 256) (n1 := 2048) i
  have a : val_main_v3 (F := Ideal) P Y i = at2 (A := 45264) (B := 2048) Y (word (F := Ideal) P (2 * (i 0).val + 0)).toNat (i 1).val := by
    rw [e]
    exact take_at P Y hp _ (i 0) (i 1) _ ((val_main_call0_v0_apply P _).trans (first_at P _))
  have b : val_main_v7 (F := Ideal) P Y i = at2 (A := 45264) (B := 2048) Y (word (F := Ideal) P (2 * (i 0).val + 1)).toNat (i 1).val := by
    rw [e]
    exact take_at P Y hp _ (i 0) (i 1) _ ((val_main_call1_v0_apply P _).trans (second_at P _))
  rw [val_main_v11_apply, val_main_v10_apply, val_main_v5_apply, val_main_v9_apply, val_main_v4_apply, val_main_v8_apply, val_main_v2_apply, val_main_v6_apply, a, b]
  exact congrArg₂ (· + ·) (at2_eq (A := 256) (B := 2048) H i rfl rfl)
    (congrArg₂ (· + ·) (congrArg (· * _) (at2_eq (A := 256) (B := 128) S _ rfl rfl)) (congrArg (· * _) (at2_eq (A := 256) (B := 128) S _ rfl rfl)))

include hp in
/-- The result. -/
theorem result_eq : val_main_v24 (F := Ideal) P H S g Y = mixed P H S g Y := by
  funext i
  have z : (FloatOps.ofBits .f32 0x00000000#32 : Ideal .f32) = (0 : EReal) := bits_zero
  rw [val_main_v24_apply, val_main_v21_apply, val_main_v20_apply, val_main_v19_apply, val_main_v18_apply, val_main_v16_apply, val_main_v14_apply,
    val_main_v13_apply, val_main_v15_apply, val_main_v17_apply, val_main_v23_apply, val_main_v22_apply, val_main_cst_apply, val_main_cst_0_apply,
    val_main_cst_1_apply, z, sums_at P H S Y hp i (k := i 1) rfl rfl, vec_eq g _ (k := i 1) rfl]
  have s : ∀ j : Fin 2048, val_main_v12 (F := Ideal) P H S Y (idx_main_v13 (idx_main_v14 (idx_main_v20 i)) j) = mix P H S Y (i 0).val j * mix P H S Y (i 0).val j := fun j => by
    rw [val_main_v12_apply, sums_at P H S Y hp (idx_main_v13 (idx_main_v14 (idx_main_v20 i)) j) (r := (i 0).val) (k := j) rfl rfl]
    rfl
  rw [Finset.sum_congr rfl fun j _ => s j]
  show _ * Ideal.rsqrt (Ideal.div (0 + _) _ + _) * _ = _
  rw [zero_add]
  rfl

end Cert.Reference8Ideal.Hand

end
-- ==== Proof.Combine.Value.lean ====
module

public import proofs.«01_k».proof.Proof.Combine.RefValue
public import proofs.«01_k».proof.Proof.Gen.Reference8Ideal.Run
public import proofs.«01_k».proof.Proof.Gen.Kernel8
public import proofs.«01_k».proof.Proof.Gen.Kernel8Ideal
public import proofs.«01_k».proof.Proof.Gen.Reference8Ideal
public import proofs.«01_k».proof.Proof.Gen.Pre_positions_in_range
public import proofs.«01_k».proof.Defs
public import Idealize.ShloMosaic.Lib.Quiescent

/-! The sample's combine: the positions' range read off the precondition, the frames, and that the kernel and its reference compute the same array. -/

@[expose] public section

noncomputable section

namespace Cert.Kernel8Ideal.Hand

open Cert.Kernel8Ideal Cert.Kernel8Ideal.Gen Idealize.ShloMosaic Idealize.ShloMosaic.TcCoe Idealize.SL.Sem

/-- The kernel's run, with its result named. -/
theorem kernel_run (m : (ℓ : Loc nD τ sig) → Buf (Elt Ideal) ℓ) (g : Dev nD → PrngReg) (hp : ∀ t, (word (table m) t).toNat < 45264) :
    θ_run (Cert.Kernel8Ideal.defs (F := Ideal)) (onTc (τ := τ) (Cert.Kernel8Ideal.main (F := Ideal))) ⟨m, fun _ => 0, g⟩ fun r => ∀ c : Dev nD,
      r.2.mem ((c.tc : Thread nD τ).loc main_v1) = mixed (table m) (argH m c) (argS m c) (argG m c) (argY m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run Cert.Kernel8Ideal.defs _ _).mono
    (fun _ h c => ⟨((h.1.1 c).1 3).trans (final_out m c), h.2.1 c⟩)
    (θ_run_and (run_end (F := Ideal) m g hp) (frame_any (F := Ideal) m g hp))

/-- A position that the precondition admits is a row's number. -/
theorem position_lt {F : FTy → Type} [FloatOps F] (P : IVec S33280 32) (H : FVec F S256x2048 .f32) (S : FVec F S256x128 .f32) (G : FVec F S2048 .f32) (Y : FVec F S45264x2048 .f32)
    (h : Cert.Pre_positions_in_range.fn (F := F) P H S G Y = fun _ => 1#1) (i : S33280.Idx) : (P i).toNat < 45264 := by
  have e := congrFun h i
  simp only [Cert.Pre_positions_in_range.fn, andi, cmpi, broadcastInDim, constantI] at e
  obtain ⟨e0, e1⟩ := IntOp.andi_eq_one.mp e
  have f0 := IntOp.cmpi_sge.mp e0
  have f1 := IntOp.cmpi_slt.mp e1
  rw [BitVec.toInt_eq_toNat_cond (P i)] at f0 f1
  have z0 : (0#32 : BitVec 32).toInt = 0 := by decide
  have z1 : (45264#32 : BitVec 32).toInt = 45264 := by decide
  rw [z0] at f0
  rw [z1] at f1
  split at f0 <;> split at f1 <;> omega

end Cert.Kernel8Ideal.Hand

namespace Cert.Proof

open Idealize.ShloMosaic Idealize.SL.Sem

set_option smartUnfolding false in
/-- The printed kernel and its reading on the extended reals are one text: one run serves both. -/
theorem frame_kernel8 : Cert.quiescent_Kernel8 := fun m ρ h =>
  (θ_run Cert.Kernel8Ideal.defs _ _).mono (fun _ h => h)
    (Cert.Kernel8Ideal.Hand.frame_any (F := Bits) m ρ fun _ => Cert.Kernel8Ideal.Hand.position_lt (F := Bits) _ _ _ _ _ (h 0) _)

theorem frame_kernel8Ideal : Cert.quiescent_Kernel8Ideal := fun m ρ h =>
  Cert.Kernel8Ideal.Hand.frame_any (F := Ideal) m ρ fun _ => Cert.Kernel8Ideal.Hand.position_lt (F := Ideal) _ _ _ _ _ (h 0) _

theorem frame_reference8 : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

theorem frame_reference8_pre : Cert.quiescent_Reference8Ideal_pre_positions_in_range := fun m ρ _ => frame_reference8 m ρ trivial

/-- The kernel and its reference leave the same array. -/
theorem algebraic8 : Cert.algebraic_Kernel8Ideal_Reference8Ideal := by
  intro m g m' g' hpre hagree
  have hp : ∀ t, (Cert.Kernel8Ideal.Hand.word (Cert.Kernel8Ideal.Hand.table m) t).toNat < 45264 := fun _ =>
    Cert.Kernel8Ideal.Hand.position_lt (F := Ideal) _ _ _ _ _ (hpre 0) _
  refine ⟨_, Cert.Kernel8Ideal.Hand.kernel_run m g hp, ?_⟩
  refine (θ_run Cert.Reference8Ideal.defs _ _).mono (fun _ h c => ⟨(h c).1.trans ?_, (h c).2⟩) (Cert.Reference8Ideal.Value.run (F := Ideal) m' g')
  obtain rfl : c = 0 := Subsingleton.elim _ _
  rw [Cert.Reference8Ideal.Read.val_main_v24_eq, (hagree 0).1, (hagree 0).2.1, (hagree 0).2.2.1, (hagree 0).2.2.2.1, (hagree 0).2.2.2.2]
  exact Cert.Reference8Ideal.Hand.result_eq _ _ _ _ _ hp

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel2.Frame
public import proofs.«01_k».proof.Proof.Gen.Kernel2Ideal.Frame
public import proofs.«01_k».proof.Proof.Gen.Kernel2Ideal.Skeleton
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Reference3Ideal
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Skeleton
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Skeleton
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8Ideal.Launch
public import proofs.«01_k».proof.Proof.Gen.Reference8Ideal
public import proofs.«01_k».proof.Proof.Gen.Pre_positions_in_range
public import proofs.«01_k».proof.Proof.Gen.Reference8Ideal.Run
public import proofs.«01_k».proof.Proof.Gen.Reference8Ideal.Read
public import proofs.«01_k».proof.Proof.Frames
public import proofs.«01_k».proof.Proof.RefFrame
public import proofs.«01_k».proof.Proof.Value
public import proofs.«01_k».proof.Proof.In.Value
public import proofs.«01_k».proof.Proof.Mem.Value
public import proofs.«01_k».proof.Proof.Merge.Value
public import proofs.«01_k».proof.Proof.Cross.Value
public import proofs.«01_k».proof.Proof.Out.Value
public import proofs.«01_k».proof.Proof.Sample.Value
public import proofs.«01_k».proof.Proof.Combine.Value

/-! The claim: the frames, the named constants, and that each kernel and its reference compute the same arrays. -/

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.Pre_positions_in_range.Gen.facts,
  frame_kernel, frame_kernelIdeal, frame_reference, frame_kernel2, frame_kernel2Ideal, frame_reference2,
  frame_kernel3, frame_kernel3Ideal, frame_reference3,
  frame_kernel4, frame_kernel4Ideal, frame_reference4,
  frame_kernel5, frame_kernel5Ideal, frame_reference5,
  frame_kernel6, frame_kernel6Ideal, frame_reference6,
  frame_kernel7, frame_kernel7Ideal, frame_reference7,
  frame_kernel8, frame_kernel8Ideal, frame_reference8, frame_reference8_pre,
  preserves, algebraic, trivial, algebraic2, trivial, algebraic3, trivial, algebraic4, trivial, algebraic5, trivial, algebraic6, trivial, algebraic7,
  trivial, algebraic8⟩

end Cert.Proof

end
